-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))).1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))).2 = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1))).1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1))).2 = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_v17) = v2 c
          ∧ r.2.mem ((c.tc : Thread Cert.Reference6Ideal.nD Cert.Reference6Ideal.τ).loc Cert.Reference6Ideal.main_v20) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v25)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v25) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v77) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v34) = v0 c
          ∧ r.2.mem ((c.tc : Thread Cert.Reference17Ideal.nD Cert.Reference17Ideal.τ).loc Cert.Reference17Ideal.main_v37) = v1 c
          ∧ r.2.mem ((c.tc : Thread Cert.Reference17Ideal.nD Cert.Reference17Ideal.τ).loc Cert.Reference17Ideal.main_v39) = v2 c
          ∧ r.2.mem ((c.tc : Thread Cert.Reference17Ideal.nD Cert.Reference17Ideal.τ).loc Cert.Reference17Ideal.main_v17) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v12) = v0 c
          ∧ r.2.mem ((c.tc : Thread Cert.Reference18Ideal.nD Cert.Reference18Ideal.τ).loc Cert.Reference18Ideal.main_v14) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v46) = v0 c
          ∧ r.2.mem ((c.tc : Thread Cert.Reference19Ideal.nD Cert.Reference19Ideal.τ).loc Cert.Reference19Ideal.main_v48) = v1 c
          ∧ r.2.mem ((c.tc : Thread Cert.Reference19Ideal.nD Cert.Reference19Ideal.τ).loc Cert.Reference19Ideal.main_v50) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def preserves_Kernel20_Kernel20Ideal : Prop :=
  IdealRules.named_const.Statement Cert.Kernel20Ideal.κ "mask" .f32 0xF149F2CA#32 ⊥

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v6_0)) (v1 : (c : Dev Cert.Kernel20Ideal.nD) → Buf (Elt Ideal) ((c.tc : Thread Cert.Kernel20Ideal.nD Cert.Kernel20Ideal.τ).loc Cert.Kernel20Ideal.main_v6_1)) (v2 : (c : Dev Cert.Kernel20Ideal.nD) → Buf (Elt Ideal) ((c.tc : Thread Cert.Kernel20Ideal.nD Cert.Kernel20Ideal.τ).loc Cert.Kernel20Ideal.main_v6_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v6_0) = v0 c
          ∧ r.2.mem ((c.tc : Thread Cert.Kernel20Ideal.nD Cert.Kernel20Ideal.τ).loc Cert.Kernel20Ideal.main_v6_1) = v1 c
          ∧ r.2.mem ((c.tc : Thread Cert.Kernel20Ideal.nD Cert.Kernel20Ideal.τ).loc Cert.Kernel20Ideal.main_v6_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v46) = v0 c
          ∧ r.2.mem ((c.tc : Thread Cert.Reference20Ideal.nD Cert.Reference20Ideal.τ).loc Cert.Reference20Ideal.main_v48) = v1 c
          ∧ r.2.mem ((c.tc : Thread Cert.Reference20Ideal.nD Cert.Reference20Ideal.τ).loc Cert.Reference20Ideal.main_v50) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v34) = v0 c
          ∧ r.2.mem ((c.tc : Thread Cert.Reference23Ideal.nD Cert.Reference23Ideal.τ).loc Cert.Reference23Ideal.main_v35) = v1 c
          ∧ r.2.mem ((c.tc : Thread Cert.Reference23Ideal.nD Cert.Reference23Ideal.τ).loc Cert.Reference23Ideal.main_v37) = v2 c
          ∧ r.2.mem ((c.tc : Thread Cert.Reference23Ideal.nD Cert.Reference23Ideal.τ).loc Cert.Reference23Ideal.main_v17) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)) (v4 : (c : Dev Cert.Kernel24Ideal.nD) → Buf (Elt Ideal) ((c.tc : Thread Cert.Kernel24Ideal.nD Cert.Kernel24Ideal.τ).loc Cert.Kernel24Ideal.main_v0_4)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_v0_4) = v4 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v48) = v0 c
          ∧ r.2.mem ((c.tc : Thread Cert.Reference24Ideal.nD Cert.Reference24Ideal.τ).loc Cert.Reference24Ideal.main_v51) = v1 c
          ∧ r.2.mem ((c.tc : Thread Cert.Reference24Ideal.nD Cert.Reference24Ideal.τ).loc Cert.Reference24Ideal.main_v53) = v2 c
          ∧ r.2.mem ((c.tc : Thread Cert.Reference24Ideal.nD Cert.Reference24Ideal.τ).loc Cert.Reference24Ideal.main_v32) = v3 c
          ∧ r.2.mem ((c.tc : Thread Cert.Reference24Ideal.nD Cert.Reference24Ideal.τ).loc Cert.Reference24Ideal.main_v58) = v4 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_finite6 : Cert.Pre_finite6.Facts) (hPre_finite7 : Cert.Pre_finite7.Facts) (hPre_finite19 : Cert.Pre_finite19.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal_pre_finite20 (hKernel20Ideal := hKernel20Ideal) (hReference20Ideal := hReference20Ideal) (hPre_finite20 := hPre_finite20)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S2048x6144 : Shape := ⟨2, ![2048, 6144]⟩
abbrev S2048x2048 : Shape := ⟨2, ![2048, 2048]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)
  bcast_S_S2048x2048 : S_.BroadcastsInDim S2048x2048 (![] : Fin 0 → Fin S2048x2048.rank)

variable [Facts]

def fn {F : FTy → Type} [FloatOps F] (main_arg0 : FVec F S2048x6144 .bf16) (main_arg1 : FVec F S2048x2048 .bf16) : IVec S2048x6144 1 × IVec S2048x2048 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_v4 : FVec F S2048x2048 .f32 := (extf .f32 · bitsLt_bf16_f32) main_arg1
  let main_v5 : FVec F S2048x2048 .f32 := Host.absf main_v4
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  (main_v3, main_v7)
-- ==== Pre_finite19.lean ====
abbrev S2048x6144 : Shape := ⟨2, ![2048, 6144]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)

variable [Facts]

def fn {F : FTy → Type} [FloatOps F] (main_arg0 : FVec F S2048x6144 .bf16) : IVec S2048x6144 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  main_v3
-- ==== Pre_finite20.lean ====
abbrev S2048x6144 : Shape := ⟨2, ![2048, 6144]⟩
abbrev S2048x8 : Shape := ⟨2, ![2048, 8]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)
  bcast_S_S2048x8 : S_.BroadcastsInDim S2048x8 (![] : Fin 0 → Fin S2048x8.rank)

variable [Facts]

def fn {F : FTy → Type} [FloatOps F] (main_arg0 : FVec F S2048x6144 .bf16) (main_arg1 : FVec F S2048x8 .f32) : IVec S2048x6144 1 × IVec S2048x8 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_v4 : FVec F S2048x8 .f32 := Host.absf main_arg1
  let main_cst_0 : FVec F S_ .f32 := constant S_ .f32 0x7F800000#32
  let main_v5 : FVec F S2048x8 .f32 := broadcastInDim S2048x8 ![] bcast_S_S2048x8 main_cst_0
  let main_v6 : IVec S2048x8 1 := cmpf .olt main_v4 main_v5
  (main_v3, main_v6)
-- ==== Pre_finite6.lean ====
abbrev S2048x2048 : Shape := ⟨2, ![2048, 2048]⟩
abbrev S2048x5632 : Shape := ⟨2, ![2048, 5632]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S2048x5632 : S_.BroadcastsInDim S2048x5632 (![] : Fin 0 → Fin S2048x5632.rank)

variable [Facts]

def fn {F : FTy → Type} [FloatOps F] (main_arg0 : FVec F S2048x2048 .bf16) (main_arg1 : FVec F S2048x5632 .bf16) (main_arg2 : FVec F S2048x5632 .bf16) : IVec S2048x2048 1 × IVec S2048x5632 1 × IVec S2048x5632 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S2048x5632 .f32 := (extf .f32 · bitsLt_bf16_f32) main_arg1
  let main_v5 : FVec F S2048x5632 .f32 := Host.absf main_v4
  let main_cst_0 : FVec F S_ .f32 := constant S_ .f32 0x7F800000#32
  let main_v6 : FVec F S2048x5632 .f32 := broadcastInDim S2048x5632 ![] bcast_S_S2048x5632 main_cst_0
  let main_v7 : IVec S2048x5632 1 := cmpf .olt main_v5 main_v6
  let main_v8 : FVec F S2048x5632 .f32 := (extf .f32 · bitsLt_bf16_f32) main_arg2
  let main_v9 : FVec F S2048x5632 .f32 := Host.absf main_v8
  let main_cst_1 : FVec F S_ .f32 := constant S_ .f32 0x7F800000#32
  let main_v10 : FVec F S2048x5632 .f32 := broadcastInDim S2048x5632 ![] bcast_S_S2048x5632 main_cst_1
  let main_v11 : IVec S2048x5632 1 := cmpf .olt main_v9 main_v10
  (main_v3, main_v7, main_v11)
-- ==== Pre_finite7.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn_part1 {F : FTy → Type} [FloatOps F] (main_v3 : IVec S2048x2048 1) (main_v7 : IVec S2048x5632 1) (main_v11 : IVec S2048x5632 1) (main_v15 : IVec S5632x2048 1) (main_v17 : FVec F S2048x2048 .f32) (main_v18 : FVec F S2048x2048 .f32) : IVec S2048x2048 1 × IVec S2048x5632 1 × IVec S2048x5632 1 × IVec S5632x2048 1 × IVec S2048x2048 1 :=
  let main_v19 : IVec S2048x2048 1 := cmpf .olt main_v17 main_v18
  (main_v3, main_v7, main_v11, main_v15, main_v19)

def fn {F : FTy → Type} [FloatOps F] (main_arg0 : FVec F S2048x2048 .bf16) (main_arg1 : FVec F S2048x5632 .bf16) (main_arg2 : FVec F S2048x5632 .bf16) (main_arg3 : FVec F S5632x2048 .bf16) (main_arg4 : FVec F S2048x2048 .bf16) : IVec S2048x2048 1 × IVec S2048x5632 1 × IVec S2048x5632 1 × IVec S5632x2048 1 × IVec S2048x2048 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S2048x5632 .f32 := (extf .f32 · bitsLt_bf16_f32) main_arg1
  let main_v5 : FVec F S2048x5632 .f32 := Host.absf main_v4
  let main_cst_0 : FVec F S_ .f32 := constant S_ .f32 0x7F800000#32
  let main_v6 : FVec F S2048x5632 .f32 := broadcastInDim S2048x5632 ![] bcast_S_S2048x5632 main_cst_0
  let main_v7 : IVec S2048x5632 1 := cmpf .olt main_v5 main_v6
  let main_v8 : FVec F S2048x5632 .f32 := (extf .f32 · bitsLt_bf16_f32) main_arg2
  let main_v9 : FVec F S2048x5632 .f32 := Host.absf main_v8
  let main_cst_1 : FVec F S_ .f32 := constant S_ .f32 0x7F800000#32
  let main_v10 : FVec F S2048x5632 .f32 := broadcastInDim S2048x5632 ![] bcast_S_S2048x5632 main_cst_1
  let main_v11 : IVec S2048x5632 1 := cmpf .olt main_v9 main_v10
  let main_v12 : FVec F S5632x2048 .f32 := (extf .f32 · bitsLt_bf16_f32) main_arg3
  let main_v13 : FVec F S5632x2048 .f32 := Host.absf main_v12
  let main_cst_2 : FVec F S_ .f32 := constant S_ .f32 0x7F800000#32
  let main_v14 : FVec F S5632x2048 .f32 := broadcastInDim S5632x2048 ![] bcast_S_S5632x2048 main_cst_2
  let main_v15 : IVec S5632x2048 1 := cmpf .olt main_v13 main_v14
  let main_v16 : FVec F S2048x2048 .f32 := (extf .f32 · bitsLt_bf16_f32) main_arg4
  let main_v17 : FVec F S2048x2048 .f32 := Host.absf main_v16
  let main_cst_3 : FVec F S_ .f32 := constant S_ .f32 0x7F800000#32
  let main_v18 : FVec F S2048x2048 .f32 := broadcastInDim S2048x2048 ![] bcast_S_S2048x2048 main_cst_3
  fn_part1 (F := F) main_v3 main_v7 main_v11 main_v15 main_v17 main_v18
-- ==== Kernel.lean ====
abbrev S2048x6144 : Shape := ⟨2, ![2048, 6144]⟩
abbrev S2048x2048 : Shape := ⟨2, ![2048, 2048]⟩
abbrev S2048x3x16x128 : Shape := ⟨4, ![2048, 3, 16, 128]⟩
abbrev S3x16x2048x128 : Shape := ⟨4, ![3, 16, 2048, 128]⟩
abbrev S1x8x2048x128 : Shape := ⟨4, ![1, 8, 2048, 128]⟩
abbrev S8x2048x128 : Shape := ⟨3, ![8, 2048, 128]⟩
abbrev S2048 : Shape := ⟨1, ![2048]⟩
abbrev S1x2048 : Shape := ⟨2, ![1, 2048]⟩
abbrev S2048x1 : Shape := ⟨2, ![2048, 1]⟩
abbrev S1x2048x2048 : Shape := ⟨3, ![1, 2048, 2048]⟩
abbrev S8x2048x2048 : Shape := ⟨3, ![8, 2048, 2048]⟩
abbrev S_ : Shape := ⟨0, ![]⟩
abbrev S8x2048 : Shape := ⟨2, ![8, 2048]⟩
abbrev S2048x8 : Shape := ⟨2, ![2048, 8]⟩
abbrev S2048x8x1 : Shape := ⟨3, ![2048, 8, 1]⟩
abbrev S2048x8x128 : Shape := ⟨3, ![2048, 8, 128]⟩
abbrev S2048x1024 : Shape := ⟨2, ![2048, 1024]⟩
abbrev S512x128 : Shape := ⟨2, ![512, 128]⟩
abbrev S2048x128 : Shape := ⟨2, ![2048, 128]⟩
abbrev S512x1 : Shape := ⟨2, ![512, 1]⟩
abbrev S512x512 : Shape := ⟨2, ![512, 512]⟩
abbrev S128x128 : Shape := ⟨2, ![128, 128]⟩
abbrev S256x128 : Shape := ⟨2, ![256, 128]⟩
abbrev S512x256 : Shape := ⟨2, ![512, 256]⟩
abbrev S512 : Shape := ⟨1, ![512]⟩

abbrev nBuf : Space → Nat
  | .hbm => 51
  | .vmem => 18
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S2048x6144, .f32⟩
  | .hbm, ⟨3, _⟩ => ⟨S2048x3x16x128, .f32⟩
  | .hbm, ⟨4, _⟩ => ⟨S3x16x2048x128, .f32⟩
  | .hbm, ⟨5, _⟩ => ⟨S1x8x2048x128, .f32⟩
  | .hbm, ⟨6, _⟩ => ⟨S8x2048x128, .f32⟩
  | .hbm, ⟨7, _⟩ => ⟨S1x8x2048x128, .f32⟩
  | .hbm, ⟨8, _⟩ => ⟨S8x2048x128, .f32⟩
  | .hbm, ⟨9, _⟩ => ⟨S1x8x2048x128, .f32⟩
  | .hbm, ⟨10, _⟩ => ⟨S8x2048x128, .f32⟩
  | .hbm, ⟨11, _⟩ => ⟨S2048, .i32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S1x2048x2048, .i1⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S_, .f32⟩
  | .hbm, ⟨39, _⟩ => ⟨S8x2048x2048, .i1⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S2048x8, .f32⟩
  | .hbm, ⟨45, _⟩ => ⟨S2048x8x1, .f32⟩
  | .hbm, ⟨46, _⟩ => ⟨S2048x8x128, .f32⟩
  | .hbm, ⟨47, _⟩ => ⟨S2048x1024, .f32⟩
  | .hbm, ⟨48, _⟩ => ⟨S2048x1024, .bf16⟩
  | .hbm, ⟨49, _⟩ => ⟨S2048x1024, .bf16⟩
  | .hbm, ⟨50, _⟩ => ⟨S2048x1024, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27_0 : Ref sig .tc := ⟨.hbm, 48, rfl⟩
abbrev main_v27_1 : Ref sig .tc := ⟨.hbm, 49, rfl⟩
abbrev main_v27_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_16 : BitVec 32 := 0#32
  let arg1 : BitVec 32 := BitVec.ofNat 32 (i 1).val
  let c512_i32 : BitVec 32 := 512#32
  let v25 : BitVec 32 := Scalar.muli arg1 c512_i32
  let c512_i32_6 : BitVec 32 := 512#32
  let v26 : BitVec 32 := Scalar.addi v25 c512_i32_6
  let c1_i32 : BitVec 32 := 1#32
  let v27 : BitVec 32 := Scalar.subi v26 c1_i32
  let c0_i32_8 : BitVec 32 := 0#32
  let v29 : BitVec 1 := Scalar.cmpi .sgt v27 c0_i32_8
  let v30 : BitVec 32 := Scalar.extui v29
  let c0_i32_9 : BitVec 32 := 0#32
  let v31 : BitVec 1 := Scalar.cmpi .slt v27 c0_i32_9
  let v32 : BitVec 32 := Scalar.extui v31
  let v33 : BitVec 32 := Scalar.subi v30 v32
  let c512_i32_7 : BitVec 32 := 512#32
  let c0_i32_10 : BitVec 32 := 0#32
  let v34 : BitVec 1 := Scalar.cmpi .sgt c512_i32_7 c0_i32_10
  let v35 : BitVec 32 := Scalar.extui v34
  let c0_i32_11 : BitVec 32 := 0#32
  let v36 : BitVec 1 := Scalar.cmpi .slt c512_i32_7 c0_i32_11
  let v37 : BitVec 32 := Scalar.extui v36
  let v38 : BitVec 32 := Scalar.subi v35 v37
  let v39 : BitVec 1 := Scalar.cmpi .ne v33 v38
  let v40 : BitVec 32 := Scalar.remsi v27 c512_i32_7
  let c0_i32_12 : BitVec 32 := 0#32
  let v41 : BitVec 1 := Scalar.cmpi .ne v40 c0_i32_12
  let v42 : BitVec 1 := Scalar.andi v39 v41
  let v28 : BitVec 32 := Scalar.divsi v27 c512_i32_7
  let c1_i32_13 : BitVec 32 := 1#32
  let v43 : BitVec 32 := Scalar.subi v28 c1_i32_13
  let v44 : BitVec 32 := Scalar.select v42 v43 v28
  let c1_i32_14 : BitVec 32 := 1#32
  let v45 : BitVec 32 := Scalar.addi v44 c1_i32_14
  let v47 : BitVec 32 := Scalar.subi v45 c0_i32_16
  let c1_i32_17 : BitVec 32 := 1#32
  let v49 : BitVec 32 := Scalar.divsi v47 c1_i32_17
  let v50 : BitVec 32 := Scalar.muli v49 c1_i32_17
  let v51 : BitVec 32 := Scalar.addi c0_i32_16 v50
  let c1_i32_18 : BitVec 32 := 1#32
  ⟨c0_i32_16, v51, c1_i32_18⟩
def k0_mult1 (i : grid0.Coords) (k0_t1 : Fin (k0_t1_loop i).trips) : BitVec 32 :=
  let c0_i32_16 : BitVec 32 := 0#32
  let c1_i32_18 : BitVec 32 := 1#32
  let arg12 : BitVec 32 := Scf.iv c0_i32_16 c1_i32_18 k0_t1
  let c512_i32_23 : BitVec 32 := 512#32
  let v59 : BitVec 32 := Scalar.muli arg12 c512_i32_23
  v59
def k0_off1 (i : grid0.Coords) (k0_t1 : Fin (k0_t1_loop i).trips) : Fin 2 → Nat :=
  let c0_i32_16 : BitVec 32 := 0#32
  let c1_i32_18 : BitVec 32 := 1#32
  let arg12 : BitVec 32 := Scf.iv c0_i32_16 c1_i32_18 k0_t1
  let c512_i32_23 : BitVec 32 := 512#32
  let v59 : BitVec 32 := Scalar.muli arg12 c512_i32_23
  let v60 : BitVec 32 := v59
  let v61 : Index := Scalar.indexCast v60
  let c0_24 : Index := 0#32
  ![v61.toNat, 0]
@[reducible] def k0_t2_loop (i : grid0.Coords) : Scf.Loop 32 :=
  let c0_i32_16 : BitVec 32 := 0#32
  let arg1 : BitVec 32 := BitVec.ofNat 32 (i 1).val
  let c512_i32 : BitVec 32 := 512#32
  let v25 : BitVec 32 := Scalar.muli arg1 c512_i32
  let c512_i32_6 : BitVec 32 := 512#32
  let v26 : BitVec 32 := Scalar.addi v25 c512_i32_6
  let c1_i32 : BitVec 32 := 1#32
  let v27 : BitVec 32 := Scalar.subi v26 c1_i32
  let c0_i32_8 : BitVec 32 := 0#32
  let v29 : BitVec 1 := Scalar.cmpi .sgt v27 c0_i32_8
  let v30 : BitVec 32 := Scalar.extui v29
  let c0_i32_9 : BitVec 32 := 0#32
  let v31 : BitVec 1 := Scalar.cmpi .slt v27 c0_i32_9
  let v32 : BitVec 32 := Scalar.extui v31
  let v33 : BitVec 32 := Scalar.subi v30 v32
  let c512_i32_7 : BitVec 32 := 512#32
  let c0_i32_10 : BitVec 32 := 0#32
  let v34 : BitVec 1 := Scalar.cmpi .sgt c512_i32_7 c0_i32_10
  let v35 : BitVec 32 := Scalar.extui v34
  let c0_i32_11 : BitVec 32 := 0#32
  let v36 : BitVec 1 := Scalar.cmpi .slt c512_i32_7 c0_i32_11
  let v37 : BitVec 32 := Scalar.extui v36
  let v38 : BitVec 32 := Scalar.subi v35 v37
  let v39 : BitVec 1 := Scalar.cmpi .ne v33 v38
  let v40 : BitVec 32 := Scalar.remsi v27 c512_i32_7
  let c0_i32_12 : BitVec 32 := 0#32
  let v41 : BitVec 1 := Scalar.cmpi .ne v40 c0_i32_12
  let v42 : BitVec 1 := Scalar.andi v39 v41
  let v28 : BitVec 32 := Scalar.divsi v27 c512_i32_7
  let c1_i32_13 : BitVec 32 := 1#32
  let v43 : BitVec 32 := Scalar.subi v28 c1_i32_13
  let v44 : BitVec 32 := Scalar.select v42 v43 v28
  let c1_i32_14 : BitVec 32 := 1#32
  let v45 : BitVec 32 := Scalar.addi v44 c1_i32_14
  let v47 : BitVec 32 := Scalar.subi v45 c0_i32_16
  let c1_i32_17 : BitVec 32 := 1#32
  let v49 : BitVec 32 := Scalar.divsi v47 c1_i32_17
  let v50 : BitVec 32 := Scalar.muli v49 c1_i32_17
  let v51 : BitVec 32 := Scalar.addi c0_i32_16 v50
  let v48 : BitVec 32 := Scalar.addi c0_i32_16 v47
  let c1_i32_19 : BitVec 32 := 1#32
  ⟨v51, v48, c1_i32_19⟩
def k0_mult2 (i : grid0.Coords) (k0_t2 : Fin (k0_t2_loop i).trips) : BitVec 32 :=
  let c0_i32_16 : BitVec 32 := 0#32
  let arg1 : BitVec 32 := BitVec.ofNat 32 (i 1).val
  let c512_i32 : BitVec 32 := 512#32
  let v25 : BitVec 32 := Scalar.muli arg1 c512_i32
  let c512_i32_6 : BitVec 32 := 512#32
  let v26 : BitVec 32 := Scalar.addi v25 c512_i32_6
  let c1_i32 : BitVec 32 := 1#32
  let v27 : BitVec 32 := Scalar.subi v26 c1_i32
  let c0_i32_8 : BitVec 32 := 0#32
  let v29 : BitVec 1 := Scalar.cmpi .sgt v27 c0_i32_8
  let v30 : BitVec 32 := Scalar.extui v29
  let c0_i32_9 : BitVec 32 := 0#32
  let v31 : BitVec 1 := Scalar.cmpi .slt v27 c0_i32_9
  let v32 : BitVec 32 := Scalar.extui v31
  let v33 : BitVec 32 := Scalar.subi v30 v32
  let c512_i32_7 : BitVec 32 := 512#32
  let c0_i32_10 : BitVec 32 := 0#32
  let v34 : BitVec 1 := Scalar.cmpi .sgt c512_i32_7 c0_i32_10
  let v35 : BitVec 32 := Scalar.extui v34
  let c0_i32_11 : BitVec 32 := 0#32
  let v36 : BitVec 1 := Scalar.cmpi .slt c512_i32_7 c0_i32_11
  let v37 : BitVec 32 := Scalar.extui v36
  let v38 : BitVec 32 := Scalar.subi v35 v37
  let v39 : BitVec 1 := Scalar.cmpi .ne v33 v38
  let v40 : BitVec 32 := Scalar.remsi v27 c512_i32_7
  let c0_i32_12 : BitVec 32 := 0#32
  let v41 : BitVec 1 := Scalar.cmpi .ne v40 c0_i32_12
  let v42 : BitVec 1 := Scalar.andi v39 v41
  let v28 : BitVec 32 := Scalar.divsi v27 c512_i32_7
  let c1_i32_13 : BitVec 32 := 1#32
  let v43 : BitVec 32 := Scalar.subi v28 c1_i32_13
  let v44 : BitVec 32 := Scalar.select v42 v43 v28
  let c1_i32_14 : BitVec 32 := 1#32
  let v45 : BitVec 32 := Scalar.addi v44 c1_i32_14
  let v47 : BitVec 32 := Scalar.subi v45 c0_i32_16
  let c1_i32_17 : BitVec 32 := 1#32
  let v49 : BitVec 32 := Scalar.divsi v47 c1_i32_17
  let v50 : BitVec 32 := Scalar.muli v49 c1_i32_17
  let v51 : BitVec 32 := Scalar.addi c0_i32_16 v50
  let c1_i32_19 : BitVec 32 := 1#32
  let arg12 : BitVec 32 := Scf.iv v51 c1_i32_19 k0_t2
  let c512_i32_23 : BitVec 32 := 512#32
  let v59 : BitVec 32 := Scalar.muli arg12 c512_i32_23
  v59
def k0_off2 (i : grid0.Coords) (k0_t2 : Fin (k0_t2_loop i).trips) : Fin 2 → Nat :=
  let c0_i32_16 : BitVec 32 := 0#32
  let arg1 : BitVec 32 := BitVec.ofNat 32 (i 1).val
  let c512_i32 : BitVec 32 := 512#32
  let v25 : BitVec 32 := Scalar.muli arg1 c512_i32
  let c512_i32_6 : BitVec 32 := 512#32
  let v26 : BitVec 32 := Scalar.addi v25 c512_i32_6
  let c1_i32 : BitVec 32 := 1#32
  let v27 : BitVec 32 := Scalar.subi v26 c1_i32
  let c0_i32_8 : BitVec 32 := 0#32
  let v29 : BitVec 1 := Scalar.cmpi .sgt v27 c0_i32_8
  let v30 : BitVec 32 := Scalar.extui v29
  let c0_i32_9 : BitVec 32 := 0#32
  let v31 : BitVec 1 := Scalar.cmpi .slt v27 c0_i32_9
  let v32 : BitVec 32 := Scalar.extui v31
  let v33 : BitVec 32 := Scalar.subi v30 v32
  let c512_i32_7 : BitVec 32 := 512#32
  let c0_i32_10 : BitVec 32 := 0#32
  let v34 : BitVec 1 := Scalar.cmpi .sgt c512_i32_7 c0_i32_10
  let v35 : BitVec 32 := Scalar.extui v34
  let c0_i32_11 : BitVec 32 := 0#32
  let v36 : BitVec 1 := Scalar.cmpi .slt c512_i32_7 c0_i32_11
  let v37 : BitVec 32 := Scalar.extui v36
  let v38 : BitVec 32 := Scalar.subi v35 v37
  let v39 : BitVec 1 := Scalar.cmpi .ne v33 v38
  let v40 : BitVec 32 := Scalar.remsi v27 c512_i32_7
  let c0_i32_12 : BitVec 32 := 0#32
  let v41 : BitVec 1 := Scalar.cmpi .ne v40 c0_i32_12
  let v42 : BitVec 1 := Scalar.andi v39 v41
  let v28 : BitVec 32 := Scalar.divsi v27 c512_i32_7
  let c1_i32_13 : BitVec 32 := 1#32
  let v43 : BitVec 32 := Scalar.subi v28 c1_i32_13
  let v44 : BitVec 32 := Scalar.select v42 v43 v28
  let c1_i32_14 : BitVec 32 := 1#32
  let v45 : BitVec 32 := Scalar.addi v44 c1_i32_14
  let v47 : BitVec 32 := Scalar.subi v45 c0_i32_16
  let c1_i32_17 : BitVec 32 := 1#32
  let v49 : BitVec 32 := Scalar.divsi v47 c1_i32_17
  let v50 : BitVec 32 := Scalar.muli v49 c1_i32_17
  let v51 : BitVec 32 := Scalar.addi c0_i32_16 v50
  let c1_i32_19 : BitVec 32 := 1#32
  let arg12 : BitVec 32 := Scf.iv v51 c1_i32_19 k0_t2
  let c512_i32_23 : BitVec 32 := 512#32
  let v59 : BitVec 32 := Scalar.muli arg12 c512_i32_23
  let v60 : BitVec 32 := v59
  let v61 : Index := Scalar.indexCast v60
  let c0_24 : Index := 0#32
  ![v61.toNat, 0]
def k0_cond2 (i : grid0.Coords) : BitVec 1 :=
  let arg1 : BitVec 32 := BitVec.ofNat 32 (i 1).val
  let c3_i32 : BitVec 32 := 3#32
  let v56 : BitVec 1 := Scalar.cmpi .eq arg1 c3_i32
  let v57 : BitVec 32 := Scalar.extui v56
  let c0_i32_22 : BitVec 32 := 0#32
  let v58 : BitVec 1 := Scalar.cmpi .ne v57 c0_i32_22
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2048x6144 : Shape := ⟨2, ![2048, 6144]⟩
abbrev S2048x2048 : Shape := ⟨2, ![2048, 2048]⟩
abbrev S2048x16x128 : Shape := ⟨3, ![2048, 16, 128]⟩
abbrev S16x2048x128 : Shape := ⟨3, ![16, 2048, 128]⟩
abbrev S8x2048x128 : Shape := ⟨3, ![8, 2048, 128]⟩
abbrev S2048x3x16x128 : Shape := ⟨4, ![2048, 3, 16, 128]⟩
abbrev S3x16x2048x128 : Shape := ⟨4, ![3, 16, 2048, 128]⟩
abbrev S1x8x2048x128 : Shape := ⟨4, ![1, 8, 2048, 128]⟩
abbrev S2048 : Shape := ⟨1, ![2048]⟩
abbrev S1x2048 : Shape := ⟨2, ![1, 2048]⟩
abbrev S2048x1 : Shape := ⟨2, ![2048, 1]⟩
abbrev S1x2048x2048 : Shape := ⟨3, ![1, 2048, 2048]⟩
abbrev S8x2048x2048 : Shape := ⟨3, ![8, 2048, 2048]⟩
abbrev S_ : Shape := ⟨0, ![]⟩
abbrev S8x128x2048 : Shape := ⟨3, ![8, 128, 2048]⟩
abbrev S2048x8x128 : Shape := ⟨3, ![2048, 8, 128]⟩
abbrev S2048x1024 : Shape := ⟨2, ![2048, 1024]⟩

abbrev nBuf : Space → Nat
  | .hbm => 177
  | .vmem => 0
  | .smem => 0
  | _ => 0

abbrev hbmTy0_0 (i : Nat) : BufTy := match i % 128 with
  | 0 => ⟨S2048x6144, .bf16⟩
  | 1 => ⟨S2048x2048, .bf16⟩
  | 2 => ⟨S2048x2048, .f32⟩
  | 3 => ⟨S2048x16x128, .f32⟩
  | 4 => ⟨S16x2048x128, .f32⟩
  | 5 => ⟨S8x2048x128, .f32⟩
  | 6 => ⟨S2048x6144, .f32⟩
  | 7 => ⟨S2048x3x16x128, .f32⟩
  | 8 => ⟨S3x16x2048x128, .f32⟩
  | 9 => ⟨S1x8x2048x128, .f32⟩
  | 10 => ⟨S8x2048x128, .f32⟩
  | 11 => ⟨S1x8x2048x128, .f32⟩
  | 12 => ⟨S8x2048x128, .f32⟩
  | 13 => ⟨S1x8x2048x128, .f32⟩
  | 14 => ⟨S8x2048x128, .f32⟩
  | 15 => ⟨S2048, .i32⟩
  | 16 => ⟨S1x2048, .i32⟩
  | 17 => ⟨S2048x1, .i32⟩
  | 18 => ⟨S2048x2048, .i32⟩
  | 19 => ⟨S2048x2048, .i32⟩
  | 20 => ⟨S2048x2048, .i1⟩
  | 21 => ⟨S1x2048x2048, .i1⟩
  | 22 => ⟨S8x2048x2048, .f32⟩
  | 23 => ⟨S_, .f32⟩
  | 24 => ⟨S8x2048x2048, .f32⟩
  | 25 => ⟨S8x2048x2048, .f32⟩
  | 26 => ⟨S_, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .i1⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S8x2048x2048, .f32⟩
  | 40 => ⟨S_, .f32⟩
  | 41 => ⟨S8x2048x2048, .f32⟩
  | 42 => ⟨S8x2048x2048, .i1⟩
  | 43 => ⟨S_, .f32⟩
  | 44 => ⟨S8x2048x2048, .f32⟩
  | 45 => ⟨S8x2048x2048, .f32⟩
  | 46 => ⟨S_, .f32⟩
  | 47 => ⟨S8x2048x2048, .f32⟩
  | 48 => ⟨S8x2048x2048, .i1⟩
  | 49 => ⟨S_, .f32⟩
  | 50 => ⟨S8x2048x2048, .f32⟩
  | 51 => ⟨S8x2048x2048, .f32⟩
  | 52 => ⟨S8x2048x2048, .f32⟩
  | 53 => ⟨S8x2048x2048, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S8x2048x2048, .f32⟩
  | 62 => ⟨S8x2048x2048, .i1⟩
  | 63 => ⟨S_, .f32⟩
  | 64 => ⟨S8x2048x2048, .f32⟩
  | 65 => ⟨S8x2048x2048, .f32⟩
  | 66 => ⟨S8x2048x2048, .f32⟩
  | 67 => ⟨S8x2048x2048, .f32⟩
  | 68 => ⟨S8x2048x2048, .f32⟩
  | 69 => ⟨S_, .f32⟩
  | 70 => ⟨S8x2048x2048, .f32⟩
  | 71 => ⟨S8x2048x2048, .f32⟩
  | 72 => ⟨S8x2048x2048, .f32⟩
  | 73 => ⟨S_, .f32⟩
  | 74 => ⟨S_, .f32⟩
  | 75 => ⟨S8x2048x2048, .i1⟩
  | 76 => ⟨S8x2048x2048, .f32⟩
  | 77 => ⟨S8x2048x2048, .f32⟩
  | 78 => ⟨S_, .f32⟩
  | 79 => ⟨S8x2048x2048, .f32⟩
  | 80 => ⟨S_, .f32⟩
  | 81 => ⟨S_, .f32⟩
  | 82 => ⟨S8x2048x2048, .f32⟩
  | 83 => ⟨S8x2048x2048, .f32⟩
  | 84 => ⟨S8x2048x2048, .f32⟩
  | 85 => ⟨S_, .f32⟩
  | 86 => ⟨S8x2048x2048, .f32⟩
  | 87 => ⟨S8x2048x2048, .f32⟩
  | 88 => ⟨S8x2048x2048, .f32⟩
  | 89 => ⟨S8x2048x2048, .f32⟩
  | 90 => ⟨S8x2048x2048, .i1⟩
  | 91 => ⟨S8x2048x2048, .f32⟩
  | 92 => ⟨S8x2048x2048, .f32⟩
  | 93 => ⟨S8x2048x2048, .f32⟩
  | 94 => ⟨S8x2048x2048, .f32⟩
  | 95 => ⟨S8x2048x2048, .f32⟩
  | 96 => ⟨S8x2048x2048, .f32⟩
  | 97 => ⟨S8x2048x2048, .f32⟩
  | 98 => ⟨S8x2048x2048, .f32⟩
  | 99 => ⟨S_, .f32⟩
  | 100 => ⟨S8x2048x2048, .f32⟩
  | 101 => ⟨S8x2048x2048, .i1⟩
  | 102 => ⟨S_, .f32⟩
  | 103 => ⟨S8x2048x2048, .f32⟩
  | 104 => ⟨S8x2048x2048, .f32⟩
  | 105 => ⟨S_, .f32⟩
  | 106 => ⟨S8x2048x2048, .f32⟩
  | 107 => ⟨S8x2048x2048, .i1⟩
  | 108 => ⟨S_, .f32⟩
  | 109 => ⟨S8x2048x2048, .f32⟩
  | 110 => ⟨S8x2048x2048, .f32⟩
  | 111 => ⟨S8x2048x2048, .f32⟩
  | 112 => ⟨S8x2048x2048, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S8x2048x2048, .f32⟩
  | 121 => ⟨S8x2048x2048, .i1⟩
  | 122 => ⟨S_, .f32⟩
  | 123 => ⟨S8x2048x2048, .f32⟩
  | 124 => ⟨S8x2048x2048, .f32⟩
  | 125 => ⟨S8x2048x2048, .f32⟩
  | 126 => ⟨S8x2048x2048, .f32⟩
  | 127 => ⟨S8x2048x2048, .f32⟩
  | _ => ⟨S2048x6144, .bf16⟩

abbrev hbmTy0_1 (i : Nat) : BufTy := match i % 128 with
  | 0 => ⟨S_, .f32⟩
  | 1 => ⟨S8x2048x2048, .f32⟩
  | 2 => ⟨S8x2048x2048, .f32⟩
  | 3 => ⟨S8x2048x2048, .f32⟩
  | 4 => ⟨S8x2048x2048, .f32⟩
  | 5 => ⟨S8x2048x2048, .f32⟩
  | 6 => ⟨S_, .f32⟩
  | 7 => ⟨S_, .f32⟩
  | 8 => ⟨S8x2048x2048, .i1⟩
  | 9 => ⟨S8x2048x2048, .f32⟩
  | 10 => ⟨S8x2048x2048, .f32⟩
  | 11 => ⟨S_, .f32⟩
  | 12 => ⟨S8x2048x2048, .f32⟩
  | 13 => ⟨S8x2048x128, .f32⟩
  | 14 => ⟨S8x128x2048, .f32⟩
  | 15 => ⟨S8x2048x128, .f32⟩
  | 16 => ⟨S8x2048x2048, .f32⟩
  | 17 => ⟨S_, .f32⟩
  | 18 => ⟨S8x2048x2048, .f32⟩
  | 19 => ⟨S8x2048x2048, .f32⟩
  | 20 => ⟨S8x2048x2048, .f32⟩
  | 21 => ⟨S8x2048x2048, .f32⟩
  | 22 => ⟨S8x2048x2048, .f32⟩
  | 23 => ⟨S8x2048x2048, .f32⟩
  | 24 => ⟨S8x2048x2048, .f32⟩
  | 25 => ⟨S_, .f32⟩
  | 26 => ⟨S_, .f32⟩
  | 27 => ⟨S8x2048x2048, .f32⟩
  | 28 => ⟨S8x2048x2048, .f32⟩
  | 29 => ⟨S_, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S_, .f32⟩
  | 36 => ⟨S8x2048x2048, .f32⟩
  | 37 => ⟨S8x2048x2048, .f32⟩
  | 38 => ⟨S8x2048x128, .f32⟩
  | 39 => ⟨S8x2048x128, .f32⟩
  | 40 => ⟨S2048x8x128, .f32⟩
  | 41 => ⟨S2048x1024, .f32⟩
  | 42 => ⟨S2048x1024, .bf16⟩
  | 43 => ⟨S2048x8x128, .f32⟩
  | 44 => ⟨S2048x1024, .f32⟩
  | 45 => ⟨S2048x1024, .bf16⟩
  | 46 => ⟨S2048x8x128, .f32⟩
  | 47 => ⟨S2048x1024, .f32⟩
  | 48 => ⟨S2048x1024, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v23_0 : Ref sig .tc := ⟨.hbm, 39, rfl⟩
abbrev main_call0_cst_0 : Ref sig .tc := ⟨.hbm, 40, rfl⟩
abbrev main_call0_v13 : Ref sig .tc := ⟨.hbm, 41, rfl⟩
abbrev main_call0_v14 : Ref sig .tc := ⟨.hbm, 42, rfl⟩
abbrev main_call0_cst_1 : Ref sig .tc := ⟨.hbm, 43, rfl⟩
abbrev main_call0_v15 : Ref sig .tc := ⟨.hbm, 44, rfl⟩
abbrev main_call0_v16 : Ref sig .tc := ⟨.hbm, 45, rfl⟩
abbrev main_call0_cst_2 : Ref sig .tc := ⟨.hbm, 46, rfl⟩
abbrev main_call0_v17 : Ref sig .tc := ⟨.hbm, 47, rfl⟩
abbrev main_call0_v18 : Ref sig .tc := ⟨.hbm, 48, rfl⟩
abbrev main_call0_cst_3 : Ref sig .tc := ⟨.hbm, 49, rfl⟩
abbrev main_call0_v19 : Ref sig .tc := ⟨.hbm, 50, rfl⟩
abbrev main_call0_v20 : Ref sig .tc := ⟨.hbm, 51, rfl⟩
abbrev main_call0_v21 : Ref sig .tc := ⟨.hbm, 52, rfl⟩
abbrev main_v23_1 : Ref sig .tc := ⟨.hbm, 53, rfl⟩
abbrev main_call0_cst_4 : Ref sig .tc := ⟨.hbm, 54, rfl⟩
abbrev main_call0_cst_5 : Ref sig .tc := ⟨.hbm, 55, rfl⟩
abbrev main_call0_v23 : Ref sig .tc := ⟨.hbm, 56, rfl⟩
abbrev main_call0_cst_6 : Ref sig .tc := ⟨.hbm, 57, rfl⟩
abbrev main_call0_cst_7 : Ref sig .tc := ⟨.hbm, 58, rfl⟩
abbrev main_call0_v24 : Ref sig .tc := ⟨.hbm, 59, rfl⟩
abbrev main_call0_cst_8 : Ref sig .tc := ⟨.hbm, 60, rfl⟩
abbrev main_call0_v25 : Ref sig .tc := ⟨.hbm, 61, rfl⟩
abbrev main_call0_v26 : Ref sig .tc := ⟨.hbm, 62, rfl⟩
abbrev main_call0_cst_9 : Ref sig .tc := ⟨.hbm, 63, rfl⟩
abbrev main_call0_v27 : Ref sig .tc := ⟨.hbm, 64, rfl⟩
abbrev main_call0_v28 : Ref sig .tc := ⟨.hbm, 65, rfl⟩
abbrev main_call0_v29 : Ref sig .tc := ⟨.hbm, 66, rfl⟩
abbrev main_call0_v30 : Ref sig .tc := ⟨.hbm, 67, rfl⟩
abbrev main_call0_v31 : Ref sig .tc := ⟨.hbm, 68, rfl⟩
abbrev main_call0_cst_10 : Ref sig .tc := ⟨.hbm, 69, rfl⟩
abbrev main_call0_v32 : Ref sig .tc := ⟨.hbm, 70, rfl⟩
abbrev main_v23_2 : Ref sig .tc := ⟨.hbm, 71, rfl⟩
abbrev main_v24 : Ref sig .tc := ⟨.hbm, 72, rfl⟩
abbrev main_cst_0 : Ref sig .tc := ⟨.hbm, 73, rfl⟩
abbrev main_call1_v0 : Ref sig .tc := ⟨.hbm, 74, rfl⟩
abbrev main_v25_1 : Ref sig .tc := ⟨.hbm, 75, rfl⟩
abbrev main_call1_v2 : Ref sig .tc := ⟨.hbm, 76, rfl⟩
abbrev main_v25_0 : Ref sig .tc := ⟨.hbm, 77, rfl⟩
abbrev main_call1_cst : Ref sig .tc := ⟨.hbm, 78, rfl⟩
abbrev main_v25_2 : Ref sig .tc := ⟨.hbm, 79, rfl⟩
abbrev main_call2_cst : Ref sig .tc := ⟨.hbm, 80, rfl⟩
abbrev main_call2_v0 : Ref sig .tc := ⟨.hbm, 81, rfl⟩
abbrev main_v26 : Ref sig .tc := ⟨.hbm, 82, rfl⟩
abbrev main_v27 : Ref sig .tc := ⟨.hbm, 83, rfl⟩
abbrev main_call3_v0 : Ref sig .tc := ⟨.hbm, 84, rfl⟩
abbrev main_call3_call0_cst : Ref sig .tc := ⟨.hbm, 85, rfl⟩
abbrev main_call3_call0_v0 : Ref sig .tc := ⟨.hbm, 86, rfl⟩
abbrev main_call3_call0_v1 : Ref sig .tc := ⟨.hbm, 87, rfl⟩
abbrev main_call3_call0_v2 : Ref sig .tc := ⟨.hbm, 88, rfl⟩
abbrev main_call3_call0_v3 : Ref sig .tc := ⟨.hbm, 89, rfl⟩
abbrev main_call3_call0_v4 : Ref sig .tc := ⟨.hbm, 90, rfl⟩
abbrev main_call3_call0_v5 : Ref sig .tc := ⟨.hbm, 91, rfl⟩
abbrev main_call3_call0_v6 : Ref sig .tc := ⟨.hbm, 92, rfl⟩
abbrev main_call3_call0_v7 : Ref sig .tc := ⟨.hbm, 93, rfl⟩
abbrev main_call3_call0_v8 : Ref sig .tc := ⟨.hbm, 94, rfl⟩
abbrev main_call3_call0_v9 : Ref sig .tc := ⟨.hbm, 95, rfl⟩
abbrev main_call3_call0_v10 : Ref sig .tc := ⟨.hbm, 96, rfl⟩
abbrev main_call3_call0_v11 : Ref sig .tc := ⟨.hbm, 97, rfl⟩
abbrev main_call3_v1_0 : Ref sig .tc := ⟨.hbm, 98, rfl⟩
abbrev main_call3_call0_cst_0 : Ref sig .tc := ⟨.hbm, 99, rfl⟩
abbrev main_call3_call0_v13 : Ref sig .tc := ⟨.hbm, 100, rfl⟩
abbrev main_call3_call0_v14 : Ref sig .tc := ⟨.hbm, 101, rfl⟩
abbrev main_call3_call0_cst_1 : Ref sig .tc := ⟨.hbm, 102, rfl⟩
abbrev main_call3_call0_v15 : Ref sig .tc := ⟨.hbm, 103, rfl⟩
abbrev main_call3_call0_v16 : Ref sig .tc := ⟨.hbm, 104, rfl⟩
abbrev main_call3_call0_cst_2 : Ref sig .tc := ⟨.hbm, 105, rfl⟩
abbrev main_call3_call0_v17 : Ref sig .tc := ⟨.hbm, 106, rfl⟩
abbrev main_call3_call0_v18 : Ref sig .tc := ⟨.hbm, 107, rfl⟩
abbrev main_call3_call0_cst_3 : Ref sig .tc := ⟨.hbm, 108, rfl⟩
abbrev main_call3_call0_v19 : Ref sig .tc := ⟨.hbm, 109, rfl⟩
abbrev main_call3_call0_v20 : Ref sig .tc := ⟨.hbm, 110, rfl⟩
abbrev main_call3_call0_v21 : Ref sig .tc := ⟨.hbm, 111, rfl⟩
abbrev main_v28_1 : Ref sig .tc := ⟨.hbm, 112, rfl⟩
abbrev main_call3_call0_cst_4 : Ref sig .tc := ⟨.hbm, 113, rfl⟩
abbrev main_call3_call0_cst_5 : Ref sig .tc := ⟨.hbm, 114, rfl⟩
abbrev main_call3_call0_v23 : Ref sig .tc := ⟨.hbm, 115, rfl⟩
abbrev main_call3_call0_cst_6 : Ref sig .tc := ⟨.hbm, 116, rfl⟩
abbrev main_call3_call0_cst_7 : Ref sig .tc := ⟨.hbm, 117, rfl⟩
abbrev main_call3_call0_v24 : Ref sig .tc := ⟨.hbm, 118, rfl⟩
abbrev main_call3_call0_cst_8 : Ref sig .tc := ⟨.hbm, 119, rfl⟩
abbrev main_call3_call0_v25 : Ref sig .tc := ⟨.hbm, 120, rfl⟩
abbrev main_call3_call0_v26 : Ref sig .tc := ⟨.hbm, 121, rfl⟩
abbrev main_call3_call0_cst_9 : Ref sig .tc := ⟨.hbm, 122, rfl⟩
abbrev main_call3_call0_v27 : Ref sig .tc := ⟨.hbm, 123, rfl⟩
abbrev main_call3_call0_v28 : Ref sig .tc := ⟨.hbm, 124, rfl⟩
abbrev main_call3_call0_v29 : Ref sig .tc := ⟨.hbm, 125, rfl⟩
abbrev main_call3_call0_v30 : Ref sig .tc := ⟨.hbm, 126, rfl⟩
abbrev main_call3_call0_v31 : Ref sig .tc := ⟨.hbm, 127, rfl⟩
abbrev main_call3_call0_cst_10 : Ref sig .tc := ⟨.hbm, 128, rfl⟩
abbrev main_call3_call0_v32 : Ref sig .tc := ⟨.hbm, 129, rfl⟩
abbrev main_v28_2 : Ref sig .tc := ⟨.hbm, 130, rfl⟩
abbrev main_v28_0 : Ref sig .tc := ⟨.hbm, 131, rfl⟩
abbrev main_v29 : Ref sig .tc := ⟨.hbm, 132, rfl⟩
abbrev main_v30 : Ref sig .tc := ⟨.hbm, 133, rfl⟩
abbrev main_cst_1 : Ref sig .tc := ⟨.hbm, 134, rfl⟩
abbrev main_call4_v0 : Ref sig .tc := ⟨.hbm, 135, rfl⟩
abbrev main_v31_1 : Ref sig .tc := ⟨.hbm, 136, rfl⟩
abbrev main_call4_v2 : Ref sig .tc := ⟨.hbm, 137, rfl⟩
abbrev main_v31_0 : Ref sig .tc := ⟨.hbm, 138, rfl⟩
abbrev main_call4_cst : Ref sig .tc := ⟨.hbm, 139, rfl⟩
abbrev main_v31_2 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_v35 : Ref sig .tc := ⟨.hbm, 144, rfl⟩
abbrev main_call5_cst : Ref sig .tc := ⟨.hbm, 145, rfl⟩
abbrev main_call5_v0 : Ref sig .tc := ⟨.hbm, 146, rfl⟩
abbrev main_v36 : Ref sig .tc := ⟨.hbm, 147, rfl⟩
abbrev main_v37 : Ref sig .tc := ⟨.hbm, 148, rfl⟩
abbrev main_call6_v0 : Ref sig .tc := ⟨.hbm, 149, rfl⟩
abbrev main_call6_v1 : Ref sig .tc := ⟨.hbm, 150, rfl⟩
abbrev main_v38 : Ref sig .tc := ⟨.hbm, 151, rfl⟩
abbrev main_v39 : Ref sig .tc := ⟨.hbm, 152, rfl⟩
abbrev main_call7_cst : Ref sig .tc := ⟨.hbm, 153, rfl⟩
abbrev main_call7_v0 : Ref sig .tc := ⟨.hbm, 154, rfl⟩
abbrev main_v40 : Ref sig .tc := ⟨.hbm, 155, rfl⟩
abbrev main_v41 : Ref sig .tc := ⟨.hbm, 156, rfl⟩
abbrev main_call8_cst : Ref sig .tc := ⟨.hbm, 157, rfl⟩
abbrev main_call8_v0 : Ref sig .tc := ⟨.hbm, 158, rfl⟩
abbrev main_v42 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_cst_2 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩

abbrev nD : Nat := 1
abbrev τ : Topo := Topo.v7x

variable {F : FTy → Type} [FloatOps F]
-- ==== Kernel2.lean ====
abbrev S2048x5632 : Shape := ⟨2, ![2048, 5632]⟩
abbrev S2048x8x704 : Shape := ⟨3, ![2048, 8, 704]⟩
abbrev S8x2048x704 : Shape := ⟨3, ![8, 2048, 704]⟩
abbrev S2048x2048 : Shape := ⟨2, ![2048, 2048]⟩
abbrev S1x1024x704 : Shape := ⟨3, ![1, 1024, 704]⟩
abbrev S1x2048x704 : Shape := ⟨3, ![1, 2048, 704]⟩
abbrev S1024x2048 : Shape := ⟨2, ![1024, 2048]⟩
abbrev S1024x704 : Shape := ⟨2, ![1024, 704]⟩
abbrev S2048x704 : Shape := ⟨2, ![2048, 704]⟩

abbrev nBuf : Space → Nat
  | .hbm => 13
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .hbm, ⟨4, _⟩ => ⟨S2048x8x704, .bf16⟩
  | .hbm, ⟨5, _⟩ => ⟨S8x2048x704, .bf16⟩
  | .hbm, ⟨6, _⟩ => ⟨S2048x8x704, .bf16⟩
  | .hbm, ⟨7, _⟩ => ⟨S8x2048x704, .bf16⟩
  | .hbm, ⟨8, _⟩ => ⟨S2048x8x704, .bf16⟩
  | .hbm, ⟨9, _⟩ => ⟨S8x2048x704, .bf16⟩
  | .hbm, ⟨10, _⟩ => ⟨S2048x8x704, .bf16⟩
  | .hbm, ⟨11, _⟩ => ⟨S8x2048x704, .bf16⟩
  | .hbm, ⟨12, _⟩ => ⟨S2048x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_21 : BitVec 32 := 0#32
  let v25 : BitVec 1 := Scalar.cmpi .ne v24 c0_i32_21
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .bf16⟩
  | .hbm, ⟨3, _⟩ => ⟨S2048x5632, .bf16⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S2048x2048, .f32⟩
  | .hbm, ⟨13, _⟩ => ⟨S2048x2048, .f32⟩
  | .hbm, ⟨14, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel3.lean ====
abbrev S2048x2048 : Shape := ⟨2, ![2048, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S1024x2048 : Shape := ⟨2, ![1024, 2048]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 10
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x2048, .bf16⟩
  | .hbm, ⟨4, _⟩ => ⟨S2048x8x704, .bf16⟩
  | .hbm, ⟨5, _⟩ => ⟨S8x2048x704, .bf16⟩
  | .hbm, ⟨6, _⟩ => ⟨S2048x8x704, .bf16⟩
  | .hbm, ⟨7, _⟩ => ⟨S8x2048x704, .bf16⟩
  | .hbm, ⟨8, _⟩ => ⟨S8x2048x704, .bf16⟩
  | .hbm, ⟨9, _⟩ => ⟨S8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S2048x8x704 : Shape := ⟨3, ![2048, 8, 704]⟩
abbrev S8x2048x704 : Shape := ⟨3, ![8, 2048, 704]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S_, .f32⟩
  | .hbm, ⟨4, _⟩ => ⟨S2048x5632, .f32⟩
  | .hbm, ⟨5, _⟩ => ⟨S2048x2048, .f32⟩
  | .hbm, ⟨6, _⟩ => ⟨S2048x5632, .f32⟩
  | .hbm, ⟨7, _⟩ => ⟨S2048x2048, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S5632x2048, .f32⟩
  | .hbm, ⟨12, _⟩ => ⟨S2048x5632, .f32⟩
  | .hbm, ⟨13, _⟩ => ⟨S5632x2048, .f32⟩
  | .hbm, ⟨14, _⟩ => ⟨S2048x5632, .f32⟩
  | .hbm, ⟨15, _⟩ => ⟨S2048x8x704, .f32⟩
  | .hbm, ⟨16, _⟩ => ⟨S8x2048x704, .f32⟩
  | .hbm, ⟨17, _⟩ => ⟨S8x2048x704, .bf16⟩
  | .hbm, ⟨18, _⟩ => ⟨S2048x8x704, .f32⟩
  | .hbm, ⟨19, _⟩ => ⟨S8x2048x704, .f32⟩
  | .hbm, ⟨20, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel4.lean ====
abbrev S2048x5632 : Shape := ⟨2, ![2048, 5632]⟩
abbrev S2048x2048 : Shape := ⟨2, ![2048, 2048]⟩
abbrev S2048x8x704 : Shape := ⟨3, ![2048, 8, 704]⟩
abbrev S8x2048x704 : Shape := ⟨3, ![8, 2048, 704]⟩
abbrev S8x704x2048 : Shape := ⟨3, ![8, 704, 2048]⟩
abbrev S1x704x2048 : Shape := ⟨3, ![1, 704, 2048]⟩
abbrev S704x2048 : Shape := ⟨2, ![704, 2048]⟩

abbrev nBuf : Space → Nat
  | .hbm => 6
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x8x704, .bf16⟩
  | .hbm, ⟨3, _⟩ => ⟨S8x2048x704, .bf16⟩
  | .hbm, ⟨4, _⟩ => ⟨S8x704x2048, .bf16⟩
  | .hbm, ⟨5, _⟩ => ⟨S8x704x2048, .bf16⟩
  | .local _ .vmem, ⟨0, _⟩ => ⟨S1x704x2048, .bf16⟩
  | .local _ .vmem, ⟨1, _⟩ => ⟨S1x704x2048, .bf16⟩
  | .local _ .vmem, ⟨2, _⟩ => ⟨S2048x2048, .bf16⟩
  | .local _ .vmem, ⟨3, _⟩ => ⟨S1x704x2048, .bf16⟩
  | .local _ .vmem, ⟨4, _⟩ => ⟨S1x704x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S8x704x2048 : Shape := ⟨3, ![8, 704, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S8x704x2048, .f32⟩
  | .hbm, ⟨10, _⟩ => ⟨S8x704x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S2048x5632 : Shape := ⟨2, ![2048, 5632]⟩
abbrev S5632x2048 : Shape := ⟨2, ![5632, 2048]⟩
abbrev S2048x2048 : Shape := ⟨2, ![2048, 2048]⟩
abbrev S2048x8x704 : Shape := ⟨3, ![2048, 8, 704]⟩
abbrev S8x2048x704 : Shape := ⟨3, ![8, 2048, 704]⟩
abbrev S8x704x2048 : Shape := ⟨3, ![8, 704, 2048]⟩
abbrev S1x512x704 : Shape := ⟨3, ![1, 512, 704]⟩
abbrev S1x704x2048 : Shape := ⟨3, ![1, 704, 2048]⟩
abbrev S512x2048 : Shape := ⟨2, ![512, 2048]⟩
abbrev S512x704 : Shape := ⟨2, ![512, 704]⟩
abbrev S704x2048 : Shape := ⟨2, ![704, 2048]⟩

abbrev nBuf : Space → Nat
  | .hbm => 7
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x8x704, .bf16⟩
  | .hbm, ⟨4, _⟩ => ⟨S8x2048x704, .bf16⟩
  | .hbm, ⟨5, _⟩ => ⟨S8x704x2048, .bf16⟩
  | .hbm, ⟨6, _⟩ => ⟨S2048x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference5Ideal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S2048x2048 : Shape := ⟨2, ![2048, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S8x704x2048 : Shape := ⟨3, ![8, 704, 2048]⟩
abbrev S1024x2048 : Shape := ⟨2, ![1024, 2048]⟩
abbrev S1x2048x704 : Shape := ⟨3, ![1, 2048, 704]⟩
abbrev S1x1024x704 : Shape := ⟨3, ![1, 1024, 704]⟩
abbrev S1x704x1024 : Shape := ⟨3, ![1, 704, 1024]⟩
abbrev S2048x704 : Shape := ⟨2, ![2048, 704]⟩
abbrev S1024x704 : Shape := ⟨2, ![1024, 704]⟩
abbrev S704x1024 : Shape := ⟨2, ![704, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x8x704, .bf16⟩
  | .hbm, ⟨4, _⟩ => ⟨S8x2048x704, .bf16⟩
  | .hbm, ⟨5, _⟩ => ⟨S2048x8x704, .bf16⟩
  | .hbm, ⟨6, _⟩ => ⟨S8x2048x704, .bf16⟩
  | .hbm, ⟨7, _⟩ => ⟨S8x2048x704, .bf16⟩
  | .hbm, ⟨8, _⟩ => ⟨S8x2048x704, .bf16⟩
  | .hbm, ⟨9, _⟩ => ⟨S8x2048x704, .bf16⟩
  | .hbm, ⟨10, _⟩ => ⟨S8x704x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x704x1024, .bf16⟩
  | .local _ .vmem, ⟨13, _⟩ => ⟨S1x704x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S2048x2048 : Shape := ⟨2, ![2048, 2048]⟩
abbrev S2048x5632 : Shape := ⟨2, ![2048, 5632]⟩
abbrev S_ : Shape := ⟨0, ![]⟩
abbrev S2048x8x704 : Shape := ⟨3, ![2048, 8, 704]⟩
abbrev S8x2048x704 : Shape := ⟨3, ![8, 2048, 704]⟩
abbrev S5632x2048 : Shape := ⟨2, ![5632, 2048]⟩
abbrev S8x704x2048 : Shape := ⟨3, ![8, 704, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S2048x2048, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S_, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x8x704, .f32⟩
  | .hbm, ⟨28, _⟩ => ⟨S8x2048x704, .f32⟩
  | .hbm, ⟨29, _⟩ => ⟨S8x2048x704, .bf16⟩
  | .hbm, ⟨30, _⟩ => ⟨S2048x8x704, .f32⟩
  | .hbm, ⟨31, _⟩ => ⟨S8x2048x704, .f32⟩
  | .hbm, ⟨32, _⟩ => ⟨S8x2048x704, .bf16⟩
  | .hbm, ⟨33, _⟩ => ⟨S2048x8x704, .f32⟩
  | .hbm, ⟨34, _⟩ => ⟨S8x2048x704, .f32⟩
  | .hbm, ⟨35, _⟩ => ⟨S8x2048x704, .bf16⟩
  | .hbm, ⟨36, _⟩ => ⟨S5632x2048, .f32⟩
  | .hbm, ⟨37, _⟩ => ⟨S8x704x2048, .f32⟩
  | .hbm, ⟨38, _⟩ => ⟨S8x704x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== Kernel7.lean ====
abbrev S2048x2048 : Shape := ⟨2, ![2048, 2048]⟩
abbrev S2048x5632 : Shape := ⟨2, ![2048, 5632]⟩
abbrev S5632x2048 : Shape := ⟨2, ![5632, 2048]⟩
abbrev S2048x8x704 : Shape := ⟨3, ![2048, 8, 704]⟩
abbrev S8x2048x704 : Shape := ⟨3, ![8, 2048, 704]⟩
abbrev S8x704x2048 : Shape := ⟨3, ![8, 704, 2048]⟩
abbrev S1024x2048 : Shape := ⟨2, ![1024, 2048]⟩
abbrev S1x2048x704 : Shape := ⟨3, ![1, 2048, 704]⟩
abbrev S1x1024x704 : Shape := ⟨3, ![1, 1024, 704]⟩
abbrev S1x704x1024 : Shape := ⟨3, ![1, 704, 1024]⟩
abbrev S2048x704 : Shape := ⟨2, ![2048, 704]⟩
abbrev S1024x704 : Shape := ⟨2, ![1024, 704]⟩
abbrev S704x1024 : Shape := ⟨2, ![704, 1024]⟩
abbrev S1x704x2048 : Shape := ⟨3, ![1, 704, 2048]⟩
abbrev S704x2048 : Shape := ⟨2, ![704, 2048]⟩

abbrev nBuf : Space → Nat
  | .hbm => 16
  | .vmem => 26
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S2048x2048, .bf16⟩
  | .hbm, ⟨5, _⟩ => ⟨S2048x8x704, .bf16⟩
  | .hbm, ⟨6, _⟩ => ⟨S8x2048x704, .bf16⟩
  | .hbm, ⟨7, _⟩ => ⟨S2048x8x704, .bf16⟩
  | .hbm, ⟨8, _⟩ => ⟨S8x2048x704, .bf16⟩
  | .hbm, ⟨9, _⟩ => ⟨S8x2048x704, .bf16⟩
  | .hbm, ⟨10, _⟩ => ⟨S8x2048x704, .bf16⟩
  | .hbm, ⟨11, _⟩ => ⟨S8x2048x704, .bf16⟩
  | .hbm, ⟨12, _⟩ => ⟨S8x704x2048, .bf16⟩
  | .hbm, ⟨13, _⟩ => ⟨S8x704x2048, .bf16⟩
  | .hbm, ⟨14, _⟩ => ⟨S8x2048x704, .bf16⟩
  | .hbm, ⟨15, _⟩ => ⟨S8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x704x1024, .bf16⟩
  | .local _ .vmem, ⟨13, _⟩ => ⟨S1x704x1024, .bf16⟩
  | .local _ .vmem, ⟨14, _⟩ => ⟨S1024x2048, .bf16⟩
  | .local _ .vmem, ⟨15, _⟩ => ⟨S1024x2048, .bf16⟩
  | .local _ .vmem, ⟨16, _⟩ => ⟨S1x704x2048, .bf16⟩
  | .local _ .vmem, ⟨17, _⟩ => ⟨S1x704x2048, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S1x1024x704, .bf16⟩
  | .local _ .vmem, ⟨25, _⟩ => ⟨S1x1024x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x704x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== Reference7Ideal.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩
abbrev S2048x8x704 : Shape := ⟨3, ![2048, 8, 704]⟩
abbrev S8x2048x704 : Shape := ⟨3, ![8, 2048, 704]⟩

abbrev nBuf : Space → Nat
  | .hbm => 41
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S2048x2048, .bf16⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x2048, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S2048x2048, .f32⟩
  | .hbm, ⟨27, _⟩ => ⟨S2048x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x8x704, .f32⟩
  | .hbm, ⟨36, _⟩ => ⟨S8x2048x704, .f32⟩
  | .hbm, ⟨37, _⟩ => ⟨S8x2048x704, .bf16⟩
  | .hbm, ⟨38, _⟩ => ⟨S2048x8x704, .f32⟩
  | .hbm, ⟨39, _⟩ => ⟨S8x2048x704, .f32⟩
  | .hbm, ⟨40, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== Kernel8.lean ====
abbrev S2048x2048 : Shape := ⟨2, ![2048, 2048]⟩
abbrev S2048x6144 : Shape := ⟨2, ![2048, 6144]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x2048 : Shape := ⟨2, ![2048, 2048]⟩
abbrev S2048x6144 : Shape := ⟨2, ![2048, 6144]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x2048, .f32⟩
  | .hbm, ⟨3, _⟩ => ⟨S2048x6144, .f32⟩
  | .hbm, ⟨4, _⟩ => ⟨S2048x6144, .f32⟩
  | .hbm, ⟨5, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S2048x2048 : Shape := ⟨2, ![2048, 2048]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S2048x2048 : Shape := ⟨2, ![2048, 2048]⟩
abbrev S2048x6144 : Shape := ⟨2, ![2048, 6144]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x2048, .bf16⟩
  | .hbm, ⟨3, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2048x2048 : Shape := ⟨2, ![2048, 2048]⟩
abbrev S2048x6144 : Shape := ⟨2, ![2048, 6144]⟩
abbrev S_ : Shape := ⟨0, ![]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S_, .f32⟩
  | .hbm, ⟨3, _⟩ => ⟨S2048x6144, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2048x6144 : Shape := ⟨2, ![2048, 6144]⟩
abbrev S2048x128 : Shape := ⟨2, ![2048, 128]⟩
abbrev S2048x6152 : Shape := ⟨2, ![2048, 6152]⟩
abbrev S2048x8 : Shape := ⟨2, ![2048, 8]⟩
abbrev S_ : Shape := ⟨0, ![]⟩
abbrev S2048x2048 : Shape := ⟨2, ![2048, 2048]⟩
abbrev S512x6144 : Shape := ⟨2, ![512, 6144]⟩
abbrev S512x128 : Shape := ⟨2, ![512, 128]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S2048x6144, .bf16⟩
  | .hbm, ⟨1, _⟩ => ⟨S2048x128, .bf16⟩
  | .hbm, ⟨2, _⟩ => ⟨S2048x6152, .bf16⟩
  | .hbm, ⟨3, _⟩ => ⟨S2048x8, .bf16⟩
  | .hbm, ⟨4, _⟩ => ⟨S_, .i32⟩
  | .hbm, ⟨5, _⟩ => ⟨S_, .bf16⟩
  | .hbm, ⟨6, _⟩ => ⟨S2048x128, .bf16⟩
  | .hbm, ⟨7, _⟩ => ⟨S2048x6144, .bf16⟩
  | .hbm, ⟨8, _⟩ => ⟨S2048x2048, .f32⟩
  | .local _ .vmem, ⟨0, _⟩ => ⟨S512x6144, .bf16⟩
  | .local _ .vmem, ⟨1, _⟩ => ⟨S512x6144, .bf16⟩
  | .local _ .vmem, ⟨2, _⟩ => ⟨S512x6144, .bf16⟩
  | .local _ .vmem, ⟨3, _⟩ => ⟨S512x6144, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x512, .f32⟩
  | .local _ .vmem, ⟨9, _⟩ => ⟨S512x512, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference13Ideal.lean ====
abbrev S2048x6144 : Shape := ⟨2, ![2048, 6144]⟩
abbrev S2048x128 : Shape := ⟨2, ![2048, 128]⟩
abbrev S2048x6152 : Shape := ⟨2, ![2048, 6152]⟩
abbrev S2048x8 : Shape := ⟨2, ![2048, 8]⟩
abbrev S_ : Shape := ⟨0, ![]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x128, .bf16⟩
  | .hbm, ⟨2, _⟩ => ⟨S2048x6152, .bf16⟩
  | .hbm, ⟨3, _⟩ => ⟨S2048x6144, .f32⟩
  | .hbm, ⟨4, _⟩ => ⟨S2048x8, .bf16⟩
  | .hbm, ⟨5, _⟩ => ⟨S2048x8, .f32⟩
  | .hbm, ⟨6, _⟩ => ⟨S_, .f32⟩
  | .hbm, ⟨7, _⟩ => ⟨S2048x2048, .f32⟩
  | .hbm, ⟨8, _⟩ => ⟨S2048x6152, .f32⟩
  | .hbm, ⟨9, _⟩ => ⟨S2048x6152, .f32⟩
  | .hbm, ⟨10, _⟩ => ⟨S2048x6144, .f32⟩
  | .hbm, ⟨11, _⟩ => ⟨S2048x8, .f32⟩
  | .hbm, ⟨12, _⟩ => ⟨S_, .f32⟩
  | .hbm, ⟨13, _⟩ => ⟨S2048x6152, .f32⟩
  | .hbm, ⟨14, _⟩ => ⟨S_, .f32⟩
  | .hbm, ⟨15, _⟩ => ⟨S2048x6152, .f32⟩
  | .hbm, ⟨16, _⟩ => ⟨S2048x6152, .f32⟩
  | .hbm, ⟨17, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel14.lean ====
abbrev S2048x2048 : Shape := ⟨2, ![2048, 2048]⟩
abbrev S2048x6144 : Shape := ⟨2, ![2048, 6144]⟩
abbrev S8x2048x768 : Shape := ⟨3, ![8, 2048, 768]⟩
abbrev S1024x2048 : Shape := ⟨2, ![1024, 2048]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x2048, .bf16⟩
  | .hbm, ⟨3, _⟩ => ⟨S8x2048x768, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x2048 : Shape := ⟨2, ![2048, 2048]⟩
abbrev S2048x6144 : Shape := ⟨2, ![2048, 6144]⟩
abbrev S_ : Shape := ⟨0, ![]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S_, .f32⟩
  | .hbm, ⟨3, _⟩ => ⟨S2048x6144, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S2048x8x768, .f32⟩
  | .hbm, ⟨10, _⟩ => ⟨S8x2048x768, .f32⟩
  | .hbm, ⟨11, _⟩ => ⟨S8x2048x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel15.lean ====
abbrev S2048x6144 : Shape := ⟨2, ![2048, 6144]⟩
abbrev S2048x8x768 : Shape := ⟨3, ![2048, 8, 768]⟩
abbrev S8x2048x768 : Shape := ⟨3, ![8, 2048, 768]⟩
abbrev S2048x2048 : Shape := ⟨2, ![2048, 2048]⟩
abbrev S1024x768 : Shape := ⟨2, ![1024, 768]⟩
abbrev S1x2048x768 : Shape := ⟨3, ![1, 2048, 768]⟩
abbrev S1024x2048 : Shape := ⟨2, ![1024, 2048]⟩
abbrev S2048x768 : Shape := ⟨2, ![2048, 768]⟩

abbrev nBuf : Space → Nat
  | .hbm => 5
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .bf16⟩
  | .hbm, ⟨2, _⟩ => ⟨S2048x8x768, .bf16⟩
  | .hbm, ⟨3, _⟩ => ⟨S8x2048x768, .bf16⟩
  | .hbm, ⟨4, _⟩ => ⟨S2048x2048, .f32⟩
  | .local _ .vmem, ⟨0, _⟩ => ⟨S1024x768, .bf16⟩
  | .local _ .vmem, ⟨1, _⟩ => ⟨S1024x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference15Ideal.lean ====
abbrev S2048x6144 : Shape := ⟨2, ![2048, 6144]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .bf16⟩
  | .hbm, ⟨2, _⟩ => ⟨S_, .f32⟩
  | .hbm, ⟨3, _⟩ => ⟨S2048x2048, .f32⟩
  | .hbm, ⟨4, _⟩ => ⟨S2048x6144, .f32⟩
  | .hbm, ⟨5, _⟩ => ⟨S2048x6144, .f32⟩
  | .hbm, ⟨6, _⟩ => ⟨S2048x6144, .f32⟩
  | .hbm, ⟨7, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S2048x2048 : Shape := ⟨2, ![2048, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S1024x2048 : Shape := ⟨2, ![1024, 2048]⟩
abbrev S1x2048x768 : Shape := ⟨3, ![1, 2048, 768]⟩
abbrev S1024x128 : Shape := ⟨2, ![1024, 128]⟩
abbrev S1024x768 : Shape := ⟨2, ![1024, 768]⟩
abbrev S2048x768 : Shape := ⟨2, ![2048, 768]⟩

abbrev nBuf : Space → Nat
  | .hbm => 34
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x8x768, .bf16⟩
  | .hbm, ⟨3, _⟩ => ⟨S8x2048x768, .bf16⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S2048, .f32⟩
  | .hbm, ⟨13, _⟩ => ⟨S2048x1, .f32⟩
  | .hbm, ⟨14, _⟩ => ⟨S1x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S_, .f32⟩
  | .hbm, ⟨21, _⟩ => ⟨S2048x16, .f32⟩
  | .hbm, ⟨22, _⟩ => ⟨S2048x16, .f32⟩
  | .hbm, ⟨23, _⟩ => ⟨S_, .f32⟩
  | .hbm, ⟨24, _⟩ => ⟨S2048x96, .f32⟩
  | .hbm, ⟨25, _⟩ => ⟨S_, .f32⟩
  | .hbm, ⟨26, _⟩ => ⟨S2048x96, .f32⟩
  | .hbm, ⟨27, _⟩ => ⟨S_, .f32⟩
  | .hbm, ⟨28, _⟩ => ⟨S2048x16, .f32⟩
  | .hbm, ⟨29, _⟩ => ⟨S2048x128, .f32⟩
  | .hbm, ⟨30, _⟩ => ⟨S2048x16, .f32⟩
  | .hbm, ⟨31, _⟩ => ⟨S2048x128, .f32⟩
  | .hbm, ⟨32, _⟩ => ⟨S2048x128, .f32⟩
  | .hbm, ⟨33, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x768, .bf16⟩
  | .local _ .vmem, ⟨11, _⟩ => ⟨S1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference16Ideal.lean ====
abbrev S2048x2048 : Shape := ⟨2, ![2048, 2048]⟩
abbrev S2048x6144 : Shape := ⟨2, ![2048, 6144]⟩
abbrev S2048x3x16x128 : Shape := ⟨4, ![2048, 3, 16, 128]⟩
abbrev S2048 : Shape := ⟨1, ![2048]⟩
abbrev S2048x1x16x128 : Shape := ⟨4, ![2048, 1, 16, 128]⟩
abbrev S2048x16x128 : Shape := ⟨3, ![2048, 16, 128]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x16x32 : Shape := ⟨3, ![2048, 16, 32]⟩
abbrev S2048x16x16 : Shape := ⟨3, ![2048, 16, 16]⟩
abbrev S2048x16x96 : Shape := ⟨3, ![2048, 16, 96]⟩

abbrev nBuf : Space → Nat
  | .hbm => 84
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x2048, .f32⟩
  | .hbm, ⟨3, _⟩ => ⟨S2048x6144, .f32⟩
  | .hbm, ⟨4, _⟩ => ⟨S2048x6144, .f32⟩
  | .hbm, ⟨5, _⟩ => ⟨S2048x3x16x128, .f32⟩
  | .hbm, ⟨6, _⟩ => ⟨S2048, .f32⟩
  | .hbm, ⟨7, _⟩ => ⟨S2048x1x16x128, .f32⟩
  | .hbm, ⟨8, _⟩ => ⟨S2048x16x128, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048x1, .f32⟩
  | .hbm, ⟨18, _⟩ => ⟨S1x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x1x16, .f32⟩
  | .hbm, ⟨24, _⟩ => ⟨S2048x16, .f32⟩
  | .hbm, ⟨25, _⟩ => ⟨S2048x1x16, .f32⟩
  | .hbm, ⟨26, _⟩ => ⟨S2048x16x32, .f32⟩
  | .hbm, ⟨27, _⟩ => ⟨S2048x16x16, .f32⟩
  | .hbm, ⟨28, _⟩ => ⟨S2048x16x16, .f32⟩
  | .hbm, ⟨29, _⟩ => ⟨S2048x16x16, .f32⟩
  | .hbm, ⟨30, _⟩ => ⟨S2048x16x16, .f32⟩
  | .hbm, ⟨31, _⟩ => ⟨S2048x16x16, .f32⟩
  | .hbm, ⟨32, _⟩ => ⟨S2048x16x16, .f32⟩
  | .hbm, ⟨33, _⟩ => ⟨S2048x16x16, .f32⟩
  | .hbm, ⟨34, _⟩ => ⟨S2048x16x16, .f32⟩
  | .hbm, ⟨35, _⟩ => ⟨S2048x16x16, .f32⟩
  | .hbm, ⟨36, _⟩ => ⟨S2048x16x16, .f32⟩
  | .hbm, ⟨37, _⟩ => ⟨S2048x16x16, .f32⟩
  | .hbm, ⟨38, _⟩ => ⟨S2048x16x16, .f32⟩
  | .hbm, ⟨39, _⟩ => ⟨S2048x16x32, .f32⟩
  | .hbm, ⟨40, _⟩ => ⟨S2048x16x96, .f32⟩
  | .hbm, ⟨41, _⟩ => ⟨S2048x16x128, .f32⟩
  | .hbm, ⟨42, _⟩ => ⟨S2048x1x16x128, .f32⟩
  | .hbm, ⟨43, _⟩ => ⟨S2048x16x128, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S2048x1, .f32⟩
  | .hbm, ⟨53, _⟩ => ⟨S1x16, .f32⟩
  | .hbm, ⟨54, _⟩ => ⟨S2048x16, .f32⟩
  | .hbm, ⟨55, _⟩ => ⟨S2048x16, .f32⟩
  | .hbm, ⟨56, _⟩ => ⟨S2048x16, .f32⟩
  | .hbm, ⟨57, _⟩ => ⟨S2048x16, .f32⟩
  | .hbm, ⟨58, _⟩ => ⟨S2048x1x16, .f32⟩
  | .hbm, ⟨59, _⟩ => ⟨S2048x16, .f32⟩
  | .hbm, ⟨60, _⟩ => ⟨S2048x1x16, .f32⟩
  | .hbm, ⟨61, _⟩ => ⟨S2048x16x32, .f32⟩
  | .hbm, ⟨62, _⟩ => ⟨S2048x16x16, .f32⟩
  | .hbm, ⟨63, _⟩ => ⟨S2048x16x16, .f32⟩
  | .hbm, ⟨64, _⟩ => ⟨S2048x16x16, .f32⟩
  | .hbm, ⟨65, _⟩ => ⟨S2048x16x16, .f32⟩
  | .hbm, ⟨66, _⟩ => ⟨S2048x16x16, .f32⟩
  | .hbm, ⟨67, _⟩ => ⟨S2048x16x16, .f32⟩
  | .hbm, ⟨68, _⟩ => ⟨S2048x16x16, .f32⟩
  | .hbm, ⟨69, _⟩ => ⟨S2048x16x16, .f32⟩
  | .hbm, ⟨70, _⟩ => ⟨S2048x16x16, .f32⟩
  | .hbm, ⟨71, _⟩ => ⟨S2048x16x16, .f32⟩
  | .hbm, ⟨72, _⟩ => ⟨S2048x16x16, .f32⟩
  | .hbm, ⟨73, _⟩ => ⟨S2048x16x16, .f32⟩
  | .hbm, ⟨74, _⟩ => ⟨S2048x16x32, .f32⟩
  | .hbm, ⟨75, _⟩ => ⟨S2048x16x96, .f32⟩
  | .hbm, ⟨76, _⟩ => ⟨S2048x16x128, .f32⟩
  | .hbm, ⟨77, _⟩ => ⟨S2048x1x16x128, .f32⟩
  | .hbm, ⟨78, _⟩ => ⟨S2048x16x128, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x6144, .f32⟩
  | .hbm, ⟨83, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩

abbrev nD : Nat := 1
abbrev τ : Topo := Topo.v7x

variable {F : FTy → Type} [FloatOps F]
-- ==== Kernel17.lean ====
abbrev S2048x2048 : Shape := ⟨2, ![2048, 2048]⟩
abbrev S1x2048 : Shape := ⟨2, ![1, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S2048 : Shape := ⟨1, ![2048]⟩

abbrev nBuf : Space → Nat
  | .hbm => 8
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S2048x256, .bf16⟩
  | .local _ .vmem, ⟨12, _⟩ => ⟨S2048x256, .bf16⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference17Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S2048x2048, .f32⟩
  | .hbm, ⟨52, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel18.lean ====
abbrev S2048x2048 : Shape := ⟨2, ![2048, 2048]⟩
abbrev S1x2048 : Shape := ⟨2, ![1, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x256, .bf16⟩
  | .local _ .vmem, ⟨6, _⟩ => ⟨S2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference18Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel19.lean ====
abbrev S2048x6144 : Shape := ⟨2, ![2048, 6144]⟩
abbrev S2048x1024 : Shape := ⟨2, ![2048, 1024]⟩
abbrev S1024x2048 : Shape := ⟨2, ![1024, 2048]⟩
abbrev S512x128 : Shape := ⟨2, ![512, 128]⟩
abbrev S2048x128 : Shape := ⟨2, ![2048, 128]⟩
abbrev S128x512 : Shape := ⟨2, ![128, 512]⟩
abbrev S512x512 : Shape := ⟨2, ![512, 512]⟩
abbrev S128x128 : Shape := ⟨2, ![128, 128]⟩
abbrev S256x128 : Shape := ⟨2, ![256, 128]⟩
abbrev S512x1 : Shape := ⟨2, ![512, 1]⟩
abbrev S512x256 : Shape := ⟨2, ![512, 256]⟩
abbrev S512 : Shape := ⟨1, ![512]⟩

abbrev nBuf : Space → Nat
  | .hbm => 4
  | .vmem => 12
  | .smem => 0
  | _ => 0

abbrev bufTy : (tb : Table) → Fin (tcTables nBuf tb) → BufTy
  | .hbm, ⟨0, _⟩ => ⟨S2048x6144, .bf16⟩
  | .hbm, ⟨1, _⟩ => ⟨S2048x1024, .bf16⟩
  | .hbm, ⟨2, _⟩ => ⟨S1024x2048, .bf16⟩
  | .hbm, ⟨3, _⟩ => ⟨S2048x1024, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | .local _ .vmem, ⟨8, _⟩ => ⟨S128x512, .bf16⟩
  | .local _ .vmem, ⟨9, _⟩ => ⟨S128x512, .bf16⟩
  | .local _ .vmem, ⟨10, _⟩ => ⟨S512x128, .f32⟩
  | .local _ .vmem, ⟨11, _⟩ => ⟨S512x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_10 : BitVec 32 := 0#32
  let arg1 : BitVec 32 := BitVec.ofNat 32 (i 1).val
  let c512_i32 : BitVec 32 := 512#32
  let v10 : BitVec 32 := Scalar.muli arg1 c512_i32
  let c512_i32_1 : BitVec 32 := 512#32
  let v11 : BitVec 32 := Scalar.addi v10 c512_i32_1
  let c1_i32 : BitVec 32 := 1#32
  let v12 : BitVec 32 := Scalar.subi v11 c1_i32
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let c1_i32_8 : BitVec 32 := 1#32
  let v30 : BitVec 32 := Scalar.addi v29 c1_i32_8
  let v33 : BitVec 32 := Scalar.subi v30 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let c1_i32_12 : BitVec 32 := 1#32
  ⟨c0_i32_10, v37, c1_i32_12⟩
def k0_mult1 (i : grid0.Coords) (k0_t1 : Fin (k0_t1_loop i).trips) : BitVec 32 :=
  let arg1 : BitVec 32 := BitVec.ofNat 32 (i 1).val
  let c512_i32 : BitVec 32 := 512#32
  let v10 : BitVec 32 := Scalar.muli arg1 c512_i32
  let c512_i32_1 : BitVec 32 := 512#32
  let v11 : BitVec 32 := Scalar.addi v10 c512_i32_1
  let c1_i32 : BitVec 32 := 1#32
  let v12 : BitVec 32 := Scalar.subi v11 c1_i32
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let c0_i32_10 : BitVec 32 := 0#32
  let c1_i32_12 : BitVec 32 := 1#32
  let arg8 : BitVec 32 := Scf.iv c0_i32_10 c1_i32_12 k0_t1
  let v48 : BitVec 32 := Scalar.subi v29 arg8
  let c512_i32_20 : BitVec 32 := 512#32
  let v49 : BitVec 32 := Scalar.muli v48 c512_i32_20
  v49
def k0_off1 (i : grid0.Coords) (k0_t1 : Fin (k0_t1_loop i).trips) : Fin 2 → Nat :=
  let arg1 : BitVec 32 := BitVec.ofNat 32 (i 1).val
  let c512_i32 : BitVec 32 := 512#32
  let v10 : BitVec 32 := Scalar.muli arg1 c512_i32
  let c512_i32_1 : BitVec 32 := 512#32
  let v11 : BitVec 32 := Scalar.addi v10 c512_i32_1
  let c1_i32 : BitVec 32 := 1#32
  let v12 : BitVec 32 := Scalar.subi v11 c1_i32
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let c0_i32_10 : BitVec 32 := 0#32
  let c1_i32_12 : BitVec 32 := 1#32
  let arg8 : BitVec 32 := Scf.iv c0_i32_10 c1_i32_12 k0_t1
  let v48 : BitVec 32 := Scalar.subi v29 arg8
  let c512_i32_20 : BitVec 32 := 512#32
  let v49 : BitVec 32 := Scalar.muli v48 c512_i32_20
  let v50 : BitVec 32 := v49
  let v51 : Index := Scalar.indexCast v50
  let c0_21 : Index := 0#32
  ![v51.toNat, 0]
@[reducible] def k0_t2_loop (i : grid0.Coords) : Scf.Loop 32 :=
  let c0_i32_10 : BitVec 32 := 0#32
  let arg1 : BitVec 32 := BitVec.ofNat 32 (i 1).val
  let c512_i32 : BitVec 32 := 512#32
  let v10 : BitVec 32 := Scalar.muli arg1 c512_i32
  let c512_i32_1 : BitVec 32 := 512#32
  let v11 : BitVec 32 := Scalar.addi v10 c512_i32_1
  let c1_i32 : BitVec 32 := 1#32
  let v12 : BitVec 32 := Scalar.subi v11 c1_i32
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let c1_i32_8 : BitVec 32 := 1#32
  let v30 : BitVec 32 := Scalar.addi v29 c1_i32_8
  let v33 : BitVec 32 := Scalar.subi v30 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let v34 : BitVec 32 := Scalar.addi c0_i32_10 v33
  let c1_i32_13 : BitVec 32 := 1#32
  ⟨v37, v34, c1_i32_13⟩
def k0_mult2 (i : grid0.Coords) (k0_t2 : Fin (k0_t2_loop i).trips) : BitVec 32 :=
  let arg1 : BitVec 32 := BitVec.ofNat 32 (i 1).val
  let c512_i32 : BitVec 32 := 512#32
  let v10 : BitVec 32 := Scalar.muli arg1 c512_i32
  let c512_i32_1 : BitVec 32 := 512#32
  let v11 : BitVec 32 := Scalar.addi v10 c512_i32_1
  let c1_i32 : BitVec 32 := 1#32
  let v12 : BitVec 32 := Scalar.subi v11 c1_i32
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let c0_i32_10 : BitVec 32 := 0#32
  let c1_i32_8 : BitVec 32 := 1#32
  let v30 : BitVec 32 := Scalar.addi v29 c1_i32_8
  let v33 : BitVec 32 := Scalar.subi v30 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let c1_i32_13 : BitVec 32 := 1#32
  let arg8 : BitVec 32 := Scf.iv v37 c1_i32_13 k0_t2
  let v48 : BitVec 32 := Scalar.subi v29 arg8
  let c512_i32_20 : BitVec 32 := 512#32
  let v49 : BitVec 32 := Scalar.muli v48 c512_i32_20
  v49
def k0_off2 (i : grid0.Coords) (k0_t2 : Fin (k0_t2_loop i).trips) : Fin 2 → Nat :=
  let arg1 : BitVec 32 := BitVec.ofNat 32 (i 1).val
  let c512_i32 : BitVec 32 := 512#32
  let v10 : BitVec 32 := Scalar.muli arg1 c512_i32
  let c512_i32_1 : BitVec 32 := 512#32
  let v11 : BitVec 32 := Scalar.addi v10 c512_i32_1
  let c1_i32 : BitVec 32 := 1#32
  let v12 : BitVec 32 := Scalar.subi v11 c1_i32
  let c0_i32 : BitVec 32 := 0#32
  let v14 : BitVec 1 := Scalar.cmpi .sgt v12 c0_i32
  let v15 : BitVec 32 := Scalar.extui v14
  let c0_i32_3 : BitVec 32 := 0#32
  let v16 : BitVec 1 := Scalar.cmpi .slt v12 c0_i32_3
  let v17 : BitVec 32 := Scalar.extui v16
  let v18 : BitVec 32 := Scalar.subi v15 v17
  let c512_i32_2 : BitVec 32 := 512#32
  let c0_i32_4 : BitVec 32 := 0#32
  let v19 : BitVec 1 := Scalar.cmpi .sgt c512_i32_2 c0_i32_4
  let v20 : BitVec 32 := Scalar.extui v19
  let c0_i32_5 : BitVec 32 := 0#32
  let v21 : BitVec 1 := Scalar.cmpi .slt c512_i32_2 c0_i32_5
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_6 : BitVec 32 := 0#32
  let v26 : BitVec 1 := Scalar.cmpi .ne v25 c0_i32_6
  let v27 : BitVec 1 := Scalar.andi v24 v26
  let v13 : BitVec 32 := Scalar.divsi v12 c512_i32_2
  let c1_i32_7 : BitVec 32 := 1#32
  let v28 : BitVec 32 := Scalar.subi v13 c1_i32_7
  let v29 : BitVec 32 := Scalar.select v27 v28 v13
  let c0_i32_10 : BitVec 32 := 0#32
  let c1_i32_8 : BitVec 32 := 1#32
  let v30 : BitVec 32 := Scalar.addi v29 c1_i32_8
  let v33 : BitVec 32 := Scalar.subi v30 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let c1_i32_13 : BitVec 32 := 1#32
  let arg8 : BitVec 32 := Scf.iv v37 c1_i32_13 k0_t2
  let v48 : BitVec 32 := Scalar.subi v29 arg8
  let c512_i32_20 : BitVec 32 := 512#32
  let v49 : BitVec 32 := Scalar.muli v48 c512_i32_20
  let v50 : BitVec 32 := v49
  let v51 : Index := Scalar.indexCast v50
  let c0_21 : Index := 0#32
  ![v51.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference19Ideal.lean ====
abbrev S2048x6144 : Shape := ⟨2, ![2048, 6144]⟩
abbrev S2048x3x16x128 : Shape := ⟨4, ![2048, 3, 16, 128]⟩
abbrev S3x16x2048x128 : Shape := ⟨4, ![3, 16, 2048, 128]⟩
abbrev S1x8x2048x128 : Shape := ⟨4, ![1, 8, 2048, 128]⟩
abbrev S8x2048x128 : Shape := ⟨3, ![8, 2048, 128]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S8x2048x2048 : Shape := ⟨3, ![8, 2048, 2048]⟩
abbrev S_ : Shape := ⟨0, ![]⟩
abbrev S2048x8x128 : Shape := ⟨3, ![2048, 8, 128]⟩
abbrev S2048x1024 : Shape := ⟨2, ![2048, 1024]⟩
abbrev S8x2048 : Shape := ⟨2, ![8, 2048]⟩
abbrev S2048x8 : Shape := ⟨2, ![2048, 8]⟩
abbrev S1024x2048 : Shape := ⟨2, ![1024, 2048]⟩

abbrev nBuf : Space → Nat
  | .hbm => 110
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .f32⟩
  | .hbm, ⟨2, _⟩ => ⟨S2048x3x16x128, .f32⟩
  | .hbm, ⟨3, _⟩ => ⟨S3x16x2048x128, .f32⟩
  | .hbm, ⟨4, _⟩ => ⟨S1x8x2048x128, .f32⟩
  | .hbm, ⟨5, _⟩ => ⟨S8x2048x128, .f32⟩
  | .hbm, ⟨6, _⟩ => ⟨S1x8x2048x128, .f32⟩
  | .hbm, ⟨7, _⟩ => ⟨S8x2048x128, .f32⟩
  | .hbm, ⟨8, _⟩ => ⟨S1x8x2048x128, .f32⟩
  | .hbm, ⟨9, _⟩ => ⟨S8x2048x128, .f32⟩
  | .hbm, ⟨10, _⟩ => ⟨S2048, .i32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S1x2048x2048, .i1⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S_, .f32⟩
  | .hbm, ⟨38, _⟩ => ⟨S8x2048x2048, .i1⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S_, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S8x2048x2048, .i1⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S_, .f32⟩
  | .hbm, ⟨65, _⟩ => ⟨S8x2048x2048, .i1⟩
  | .hbm, ⟨66, _⟩ => ⟨S8x2048x2048, .f32⟩
  | .hbm, ⟨67, _⟩ => ⟨S8x2048x2048, .f32⟩
  | .hbm, ⟨68, _⟩ => ⟨S8x2048x128, .f32⟩
  | .hbm, ⟨69, _⟩ => ⟨S2048x8x128, .f32⟩
  | .hbm, ⟨70, _⟩ => ⟨S2048x1024, .f32⟩
  | .hbm, ⟨71, _⟩ => ⟨S2048, .i32⟩
  | .hbm, ⟨72, _⟩ => ⟨S1x2048, .i32⟩
  | .hbm, ⟨73, _⟩ => ⟨S2048x1, .i32⟩
  | .hbm, ⟨74, _⟩ => ⟨S2048x2048, .i32⟩
  | .hbm, ⟨75, _⟩ => ⟨S2048x2048, .i32⟩
  | .hbm, ⟨76, _⟩ => ⟨S2048x2048, .i1⟩
  | .hbm, ⟨77, _⟩ => ⟨S1x2048x2048, .i1⟩
  | .hbm, ⟨78, _⟩ => ⟨S8x2048x2048, .f32⟩
  | .hbm, ⟨79, _⟩ => ⟨S_, .f32⟩
  | .hbm, ⟨80, _⟩ => ⟨S8x2048x2048, .f32⟩
  | .hbm, ⟨81, _⟩ => ⟨S8x2048x2048, .f32⟩
  | .hbm, ⟨82, _⟩ => ⟨S_, .f32⟩
  | .hbm, ⟨83, _⟩ => ⟨S8x2048x2048, .f32⟩
  | .hbm, ⟨84, _⟩ => ⟨S8x2048x2048, .f32⟩
  | .hbm, ⟨85, _⟩ => ⟨S8x2048x2048, .f32⟩
  | .hbm, ⟨86, _⟩ => ⟨S8x2048x2048, .f32⟩
  | .hbm, ⟨87, _⟩ => ⟨S8x2048x2048, .i1⟩
  | .hbm, ⟨88, _⟩ => ⟨S8x2048x2048, .f32⟩
  | .hbm, ⟨89, _⟩ => ⟨S8x2048x2048, .f32⟩
  | .hbm, ⟨90, _⟩ => ⟨S8x2048x2048, .f32⟩
  | .hbm, ⟨91, _⟩ => ⟨S8x2048x2048, .f32⟩
  | .hbm, ⟨92, _⟩ => ⟨S8x2048x2048, .f32⟩
  | .hbm, ⟨93, _⟩ => ⟨S8x2048x2048, .f32⟩
  | .hbm, ⟨94, _⟩ => ⟨S8x2048x2048, .f32⟩
  | .hbm, ⟨95, _⟩ => ⟨S8x2048x2048, .f32⟩
  | .hbm, ⟨96, _⟩ => ⟨S8x2048x2048, .f32⟩
  | .hbm, ⟨97, _⟩ => ⟨S_, .f32⟩
  | .hbm, ⟨98, _⟩ => ⟨S_, .f32⟩
  | .hbm, ⟨99, _⟩ => ⟨S8x2048x2048, .i1⟩
  | .hbm, ⟨100, _⟩ => ⟨S8x2048x2048, .f32⟩
  | .hbm, ⟨101, _⟩ => ⟨S8x2048x2048, .f32⟩
  | .hbm, ⟨102, _⟩ => ⟨S_, .f32⟩
  | .hbm, ⟨103, _⟩ => ⟨S8x2048, .f32⟩
  | .hbm, ⟨104, _⟩ => ⟨S2048x8, .f32⟩
  | .hbm, ⟨105, _⟩ => ⟨S2048x1024, .bf16⟩
  | .hbm, ⟨106, _⟩ => ⟨S1024x2048, .f32⟩
  | .hbm, ⟨107, _⟩ => ⟨S1024x2048, .bf16⟩
  | .hbm, ⟨108, _⟩ => ⟨S2048x8x128, .f32⟩
  | .hbm, ⟨109, _⟩ => ⟨S2048x1024, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_cst : Ref sig .tc := ⟨.hbm, 18, rfl⟩
abbrev main_v17 : Ref sig .tc := ⟨.hbm, 19, rfl⟩
abbrev main_v18 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v21 : Ref sig .tc := ⟨.hbm, 40, rfl⟩
abbrev main_call2_cst : Ref sig .tc := ⟨.hbm, 41, rfl⟩
abbrev main_call2_v0 : Ref sig .tc := ⟨.hbm, 42, rfl⟩
abbrev main_v22 : Ref sig .tc := ⟨.hbm, 43, rfl⟩
abbrev main_v23 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_2 : Ref sig .tc := ⟨.hbm, 79, rfl⟩
abbrev main_v39 : Ref sig .tc := ⟨.hbm, 80, rfl⟩
abbrev main_v40 : Ref sig .tc := ⟨.hbm, 81, rfl⟩
abbrev main_call5_cst : Ref sig .tc := ⟨.hbm, 82, rfl⟩
abbrev main_call5_v0 : Ref sig .tc := ⟨.hbm, 83, rfl⟩
abbrev main_call5_v1 : Ref sig .tc := ⟨.hbm, 84, rfl⟩
abbrev main_call5_v2 : Ref sig .tc := ⟨.hbm, 85, rfl⟩
abbrev main_call5_v3 : Ref sig .tc := ⟨.hbm, 86, rfl⟩
abbrev main_call5_v4 : Ref sig .tc := ⟨.hbm, 87, rfl⟩
abbrev main_call5_v5 : Ref sig .tc := ⟨.hbm, 88, rfl⟩
abbrev main_call5_v6 : Ref sig .tc := ⟨.hbm, 89, rfl⟩
abbrev main_call5_v7 : Ref sig .tc := ⟨.hbm, 90, rfl⟩
abbrev main_call5_v8 : Ref sig .tc := ⟨.hbm, 91, rfl⟩
abbrev main_call5_v9 : Ref sig .tc := ⟨.hbm, 92, rfl⟩
abbrev main_call5_v10 : Ref sig .tc := ⟨.hbm, 93, rfl⟩
abbrev main_call5_v11 : Ref sig .tc := ⟨.hbm, 94, rfl⟩
abbrev main_v41 : Ref sig .tc := ⟨.hbm, 95, rfl⟩
abbrev main_v42 : Ref sig .tc := ⟨.hbm, 96, rfl⟩
abbrev main_cst_3 : Ref sig .tc := ⟨.hbm, 97, rfl⟩
abbrev main_call6_v0 : Ref sig .tc := ⟨.hbm, 98, rfl⟩
abbrev main_call6_v1 : Ref sig .tc := ⟨.hbm, 99, rfl⟩
abbrev main_call6_v2 : Ref sig .tc := ⟨.hbm, 100, rfl⟩
abbrev main_v43 : Ref sig .tc := ⟨.hbm, 101, rfl⟩
abbrev main_cst_4 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩

abbrev nD : Nat := 1
abbrev τ : Topo := Topo.v7x

variable {F : FTy → Type} [FloatOps F]
-- ==== Kernel20.lean ====
abbrev S2048x6144 : Shape := ⟨2, ![2048, 6144]⟩
abbrev S2048x8 : Shape := ⟨2, ![2048, 8]⟩
abbrev S_ : Shape := ⟨0, ![]⟩
abbrev S2048x128 : Shape := ⟨2, ![2048, 128]⟩
abbrev S16x128x128 : Shape := ⟨3, ![16, 128, 128]⟩
abbrev S2048x8x128 : Shape := ⟨3, ![2048, 8, 128]⟩
abbrev S2048x1024 : Shape := ⟨2, ![2048, 1024]⟩
abbrev S1024x2048 : Shape := ⟨2, ![1024, 2048]⟩
abbrev S512x128 : Shape := ⟨2, ![512, 128]⟩
abbrev S16x8x128 : Shape := ⟨3, ![16, 8, 128]⟩
abbrev S128x512 : Shape := ⟨2, ![128, 512]⟩
abbrev S512x1 : Shape := ⟨2, ![512, 1]⟩
abbrev S512x512 : Shape := ⟨2, ![512, 512]⟩
abbrev S1x8x128 : Shape := ⟨3, ![1, 8, 128]⟩
abbrev S8x128 : Shape := ⟨2, ![8, 128]⟩
abbrev S128 : Shape := ⟨1, ![128]⟩
abbrev S1x128 : Shape := ⟨2, ![1, 128]⟩
abbrev S1x512 : Shape := ⟨2, ![1, 512]⟩
abbrev S512 : Shape := ⟨1, ![512]⟩

abbrev nBuf : Space → Nat
  | .hbm => 15
  | .vmem => 15
  | .smem => 0
  | _ => 0

abbrev bufTy : (tb : Table) → Fin (tcTables nBuf tb) → BufTy
  | .hbm, ⟨0, _⟩ => ⟨S2048x6144, .bf16⟩
  | .hbm, ⟨1, _⟩ => ⟨S2048x8, .f32⟩
  | .hbm, ⟨2, _⟩ => ⟨S_, .f32⟩
  | .hbm, ⟨3, _⟩ => ⟨S_, .f32⟩
  | .hbm, ⟨4, _⟩ => ⟨S2048x8, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S16x128x128, .f32⟩
  | .hbm, ⟨9, _⟩ => ⟨S16x128x128, .f32⟩
  | .hbm, ⟨10, _⟩ => ⟨S2048x8x128, .f32⟩
  | .hbm, ⟨11, _⟩ => ⟨S2048x1024, .f32⟩
  | .hbm, ⟨12, _⟩ => ⟨S2048x1024, .bf16⟩
  | .hbm, ⟨13, _⟩ => ⟨S1024x2048, .bf16⟩
  | .hbm, ⟨14, _⟩ => ⟨S2048x1024, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S16x8x128, .f32⟩
  | .local _ .vmem, ⟨9, _⟩ => ⟨S512x128, .bf16⟩
  | .local _ .vmem, ⟨10, _⟩ => ⟨S512x128, .bf16⟩
  | .local _ .vmem, ⟨11, _⟩ => ⟨S128x512, .bf16⟩
  | .local _ .vmem, ⟨12, _⟩ => ⟨S128x512, .bf16⟩
  | .local _ .vmem, ⟨13, _⟩ => ⟨S512x128, .f32⟩
  | .local _ .vmem, ⟨14, _⟩ => ⟨S512x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_c : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_13 : BitVec 32 := 0#32
  let arg1 : BitVec 32 := BitVec.ofNat 32 (i 1).val
  let c512_i32 : BitVec 32 := 512#32
  let v6 : BitVec 32 := Scalar.muli arg1 c512_i32
  let c512_i32_3 : BitVec 32 := 512#32
  let v7 : BitVec 32 := Scalar.addi v6 c512_i32_3
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_4 : BitVec 32 := 512#32
  let c0_i32_6 : BitVec 32 := 0#32
  let v15 : BitVec 1 := Scalar.cmpi .sgt c512_i32_4 c0_i32_6
  let v16 : BitVec 32 := Scalar.extui v15
  let c0_i32_7 : BitVec 32 := 0#32
  let v17 : BitVec 1 := Scalar.cmpi .slt c512_i32_4 c0_i32_7
  let v18 : BitVec 32 := Scalar.extui v17
  let v19 : BitVec 32 := Scalar.subi v16 v18
  let v20 : BitVec 1 := Scalar.cmpi .ne v14 v19
  let v21 : BitVec 32 := Scalar.remsi v8 c512_i32_4
  let c0_i32_8 : BitVec 32 := 0#32
  let v22 : BitVec 1 := Scalar.cmpi .ne v21 c0_i32_8
  let v23 : BitVec 1 := Scalar.andi v20 v22
  let v9 : BitVec 32 := Scalar.divsi v8 c512_i32_4
  let c1_i32_9 : BitVec 32 := 1#32
  let v24 : BitVec 32 := Scalar.subi v9 c1_i32_9
  let v25 : BitVec 32 := Scalar.select v23 v24 v9
  let c1_i32_10 : BitVec 32 := 1#32
  let v26 : BitVec 32 := Scalar.addi v25 c1_i32_10
  let v30 : BitVec 32 := Scalar.subi v26 c0_i32_13
  let c1_i32_14 : BitVec 32 := 1#32
  let v32 : BitVec 32 := Scalar.divsi v30 c1_i32_14
  let v33 : BitVec 32 := Scalar.muli v32 c1_i32_14
  let v34 : BitVec 32 := Scalar.addi c0_i32_13 v33
  let c1_i32_15 : BitVec 32 := 1#32
  ⟨c0_i32_13, v34, c1_i32_15⟩
def k0_mult1 (i : grid0.Coords) (k0_t1 : Fin (k0_t1_loop i).trips) : BitVec 32 :=
  let c0_i32_13 : BitVec 32 := 0#32
  let c1_i32_15 : BitVec 32 := 1#32
  let arg10 : BitVec 32 := Scf.iv c0_i32_13 c1_i32_15 k0_t1
  let c512_i32_23 : BitVec 32 := 512#32
  let v49 : BitVec 32 := Scalar.muli arg10 c512_i32_23
  v49
def k0_off1 (i : grid0.Coords) (k0_t1 : Fin (k0_t1_loop i).trips) : Fin 2 → Nat :=
  let c0_i32_13 : BitVec 32 := 0#32
  let c1_i32_15 : BitVec 32 := 1#32
  let arg10 : BitVec 32 := Scf.iv c0_i32_13 c1_i32_15 k0_t1
  let c512_i32_23 : BitVec 32 := 512#32
  let v49 : BitVec 32 := Scalar.muli arg10 c512_i32_23
  let v50 : BitVec 32 := v49
  let v51 : Index := Scalar.indexCast v50
  let c0_24 : Index := 0#32
  ![v51.toNat, 0]
def k0_off2 (i : grid0.Coords) (k0_t1 : Fin (k0_t1_loop i).trips) (c0_i32_28 : BitVec 32) : Fin 3 → Nat :=
  let c0_i32_13 : BitVec 32 := 0#32
  let c1_i32_15 : BitVec 32 := 1#32
  let arg10 : BitVec 32 := Scf.iv c0_i32_13 c1_i32_15 k0_t1
  let c4_i32 : BitVec 32 := 4#32
  let v60 : BitVec 32 := Scalar.muli arg10 c4_i32
  let v61 : BitVec 32 := Scalar.addi v60 c0_i32_28
  let v62 : Index := Scalar.indexCast v61
  let c0_29 : Index := 0#32
  let c0_30 : Index := 0#32
  ![v62.toNat, 0, 0]
@[reducible] def k0_t2_loop (i : grid0.Coords) : Scf.Loop 32 :=
  let c0_i32_13 : BitVec 32 := 0#32
  let arg1 : BitVec 32 := BitVec.ofNat 32 (i 1).val
  let c512_i32 : BitVec 32 := 512#32
  let v6 : BitVec 32 := Scalar.muli arg1 c512_i32
  let c512_i32_3 : BitVec 32 := 512#32
  let v7 : BitVec 32 := Scalar.addi v6 c512_i32_3
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_4 : BitVec 32 := 512#32
  let c0_i32_6 : BitVec 32 := 0#32
  let v15 : BitVec 1 := Scalar.cmpi .sgt c512_i32_4 c0_i32_6
  let v16 : BitVec 32 := Scalar.extui v15
  let c0_i32_7 : BitVec 32 := 0#32
  let v17 : BitVec 1 := Scalar.cmpi .slt c512_i32_4 c0_i32_7
  let v18 : BitVec 32 := Scalar.extui v17
  let v19 : BitVec 32 := Scalar.subi v16 v18
  let v20 : BitVec 1 := Scalar.cmpi .ne v14 v19
  let v21 : BitVec 32 := Scalar.remsi v8 c512_i32_4
  let c0_i32_8 : BitVec 32 := 0#32
  let v22 : BitVec 1 := Scalar.cmpi .ne v21 c0_i32_8
  let v23 : BitVec 1 := Scalar.andi v20 v22
  let v9 : BitVec 32 := Scalar.divsi v8 c512_i32_4
  let c1_i32_9 : BitVec 32 := 1#32
  let v24 : BitVec 32 := Scalar.subi v9 c1_i32_9
  let v25 : BitVec 32 := Scalar.select v23 v24 v9
  let c1_i32_10 : BitVec 32 := 1#32
  let v26 : BitVec 32 := Scalar.addi v25 c1_i32_10
  let v30 : BitVec 32 := Scalar.subi v26 c0_i32_13
  let c1_i32_14 : BitVec 32 := 1#32
  let v32 : BitVec 32 := Scalar.divsi v30 c1_i32_14
  let v33 : BitVec 32 := Scalar.muli v32 c1_i32_14
  let v34 : BitVec 32 := Scalar.addi c0_i32_13 v33
  let v31 : BitVec 32 := Scalar.addi c0_i32_13 v30
  let c1_i32_16 : BitVec 32 := 1#32
  ⟨v34, v31, c1_i32_16⟩
def k0_mult2 (i : grid0.Coords) (k0_t2 : Fin (k0_t2_loop i).trips) : BitVec 32 :=
  let c0_i32_13 : BitVec 32 := 0#32
  let arg1 : BitVec 32 := BitVec.ofNat 32 (i 1).val
  let c512_i32 : BitVec 32 := 512#32
  let v6 : BitVec 32 := Scalar.muli arg1 c512_i32
  let c512_i32_3 : BitVec 32 := 512#32
  let v7 : BitVec 32 := Scalar.addi v6 c512_i32_3
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_4 : BitVec 32 := 512#32
  let c0_i32_6 : BitVec 32 := 0#32
  let v15 : BitVec 1 := Scalar.cmpi .sgt c512_i32_4 c0_i32_6
  let v16 : BitVec 32 := Scalar.extui v15
  let c0_i32_7 : BitVec 32 := 0#32
  let v17 : BitVec 1 := Scalar.cmpi .slt c512_i32_4 c0_i32_7
  let v18 : BitVec 32 := Scalar.extui v17
  let v19 : BitVec 32 := Scalar.subi v16 v18
  let v20 : BitVec 1 := Scalar.cmpi .ne v14 v19
  let v21 : BitVec 32 := Scalar.remsi v8 c512_i32_4
  let c0_i32_8 : BitVec 32 := 0#32
  let v22 : BitVec 1 := Scalar.cmpi .ne v21 c0_i32_8
  let v23 : BitVec 1 := Scalar.andi v20 v22
  let v9 : BitVec 32 := Scalar.divsi v8 c512_i32_4
  let c1_i32_9 : BitVec 32 := 1#32
  let v24 : BitVec 32 := Scalar.subi v9 c1_i32_9
  let v25 : BitVec 32 := Scalar.select v23 v24 v9
  let c1_i32_10 : BitVec 32 := 1#32
  let v26 : BitVec 32 := Scalar.addi v25 c1_i32_10
  let v30 : BitVec 32 := Scalar.subi v26 c0_i32_13
  let c1_i32_14 : BitVec 32 := 1#32
  let v32 : BitVec 32 := Scalar.divsi v30 c1_i32_14
  let v33 : BitVec 32 := Scalar.muli v32 c1_i32_14
  let v34 : BitVec 32 := Scalar.addi c0_i32_13 v33
  let c1_i32_16 : BitVec 32 := 1#32
  let arg10 : BitVec 32 := Scf.iv v34 c1_i32_16 k0_t2
  let c512_i32_23 : BitVec 32 := 512#32
  let v49 : BitVec 32 := Scalar.muli arg10 c512_i32_23
  v49
def k0_off3 (i : grid0.Coords) (k0_t2 : Fin (k0_t2_loop i).trips) : Fin 2 → Nat :=
  let c0_i32_13 : BitVec 32 := 0#32
  let arg1 : BitVec 32 := BitVec.ofNat 32 (i 1).val
  let c512_i32 : BitVec 32 := 512#32
  let v6 : BitVec 32 := Scalar.muli arg1 c512_i32
  let c512_i32_3 : BitVec 32 := 512#32
  let v7 : BitVec 32 := Scalar.addi v6 c512_i32_3
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_4 : BitVec 32 := 512#32
  let c0_i32_6 : BitVec 32 := 0#32
  let v15 : BitVec 1 := Scalar.cmpi .sgt c512_i32_4 c0_i32_6
  let v16 : BitVec 32 := Scalar.extui v15
  let c0_i32_7 : BitVec 32 := 0#32
  let v17 : BitVec 1 := Scalar.cmpi .slt c512_i32_4 c0_i32_7
  let v18 : BitVec 32 := Scalar.extui v17
  let v19 : BitVec 32 := Scalar.subi v16 v18
  let v20 : BitVec 1 := Scalar.cmpi .ne v14 v19
  let v21 : BitVec 32 := Scalar.remsi v8 c512_i32_4
  let c0_i32_8 : BitVec 32 := 0#32
  let v22 : BitVec 1 := Scalar.cmpi .ne v21 c0_i32_8
  let v23 : BitVec 1 := Scalar.andi v20 v22
  let v9 : BitVec 32 := Scalar.divsi v8 c512_i32_4
  let c1_i32_9 : BitVec 32 := 1#32
  let v24 : BitVec 32 := Scalar.subi v9 c1_i32_9
  let v25 : BitVec 32 := Scalar.select v23 v24 v9
  let c1_i32_10 : BitVec 32 := 1#32
  let v26 : BitVec 32 := Scalar.addi v25 c1_i32_10
  let v30 : BitVec 32 := Scalar.subi v26 c0_i32_13
  let c1_i32_14 : BitVec 32 := 1#32
  let v32 : BitVec 32 := Scalar.divsi v30 c1_i32_14
  let v33 : BitVec 32 := Scalar.muli v32 c1_i32_14
  let v34 : BitVec 32 := Scalar.addi c0_i32_13 v33
  let c1_i32_16 : BitVec 32 := 1#32
  let arg10 : BitVec 32 := Scf.iv v34 c1_i32_16 k0_t2
  let c512_i32_23 : BitVec 32 := 512#32
  let v49 : BitVec 32 := Scalar.muli arg10 c512_i32_23
  let v50 : BitVec 32 := v49
  let v51 : Index := Scalar.indexCast v50
  let c0_24 : Index := 0#32
  ![v51.toNat, 0]
def k0_off4 (i : grid0.Coords) (k0_t2 : Fin (k0_t2_loop i).trips) (c0_i32_28 : BitVec 32) : Fin 3 → Nat :=
  let c0_i32_13 : BitVec 32 := 0#32
  let arg1 : BitVec 32 := BitVec.ofNat 32 (i 1).val
  let c512_i32 : BitVec 32 := 512#32
  let v6 : BitVec 32 := Scalar.muli arg1 c512_i32
  let c512_i32_3 : BitVec 32 := 512#32
  let v7 : BitVec 32 := Scalar.addi v6 c512_i32_3
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c512_i32_4 : BitVec 32 := 512#32
  let c0_i32_6 : BitVec 32 := 0#32
  let v15 : BitVec 1 := Scalar.cmpi .sgt c512_i32_4 c0_i32_6
  let v16 : BitVec 32 := Scalar.extui v15
  let c0_i32_7 : BitVec 32 := 0#32
  let v17 : BitVec 1 := Scalar.cmpi .slt c512_i32_4 c0_i32_7
  let v18 : BitVec 32 := Scalar.extui v17
  let v19 : BitVec 32 := Scalar.subi v16 v18
  let v20 : BitVec 1 := Scalar.cmpi .ne v14 v19
  let v21 : BitVec 32 := Scalar.remsi v8 c512_i32_4
  let c0_i32_8 : BitVec 32 := 0#32
  let v22 : BitVec 1 := Scalar.cmpi .ne v21 c0_i32_8
  let v23 : BitVec 1 := Scalar.andi v20 v22
  let v9 : BitVec 32 := Scalar.divsi v8 c512_i32_4
  let c1_i32_9 : BitVec 32 := 1#32
  let v24 : BitVec 32 := Scalar.subi v9 c1_i32_9
  let v25 : BitVec 32 := Scalar.select v23 v24 v9
  let c1_i32_10 : BitVec 32 := 1#32
  let v26 : BitVec 32 := Scalar.addi v25 c1_i32_10
  let v30 : BitVec 32 := Scalar.subi v26 c0_i32_13
  let c1_i32_14 : BitVec 32 := 1#32
  let v32 : BitVec 32 := Scalar.divsi v30 c1_i32_14
  let v33 : BitVec 32 := Scalar.muli v32 c1_i32_14
  let v34 : BitVec 32 := Scalar.addi c0_i32_13 v33
  let c1_i32_16 : BitVec 32 := 1#32
  let arg10 : BitVec 32 := Scf.iv v34 c1_i32_16 k0_t2
  let c4_i32 : BitVec 32 := 4#32
  let v60 : BitVec 32 := Scalar.muli arg10 c4_i32
  let v61 : BitVec 32 := Scalar.addi v60 c0_i32_28
  let v62 : Index := Scalar.indexCast v61
  let c0_29 : Index := 0#32
  let c0_30 : Index := 0#32
  ![v62.toNat, 0, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel20Ideal.lean ====
variable {F : FTy → Type} [FloatOps F] [Named F]
def κ : String → Option EReal := fun
  | "mask" => some ⊥
  | _ => none
-- ==== Reference20Ideal.lean ====
abbrev S2048x6144 : Shape := ⟨2, ![2048, 6144]⟩
abbrev S2048x8 : Shape := ⟨2, ![2048, 8]⟩
abbrev S2048x3x16x128 : Shape := ⟨4, ![2048, 3, 16, 128]⟩
abbrev S3x16x2048x128 : Shape := ⟨4, ![3, 16, 2048, 128]⟩
abbrev S3x8x2048x128 : Shape := ⟨4, ![3, 8, 2048, 128]⟩
abbrev S1x8x2048x128 : Shape := ⟨4, ![1, 8, 2048, 128]⟩
abbrev S8x2048x128 : Shape := ⟨3, ![8, 2048, 128]⟩
abbrev S_ : Shape := ⟨0, ![]⟩
abbrev S8x2048 : Shape := ⟨2, ![8, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048x2048 : Shape := ⟨3, ![8, 2048, 2048]⟩
abbrev S8x2048x1 : Shape := ⟨3, ![8, 2048, 1]⟩
abbrev S8x1x2048 : Shape := ⟨3, ![8, 1, 2048]⟩
abbrev S2048x8x128 : Shape := ⟨3, ![2048, 8, 128]⟩
abbrev S2048x1024 : Shape := ⟨2, ![2048, 1024]⟩
abbrev S1024x2048 : Shape := ⟨2, ![1024, 2048]⟩

abbrev nBuf : Space → Nat
  | .hbm => 64
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x8, .f32⟩
  | .hbm, ⟨2, _⟩ => ⟨S2048x6144, .f32⟩
  | .hbm, ⟨3, _⟩ => ⟨S2048x3x16x128, .f32⟩
  | .hbm, ⟨4, _⟩ => ⟨S3x16x2048x128, .f32⟩
  | .hbm, ⟨5, _⟩ => ⟨S3x8x2048x128, .f32⟩
  | .hbm, ⟨6, _⟩ => ⟨S1x8x2048x128, .f32⟩
  | .hbm, ⟨7, _⟩ => ⟨S8x2048x128, .f32⟩
  | .hbm, ⟨8, _⟩ => ⟨S1x8x2048x128, .f32⟩
  | .hbm, ⟨9, _⟩ => ⟨S8x2048x128, .f32⟩
  | .hbm, ⟨10, _⟩ => ⟨S1x8x2048x128, .f32⟩
  | .hbm, ⟨11, _⟩ => ⟨S8x2048x128, .f32⟩
  | .hbm, ⟨12, _⟩ => ⟨S_, .f32⟩
  | .hbm, ⟨13, _⟩ => ⟨S_, .f32⟩
  | .hbm, ⟨14, _⟩ => ⟨S2048x8, .f32⟩
  | .hbm, ⟨15, _⟩ => ⟨S8x2048, .f32⟩
  | .hbm, ⟨16, _⟩ => ⟨S2048, .i32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S8x2048x2048, .f32⟩
  | .hbm, ⟨23, _⟩ => ⟨S_, .f32⟩
  | .hbm, ⟨24, _⟩ => ⟨S8x2048x2048, .f32⟩
  | .hbm, ⟨25, _⟩ => ⟨S8x2048x2048, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S_, .f32⟩
  | .hbm, ⟨34, _⟩ => ⟨S8x2048x2048, .i1⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S8x2048x2048, .f32⟩
  | .hbm, ⟨50, _⟩ => ⟨S8x2048x2048, .f32⟩
  | .hbm, ⟨51, _⟩ => ⟨S8x2048x128, .f32⟩
  | .hbm, ⟨52, _⟩ => ⟨S2048x8x128, .f32⟩
  | .hbm, ⟨53, _⟩ => ⟨S2048x1024, .f32⟩
  | .hbm, ⟨54, _⟩ => ⟨S8x2048x2048, .f32⟩
  | .hbm, ⟨55, _⟩ => ⟨S_, .f32⟩
  | .hbm, ⟨56, _⟩ => ⟨S8x2048, .f32⟩
  | .hbm, ⟨57, _⟩ => ⟨S8x2048, .f32⟩
  | .hbm, ⟨58, _⟩ => ⟨S2048x8, .f32⟩
  | .hbm, ⟨59, _⟩ => ⟨S2048x1024, .bf16⟩
  | .hbm, ⟨60, _⟩ => ⟨S1024x2048, .f32⟩
  | .hbm, ⟨61, _⟩ => ⟨S1024x2048, .bf16⟩
  | .hbm, ⟨62, _⟩ => ⟨S2048x8x128, .f32⟩
  | .hbm, ⟨63, _⟩ => ⟨S2048x1024, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_cst : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Kernel21.lean ====
abbrev S2048x2048 : Shape := ⟨2, ![2048, 2048]⟩
abbrev S2048x6152 : Shape := ⟨2, ![2048, 6152]⟩
abbrev S2048x8 : Shape := ⟨2, ![2048, 8]⟩
abbrev S_ : Shape := ⟨0, ![]⟩
abbrev S2048x128 : Shape := ⟨2, ![2048, 128]⟩
abbrev S1024x2048 : Shape := ⟨2, ![1024, 2048]⟩
abbrev S1024x128 : Shape := ⟨2, ![1024, 128]⟩

abbrev nBuf : Space → Nat
  | .hbm => 7
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x6152, .bf16⟩
  | .hbm, ⟨2, _⟩ => ⟨S2048x8, .bf16⟩
  | .hbm, ⟨3, _⟩ => ⟨S_, .i32⟩
  | .hbm, ⟨4, _⟩ => ⟨S_, .bf16⟩
  | .hbm, ⟨5, _⟩ => ⟨S2048x128, .bf16⟩
  | .hbm, ⟨6, _⟩ => ⟨S2048x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S2048x2048 : Shape := ⟨2, ![2048, 2048]⟩
abbrev S2048x6152 : Shape := ⟨2, ![2048, 6152]⟩
abbrev S2048x8 : Shape := ⟨2, ![2048, 8]⟩
abbrev S_ : Shape := ⟨0, ![]⟩
abbrev S2048x128 : Shape := ⟨2, ![2048, 128]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6152, .bf16⟩
  | .hbm, ⟨2, _⟩ => ⟨S2048x2048, .f32⟩
  | .hbm, ⟨3, _⟩ => ⟨S2048x6152, .f32⟩
  | .hbm, ⟨4, _⟩ => ⟨S2048x6152, .f32⟩
  | .hbm, ⟨5, _⟩ => ⟨S2048x8, .f32⟩
  | .hbm, ⟨6, _⟩ => ⟨S_, .i32⟩
  | .hbm, ⟨7, _⟩ => ⟨S_, .f32⟩
  | .hbm, ⟨8, _⟩ => ⟨S2048x128, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel22.lean ====
abbrev S2048x2048 : Shape := ⟨2, ![2048, 2048]⟩
abbrev S2048x128 : Shape := ⟨2, ![2048, 128]⟩
abbrev S1024x2048 : Shape := ⟨2, ![1024, 2048]⟩
abbrev S1024x128 : Shape := ⟨2, ![1024, 128]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S2048x2048, .bf16⟩
  | .hbm, ⟨3, _⟩ => ⟨S2048x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .bf16⟩
  | .local _ .vmem, ⟨4, _⟩ => ⟨S1024x128, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S2048x2048 : Shape := ⟨2, ![2048, 2048]⟩
abbrev S2048x128 : Shape := ⟨2, ![2048, 128]⟩
abbrev S_ : Shape := ⟨0, ![]⟩
abbrev S128x2048 : Shape := ⟨2, ![128, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S_, .f32⟩
  | .hbm, ⟨3, _⟩ => ⟨S2048x128, .f32⟩
  | .hbm, ⟨4, _⟩ => ⟨S2048x2048, .f32⟩
  | .hbm, ⟨5, _⟩ => ⟨S2048x128, .f32⟩
  | .hbm, ⟨6, _⟩ => ⟨S2048x128, .f32⟩
  | .hbm, ⟨7, _⟩ => ⟨S128x2048, .f32⟩
  | .hbm, ⟨8, _⟩ => ⟨S2048x128, .f32⟩
  | .hbm, ⟨9, _⟩ => ⟨S2048x128, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel23.lean ====
abbrev S2048x2048 : Shape := ⟨2, ![2048, 2048]⟩
abbrev S1x2048 : Shape := ⟨2, ![1, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S2048 : Shape := ⟨1, ![2048]⟩

abbrev nBuf : Space → Nat
  | .hbm => 8
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S2048x256, .bf16⟩
  | .local _ .vmem, ⟨12, _⟩ => ⟨S2048x256, .bf16⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference23Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | .hbm, ⟨48, _⟩ => ⟨S2048x2048, .f32⟩
  | .hbm, ⟨49, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel24.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S2048 : Shape := ⟨1, ![2048]⟩
abbrev S1 : Shape := ⟨1, ![1]⟩
abbrev S1x1 : Shape := ⟨2, ![1, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S1x2048, .f32⟩
  | .hbm, ⟨7, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S2048x256, .bf16⟩
  | .local _ .vmem, ⟨10, _⟩ => ⟨S2048x256, .bf16⟩
  | .local _ .vmem, ⟨11, _⟩ => ⟨S1x2048, .f32⟩
  | .local _ .vmem, ⟨12, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference24Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S128 : Shape := ⟨1, ![128]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S_, .f32⟩
  | .hbm, ⟨69, _⟩ => ⟨S2048x2048, .f32⟩
  | .hbm, ⟨70, _⟩ => ⟨S2048x2048, .f32⟩
  | .hbm, ⟨71, _⟩ => ⟨S2048x2048, .bf16⟩
  | .hbm, ⟨72, _⟩ => ⟨S2048x2048, .f32⟩
  | .hbm, ⟨73, _⟩ => ⟨S2048x2048, .bf16⟩
  | .hbm, ⟨74, _⟩ => ⟨S128, .i32⟩
  | .hbm, ⟨75, _⟩ => ⟨S1x128, .i32⟩
  | .hbm, ⟨76, _⟩ => ⟨S_, .i32⟩
  | .hbm, ⟨77, _⟩ => ⟨S1x128, .i32⟩
  | .hbm, ⟨78, _⟩ => ⟨S1x128, .i1⟩
  | .hbm, ⟨79, _⟩ => ⟨S_, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_15 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_v58 : Ref sig .tc := ⟨.hbm, 83, rfl⟩

abbrev nD : Nat := 1
abbrev τ : Topo := Topo.v7x

variable {F : FTy → Type} [FloatOps F]
-- ==== Kernel25.lean ====
abbrev S120x128 : Shape := ⟨2, ![120, 128]⟩
abbrev S8x120x128 : Shape := ⟨3, ![8, 120, 128]⟩
abbrev S1x120x128 : Shape := ⟨3, ![1, 120, 128]⟩

abbrev nBuf : Space → Nat
  | .hbm => 8
  | .vmem => 8
  | .smem => 0
  | _ => 0

abbrev bufTy : (tb : Table) → Fin (tcTables nBuf tb) → BufTy
  | .hbm, ⟨0, _⟩ => ⟨S120x128, .f32⟩
  | .hbm, ⟨1, _⟩ => ⟨S120x128, .f32⟩
  | .hbm, ⟨2, _⟩ => ⟨S120x128, .f32⟩
  | .hbm, ⟨3, _⟩ => ⟨S8x120x128, .f32⟩
  | .hbm, ⟨4, _⟩ => ⟨S120x128, .f32⟩
  | .hbm, ⟨5, _⟩ => ⟨S120x128, .f32⟩
  | .hbm, ⟨6, _⟩ => ⟨S120x128, .f32⟩
  | .hbm, ⟨7, _⟩ => ⟨S120x128, .f32⟩
  | .local _ .vmem, ⟨0, _⟩ => ⟨S120x128, .f32⟩
  | .local _ .vmem, ⟨1, _⟩ => ⟨S120x128, .f32⟩
  | .local _ .vmem, ⟨2, _⟩ => ⟨S120x128, .f32⟩
  | .local _ .vmem, ⟨3, _⟩ => ⟨S8x120x128, .f32⟩
  | .local _ .vmem, ⟨4, _⟩ => ⟨S120x128, .f32⟩
  | .local _ .vmem, ⟨5, _⟩ => ⟨S120x128, .f32⟩
  | .local _ .vmem, ⟨6, _⟩ => ⟨S120x128, .f32⟩
  | .local _ .vmem, ⟨7, _⟩ => ⟨S120x128, .f32⟩
  | _, _ => ⟨S120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S120x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S120x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference25Ideal.lean ====
abbrev S120x128 : Shape := ⟨2, ![120, 128]⟩
abbrev S8x120x128 : Shape := ⟨3, ![8, 120, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S120x128, .f32⟩
  | .hbm, ⟨1, _⟩ => ⟨S120x128, .f32⟩
  | .hbm, ⟨2, _⟩ => ⟨S120x128, .f32⟩
  | .hbm, ⟨3, _⟩ => ⟨S8x120x128, .f32⟩
  | .hbm, ⟨4, _⟩ => ⟨S_, .f32⟩
  | .hbm, ⟨5, _⟩ => ⟨S120x128, .f32⟩
  | .hbm, ⟨6, _⟩ => ⟨S_, .f32⟩
  | .hbm, ⟨7, _⟩ => ⟨S120x128, .f32⟩
  | .hbm, ⟨8, _⟩ => ⟨S120x128, .f32⟩
  | .hbm, ⟨9, _⟩ => ⟨S_, .f32⟩
  | .hbm, ⟨10, _⟩ => ⟨S120x128, .f32⟩
  | .hbm, ⟨11, _⟩ => ⟨S120x128, .f32⟩
  | .hbm, ⟨12, _⟩ => ⟨S120x128, .f32⟩
  | .hbm, ⟨13, _⟩ => ⟨S_, .f32⟩
  | .hbm, ⟨14, _⟩ => ⟨S120x128, .f32⟩
  | .hbm, ⟨15, _⟩ => ⟨S120x128, .f32⟩
  | .hbm, ⟨16, _⟩ => ⟨S120x128, .f32⟩
  | .hbm, ⟨17, _⟩ => ⟨S_, .f32⟩
  | .hbm, ⟨18, _⟩ => ⟨S120x128, .f32⟩
  | .hbm, ⟨19, _⟩ => ⟨S120x128, .f32⟩
  | .hbm, ⟨20, _⟩ => ⟨S120x128, .f32⟩
  | .hbm, ⟨21, _⟩ => ⟨S_, .f32⟩
  | .hbm, ⟨22, _⟩ => ⟨S120x128, .f32⟩
  | .hbm, ⟨23, _⟩ => ⟨S120x128, .f32⟩
  | .hbm, ⟨24, _⟩ => ⟨S_, .f32⟩
  | .hbm, ⟨25, _⟩ => ⟨S120x128, .f32⟩
  | .hbm, ⟨26, _⟩ => ⟨S120x128, .f32⟩
  | .hbm, ⟨27, _⟩ => ⟨S120x128, .f32⟩
  | .hbm, ⟨28, _⟩ => ⟨S_, .f32⟩
  | .hbm, ⟨29, _⟩ => ⟨S120x128, .f32⟩
  | .hbm, ⟨30, _⟩ => ⟨S120x128, .f32⟩
  | .hbm, ⟨31, _⟩ => ⟨S120x128, .f32⟩
  | .hbm, ⟨32, _⟩ => ⟨S_, .f32⟩
  | .hbm, ⟨33, _⟩ => ⟨S120x128, .f32⟩
  | .hbm, ⟨34, _⟩ => ⟨S120x128, .f32⟩
  | .hbm, ⟨35, _⟩ => ⟨S120x128, .f32⟩
  | .hbm, ⟨36, _⟩ => ⟨S_, .f32⟩
  | .hbm, ⟨37, _⟩ => ⟨S120x128, .f32⟩
  | .hbm, ⟨38, _⟩ => ⟨S120x128, .f32⟩
  | _, _ => ⟨S120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.SbModel.lean ====
/- The gradients of stick-breaking attention for one head over the reals, as finite sums over
   positions, and the identities that let a tile-by-tile computation reach them. -/
module

public import Mathlib.Analysis.SpecialFunctions.Log.Basic
public import Mathlib.Analysis.SpecialFunctions.Exp
public import Mathlib.Algebra.BigOperators.Intervals
public import Mathlib.Algebra.BigOperators.Fin

@[expose] public section

namespace Sb

noncomputable section

open Finset

/-- One head's arguments: the scale of the logits, the query, key and value rows and the cotangent rows. -/
structure Head where
  /-- the scale of the logits -/
  c : ℝ
  /-- query row, lane -/
  q : ℕ → ℕ → ℝ
  /-- key row, lane -/
  k : ℕ → ℕ → ℝ
  /-- value row, lane -/
  v : ℕ → ℕ → ℝ
  /-- row of the result's cotangent, lane -/
  g : ℕ → ℕ → ℝ

/-- `log (1 + exp z)` as the step computes it. -/
def softplus (z : ℝ) : ℝ := max z 0 + Real.log (1 + Real.exp (0 - |z|))

variable (H : Head)

/-- The logit of query row `r` against key row `s`. -/
def Head.z (r s : ℕ) : ℝ := (∑ d : Fin 128, H.q r d * H.k s d) * H.c
/-- The probability of stopping at `s`. -/
def Head.sig (r s : ℕ) : ℝ := Real.exp (H.z r s - softplus (H.z r s))
/-- The logarithm of the probability of passing `s`, zero where the mask excludes `s`. -/
def Head.lnb (r s : ℕ) : ℝ := if s < r then 0 - softplus (H.z r s) else 0
/-- The sum of a row of `lnb`. -/
def Head.tot (r : ℕ) : ℝ := ∑ s ∈ range 2048, H.lnb r s
/-- The attention weight. -/
def Head.w (r s : ℕ) : ℝ :=
  if s < r then Real.exp (H.z r s - softplus (H.z r s) + (H.tot r - ∑ s' ∈ range (s + 1), H.lnb r s')) else 0
/-- The product of the cotangent row with the value row. -/
def Head.gv (r s : ℕ) : ℝ := ∑ d : Fin 128, H.g r d * H.v s d
/-- The gradient of the logarithm of the weight. -/
def Head.dl (r s : ℕ) : ℝ := H.w r s * H.gv r s
/-- The gradient of the logit. -/
def Head.dz (r s : ℕ) : ℝ :=
  (if s < r then H.dl r s * (1 - H.sig r s) - H.sig r s * ∑ s' ∈ range s, H.dl r s' else 0) * H.c
/-- The gradient of the queries. -/
def Head.dq (r d : ℕ) : ℝ := ∑ s ∈ range 2048, H.dz r s * H.k s d
/-- The gradient of the keys. -/
def Head.dk (s d : ℕ) : ℝ := ∑ r ∈ range 2048, H.dz r s * H.q r d
/-- The gradient of the values. -/
def Head.dv (s d : ℕ) : ℝ := ∑ r ∈ range 2048, H.w r s * H.g r d

theorem Head.lnb_masked {r s : ℕ} (h : ¬ s < r) : H.lnb r s = 0 := if_neg h
theorem Head.w_masked {r s : ℕ} (h : ¬ s < r) : H.w r s = 0 := if_neg h
theorem Head.dl_masked {r s : ℕ} (h : ¬ s < r) : H.dl r s = 0 := by rw [Head.dl, H.w_masked h, zero_mul]
theorem Head.dz_masked {r s : ℕ} (h : ¬ s < r) : H.dz r s = 0 := by rw [Head.dz, if_neg h, zero_mul]

/-- A sum over the lanes of a block is a sum over an initial range. -/
theorem sum_fin_range (n : ℕ) (f : ℕ → ℝ) : ∑ x : Fin n, f x.val = ∑ x ∈ range n, f x :=
  (Finset.sum_range f).symm

/-- The sum over a range splits at any point. -/
theorem range_add (f : ℕ → ℝ) (a n : ℕ) : ∑ s ∈ range (a + n), f s = ∑ s ∈ range a, f s + ∑ x : Fin n, f (a + x.val) := by
  rw [Finset.sum_range_add, sum_fin_range n fun x => f (a + x)]

/-- A block's sum of the lanes up to lane `y`, added to the sum before the block, is the sum up to that position. -/
theorem upto_block (f : ℕ → ℝ) (a y n : ℕ) (hy : y < n) :
    ∑ s ∈ range a, f s + ∑ x : Fin n, f (a + x.val) * (if x.val ≤ y then 1 else 0) = ∑ s ∈ range (a + y + 1), f s := by
  rw [add_assoc a y 1, range_add f a (y + 1), sum_fin_range n fun x => f (a + x) * (if x ≤ y then 1 else 0),
    sum_fin_range (y + 1) fun x => f (a + x)]
  congr 1
  have hsub : range (y + 1) ⊆ range n := by
    intro x hx; rw [mem_range] at *; omega
  rw [← Finset.sum_subset hsub]
  · refine Finset.sum_congr rfl fun x hx => ?_
    rw [mem_range] at hx
    rw [if_pos (by omega), mul_one]
  · intro x _ hx
    rw [mem_range] at hx
    rw [if_neg (by omega), mul_zero]

/-- A block's sum of the lanes before lane `y`, added to the sum before the block, is the sum before that position. -/
theorem before_block (f : ℕ → ℝ) (a y n : ℕ) (hy : y < n) :
    ∑ s ∈ range a, f s + ∑ x : Fin n, f (a + x.val) * (if x.val < y then 1 else 0) = ∑ s ∈ range (a + y), f s := by
  rw [range_add f a y, sum_fin_range n fun x => f (a + x) * (if x < y then 1 else 0),
    sum_fin_range y fun x => f (a + x)]
  congr 1
  have hsub : range y ⊆ range n := by
    intro x hx; rw [mem_range] at *; omega
  rw [← Finset.sum_subset hsub]
  · refine Finset.sum_congr rfl fun x hx => ?_
    rw [mem_range] at hx
    rw [if_pos (by omega), mul_one]
  · intro x _ hx
    rw [mem_range] at hx
    rw [if_neg (by omega), mul_zero]

/-- A sum whose terms vanish from `a` on stops there. -/
theorem range_stop (f : ℕ → ℝ) {a n : ℕ} (h : a ≤ n) (hf : ∀ s, a ≤ s → f s = 0) :
    ∑ s ∈ range n, f s = ∑ s ∈ range a, f s := by
  symm
  refine Finset.sum_subset (fun x hx => ?_) fun x _ hx => hf x ?_
  · rw [mem_range] at *; omega
  · rw [mem_range] at hx; omega

/-- A sum whose terms vanish before `a` starts there. -/
theorem range_start (f : ℕ → ℝ) {a n : ℕ} (hf : ∀ s, s < a → f s = 0) :
    ∑ x : Fin n, f (a + x.val) = ∑ s ∈ range (a + n), f s := by
  rw [range_add f a n, Finset.sum_eq_zero fun s hs => hf s (mem_range.mp hs), zero_add]

theorem exp_pos_add (z : ℝ) : 0 < 1 + Real.exp z := add_pos one_pos (Real.exp_pos z)

/-- The two spellings of `log (1 + exp z)`. -/
theorem softplus_eq (z : ℝ) : softplus z = Real.log (1 + Real.exp z) := by
  rcases le_total 0 z with h | h
  · have e : 1 + Real.exp z = Real.exp z * (1 + Real.exp (0 - z)) := by
      rw [mul_add, mul_one, ← Real.exp_add, show z + (0 - z) = 0 by ring, Real.exp_zero, add_comm]
    rw [softplus, max_eq_left h, abs_of_nonneg h, e,
      Real.log_mul (Real.exp_pos z).ne' (exp_pos_add _).ne', Real.log_exp]
  · rw [softplus, max_eq_right h, abs_of_nonpos h, zero_add, zero_sub, neg_neg]

/-- The softplus of the negated logit. -/
theorem softplus_neg (z : ℝ) : softplus (-z) = softplus z - z := by
  rw [softplus_eq, softplus_eq]
  have e : 1 + Real.exp z = Real.exp z * (1 + Real.exp (-z)) := by
    rw [mul_add, mul_one, ← Real.exp_add, show z + -z = 0 by ring, Real.exp_zero, add_comm]
  rw [e, Real.log_mul (Real.exp_pos z).ne' (exp_pos_add _).ne', Real.log_exp]
  ring

/-- The probabilities of stopping and passing sum to one. -/
theorem sig_add (z : ℝ) : Real.exp (z - softplus z) + Real.exp (-z - softplus (-z)) = 1 := by
  rw [softplus_neg, show -z - (softplus z - z) = -softplus z by ring, Real.exp_sub, Real.exp_neg, softplus_eq,
    Real.exp_log (exp_pos_add z)]
  have := (exp_pos_add z).ne'
  field_simp
  ring

/-- The sum of `lnb` strictly after `s`. -/
theorem Head.after_eq (r s : ℕ) (hs : s < 2048) :
    (∑ s' ∈ range 2048, if s ≤ s' then H.lnb r s' else 0) - H.lnb r s = H.tot r - ∑ s' ∈ range (s + 1), H.lnb r s' := by
  rw [Head.tot, Finset.sum_range_succ (fun s' => H.lnb r s') s]
  have e : ∑ s' ∈ range s, H.lnb r s' = ∑ s' ∈ range 2048, if s ≤ s' then 0 else H.lnb r s' := by
    rw [range_stop (fun s' => if s ≤ s' then 0 else H.lnb r s') (a := s) (by omega) (fun s' h => if_pos h)]
    refine Finset.sum_congr rfl fun x hx => ?_
    rw [mem_range] at hx
    rw [if_neg (by omega)]
  have e' : ∑ s' ∈ range 2048, H.lnb r s' = (∑ s' ∈ range 2048, if s ≤ s' then H.lnb r s' else 0)
      + ∑ s' ∈ range 2048, if s ≤ s' then 0 else H.lnb r s' := by
    rw [← Finset.sum_add_distrib]
    refine Finset.sum_congr rfl fun x _ => ?_
    split <;> simp
  rw [e', e]
  ring

end

end Sb
-- ==== Proof.SbIdeal.lean ====
/- Real numbers among the extended reals: the operations of the step on finite values, and the
   running sums of a tile written as products with a triangle of ones. -/
module

public import proofs.«01_k».proof.Proof.SbModel
public import Idealize.ShloMosaic.Lib.Pointwise

@[expose] public section

namespace Sb

noncomputable section

open Finset Idealize.ShloMosaic

/-- A finite sum of reals among the extended reals. -/
theorem coe_fsum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of extended reals each of which is a known real. -/
theorem sum_of_coe {ι : Type*} [Fintype ι] {v : ι → EReal} (f : ι → ℝ) (h : ∀ i, v i = ((f i : ℝ) : EReal)) :
    ∑ i, v i = ((∑ i, f i : ℝ) : EReal) := by
  rw [Finset.sum_congr rfl fun i _ => h i, coe_fsum]

theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem abs_coe (a : ℝ) : max (a : EReal) (-(a : EReal)) = ((|a| : ℝ) : EReal) := by
  rw [← EReal.coe_neg, max_coe]; rfl

/-- The step's softplus of a finite logit. -/
theorem softplus_coe (a : ℝ) :
    max (a : EReal) 0 + Ideal.log (1 + Ideal.exp (0 - max (a : EReal) (-(a : EReal)))) = ((softplus a : ℝ) : EReal) := by
  rw [abs_coe, ← EReal.coe_zero, ← EReal.coe_one, ← EReal.coe_sub, Ideal.exp_coe, ← EReal.coe_add, Ideal.log_coe,
    if_neg (not_le.mpr (exp_pos_add _)), max_coe, ← EReal.coe_add]
  rfl

/-- A selection by a decided bit. -/
theorem select_ofBool {α : Type} (b : Bool) (x y : α) : Scalar.select (BitVec.ofBool b) x y = if b = true then x else y := by
  cases b <;> rfl

/-- The same, of a proposition. -/
theorem select_decide {α : Type} (p : Prop) [Decidable p] (x y : α) :
    Scalar.select (BitVec.ofBool (decide p)) x y = if p then x else y := by
  rw [select_ofBool]; simp only [decide_eq_true_eq]

/-- A selection of reals is a real. -/
theorem ite_coe (p : Prop) [Decidable p] (a b : ℝ) :
    (if p then (a : EReal) else (b : EReal)) = ((if p then a else b : ℝ) : EReal) := by
  split <;> rfl

/-- The split of a value into a leading part and a remainder, both times a triangle of ones: the running sum. -/
theorem scan_upto (f : ℕ → ℝ) (a y : ℕ) (hy : y < 128) (p : EReal) (v t u : Fin 128 → EReal)
    (hp : p = ((∑ s ∈ range a, f s : ℝ) : EReal))
    (hv : ∀ x, v x = ((f (a + x.val) : ℝ) : EReal))
    (ht : ∀ x, t x = ((if x.val ≤ y then 1 else 0 : ℝ) : EReal)) (hu : ∀ x, u x = ((if x.val ≤ y then 1 else 0 : ℝ) : EReal)) :
    p + (∑ x, v x * t x + ∑ x, (v x - v x) * u x) = ((∑ s ∈ range (a + y + 1), f s : ℝ) : EReal) := by
  rw [hp, sum_of_coe (v := fun x => v x * t x) (fun x => f (a + x.val) * if x.val ≤ y then 1 else 0)
      fun x => by rw [hv, ht, ← EReal.coe_mul],
    sum_of_coe (v := fun x => (v x - v x) * u x) (fun _ => 0)
      fun x => by rw [hv, hu, ← EReal.coe_sub, sub_self, ← EReal.coe_mul, zero_mul],
    Finset.sum_const_zero, EReal.coe_zero, add_zero, ← EReal.coe_add, upto_block f a y 128 hy]

/-- The same with the strict triangle: the sum before the lane. -/
theorem scan_before (f : ℕ → ℝ) (a y : ℕ) (hy : y < 128) (p : EReal) (v t u : Fin 128 → EReal)
    (hp : p = ((∑ s ∈ range a, f s : ℝ) : EReal))
    (hv : ∀ x, v x = ((f (a + x.val) : ℝ) : EReal))
    (ht : ∀ x, t x = ((if x.val < y then 1 else 0 : ℝ) : EReal)) (hu : ∀ x, u x = ((if x.val < y then 1 else 0 : ℝ) : EReal)) :
    p + (∑ x, v x * t x + ∑ x, (v x - v x) * u x) = ((∑ s ∈ range (a + y), f s : ℝ) : EReal) := by
  rw [hp, sum_of_coe (v := fun x => v x * t x) (fun x => f (a + x.val) * if x.val < y then 1 else 0)
      fun x => by rw [hv, ht, ← EReal.coe_mul],
    sum_of_coe (v := fun x => (v x - v x) * u x) (fun _ => 0)
      fun x => by rw [hv, hu, ← EReal.coe_sub, sub_self, ← EReal.coe_mul, zero_mul],
    Finset.sum_const_zero, EReal.coe_zero, add_zero, ← EReal.coe_add, before_block f a y 128 hy]

/-- A block's sum added to the sum before it. -/
theorem block_sum (f : ℕ → ℝ) (a : ℕ) (p : EReal) (v : Fin 128 → EReal)
    (hp : p = ((∑ s ∈ range a, f s : ℝ) : EReal)) (hv : ∀ x, v x = ((f (a + x.val) : ℝ) : EReal)) :
    p + ∑ x, v x = ((∑ s ∈ range (a + 128), f s : ℝ) : EReal) := by
  rw [hp, sum_of_coe _ hv, ← EReal.coe_add, range_add f a 128]

/-- Small words compare as the numbers they are. -/
theorem slt_small (a b : ℕ) (ha : a < 2 ^ 31) (hb : b < 2 ^ 31) : (BitVec.ofNat 32 a).slt (BitVec.ofNat 32 b) = decide (a < b) := by
  rw [BitVec.slt_eq_decide, BitVec.toInt_eq_toNat_of_lt (by rw [BitVec.toNat_ofNat]; omega),
    BitVec.toInt_eq_toNat_of_lt (by rw [BitVec.toNat_ofNat]; omega), BitVec.toNat_ofNat, BitVec.toNat_ofNat]
  simp only [decide_eq_decide]; omega

/-- The same for the comparison with equality. -/
theorem sle_small (a b : ℕ) (ha : a < 2 ^ 31) (hb : b < 2 ^ 31) : (BitVec.ofNat 32 a).sle (BitVec.ofNat 32 b) = decide (a ≤ b) := by
  rw [BitVec.sle_eq_decide, BitVec.toInt_eq_toNat_of_lt (by rw [BitVec.toNat_ofNat]; omega),
    BitVec.toInt_eq_toNat_of_lt (by rw [BitVec.toNat_ofNat]; omega), BitVec.toNat_ofNat, BitVec.toNat_ofNat]
  simp only [decide_eq_decide]; omega

/-- A comparison's bit, widened and read as a number, is one or zero. -/
theorem bit_num (p : Prop) [Decidable p] :
    FloatOps.sitofp (F := Ideal) .f32 (BitVec.setWidth 32 (BitVec.ofBool (decide p))) = ((if p then 1 else 0 : ℝ) : EReal) := by
  by_cases h : p
  · rw [if_pos h, decide_eq_true h]
    change ((((BitVec.setWidth 32 (BitVec.ofBool true)).toInt : ℤ) : ℝ) : EReal) = _
    rw [show (BitVec.setWidth 32 (BitVec.ofBool true)).toInt = 1 by decide]; norm_num
  · rw [if_neg h, decide_eq_false h]
    change ((((BitVec.setWidth 32 (BitVec.ofBool false)).toInt : ℤ) : ℝ) : EReal) = _
    rw [show (BitVec.setWidth 32 (BitVec.ofBool false)).toInt = 0 by decide]; norm_num

end

end Sb
-- ==== Proof.SbPay.lean ====
/- The vectors of one trip of the kernel's loop over key tiles, read at an index: the stages of one
   tile of one query block, each a real number of the model. -/
module

public import proofs.«01_k».proof.Proof.SbIdeal
public import proofs.«01_k».proof.Proof.Gen.KernelIdeal.Skeleton

@[expose] public section

set_option maxRecDepth 16384

namespace Cert.KernelIdeal.Sbk

open Cert.KernelIdeal.Gen Idealize.ShloMosaic Sb Finset

noncomputable section

/-- The scale of the logits as the programs print it. -/
abbrev cw : EReal := Ideal.ofBits FTy.f32 1035273459#32

section tri

theorem tri_upto (x : Fin 256) (y : Fin 128) :
    k0_pay70 (F := Ideal) (ix2 x y) = ((if x.val % 128 ≤ y.val then 1 else 0 : ℝ) : EReal) := by
  pointwise [k0_pay70]
  split
  · rw [IntOp.cmpi, sle_small _ _ (by omega) (by omega), bit_num, Nat.mod_eq_of_lt ‹_›]
  · rw [IntOp.cmpi, sle_small _ _ (by omega) (by omega), bit_num, show x.val % 128 = x.val - 128 by omega]

theorem tri_before (x : Fin 256) (y : Fin 128) :
    k0_pay71 (F := Ideal) (ix2 x y) = ((if x.val % 128 < y.val then 1 else 0 : ℝ) : EReal) := by
  pointwise [k0_pay71]
  split
  · rw [IntOp.cmpi, slt_small _ _ (by omega) (by omega), bit_num, Nat.mod_eq_of_lt ‹_›]
  · rw [IntOp.cmpi, slt_small _ _ (by omega) (by omega), bit_num, show x.val % 128 = x.val - 128 by omega]

end tri

section trip

variable (i : grid0.Coords) (arg1 : BitVec 32) (v8 v9 : IVec S512x512 32) (a0 a1 : BitVec 32) (k : Fin (k0_t1_loop i).trips)
variable (v3 v4 v62 v64 : Vec Ideal S512x128 .bf16) (v7 arg14 arg15 : FVec Ideal S512x1 .f32)
variable (v16 v23 : FVec Ideal S256x128 .bf16)
variable (H : Head) (r0 s0 : ℕ)

/-- The mask of the tile: the key's position before the query's. -/
def Mask (v73 : IVec S512x512 1) : Prop := ∀ x y : Fin 512, v73 (ix2 x y) = BitVec.ofBool (decide (s0 + y.val < r0 + x.val))

/-- A tile of a function of query row and key position. -/
def Tile (v : FVec Ideal S512x512 .f32) (f : ℕ → ℕ → ℝ) : Prop :=
  ∀ x y : Fin 512, v (ix2 x y) = ((f (r0 + x.val) (s0 + y.val) : ℝ) : EReal)

/-- A block of 128 keys of such a function, from the tile's key `b`. -/
def Blk (b : ℕ) (v : FVec Ideal S512x128 .f32) (f : ℕ → ℕ → ℝ) : Prop :=
  ∀ (x : Fin 512) (y : Fin 128), v (ix2 x y) = ((f (r0 + x.val) (s0 + b + y.val) : ℝ) : EReal)

/-- A column of a function of the query row. -/
def Column (v : FVec Ideal S512x1 .f32) (f : ℕ → ℝ) : Prop :=
  ∀ x : Fin 512, v (ix2 x 0) = ((f (r0 + x.val) : ℝ) : EReal)

/-- Rows of a matrix from `b` on. -/
def Rows (b : ℕ) (v : S512x128.Idx → EReal) (f : ℕ → ℕ → ℝ) : Prop :=
  ∀ (x : Fin 512) (d : Fin 128), v (ix2 x d) = ((f (b + x.val) d.val : ℝ) : EReal)

/-- The triangle of ones, the diagonal kept. -/
def Upto : Prop := ∀ (x : Fin 256) (y : Fin 128), v16 (ix2 x y) = ((if x.val % 128 ≤ y.val then 1 else 0 : ℝ) : EReal)

/-- The triangle of ones, the diagonal left out. -/
def Before : Prop := ∀ (x : Fin 256) (y : Fin 128), v23 (ix2 x y) = ((if x.val % 128 < y.val then 1 else 0 : ℝ) : EReal)

variable {i arg1 v8 v9 a0 a1 k v3 v4 v62 v64 v7 arg14 arg15 v16 v23 H r0 s0}

theorem Upto.lo (h : Upto v16) (d y : Fin 128) (hd) : v16 (ix2 ⟨d.val, hd⟩ y) = ((if d.val ≤ y.val then 1 else 0 : ℝ) : EReal) := by
  rw [h]
  exact congrArg _ (if_congr (by rw [show (⟨d.val, hd⟩ : Fin 256).val % 128 = d.val from Nat.mod_eq_of_lt d.isLt]) rfl rfl)

theorem Upto.hi (h : Upto v16) (d y : Fin 128) (hd) : v16 (ix2 ⟨128 + d.val, hd⟩ y) = ((if d.val ≤ y.val then 1 else 0 : ℝ) : EReal) := by
  rw [h]
  exact congrArg _ (if_congr (by rw [show (⟨128 + d.val, hd⟩ : Fin 256).val % 128 = d.val by
    change (128 + d.val) % 128 = d.val; omega]) rfl rfl)

theorem Before.lo (h : Before v23) (d y : Fin 128) (hd) : v23 (ix2 ⟨d.val, hd⟩ y) = ((if d.val < y.val then 1 else 0 : ℝ) : EReal) := by
  rw [h]
  exact congrArg _ (if_congr (by rw [show (⟨d.val, hd⟩ : Fin 256).val % 128 = d.val from Nat.mod_eq_of_lt d.isLt]) rfl rfl)

theorem Before.hi (h : Before v23) (d y : Fin 128) (hd) : v23 (ix2 ⟨128 + d.val, hd⟩ y) = ((if d.val < y.val then 1 else 0 : ℝ) : EReal) := by
  rw [h]
  exact congrArg _ (if_congr (by rw [show (⟨128 + d.val, hd⟩ : Fin 256).val % 128 = d.val by
    change (128 + d.val) % 128 = d.val; omega]) rfl rfl)

theorem pay13_tile (hc : cw = ((H.c : ℝ) : EReal)) (hq : Rows r0 v3 H.q) (hk : Rows s0 v62 H.k) :
    Tile r0 s0 (k0_pay13 v3 v62) H.z := by
  intro x y
  pointwise [k0_pay13]
  rw [sum_of_coe (fun d : Fin 128 => H.q (r0 + x.val) d.val * H.k (s0 + y.val) d.val)
    fun d => by rw [hq, hk, ← EReal.coe_mul]]
  rw [show Ideal.ofBits FTy.f32 1035273459#32 = ((H.c : ℝ) : EReal) from hc, ← EReal.coe_mul]
  rfl

theorem pay15_tile (hc : cw = ((H.c : ℝ) : EReal)) (hq : Rows r0 v3 H.q) (hk : Rows s0 v62 H.k) :
    Tile r0 s0 (k0_pay15 v3 v62) fun r s => softplus (H.z r s) := by
  intro x y
  pointwise [k0_pay15]
  rw [pay13_tile hc hq hk x y]
  exact softplus_coe _

theorem pay16_tile (hm : Mask r0 s0 (k0_pay14 i arg1 v8 v9 a0 a1 k)) (hc : cw = ((H.c : ℝ) : EReal))
    (hq : Rows r0 v3 H.q) (hk : Rows s0 v62 H.k) :
    Tile r0 s0 (k0_pay16 i arg1 v3 v8 v9 a0 a1 k v62) H.lnb := by
  intro x y
  pointwise [k0_pay16]
  rw [hm, select_decide, pay15_tile hc hq hk x y, ← EReal.coe_zero, ← EReal.coe_sub, ite_coe]
  rfl

theorem pay17_blk {f} (h : Tile r0 s0 (k0_pay16 i arg1 v3 v8 v9 a0 a1 k v62) f) :
    Blk r0 s0 0 (k0_pay17 i arg1 v3 v8 v9 a0 a1 k v62) f := by
  intro x y
  pointwise [k0_pay17]
  rw [h]

theorem pay18_blk {f} (h : Tile r0 s0 (k0_pay16 i arg1 v3 v8 v9 a0 a1 k v62) f) :
    Blk r0 s0 128 (k0_pay18 i arg1 v3 v8 v9 a0 a1 k v62) f := by
  intro x y
  pointwise [k0_pay18]
  rw [h]
  simp [Nat.add_assoc]

theorem pay19_blk {f} (h : Tile r0 s0 (k0_pay16 i arg1 v3 v8 v9 a0 a1 k v62) f) :
    Blk r0 s0 256 (k0_pay19 i arg1 v3 v8 v9 a0 a1 k v62) f := by
  intro x y
  pointwise [k0_pay19]
  rw [h]
  simp [Nat.add_assoc]

theorem pay20_blk {f} (h : Tile r0 s0 (k0_pay16 i arg1 v3 v8 v9 a0 a1 k v62) f) :
    Blk r0 s0 384 (k0_pay20 i arg1 v3 v8 v9 a0 a1 k v62) f := by
  intro x y
  pointwise [k0_pay20]
  rw [h]
  simp [Nat.add_assoc]

/-- A block's row sum: what it adds to the sum before it. -/
theorem pay22_sum {f : ℕ → ℕ → ℝ} (h : Blk r0 s0 0 (k0_pay17 i arg1 v3 v8 v9 a0 a1 k v62) f) :
    Column r0 (k0_pay22 i arg1 v3 v8 v9 a0 a1 k v62) fun r => ∑ y : Fin 128, f r (s0 + y.val) := by
  intro x
  pointwise [k0_pay22]
  exact sum_of_coe _ fun y => by rw [h]; rfl

theorem pay21_blk {f : ℕ → ℕ → ℝ} {g : ℕ → ℝ} (ht : Upto v16) (h7 : Column r0 v7 g)
    (h : Blk r0 s0 0 (k0_pay17 i arg1 v3 v8 v9 a0 a1 k v62) f)
    (h14 : Column r0 arg14 fun r => ∑ s ∈ range s0, f r s) :
    Blk r0 s0 0 (k0_pay21 i arg1 v3 v7 v8 v9 v16 a0 a1 k arg14 v62) fun r s => g r - ∑ s' ∈ range (s + 1), f r s' := by
  intro x y
  pointwise [k0_pay21]
  rw [scan_upto (f (r0 + x.val)) s0 y.val y.isLt _ (fun d => k0_pay17 i arg1 v3 v8 v9 a0 a1 k v62 (ix2 x d)) _ _ (h14 x)
    (fun d => h x d) (fun d => ?_) (fun d => ?_), h7, ← EReal.coe_sub]
  · exact ht.lo d y _
  · exact ht.hi d y _

end trip

end

end Cert.KernelIdeal.Sbk
-- ==== Proof.SbPay2.lean ====
/- The later stages of one trip: the weights, the gradient of their logarithms, the gradient of the
   logits, and the three products that leave the tile. -/
module

public import proofs.«01_k».proof.Proof.SbPay

@[expose] public section

set_option maxRecDepth 16384

namespace Cert.KernelIdeal.Sbk

open Cert.KernelIdeal.Gen Idealize.ShloMosaic Sb Finset

noncomputable section

variable {v3 v4 v62 v64 : Vec Ideal S512x128 .bf16} {v7 arg14 arg15 v103 : FVec Ideal S512x1 .f32}
variable {v16 v23 : FVec Ideal S256x128 .bf16} {v67 v83 v151 v149 v204 v206 : FVec Ideal S512x512 .f32} {v73 : IVec S512x512 1}
variable {v89 v90 v91 v101 v152 v153 v154 v155 v216 v226 arg13 : FVec Ideal S512x128 .f32}
variable {H : Head} {r0 s0 : ℕ} {f : ℕ → ℕ → ℝ} {g : ℕ → ℝ}

theorem pay23_col (h14 : Column r0 arg14 fun r => ∑ s ∈ range s0, f r s)
    (h103 : Column r0 v103 fun r => ∑ y : Fin 128, f r (s0 + y.val)) :
    Column r0 (k0_pay23 arg14 v103) fun r => ∑ s ∈ range (s0 + 128), f r s := by
  intro x
  pointwise [k0_pay23]
  rw [h14, h103, ← EReal.coe_add]
  simp only [range_add _ s0 128]

theorem pay24_col (h14 : Column r0 arg14 fun r => ∑ s ∈ range s0, f r s)
    (h103 : Column r0 v103 fun r => ∑ y : Fin 128, f r (s0 + y.val)) (h89 : Blk r0 s0 128 v89 f) :
    Column r0 (k0_pay24 arg14 v89 v103) fun r => ∑ s ∈ range (s0 + 256), f r s := by
  intro x
  pointwise [k0_pay24]
  exact block_sum (f (r0 + x.val)) (s0 + 128) _ _ (pay23_col h14 h103 x) fun y => h89 x y

theorem pay25_col (h14 : Column r0 arg14 fun r => ∑ s ∈ range s0, f r s)
    (h103 : Column r0 v103 fun r => ∑ y : Fin 128, f r (s0 + y.val)) (h89 : Blk r0 s0 128 v89 f) (h90 : Blk r0 s0 256 v90 f) :
    Column r0 (k0_pay25 arg14 v89 v90 v103) fun r => ∑ s ∈ range (s0 + 384), f r s := by
  intro x
  pointwise [k0_pay25]
  exact block_sum (f (r0 + x.val)) (s0 + 256) _ _ (pay24_col h14 h103 h89 x) fun y => h90 x y

theorem pay26_col (h14 : Column r0 arg14 fun r => ∑ s ∈ range s0, f r s)
    (h103 : Column r0 v103 fun r => ∑ y : Fin 128, f r (s0 + y.val)) (h89 : Blk r0 s0 128 v89 f) (h90 : Blk r0 s0 256 v90 f)
    (h91 : Blk r0 s0 384 v91 f) :
    Column r0 (k0_pay26 arg14 v89 v90 v91 v103) fun r => ∑ s ∈ range (s0 + 512), f r s := by
  intro x
  pointwise [k0_pay26]
  exact block_sum (f (r0 + x.val)) (s0 + 384) _ _ (pay25_col h14 h103 h89 h90 x) fun y => h91 x y

/-- The tile of weights. -/
theorem pay27_tile (hm : Mask r0 s0 v73) (ht : Upto v16) (h7 : Column r0 v7 H.tot)
    (h67 : Tile r0 s0 v67 H.z) (h83 : Tile r0 s0 v83 fun r s => softplus (H.z r s))
    (h14 : Column r0 arg14 fun r => ∑ s ∈ range s0, H.lnb r s)
    (h103 : Column r0 v103 fun r => ∑ y : Fin 128, H.lnb r (s0 + y.val))
    (h101 : Blk r0 s0 0 v101 fun r s => H.tot r - ∑ s' ∈ range (s + 1), H.lnb r s')
    (h89 : Blk r0 s0 128 v89 H.lnb) (h90 : Blk r0 s0 256 v90 H.lnb) (h91 : Blk r0 s0 384 v91 H.lnb) :
    Tile r0 s0 (k0_pay27 v7 v16 arg14 v67 v73 v83 v89 v90 v91 v101 v103) H.w := by
  intro x y
  pointwise [k0_pay27]
  have key : ∀ E : EReal, E = ((H.tot (r0 + x.val) - ∑ s' ∈ range (s0 + y.val + 1), H.lnb (r0 + x.val) s' : ℝ) : EReal) →
      Scalar.select (v73 (ix2 x y)) (Ideal.exp (v67 (ix2 x y) - v83 (ix2 x y) + E)) 0
        = ((H.w (r0 + x.val) (s0 + y.val) : ℝ) : EReal) := by
    intro E hE
    rw [hE, hm, select_decide, h67, h83, ← EReal.coe_sub, ← EReal.coe_add, Ideal.exp_coe, ← EReal.coe_zero, ite_coe]
    rfl
  refine key _ ?_
  have hy := y.isLt
  split
  · rw [h101]; rfl
  split
  · rw [h7, scan_upto (H.lnb (r0 + x.val)) (s0 + 128) (y.val - 128) (by omega) _ (fun d => v89 (ix2 x d)) _ _
      (pay23_col h14 h103 x) (fun d => h89 x d) (fun d => ht.lo d _ _) (fun d => ht.hi d _ _), ← EReal.coe_sub]
    rw [show s0 + 128 + (y.val - 128) + 1 = s0 + y.val + 1 by omega]
  split
  · rw [h7, scan_upto (H.lnb (r0 + x.val)) (s0 + 256) (y.val - 128 - 128) (by omega) _ (fun d => v90 (ix2 x d)) _ _
      (pay24_col h14 h103 h89 x) (fun d => h90 x d) (fun d => ht.lo d _ _) (fun d => ht.hi d _ _), ← EReal.coe_sub]
    rw [show s0 + 256 + (y.val - 128 - 128) + 1 = s0 + y.val + 1 by omega]
  · rw [h7, scan_upto (H.lnb (r0 + x.val)) (s0 + 384) (y.val - 128 - 128 - 128) (by omega) _ (fun d => v91 (ix2 x d)) _ _
      (pay25_col h14 h103 h89 h90 x) (fun d => h91 x d) (fun d => ht.lo d _ _) (fun d => ht.hi d _ _), ← EReal.coe_sub]
    rw [show s0 + 384 + (y.val - 128 - 128 - 128) + 1 = s0 + y.val + 1 by omega]

/-- The gradient of the weights' logarithms. -/
theorem pay28_tile (h149 : Tile r0 s0 (k0_pay27 v7 v16 arg14 v67 v73 v83 v89 v90 v91 v101 v103) H.w)
    (h4 : Rows r0 v4 H.g) (h64 : Rows s0 v64 H.v) :
    Tile r0 s0 (k0_pay28 v4 v7 v16 arg14 v64 v67 v73 v83 v89 v90 v91 v101 v103) H.dl := by
  intro x y
  pointwise [k0_pay28]
  rw [sum_of_coe (fun d : Fin 128 => H.g (r0 + x.val) d.val * H.v (s0 + y.val) d.val)
    fun d => by rw [h4, h64, ← EReal.coe_mul], h149, ← EReal.coe_mul]
  rfl

theorem pay29_blk (h : Tile r0 s0 (k0_pay28 v4 v7 v16 arg14 v64 v67 v73 v83 v89 v90 v91 v101 v103) f) :
    Blk r0 s0 0 (k0_pay29 v4 v7 v16 arg14 v64 v67 v73 v83 v89 v90 v91 v101 v103) f := by
  intro x y
  pointwise [k0_pay29]
  rw [h]

theorem pay30_blk (h : Tile r0 s0 (k0_pay28 v4 v7 v16 arg14 v64 v67 v73 v83 v89 v90 v91 v101 v103) f) :
    Blk r0 s0 128 (k0_pay30 v4 v7 v16 arg14 v64 v67 v73 v83 v89 v90 v91 v101 v103) f := by
  intro x y
  pointwise [k0_pay30]
  rw [h]
  simp [Nat.add_assoc]

theorem pay31_blk (h : Tile r0 s0 (k0_pay28 v4 v7 v16 arg14 v64 v67 v73 v83 v89 v90 v91 v101 v103) f) :
    Blk r0 s0 256 (k0_pay31 v4 v7 v16 arg14 v64 v67 v73 v83 v89 v90 v91 v101 v103) f := by
  intro x y
  pointwise [k0_pay31]
  rw [h]
  simp [Nat.add_assoc]

theorem pay32_blk (h : Tile r0 s0 (k0_pay28 v4 v7 v16 arg14 v64 v67 v73 v83 v89 v90 v91 v101 v103) f) :
    Blk r0 s0 384 (k0_pay32 v4 v7 v16 arg14 v64 v67 v73 v83 v89 v90 v91 v101 v103) f := by
  intro x y
  pointwise [k0_pay32]
  rw [h]
  simp [Nat.add_assoc]

theorem pay33_col (h15 : Column r0 arg15 fun r => ∑ s ∈ range s0, f r s) (h152 : Blk r0 s0 0 v152 f) :
    Column r0 (k0_pay33 arg15 v152) fun r => ∑ s ∈ range (s0 + 128), f r s := by
  intro x
  pointwise [k0_pay33]
  exact block_sum (f (r0 + x.val)) s0 _ _ (h15 x) fun y => h152 x y

theorem pay34_col (h15 : Column r0 arg15 fun r => ∑ s ∈ range s0, f r s) (h152 : Blk r0 s0 0 v152 f)
    (h153 : Blk r0 s0 128 v153 f) :
    Column r0 (k0_pay34 arg15 v152 v153) fun r => ∑ s ∈ range (s0 + 256), f r s := by
  intro x
  pointwise [k0_pay34]
  exact block_sum (f (r0 + x.val)) (s0 + 128) _ _ (pay33_col h15 h152 x) fun y => h153 x y

theorem pay35_col (h15 : Column r0 arg15 fun r => ∑ s ∈ range s0, f r s) (h152 : Blk r0 s0 0 v152 f)
    (h153 : Blk r0 s0 128 v153 f) (h154 : Blk r0 s0 256 v154 f) :
    Column r0 (k0_pay35 arg15 v152 v153 v154) fun r => ∑ s ∈ range (s0 + 384), f r s := by
  intro x
  pointwise [k0_pay35]
  exact block_sum (f (r0 + x.val)) (s0 + 256) _ _ (pay34_col h15 h152 h153 x) fun y => h154 x y

theorem pay36_col (h15 : Column r0 arg15 fun r => ∑ s ∈ range s0, f r s) (h152 : Blk r0 s0 0 v152 f)
    (h153 : Blk r0 s0 128 v153 f) (h154 : Blk r0 s0 256 v154 f) (h155 : Blk r0 s0 384 v155 f) :
    Column r0 (k0_pay36 arg15 v152 v153 v154 v155) fun r => ∑ s ∈ range (s0 + 512), f r s := by
  intro x
  pointwise [k0_pay36]
  exact block_sum (f (r0 + x.val)) (s0 + 384) _ _ (pay35_col h15 h152 h153 h154 x) fun y => h155 x y

theorem pay37_tile (h67 : Tile r0 s0 v67 H.z) (h83 : Tile r0 s0 v83 fun r s => softplus (H.z r s)) :
    Tile r0 s0 (k0_pay37 v67 v83) H.sig := by
  intro x y
  pointwise [k0_pay37]
  rw [h67, h83, ← EReal.coe_sub, Ideal.exp_coe]
  rfl

theorem pay38_tile (h67 : Tile r0 s0 v67 H.z) (h83 : Tile r0 s0 v83 fun r s => softplus (H.z r s)) (h151 : Tile r0 s0 v151 H.dl) :
    Tile r0 s0 (k0_pay38 v67 v83 v151) fun r s => H.dl r s * (1 - H.sig r s) := by
  intro x y
  pointwise [k0_pay38]
  rw [h151, pay37_tile h67 h83 x y]
  rw [← EReal.coe_one, ← EReal.coe_sub, ← EReal.coe_mul]

set_option maxHeartbeats 1000000 in
theorem pay39_tile (ht : Before v23) (h67 : Tile r0 s0 v67 H.z) (h83 : Tile r0 s0 v83 fun r s => softplus (H.z r s))
    (h15 : Column r0 arg15 fun r => ∑ s ∈ range s0, f r s) (h152 : Blk r0 s0 0 v152 f)
    (h153 : Blk r0 s0 128 v153 f) (h154 : Blk r0 s0 256 v154 f) (h155 : Blk r0 s0 384 v155 f) :
    Tile r0 s0 (k0_pay39 v23 arg15 v67 v83 v152 v153 v154 v155) fun r s => H.sig r s * ∑ s' ∈ range s, f r s' := by
  intro x y
  pointwise [k0_pay39]
  have key : ∀ E : EReal, E = ((∑ s' ∈ range (s0 + y.val), f (r0 + x.val) s' : ℝ) : EReal) →
      k0_pay37 v67 v83 (ix2 x y) * E = ((H.sig (r0 + x.val) (s0 + y.val) * ∑ s' ∈ range (s0 + y.val), f (r0 + x.val) s' : ℝ) : EReal) := by
    intro E hE
    rw [hE, pay37_tile h67 h83 x y, ← EReal.coe_mul]
  refine key _ ?_
  have hy := y.isLt
  split
  · rw [scan_before (f (r0 + x.val)) s0 y.val (by omega) _ (fun d => v152 (ix2 x d)) _ _
      (h15 x) (fun d => h152 x d) (fun d => ht.lo d _ _) (fun d => ht.hi d _ _)]
  split
  · rw [scan_before (f (r0 + x.val)) (s0 + 128) (y.val - 128) (by omega) _ (fun d => v153 (ix2 x d)) _ _
      (pay33_col h15 h152 x) (fun d => h153 x d) (fun d => ht.lo d _ _) (fun d => ht.hi d _ _)]
    rw [show s0 + 128 + (y.val - 128) = s0 + y.val by omega]
  split
  · rw [scan_before (f (r0 + x.val)) (s0 + 256) (y.val - 128 - 128) (by omega) _ (fun d => v154 (ix2 x d)) _ _
      (pay34_col h15 h152 h153 x) (fun d => h154 x d) (fun d => ht.lo d _ _) (fun d => ht.hi d _ _)]
    rw [show s0 + 256 + (y.val - 128 - 128) = s0 + y.val by omega]
  · rw [scan_before (f (r0 + x.val)) (s0 + 384) (y.val - 128 - 128 - 128) (by omega) _ (fun d => v155 (ix2 x d)) _ _
      (pay35_col h15 h152 h153 h154 x) (fun d => h155 x d) (fun d => ht.lo d _ _) (fun d => ht.hi d _ _)]
    rw [show s0 + 384 + (y.val - 128 - 128 - 128) = s0 + y.val by omega]

/-- The gradient of the logits. -/
theorem pay2_tile (hc : cw = ((H.c : ℝ) : EReal)) (hm : Mask r0 s0 v73) (h204 : Tile r0 s0 v204 fun r s => H.dl r s * (1 - H.sig r s))
    (h206 : Tile r0 s0 v206 fun r s => H.sig r s * ∑ s' ∈ range s, H.dl r s') :
    Tile r0 s0 (k0_pay2 v73 v204 v206) H.dz := by
  intro x y
  pointwise [k0_pay2]
  rw [hm, select_decide, Head.dz]
  split
  · rw [h204, h206, ← EReal.coe_sub, show Ideal.ofBits FTy.f32 1035273459#32 = ((H.c : ℝ) : EReal) from hc, ← EReal.coe_mul]
  · rw [zero_mul, EReal.coe_zero]

/-- The tile's share of the gradient of the queries, added to what came before. -/
theorem pay3_rows (h : Tile r0 s0 (k0_pay2 v73 v204 v206) H.dz) (hk : Rows s0 v62 H.k)
    (h13 : Rows r0 arg13 fun r d => ∑ s ∈ range s0, H.dz r s * H.k s d) :
    Rows r0 (k0_pay3 arg13 v62 v73 v204 v206) fun r d => ∑ s ∈ range (s0 + 512), H.dz r s * H.k s d := by
  intro x d
  pointwise [k0_pay3]
  rw [h13, sum_of_coe (fun y : Fin 512 => H.dz (r0 + x.val) (s0 + y.val) * H.k (s0 + y.val) d.val)
    fun y => by rw [h, hk, ← EReal.coe_mul], ← EReal.coe_add, range_add _ s0 512]

/-- The tile's share of the gradient of the keys, added to what came before. -/
theorem pay4_rows {b : ℕ → ℕ → ℝ} (h : Tile r0 s0 (k0_pay2 v73 v204 v206) H.dz) (hq : Rows r0 v3 H.q)
    (h216 : Rows s0 v216 b) :
    Rows s0 (k0_pay4 v3 v73 v204 v206 v216) fun s d => b s d + ∑ x : Fin 512, H.dz (r0 + x.val) s * H.q (r0 + x.val) d := by
  intro y d
  pointwise [k0_pay4]
  rw [h216, sum_of_coe (fun x : Fin 512 => H.dz (r0 + x.val) (s0 + y.val) * H.q (r0 + x.val) d.val)
    fun x => by rw [h, hq, ← EReal.coe_mul], ← EReal.coe_add]

/-- The tile's share of the gradient of the values, added to what came before. -/
theorem pay5_rows {b : ℕ → ℕ → ℝ} (h : Tile r0 s0 v149 H.w) (hg : Rows r0 v4 H.g) (h226 : Rows s0 v226 b) :
    Rows s0 (k0_pay5 v4 v149 v226) fun s d => b s d + ∑ x : Fin 512, H.w (r0 + x.val) s * H.g (r0 + x.val) d := by
  intro y d
  pointwise [k0_pay5]
  rw [h226, sum_of_coe (fun x : Fin 512 => H.w (r0 + x.val) (s0 + y.val) * H.g (r0 + x.val) d.val)
    fun x => by rw [h, hg, ← EReal.coe_mul], ← EReal.coe_add]

end

end Cert.KernelIdeal.Sbk
-- ==== Proof.SbTrip.lean ====
/- One trip of the kernel's loop over key tiles: what it yields and what it writes, in the stages'
   terms. -/
module

public import proofs.«01_k».proof.Proof.SbPay2
public import proofs.«01_k».proof.Proof.Gen.KernelIdeal.Loops
public import Idealize.ShloMosaic.Lib.Pipeline.ValueKit

@[expose] public section

set_option maxRecDepth 16384

namespace Cert.KernelIdeal.Sbk

open Cert.KernelIdeal Cert.KernelIdeal.Gen Idealize.ShloMosaic Sb Finset

noncomputable section

section stages

variable (i : grid0.Coords) (k : Fin (k0_t1_loop i).trips) (arg1 : BitVec 32) (v3 v4 : Vec Ideal S512x128 .bf16)
variable (v7 : FVec Ideal S512x1 .f32) (v8 v9 : IVec S512x512 32) (v16 v23 : FVec Ideal S256x128 .bf16)
variable (kt vt : Vec Ideal S512x128 .bf16) (acc : FVec Ideal S512x128 .f32 × FVec Ideal S512x1 .f32 × FVec Ideal S512x1 .f32)

/-- The weights of the trip. -/
def tW : FVec Ideal S512x512 .f32 :=
  k0_pay27 v7 v16 acc.2.1 (k0_pay13 v3 kt) (k0_pay14 i arg1 v8 v9 0#32 1#32 k) (k0_pay15 v3 kt)
    (k0_pay18 i arg1 v3 v8 v9 0#32 1#32 k kt) (k0_pay19 i arg1 v3 v8 v9 0#32 1#32 k kt) (k0_pay20 i arg1 v3 v8 v9 0#32 1#32 k kt)
    (k0_pay21 i arg1 v3 v7 v8 v9 v16 0#32 1#32 k acc.2.1 kt) (k0_pay22 i arg1 v3 v8 v9 0#32 1#32 k kt)

/-- The gradient of the weights' logarithms. -/
def tDl : FVec Ideal S512x512 .f32 :=
  k0_pay28 v4 v7 v16 acc.2.1 vt (k0_pay13 v3 kt) (k0_pay14 i arg1 v8 v9 0#32 1#32 k) (k0_pay15 v3 kt)
    (k0_pay18 i arg1 v3 v8 v9 0#32 1#32 k kt) (k0_pay19 i arg1 v3 v8 v9 0#32 1#32 k kt) (k0_pay20 i arg1 v3 v8 v9 0#32 1#32 k kt)
    (k0_pay21 i arg1 v3 v7 v8 v9 v16 0#32 1#32 k acc.2.1 kt) (k0_pay22 i arg1 v3 v8 v9 0#32 1#32 k kt)

/-- Its first block of keys. -/
def tD0 : FVec Ideal S512x128 .f32 :=
  k0_pay29 v4 v7 v16 acc.2.1 vt (k0_pay13 v3 kt) (k0_pay14 i arg1 v8 v9 0#32 1#32 k) (k0_pay15 v3 kt)
    (k0_pay18 i arg1 v3 v8 v9 0#32 1#32 k kt) (k0_pay19 i arg1 v3 v8 v9 0#32 1#32 k kt) (k0_pay20 i arg1 v3 v8 v9 0#32 1#32 k kt)
    (k0_pay21 i arg1 v3 v7 v8 v9 v16 0#32 1#32 k acc.2.1 kt) (k0_pay22 i arg1 v3 v8 v9 0#32 1#32 k kt)

/-- Its second. -/
def tD1 : FVec Ideal S512x128 .f32 :=
  k0_pay30 v4 v7 v16 acc.2.1 vt (k0_pay13 v3 kt) (k0_pay14 i arg1 v8 v9 0#32 1#32 k) (k0_pay15 v3 kt)
    (k0_pay18 i arg1 v3 v8 v9 0#32 1#32 k kt) (k0_pay19 i arg1 v3 v8 v9 0#32 1#32 k kt) (k0_pay20 i arg1 v3 v8 v9 0#32 1#32 k kt)
    (k0_pay21 i arg1 v3 v7 v8 v9 v16 0#32 1#32 k acc.2.1 kt) (k0_pay22 i arg1 v3 v8 v9 0#32 1#32 k kt)

/-- Its third. -/
def tD2 : FVec Ideal S512x128 .f32 :=
  k0_pay31 v4 v7 v16 acc.2.1 vt (k0_pay13 v3 kt) (k0_pay14 i arg1 v8 v9 0#32 1#32 k) (k0_pay15 v3 kt)
    (k0_pay18 i arg1 v3 v8 v9 0#32 1#32 k kt) (k0_pay19 i arg1 v3 v8 v9 0#32 1#32 k kt) (k0_pay20 i arg1 v3 v8 v9 0#32 1#32 k kt)
    (k0_pay21 i arg1 v3 v7 v8 v9 v16 0#32 1#32 k acc.2.1 kt) (k0_pay22 i arg1 v3 v8 v9 0#32 1#32 k kt)

/-- Its fourth. -/
def tD3 : FVec Ideal S512x128 .f32 :=
  k0_pay32 v4 v7 v16 acc.2.1 vt (k0_pay13 v3 kt) (k0_pay14 i arg1 v8 v9 0#32 1#32 k) (k0_pay15 v3 kt)
    (k0_pay18 i arg1 v3 v8 v9 0#32 1#32 k kt) (k0_pay19 i arg1 v3 v8 v9 0#32 1#32 k kt) (k0_pay20 i arg1 v3 v8 v9 0#32 1#32 k kt)
    (k0_pay21 i arg1 v3 v7 v8 v9 v16 0#32 1#32 k acc.2.1 kt) (k0_pay22 i arg1 v3 v8 v9 0#32 1#32 k kt)

/-- The first term of the gradient of the logits. -/
def tA : FVec Ideal S512x512 .f32 :=
  k0_pay38 (k0_pay13 v3 kt) (k0_pay15 v3 kt) (tDl i k arg1 v3 v4 v7 v8 v9 v16 kt vt acc)

/-- The second term. -/
def tB : FVec Ideal S512x512 .f32 :=
  k0_pay39 v23 acc.2.2 (k0_pay13 v3 kt) (k0_pay15 v3 kt) (tD0 i k arg1 v3 v4 v7 v8 v9 v16 kt vt acc)
    (tD1 i k arg1 v3 v4 v7 v8 v9 v16 kt vt acc) (tD2 i k arg1 v3 v4 v7 v8 v9 v16 kt vt acc) (tD3 i k arg1 v3 v4 v7 v8 v9 v16 kt vt acc)

/-- The values the trip hands on. -/
def tR : FVec Ideal S512x128 .f32 × FVec Ideal S512x1 .f32 × FVec Ideal S512x1 .f32 :=
  (k0_pay3 acc.1 kt (k0_pay14 i arg1 v8 v9 0#32 1#32 k) (tA i k arg1 v3 v4 v7 v8 v9 v16 kt vt acc) (tB i k arg1 v3 v4 v7 v8 v9 v16 v23 kt vt acc),
   k0_pay26 acc.2.1 (k0_pay18 i arg1 v3 v8 v9 0#32 1#32 k kt) (k0_pay19 i arg1 v3 v8 v9 0#32 1#32 k kt)
     (k0_pay20 i arg1 v3 v8 v9 0#32 1#32 k kt) (k0_pay22 i arg1 v3 v8 v9 0#32 1#32 k kt),
   k0_pay36 acc.2.2 (tD0 i k arg1 v3 v4 v7 v8 v9 v16 kt vt acc) (tD1 i k arg1 v3 v4 v7 v8 v9 v16 kt vt acc)
     (tD2 i k arg1 v3 v4 v7 v8 v9 v16 kt vt acc) (tD3 i k arg1 v3 v4 v7 v8 v9 v16 kt vt acc))

/-- The tile of the keys' gradient it writes. -/
def tK (a : FVec Ideal S512x128 .f32) : FVec Ideal S512x128 .f32 :=
  k0_pay4 v3 (k0_pay14 i arg1 v8 v9 0#32 1#32 k) (tA i k arg1 v3 v4 v7 v8 v9 v16 kt vt acc) (tB i k arg1 v3 v4 v7 v8 v9 v16 v23 kt vt acc) a

/-- The tile of the values' gradient it writes. -/
def tV (a : FVec Ideal S512x128 .f32) : FVec Ideal S512x128 .f32 :=
  k0_pay5 v4 (tW i k arg1 v3 v7 v8 v9 v16 kt acc) a

/-- What a trip finds in the carried values: the gradient of the queries and the two running sums over
    the keys of the earlier tiles. -/
structure Carried (H : Head) (r0 s0 : ℕ) (acc : FVec Ideal S512x128 .f32 × FVec Ideal S512x1 .f32 × FVec Ideal S512x1 .f32) : Prop where
  /-- the gradient of the queries -/
  dq : Rows r0 acc.1 fun r d => ∑ s ∈ range s0, H.dz r s * H.k s d
  /-- the running sum of `lnb` -/
  lnb : Column r0 acc.2.1 fun r => ∑ s ∈ range s0, H.lnb r s
  /-- the running sum of `dl` -/
  dl : Column r0 acc.2.2 fun r => ∑ s ∈ range s0, H.dl r s

/-- What a trip reads: the query block's rows and row sums, the tile's rows, the mask and the triangles. -/
structure Given (H : Head) (r0 s0 : ℕ) : Prop where
  /-- the scale -/
  hc : cw = ((H.c : ℝ) : EReal)
  /-- the mask -/
  hm : Mask r0 s0 (k0_pay14 i arg1 v8 v9 0#32 1#32 k)
  /-- the query rows -/
  hq : Rows r0 v3 H.q
  /-- the cotangent rows -/
  hg : Rows r0 v4 H.g
  /-- the row sums -/
  h7 : Column r0 v7 H.tot
  /-- the triangle with its diagonal -/
  hu : Upto v16
  /-- the triangle without -/
  hb : Before v23
  /-- the key rows -/
  hk : Rows s0 kt H.k
  /-- the value rows -/
  hv : Rows s0 vt H.v

variable {i k arg1 v3 v4 v7 v8 v9 v16 v23 kt vt acc} {H : Head} {r0 s0 : ℕ}

theorem tW_tile (G : Given i k arg1 v3 v4 v7 v8 v9 v16 v23 kt vt H r0 s0) (C : Carried H r0 s0 acc) :
    Tile r0 s0 (tW i k arg1 v3 v7 v8 v9 v16 kt acc) H.w := by
  have h16 := pay16_tile (i := i) (arg1 := arg1) (v8 := v8) (v9 := v9) (a0 := 0#32) (a1 := 1#32) (k := k) G.hm G.hc G.hq G.hk
  exact pay27_tile G.hm G.hu G.h7 (pay13_tile G.hc G.hq G.hk) (pay15_tile G.hc G.hq G.hk) C.lnb (pay22_sum (pay17_blk h16))
    (pay21_blk G.hu G.h7 (pay17_blk h16) C.lnb) (pay18_blk h16) (pay19_blk h16) (pay20_blk h16)

theorem tDl_tile (G : Given i k arg1 v3 v4 v7 v8 v9 v16 v23 kt vt H r0 s0) (C : Carried H r0 s0 acc) :
    Tile r0 s0 (tDl i k arg1 v3 v4 v7 v8 v9 v16 kt vt acc) H.dl :=
  pay28_tile (tW_tile G C) G.hg G.hv

theorem tB_tile (G : Given i k arg1 v3 v4 v7 v8 v9 v16 v23 kt vt H r0 s0) (C : Carried H r0 s0 acc) :
    Tile r0 s0 (tB i k arg1 v3 v4 v7 v8 v9 v16 v23 kt vt acc) fun r s => H.sig r s * ∑ s' ∈ range s, H.dl r s' :=
  pay39_tile G.hb (pay13_tile G.hc G.hq G.hk) (pay15_tile G.hc G.hq G.hk) C.dl (pay29_blk (tDl_tile G C)) (pay30_blk (tDl_tile G C))
    (pay31_blk (tDl_tile G C)) (pay32_blk (tDl_tile G C))

theorem tDz_tile (G : Given i k arg1 v3 v4 v7 v8 v9 v16 v23 kt vt H r0 s0) (C : Carried H r0 s0 acc) :
    Tile r0 s0 (k0_pay2 (k0_pay14 i arg1 v8 v9 0#32 1#32 k) (tA i k arg1 v3 v4 v7 v8 v9 v16 kt vt acc)
      (tB i k arg1 v3 v4 v7 v8 v9 v16 v23 kt vt acc)) H.dz :=
  pay2_tile G.hc G.hm (pay38_tile (pay13_tile G.hc G.hq G.hk) (pay15_tile G.hc G.hq G.hk) (tDl_tile G C)) (tB_tile G C)

/-- The trip carries the sums on by its tile. -/
theorem tR_carried (G : Given i k arg1 v3 v4 v7 v8 v9 v16 v23 kt vt H r0 s0) (C : Carried H r0 s0 acc) :
    Carried H r0 (s0 + 512) (tR i k arg1 v3 v4 v7 v8 v9 v16 v23 kt vt acc) where
  dq := pay3_rows (tDz_tile G C) G.hk C.dq
  lnb := by
    have h16 := pay16_tile (i := i) (arg1 := arg1) (v8 := v8) (v9 := v9) (a0 := 0#32) (a1 := 1#32) (k := k) G.hm G.hc G.hq G.hk
    exact pay26_col C.lnb (pay22_sum (pay17_blk h16)) (pay18_blk h16) (pay19_blk h16) (pay20_blk h16)
  dl := pay36_col C.dl (pay29_blk (tDl_tile G C)) (pay30_blk (tDl_tile G C)) (pay31_blk (tDl_tile G C)) (pay32_blk (tDl_tile G C))

theorem tK_rows (G : Given i k arg1 v3 v4 v7 v8 v9 v16 v23 kt vt H r0 s0) (C : Carried H r0 s0 acc) {a : FVec Ideal S512x128 .f32}
    {b : ℕ → ℕ → ℝ} (ha : Rows s0 a b) :
    Rows s0 (tK i k arg1 v3 v4 v7 v8 v9 v16 v23 kt vt acc a) fun s d => b s d + ∑ x : Fin 512, H.dz (r0 + x.val) s * H.q (r0 + x.val) d :=
  pay4_rows (tDz_tile G C) G.hq ha

theorem tV_rows (G : Given i k arg1 v3 v4 v7 v8 v9 v16 v23 kt vt H r0 s0) (C : Carried H r0 s0 acc) {a : FVec Ideal S512x128 .f32}
    {b : ℕ → ℕ → ℝ} (ha : Rows s0 a b) :
    Rows s0 (tV i k arg1 v3 v4 v7 v8 v9 v16 kt acc a) fun s d => b s d + ∑ x : Fin 512, H.w (r0 + x.val) s * H.g (r0 + x.val) d :=
  pay5_rows (tW_tile G C) G.hg ha

end stages

section run

variable (𝒱 : Variants) (c : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v3 : Vec Ideal S512x128 .bf16) (v4 : Vec Ideal S512x128 .bf16) (v7 : FVec Ideal S512x1 .f32) (v8 : IVec S512x512 32) (v9 : IVec S512x512 32) (v16 : FVec Ideal S256x128 .bf16) (v23 : FVec Ideal S256x128 .bf16) (X_arg3 : BufTy.Contents (Elt Ideal) arg3.view.ty) (X_arg4 : BufTy.Contents (Elt Ideal) arg4.view.ty) (k : Fin (k0_t1_loop i).trips) (acc : FVec Ideal S512x128 .f32 × FVec Ideal S512x1 .f32 × FVec Ideal S512x1 .f32) (f_arg10 : BufTy.Contents (Elt Ideal) arg10.view.ty) (f_arg11 : BufTy.Contents (Elt Ideal) arg11.view.ty)

/-- The rectangle of the trip's tile of keys. -/
abbrev tRect : Rect S2048x128 := Rect.unit (s := S2048x128) (k0_off1 i k) S512x128.size (k0_off1_inb i k)

theorem tripR_eq : tripR_k0_t1 (F := Ideal) 𝒱 c bd i arg2 harg2 arg3 harg3 arg4 harg4 arg5 harg5 arg6 harg6 arg7 harg7 arg8 harg8 arg9 harg9 arg10 harg10 arg11 harg11 arg1 v3 v4 v7 v8 v9 v16 v23 X_arg3 X_arg4 k acc f_arg10 f_arg11
    = tR i k arg1 v3 v4 v7 v8 v9 v16 v23 (View.readAt (Elt Ideal) arg3.view (tRect i k).toLoadRect X_arg3)
        (View.readAt (Elt Ideal) arg4.view (tRect i k).toLoadRect X_arg4) acc := by
  unfold tripR_k0_t1 trip_k0_t1
  rfl

theorem tripL_eq : tripL_k0_t1 (F := Ideal) 𝒱 c bd i arg2 harg2 arg3 harg3 arg4 harg4 arg5 harg5 arg6 harg6 arg7 harg7 arg8 harg8 arg9 harg9 arg10 harg10 arg11 harg11 arg1 v3 v4 v7 v8 v9 v16 v23 X_arg3 X_arg4 k acc f_arg10 f_arg11
    = ([⟨tRect i k, tK i k arg1 v3 v4 v7 v8 v9 v16 v23 (View.readAt (Elt Ideal) arg3.view (tRect i k).toLoadRect X_arg3)
          (View.readAt (Elt Ideal) arg4.view (tRect i k).toLoadRect X_arg4) acc (View.readAt (Elt Ideal) arg10.view (tRect i k).toLoadRect f_arg10)⟩],
       [⟨tRect i k, tV i k arg1 v3 v4 v7 v8 v9 v16 (View.readAt (Elt Ideal) arg3.view (tRect i k).toLoadRect X_arg3) acc
          (View.readAt (Elt Ideal) arg11.view (tRect i k).toLoadRect f_arg11)⟩]) := by
  unfold tripL_k0_t1 trip_k0_t1
  rfl

end run

end

end Cert.KernelIdeal.Sbk
-- ==== Proof.SbLoop.lean ====
/- The kernel's loop over key tiles: what it hands on and what its scratch holds after any number of trips. -/
module

public import proofs.«01_k».proof.Proof.SbTrip
public import Idealize.ShloMosaic.Lib.WritesUnit

@[expose] public section

set_option maxRecDepth 16384

namespace Cert.KernelIdeal.Sbk

open Cert.KernelIdeal Cert.KernelIdeal.Gen Idealize.ShloMosaic Sb Finset

noncomputable section

/-- The whole of a matrix with a row for each position. -/
def Full (v : S2048x128.Idx → EReal) (f : ℕ → ℕ → ℝ) : Prop :=
  ∀ (s : Fin 2048) (d : Fin 128), v (ix2 s d) = ((f s.val d.val : ℝ) : EReal)

theorem trips1 : ∀ t : Fin grid0.N, (k0_t1_loop (grid0.coords t)).trips = t.val % 4 + 1 := by decide +kernel

theorem trips2 : ∀ t : Fin grid0.N, (k0_t2_loop (grid0.coords t)).trips = 0 := by decide +kernel

theorem off1 : ∀ (t : Fin grid0.N) (k : Fin (k0_t1_loop (grid0.coords t)).trips), k0_off1 (grid0.coords t) k = ![512 * k.val, 0] := by
  decide +kernel

theorem coord1 : ∀ t : Fin grid0.N, ((grid0.coords t) 1).val = t.val % 4 := by decide +kernel

theorem word1 : ∀ (t : Fin grid0.N) (k : Fin (k0_t1_loop (grid0.coords t)).trips),
    IntOp.subi (IntOp.muli (BitVec.ofNat 32 ((grid0.coords t) 1).val) 512#32) (IntOp.muli (Scf.iv 0#32 1#32 k.val) 512#32)
      = BitVec.ofNat 32 (512 * (t.val % 4) - 512 * k.val) := by decide +kernel

variable {t : Fin grid0.N}

theorem trip_le (k : Fin (k0_t1_loop (grid0.coords t)).trips) : k.val ≤ t.val % 4 := by
  have h := k.isLt
  have e := trips1 t
  omega

theorem mask14 (k : Fin (k0_t1_loop (grid0.coords t)).trips) :
    Mask (512 * (t.val % 4)) (512 * k.val) (k0_pay14 (grid0.coords t) (BitVec.ofNat 32 ((grid0.coords t) 1).val)
      (iota Kind.tc S512x512 32 [0] iota_S512x512_d0_w32) (iota Kind.tc S512x512 32 [1] iota_S512x512_d1_w32) 0#32 1#32 k) := by
  intro x y
  have hk := trip_le k
  pointwise [k0_pay14]
  refine (congrArg (fun w => IntOp.cmpi CmpIPredicate.sgt (IntOp.addi (BitVec.ofNat 32 x.val) w) (BitVec.ofNat 32 y.val)) (word1 t k)).trans ?_
  show IntOp.cmpi CmpIPredicate.slt (BitVec.ofNat 32 y.val) (BitVec.ofNat 32 x.val + BitVec.ofNat 32 (512 * (t.val % 4) - 512 * k.val)) = _
  rw [← BitVec.ofNat_add, IntOp.cmpi, slt_small _ _ (by omega) (by omega)]
  congr 2
  exact propext ⟨fun h => by omega, fun h => by omega⟩

theorem at_rows {off : Fin S2048x128.rank → ℕ} (inb : ∀ a, off a + S512x128.size a ≤ S2048x128.size a) (b : ℕ) (ho : off = ![b, 0])
    (x : Fin 512) (d : Fin 128) (hb : b + x.val < 2048) :
    (Rect.unit (s := S2048x128) off S512x128.size inb).idx (ix2 x d) = ix2 ⟨b + x.val, hb⟩ d := by
  subst ho
  funext a
  fin_cases a <;> apply Fin.ext
  · show b + 1 * x.val = b + x.val
    omega
  · show 0 + 1 * d.val = d.val
    omega

/-- A load of 512 rows from `b` on. -/
theorem rows_at {e : EltTy} (V : View sig .tc .vmem S2048x128 e) (f : BufTy.Contents (Elt Ideal) V.ty) (he : Elt Ideal e = EReal) (g : ℕ → ℕ → ℝ)
    (h : Full (fun y => cast he (V.read (Elt Ideal) f y)) g) {off : Fin S2048x128.rank → ℕ}
    (inb : ∀ a, off a + S512x128.size a ≤ S2048x128.size a) (b : ℕ) (ho : off = ![b, 0]) :
    Rows b (fun y => cast he (View.readAt (Elt Ideal) V (Rect.unit (s := S2048x128) off S512x128.size inb).toLoadRect f y)) g := by
  intro x d
  have hb : b + 512 ≤ 2048 := by subst ho; exact inb 0
  rw [View.readAt_eq_ld]
  exact (congrArg (fun y => cast he (V.read (Elt Ideal) f y)) (at_rows inb b ho x d (by omega))).trans (h ⟨b + x.val, by omega⟩ d)

/-- A store of 512 rows from `b` on leaves them, and the other rows as they were. -/
theorem full_store (V : View sig .tc .vmem S2048x128 .f32) (f : BufTy.Contents (Elt Ideal) V.ty) (L : List (View.Piece (Elt Ideal) S2048x128 .f32))
    (g g' : ℕ → ℕ → ℝ) (h : Full (V.read (Elt Ideal) (V.writes (Elt Ideal) f L)) g) {off : Fin S2048x128.rank → ℕ}
    (inb : ∀ a, off a + S512x128.size a ≤ S2048x128.size a) (b : ℕ) (ho : off = ![b, 0]) (w : S512x128.Idx → EReal)
    (hw : Rows b w g') (hg : ∀ s d, (s < b ∨ b + 512 ≤ s) → g s d = g' s d) :
    Full (V.read (Elt Ideal) (V.writes (Elt Ideal) f ((⟨Rect.unit off S512x128.size inb, w⟩ : View.Piece (Elt Ideal) S2048x128 .f32) :: L))) g' := by
  intro s d
  have hb : b + 512 ≤ 2048 := by subst ho; exact inb 0
  by_cases hs : s.val < b ∨ b + 512 ≤ s.val
  · rw [← hg _ _ hs, ← h s d]
    exact View.read_writes_cons_unit_of_not_mem V f inb w L (ix2 s d) ho 0 hs
  · refine Eq.trans (View.read_writes_cons_unit_of_mem V f inb w L (ix2 s d) (ix2 ⟨s.val - b, by omega⟩ d) ho fun a => ?_)
      ((hw ⟨s.val - b, by omega⟩ d).trans (by rw [show b + (s.val - b) = s.val by omega]))
    fin_cases a
    · show s.val = b + (s.val - b)
      omega
    · show d.val = 0 + d.val
      omega

section loop

variable (c : Dev nD) (t : Fin grid0.N) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole)
  (v3 v4 : Vec Ideal S512x128 .bf16) (v7 : FVec Ideal S512x1 .f32) (X_arg3 : BufTy.Contents (Elt Ideal) arg3.view.ty) (X_arg4 : BufTy.Contents (Elt Ideal) arg4.view.ty)
  (G_arg10 : BufTy.Contents (Elt Ideal) arg10.view.ty) (G_arg11 : BufTy.Contents (Elt Ideal) arg11.view.ty)

/-- What the loop holds after `n` trips. -/
abbrev lp (n : ℕ) : (FVec Ideal S512x128 .f32 × FVec Ideal S512x1 .f32 × FVec Ideal S512x1 .f32) × List (View.Piece (Elt Ideal) S2048x128 .f32) × List (View.Piece (Elt Ideal) S2048x128 .f32) :=
  st_k0_t1 (F := Ideal) Variants.none c none (grid0.coords t) arg2 harg2 arg3 harg3 arg4 harg4 arg5 harg5 arg6 harg6 arg7 harg7 arg8 harg8 arg9 harg9 arg10 harg10 arg11 harg11
    (BitVec.ofNat 32 ((grid0.coords t) 1).val) v3 v4 v7 (iota Kind.tc S512x512 32 [0] iota_S512x512_d0_w32) (iota Kind.tc S512x512 32 [1] iota_S512x512_d1_w32)
    k0_pay70 k0_pay71 X_arg3 X_arg4 G_arg10 G_arg11 (k0_pay1, k0_pay72, k0_pay72) n

/-- What a grid point of one head reads, before its loop. -/
structure Ready (H : Head) (r0 : ℕ) (v3 v4 : Vec Ideal S512x128 .bf16) (v7 : FVec Ideal S512x1 .f32) (x1 x2 : S2048x128.Idx → EReal) : Prop where
  /-- the scale -/
  hc : cw = ((H.c : ℝ) : EReal)
  /-- the query rows -/
  hq : Rows r0 v3 H.q
  /-- the cotangent rows -/
  hg : Rows r0 v4 H.g
  /-- the row sums -/
  h7 : Column r0 v7 H.tot
  /-- the keys -/
  hk : Full x1 H.k
  /-- the values -/
  hv : Full x2 H.v

/-- What the loop leaves after `n` trips. -/
structure Left (H : Head) (r0 n : ℕ) (b b' : ℕ → ℕ → ℝ) (st : (FVec Ideal S512x128 .f32 × FVec Ideal S512x1 .f32 × FVec Ideal S512x1 .f32) × List (View.Piece (Elt Ideal) S2048x128 .f32) × List (View.Piece (Elt Ideal) S2048x128 .f32)) : Prop where
  /-- the carried values -/
  car : Carried H r0 (512 * n) st.1
  /-- the keys' gradient -/
  dk : Full (arg10.view.read (Elt Ideal) (arg10.view.writes (Elt Ideal) G_arg10 st.2.1)) fun s d =>
    b s d + if s < 512 * n then ∑ x : Fin 512, H.dz (r0 + x.val) s * H.q (r0 + x.val) d else 0
  /-- the values' gradient -/
  dv : Full (arg11.view.read (Elt Ideal) (arg11.view.writes (Elt Ideal) G_arg11 st.2.2)) fun s d =>
    b' s d + if s < 512 * n then ∑ x : Fin 512, H.w (r0 + x.val) s * H.g (r0 + x.val) d else 0

variable {c t arg2 harg2 arg3 harg3 arg4 harg4 arg5 harg5 arg6 harg6 arg7 harg7 arg8 harg8 arg9 harg9 arg10 harg10 arg11 harg11 v3 v4 v7 X_arg3 X_arg4 G_arg10 G_arg11}

theorem pay1_zero (b : ℕ) (f : ℕ → ℕ → ℝ) (hf : ∀ r d, f r d = 0) : Rows b (k0_pay1 (F := Ideal)) f := by
  intro x d
  pointwise [k0_pay1]
  rw [hf]; rfl

theorem pay72_zero (b : ℕ) (f : ℕ → ℝ) (hf : ∀ r, f r = 0) : Column b (k0_pay72 (F := Ideal)) f := by
  intro x
  pointwise [k0_pay72]
  rw [hf]; rfl

theorem loop_left {H : Head} {b b' : ℕ → ℕ → ℝ}
    (R : Ready H (512 * (t.val % 4)) v3 v4 v7 (arg3.view.read (Elt Ideal) X_arg3) (arg4.view.read (Elt Ideal) X_arg4))
    (h10 : Full (arg10.view.read (Elt Ideal) G_arg10) b) (h11 : Full (arg11.view.read (Elt Ideal) G_arg11) b') :
    ∀ n ≤ t.val % 4 + 1, Left arg10 arg11 G_arg10 G_arg11 H (512 * (t.val % 4)) n b b'
      (lp c t arg2 harg2 arg3 harg3 arg4 harg4 arg5 harg5 arg6 harg6 arg7 harg7 arg8 harg8 arg9 harg9 arg10 harg10 arg11 harg11 v3 v4 v7 X_arg3 X_arg4 G_arg10 G_arg11 n)
  | 0, _ => {
    car := { dq := pay1_zero _ _ fun r d => by simp, lnb := pay72_zero _ _ fun r => by simp, dl := pay72_zero _ _ fun r => by simp }
    dk := fun s d => (h10 s d).trans (by simp)
    dv := fun s d => (h11 s d).trans (by simp) }
  | n + 1, hn => by
    have I := loop_left R h10 h11 n (by omega)
    have hk : n < (k0_t1_loop (grid0.coords t)).trips := by rw [trips1]; omega
    have hle : n ≤ t.val % 4 := by omega
    have ho := off1 t ⟨n, hk⟩
    have e := st_k0_t1_succ (F := Ideal) Variants.none c none (grid0.coords t) arg2 harg2 arg3 harg3 arg4 harg4 arg5 harg5 arg6 harg6 arg7 harg7 arg8 harg8 arg9 harg9 arg10 harg10 arg11 harg11
      (BitVec.ofNat 32 ((grid0.coords t) 1).val) v3 v4 v7 (iota Kind.tc S512x512 32 [0] iota_S512x512_d0_w32) (iota Kind.tc S512x512 32 [1] iota_S512x512_d1_w32)
      k0_pay70 k0_pay71 X_arg3 X_arg4 G_arg10 G_arg11 (k0_pay1, k0_pay72, k0_pay72) ⟨n, hk⟩
    rw [tripR_eq, tripL_eq] at e
    have G : Given (grid0.coords t) ⟨n, hk⟩ (BitVec.ofNat 32 ((grid0.coords t) 1).val) v3 v4 v7 (iota Kind.tc S512x512 32 [0] iota_S512x512_d0_w32)
        (iota Kind.tc S512x512 32 [1] iota_S512x512_d1_w32) k0_pay70 k0_pay71
        (View.readAt (Elt Ideal) arg3.view (tRect (grid0.coords t) ⟨n, hk⟩).toLoadRect X_arg3)
        (View.readAt (Elt Ideal) arg4.view (tRect (grid0.coords t) ⟨n, hk⟩).toLoadRect X_arg4) H (512 * (t.val % 4)) (512 * n) :=
      { hc := R.hc, hm := mask14 ⟨n, hk⟩, hq := R.hq, hg := R.hg, h7 := R.h7, hu := tri_upto, hb := tri_before
        hk := rows_at arg3.view X_arg3 rfl H.k R.hk _ _ ho
        hv := rows_at arg4.view X_arg4 rfl H.v R.hv _ _ ho }
    have e1 := congrArg (fun p => p.1) e
    have e2 := congrArg (fun p => p.2.1) e
    have e3 := congrArg (fun p => p.2.2) e
    exact {
      car := by
        have := tR_carried G I.car
        rw [show 512 * n + 512 = 512 * (n + 1) by omega] at this
        exact e1 ▸ this
      dk := by
        have hw := tK_rows G I.car (rows_at arg10.view _ rfl _ I.dk (k0_off1_inb (grid0.coords t) ⟨n, hk⟩) (512 * n) ho)
        have := full_store arg10.view G_arg10 _ _ (fun s d =>
          b s d + if s < 512 * (n + 1) then ∑ x : Fin 512, H.dz (512 * (t.val % 4) + x.val) s * H.q (512 * (t.val % 4) + x.val) d else 0)
          I.dk (k0_off1_inb (grid0.coords t) ⟨n, hk⟩) (512 * n) ho _
          (fun x d => (hw x d).trans (by
            dsimp only
            rw [if_neg (by omega), if_pos (by omega), add_zero]))
          (fun s d hs => by
            congr 1
            rcases hs with hs | hs
            · rw [if_pos hs, if_pos (by omega)]
            · rw [if_neg (by omega), if_neg (by omega)])
        exact e2 ▸ this
      dv := by
        have hw := tV_rows G I.car (rows_at arg11.view _ rfl _ I.dv (k0_off1_inb (grid0.coords t) ⟨n, hk⟩) (512 * n) ho)
        have := full_store arg11.view G_arg11 _ _ (fun s d =>
          b' s d + if s < 512 * (n + 1) then ∑ x : Fin 512, H.w (512 * (t.val % 4) + x.val) s * H.g (512 * (t.val % 4) + x.val) d else 0)
          I.dv (k0_off1_inb (grid0.coords t) ⟨n, hk⟩) (512 * n) ho _
          (fun x d => (hw x d).trans (by
            dsimp only
            rw [if_neg (by omega), if_pos (by omega), add_zero]))
          (fun s d hs => by
            congr 1
            rcases hs with hs | hs
            · rw [if_pos hs, if_pos (by omega)]
            · rw [if_neg (by omega), if_neg (by omega)])
        exact e3 ▸ this }

end loop

end

end Cert.KernelIdeal.Sbk
-- ==== Proof.SbPoint.lean ====
/- One grid point of the kernel: its block of the queries' gradient and what it leaves in its scratch. -/
module

public import proofs.«01_k».proof.Proof.SbLoop
public import proofs.«01_k».proof.Proof.Gen.KernelIdeal.Value

@[expose] public section

set_option maxRecDepth 16384

namespace Cert.KernelIdeal.Sbk

open Cert.KernelIdeal Cert.KernelIdeal.Gen Idealize.ShloMosaic Sb Finset

noncomputable section

theorem rest2 (t : Fin grid0.N) : Scf.trips (k0_t2_loop (grid0.coords t)).lb (k0_t2_loop (grid0.coords t)).ub (k0_t2_loop (grid0.coords t)).st = 0 := trips2 t

section gather

theorem at_all {S : Shape} {off : Fin S.rank → ℕ} (inb : ∀ a, off a + S.size a ≤ S.size a) (y : S.Idx) : (Rect.unit (s := S) off S.size inb).idx y = y := by
  funext a
  apply Fin.ext
  have := inb a
  show off a + 1 * (y a).val = (y a).val
  omega

theorem load_all {S : Shape} {e : EltTy} (V : View sig .tc .vmem S e) (f : BufTy.Contents (Elt Ideal) V.ty) {off : Fin S.rank → ℕ}
    (inb : ∀ a, off a + S.size a ≤ S.size a) :
    View.readAt (Elt Ideal) V (Rect.unit (s := S) off S.size inb).toLoadRect f = V.read (Elt Ideal) f := by
  rw [View.readAt_eq_ld]
  funext y
  exact congrArg (V.read (Elt Ideal) f) (at_all inb y)

theorem store_all {S : Shape} {e : EltTy} (V : View sig .tc .vmem S e) (f : BufTy.Contents (Elt Ideal) V.ty) (L : List (View.Piece (Elt Ideal) S e)) {off : Fin S.rank → ℕ}
    (inb : ∀ a, off a + S.size a ≤ S.size a) (w : S.Idx → Elt Ideal e) :
    V.read (Elt Ideal) (V.writes (Elt Ideal) f ((⟨Rect.unit off S.size inb, w⟩ : View.Piece (Elt Ideal) S e) :: L)) = w := by
  funext y
  refine View.read_writes_cons_unit_of_mem V f inb w L y y rfl fun a => ?_
  have := inb a
  omega

theorem pay69_col {x4 : Vec Ideal S512x128 .f32} {r0 : ℕ} {f : ℕ → ℝ} (h : Rows r0 x4 fun r _ => f r) : Column r0 (k0_pay69 x4) f := by
  intro x
  pointwise [k0_pay69]
  exact h x 0

theorem pay67_zero : Full (k0_pay67 (F := Ideal)) fun _ _ => 0 := by
  intro s d
  pointwise [k0_pay67]
  rfl

theorem pay68_zero : Full (k0_pay68 (F := Ideal)) fun _ _ => 0 := by
  intro s d
  pointwise [k0_pay68]
  rfl

/-- What a point reads: its blocks of the five operands. -/
structure Reads (H : Head) (r0 : ℕ) (x0 x3 : Vec Ideal S512x128 .bf16) (x4 : Vec Ideal S512x128 .f32) (x1 x2 : Vec Ideal S2048x128 .bf16) : Prop where
  /-- the scale -/
  hc : cw = ((H.c : ℝ) : EReal)
  /-- the queries -/
  hq : Rows r0 x0 H.q
  /-- the keys -/
  hk : Full x1 H.k
  /-- the values -/
  hv : Full x2 H.v
  /-- the cotangent -/
  hg : Rows r0 x3 H.g
  /-- the row sums -/
  ht : Rows r0 x4 fun r _ => H.tot r

/-- The keys' gradient from the query rows below `n`. -/
def dkUpto (H : Head) (n : ℕ) (s d : ℕ) : ℝ := ∑ r ∈ range n, H.dz r s * H.q r d
/-- The values' gradient from the query rows below `n`. -/
def dvUpto (H : Head) (n : ℕ) (s d : ℕ) : ℝ := ∑ r ∈ range n, H.w r s * H.g r d

theorem dz_past (H : Head) {r0 s d : ℕ} (hs : r0 + 512 ≤ s) : ∑ x : Fin 512, H.dz (r0 + x.val) s * H.q (r0 + x.val) d = 0 :=
  Finset.sum_eq_zero fun x _ => by
    have := x.isLt
    rw [H.dz_masked (r := r0 + x.val) (s := s) (by omega), zero_mul]

theorem w_past (H : Head) {r0 s d : ℕ} (hs : r0 + 512 ≤ s) : ∑ x : Fin 512, H.w (r0 + x.val) s * H.g (r0 + x.val) d = 0 :=
  Finset.sum_eq_zero fun x _ => by
    have := x.isLt
    rw [H.w_masked (r := r0 + x.val) (s := s) (by omega), zero_mul]

theorem dkUpto_zero (H : Head) {n s d : ℕ} (h : n = 0) : dkUpto H n s d = 0 := by subst h; exact Finset.sum_range_zero _
theorem dvUpto_zero (H : Head) {n s d : ℕ} (h : n = 0) : dvUpto H n s d = 0 := by subst h; exact Finset.sum_range_zero _

/-- What the loop leaves at its end, the masked terms dropped. -/
structure Ends (H : Head) (r0 : ℕ) (o : S512x128.Idx → EReal) (s0 s1 : S2048x128.Idx → EReal) : Prop where
  /-- the queries' gradient -/
  dq : Rows r0 o H.dq
  /-- the keys' gradient so far -/
  dk : Full s0 (dkUpto H (r0 + 512))
  /-- the values' gradient so far -/
  dv : Full s1 (dvUpto H (r0 + 512))

end gather

section point

variable {c : Dev nD} {t : Fin grid0.N} {arg2 : Memref sig .tc .vmem S512x128 .bf16} {harg2 : arg2.IsWhole} {arg3 : Memref sig .tc .vmem S2048x128 .bf16} {harg3 : arg3.IsWhole} {arg4 : Memref sig .tc .vmem S2048x128 .bf16} {harg4 : arg4.IsWhole} {arg5 : Memref sig .tc .vmem S512x128 .bf16} {harg5 : arg5.IsWhole} {arg6 : Memref sig .tc .vmem S512x128 .f32} {harg6 : arg6.IsWhole} {arg7 : Memref sig .tc .vmem S512x128 .bf16} {harg7 : arg7.IsWhole} {arg8 : Memref sig .tc .vmem S2048x128 .bf16} {harg8 : arg8.IsWhole} {arg9 : Memref sig .tc .vmem S2048x128 .bf16} {harg9 : arg9.IsWhole} {arg10 : Memref sig .tc .vmem S2048x128 .f32} {harg10 : arg10.IsWhole} {arg11 : Memref sig .tc .vmem S2048x128 .f32} {harg11 : arg11.IsWhole}
  {x0 : Vec Ideal S512x128 .bf16} {x1 : Vec Ideal S2048x128 .bf16} {x2 : Vec Ideal S2048x128 .bf16} {x3 : Vec Ideal S512x128 .bf16} {x4 : Vec Ideal S512x128 .f32}
  {xs0 : Vec Ideal S2048x128 .f32} {xs1 : Vec Ideal S2048x128 .f32} {H : Head}

theorem ready (R : Reads H (512 * (t.val % 4)) x0 x3 x4 x1 x2) :
    Ready H (512 * (t.val % 4)) (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (arg3.view.read (Elt Ideal) (harg3.unread x1)) (arg4.view.read (Elt Ideal) (harg4.unread x2)) := by
  rw [load_all, load_all, load_all, harg2.read_unread, harg3.read_unread, harg4.read_unread, harg5.read_unread, harg6.read_unread]
  exact { hc := R.hc, hq := R.hq, hg := R.hg, h7 := pay69_col R.ht, hk := R.hk, hv := R.hv }

theorem loop_ends {G10 : BufTy.Contents (Elt Ideal) arg10.view.ty} {G11 : BufTy.Contents (Elt Ideal) arg11.view.ty}
    (R : Reads H (512 * (t.val % 4)) x0 x3 x4 x1 x2) (h0 : Full (arg10.view.read (Elt Ideal) G10) (dkUpto H (512 * (t.val % 4))))
    (h1 : Full (arg11.view.read (Elt Ideal) G11) (dvUpto H (512 * (t.val % 4)))) :
    Ends H (512 * (t.val % 4)) (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) G10 G11 (k0_t1_loop (grid0.coords t)).trips).1.1 (arg10.view.read (Elt Ideal) (arg10.view.writes (Elt Ideal) G10 (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) G10 G11 (k0_t1_loop (grid0.coords t)).trips).2.1))
      (arg11.view.read (Elt Ideal) (arg11.view.writes (Elt Ideal) G11 (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) G10 G11 (k0_t1_loop (grid0.coords t)).trips).2.2)) := by
  have L := loop_left (c := c) (harg2 := harg2) (harg3 := harg3) (harg4 := harg4) (harg5 := harg5) (harg6 := harg6) (harg7 := harg7) (harg8 := harg8) (harg9 := harg9)
    (harg10 := harg10) (harg11 := harg11) (ready (harg2 := harg2) (harg3 := harg3) (harg4 := harg4) (harg5 := harg5) (harg6 := harg6) R) h0 h1 _ (trips1 t).le
  have e := trips1 t
  have hlt := Nat.mod_lt t.val (show 0 < 4 by omega)
  generalize hst : (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) G10 G11 (k0_t1_loop (grid0.coords t)).trips) = st at L ⊢
  exact {
    dq := fun x d => (L.car.dq x d).trans (by
      rw [Head.dq, e, range_stop (fun s => H.dz (512 * (t.val % 4) + x.val) s * H.k s d.val) (a := 512 * (t.val % 4 + 1)) (by omega)
        fun s hs => by rw [H.dz_masked (by omega), zero_mul]])
    dk := fun s d => (L.dk s d).trans (by
      simp only [dkUpto]
      rw [Sb.range_add]
      split
      · rfl
      · rw [dz_past H (by omega)])
    dv := fun s d => (L.dv s d).trans (by
      simp only [dvUpto]
      rw [Sb.range_add]
      split
      · rfl
      · rw [w_past H (by omega)]) }

set_option maxHeartbeats 1000000 in
theorem point_B (hc0 : ¬cond0_0 (grid0.coords t)) (hc1 : ¬cond0_1 (grid0.coords t)) (R : Reads H (512 * (t.val % 4)) x0 x3 x4 x1 x2)
    (h0 : Full xs0 (dkUpto H (512 * (t.val % 4)))) (h1 : Full xs1 (dvUpto H (512 * (t.val % 4)))) :
    Ends H (512 * (t.val % 4)) (out0_B_5 c (grid0.coords t) arg2 harg2 arg3 harg3 arg4 harg4 arg5 harg5 arg6 harg6 arg7 harg7 arg8 harg8 arg9 harg9 arg10 harg10 arg11 harg11 hc0 hc1 x0 x1 x2 x3 x4 xs0 xs1)
      (sout0_B_0 c (grid0.coords t) arg2 harg2 arg3 harg3 arg4 harg4 arg5 harg5 arg6 harg6 arg7 harg7 arg8 harg8 arg9 harg9 arg10 harg10 arg11 harg11 hc0 hc1 x0 x1 x2 x3 x4 xs0 xs1) (sout0_B_1 c (grid0.coords t) arg2 harg2 arg3 harg3 arg4 harg4 arg5 harg5 arg6 harg6 arg7 harg7 arg8 harg8 arg9 harg9 arg10 harg10 arg11 harg11 hc0 hc1 x0 x1 x2 x3 x4 xs0 xs1) := by
  have L := loop_ends (c := c) (harg2 := harg2) (harg3 := harg3) (harg4 := harg4) (harg5 := harg5) (harg6 := harg6) (harg7 := harg7) (harg8 := harg8) (harg9 := harg9)
    (harg10 := harg10) (harg11 := harg11) (G10 := harg10.unread xs0) (G11 := harg11.unread xs1) R (by rw [harg10.read_unread]; exact h0) (by rw [harg11.read_unread]; exact h1)
  have e5 : (kernelRun0_B (F := Ideal) c (grid0.coords t) arg2 harg2 arg3 harg3 arg4 harg4 arg5 harg5 arg6 harg6 arg7 harg7 arg8 harg8 arg9 harg9 arg10 harg10 arg11 harg11 hc0 hc1 x0 x1 x2 x3 x4 xs0 xs1).1
      = [⟨Rect.unit ![0, 0] S512x128.size inb_S512x128_S512x128_0_0, k0_pay10 (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).1.1⟩] := by
    unfold kernelRun0_B
    sl_unfold_words
    simp only [rest2 t, st_k0_t2.eq_1, List.nil_append]
  have e0 : (kernelRun0_B (F := Ideal) c (grid0.coords t) arg2 harg2 arg3 harg3 arg4 harg4 arg5 harg5 arg6 harg6 arg7 harg7 arg8 harg8 arg9 harg9 arg10 harg10 arg11 harg11 hc0 hc1 x0 x1 x2 x3 x4 xs0 xs1).2.2.2.1 = (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).2.1 := by
    unfold kernelRun0_B
    sl_unfold_words
    simp only [rest2 t, st_k0_t2.eq_1, List.nil_append]
  have e1 : (kernelRun0_B (F := Ideal) c (grid0.coords t) arg2 harg2 arg3 harg3 arg4 harg4 arg5 harg5 arg6 harg6 arg7 harg7 arg8 harg8 arg9 harg9 arg10 harg10 arg11 harg11 hc0 hc1 x0 x1 x2 x3 x4 xs0 xs1).2.2.2.2.1 = (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).2.2 := by
    unfold kernelRun0_B
    sl_unfold_words
    simp only [rest2 t, st_k0_t2.eq_1, List.nil_append]
  have d5 : out0_B_5 c (grid0.coords t) arg2 harg2 arg3 harg3 arg4 harg4 arg5 harg5 arg6 harg6 arg7 harg7 arg8 harg8 arg9 harg9 arg10 harg10 arg11 harg11 hc0 hc1 x0 x1 x2 x3 x4 xs0 xs1 = k0_pay10 (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).1.1 := by
    unfold out0_B_5
    exact (congrArg (fun L => VO0_5.read (Elt Ideal) (VO0_5.writes (Elt Ideal) VO0_5.junk L)) e5).trans (store_all VO0_5 VO0_5.junk [] inb_S512x128_S512x128_0_0 _)
  have d0 : sout0_B_0 c (grid0.coords t) arg2 harg2 arg3 harg3 arg4 harg4 arg5 harg5 arg6 harg6 arg7 harg7 arg8 harg8 arg9 harg9 arg10 harg10 arg11 harg11 hc0 hc1 x0 x1 x2 x3 x4 xs0 xs1 = arg10.view.read (Elt Ideal) (arg10.view.writes (Elt Ideal) (harg10.unread xs0) (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).2.1) := by
    unfold sout0_B_0
    exact congrArg (fun L => arg10.view.read (Elt Ideal) (arg10.view.writes (Elt Ideal) (harg10.unread xs0) L)) e0
  have d1 : sout0_B_1 c (grid0.coords t) arg2 harg2 arg3 harg3 arg4 harg4 arg5 harg5 arg6 harg6 arg7 harg7 arg8 harg8 arg9 harg9 arg10 harg10 arg11 harg11 hc0 hc1 x0 x1 x2 x3 x4 xs0 xs1 = arg11.view.read (Elt Ideal) (arg11.view.writes (Elt Ideal) (harg11.unread xs1) (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).2.2) := by
    unfold sout0_B_1
    exact congrArg (fun L => arg11.view.read (Elt Ideal) (arg11.view.writes (Elt Ideal) (harg11.unread xs1) L)) e1
  rw [d5, d0, d1]
  exact { dq := L.dq, dk := L.dk, dv := L.dv }

/-- What the last point of a head stores as well. -/
structure Stores (H : Head) (o6 o7 : S2048x128.Idx → EReal) : Prop where
  /-- the keys' gradient -/
  dk : Full o6 H.dk
  /-- the values' gradient -/
  dv : Full o7 H.dv

set_option maxHeartbeats 1000000 in
theorem point_C (hc0 : ¬cond0_0 (grid0.coords t)) (hc1 : cond0_1 (grid0.coords t)) (h3 : t.val % 4 = 3) (R : Reads H (512 * (t.val % 4)) x0 x3 x4 x1 x2)
    (h0 : Full xs0 (dkUpto H (512 * (t.val % 4)))) (h1 : Full xs1 (dvUpto H (512 * (t.val % 4)))) :
    Ends H (512 * (t.val % 4)) (out0_C_5 c (grid0.coords t) arg2 harg2 arg3 harg3 arg4 harg4 arg5 harg5 arg6 harg6 arg7 harg7 arg8 harg8 arg9 harg9 arg10 harg10 arg11 harg11 hc0 hc1 x0 x1 x2 x3 x4 xs0 xs1)
      (sout0_C_0 c (grid0.coords t) arg2 harg2 arg3 harg3 arg4 harg4 arg5 harg5 arg6 harg6 arg7 harg7 arg8 harg8 arg9 harg9 arg10 harg10 arg11 harg11 hc0 hc1 x0 x1 x2 x3 x4 xs0 xs1) (sout0_C_1 c (grid0.coords t) arg2 harg2 arg3 harg3 arg4 harg4 arg5 harg5 arg6 harg6 arg7 harg7 arg8 harg8 arg9 harg9 arg10 harg10 arg11 harg11 hc0 hc1 x0 x1 x2 x3 x4 xs0 xs1)
    ∧ Stores H (out0_C_6 c (grid0.coords t) arg2 harg2 arg3 harg3 arg4 harg4 arg5 harg5 arg6 harg6 arg7 harg7 arg8 harg8 arg9 harg9 arg10 harg10 arg11 harg11 hc0 hc1 x0 x1 x2 x3 x4 xs0 xs1) (out0_C_7 c (grid0.coords t) arg2 harg2 arg3 harg3 arg4 harg4 arg5 harg5 arg6 harg6 arg7 harg7 arg8 harg8 arg9 harg9 arg10 harg10 arg11 harg11 hc0 hc1 x0 x1 x2 x3 x4 xs0 xs1) := by
  have L := loop_ends (c := c) (harg2 := harg2) (harg3 := harg3) (harg4 := harg4) (harg5 := harg5) (harg6 := harg6) (harg7 := harg7) (harg8 := harg8) (harg9 := harg9)
    (harg10 := harg10) (harg11 := harg11) (G10 := harg10.unread xs0) (G11 := harg11.unread xs1) R (by rw [harg10.read_unread]; exact h0) (by rw [harg11.read_unread]; exact h1)
  have e5 : (kernelRun0_C (F := Ideal) c (grid0.coords t) arg2 harg2 arg3 harg3 arg4 harg4 arg5 harg5 arg6 harg6 arg7 harg7 arg8 harg8 arg9 harg9 arg10 harg10 arg11 harg11 hc0 hc1 x0 x1 x2 x3 x4 xs0 xs1).1
      = [⟨Rect.unit ![0, 0] S512x128.size inb_S512x128_S512x128_0_0, k0_pay10 (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).1.1⟩] := by
    unfold kernelRun0_C
    sl_unfold_words
    simp only [rest2 t, st_k0_t2.eq_1, List.nil_append]
  have e0 : (kernelRun0_C (F := Ideal) c (grid0.coords t) arg2 harg2 arg3 harg3 arg4 harg4 arg5 harg5 arg6 harg6 arg7 harg7 arg8 harg8 arg9 harg9 arg10 harg10 arg11 harg11 hc0 hc1 x0 x1 x2 x3 x4 xs0 xs1).2.2.2.1 = (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).2.1 := by
    unfold kernelRun0_C
    sl_unfold_words
    simp only [rest2 t, st_k0_t2.eq_1, List.nil_append]
  have e1 : (kernelRun0_C (F := Ideal) c (grid0.coords t) arg2 harg2 arg3 harg3 arg4 harg4 arg5 harg5 arg6 harg6 arg7 harg7 arg8 harg8 arg9 harg9 arg10 harg10 arg11 harg11 hc0 hc1 x0 x1 x2 x3 x4 xs0 xs1).2.2.2.2.1 = (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).2.2 := by
    unfold kernelRun0_C
    sl_unfold_words
    simp only [rest2 t, st_k0_t2.eq_1, List.nil_append]
  have e6 : (kernelRun0_C (F := Ideal) c (grid0.coords t) arg2 harg2 arg3 harg3 arg4 harg4 arg5 harg5 arg6 harg6 arg7 harg7 arg8 harg8 arg9 harg9 arg10 harg10 arg11 harg11 hc0 hc1 x0 x1 x2 x3 x4 xs0 xs1).2.1
      = [⟨Rect.unit ![0, 0] S2048x128.size inb_S2048x128_S2048x128_0_0, k0_pay11 (View.readAt (Elt Ideal) arg10.view
          (Rect.unit ![0, 0] S2048x128.size inb_S2048x128_S2048x128_0_0).toLoadRect (arg10.view.writes (Elt Ideal) (harg10.unread xs0) (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).2.1))⟩] := by
    unfold kernelRun0_C
    sl_unfold_words
    simp only [rest2 t, st_k0_t2.eq_1, List.nil_append]
  have e7 : (kernelRun0_C (F := Ideal) c (grid0.coords t) arg2 harg2 arg3 harg3 arg4 harg4 arg5 harg5 arg6 harg6 arg7 harg7 arg8 harg8 arg9 harg9 arg10 harg10 arg11 harg11 hc0 hc1 x0 x1 x2 x3 x4 xs0 xs1).2.2.1
      = [⟨Rect.unit ![0, 0] S2048x128.size inb_S2048x128_S2048x128_0_0, k0_pay12 (View.readAt (Elt Ideal) arg11.view
          (Rect.unit ![0, 0] S2048x128.size inb_S2048x128_S2048x128_0_0).toLoadRect (arg11.view.writes (Elt Ideal) (harg11.unread xs1) (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).2.2))⟩] := by
    unfold kernelRun0_C
    sl_unfold_words
    simp only [rest2 t, st_k0_t2.eq_1, List.nil_append]
  have d5 : out0_C_5 c (grid0.coords t) arg2 harg2 arg3 harg3 arg4 harg4 arg5 harg5 arg6 harg6 arg7 harg7 arg8 harg8 arg9 harg9 arg10 harg10 arg11 harg11 hc0 hc1 x0 x1 x2 x3 x4 xs0 xs1 = k0_pay10 (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).1.1 := by
    unfold out0_C_5
    exact (congrArg (fun L => VO0_5.read (Elt Ideal) (VO0_5.writes (Elt Ideal) VO0_5.junk L)) e5).trans (store_all VO0_5 VO0_5.junk [] inb_S512x128_S512x128_0_0 _)
  have d0 : sout0_C_0 c (grid0.coords t) arg2 harg2 arg3 harg3 arg4 harg4 arg5 harg5 arg6 harg6 arg7 harg7 arg8 harg8 arg9 harg9 arg10 harg10 arg11 harg11 hc0 hc1 x0 x1 x2 x3 x4 xs0 xs1 = arg10.view.read (Elt Ideal) (arg10.view.writes (Elt Ideal) (harg10.unread xs0) (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).2.1) := by
    unfold sout0_C_0
    exact congrArg (fun L => arg10.view.read (Elt Ideal) (arg10.view.writes (Elt Ideal) (harg10.unread xs0) L)) e0
  have d1 : sout0_C_1 c (grid0.coords t) arg2 harg2 arg3 harg3 arg4 harg4 arg5 harg5 arg6 harg6 arg7 harg7 arg8 harg8 arg9 harg9 arg10 harg10 arg11 harg11 hc0 hc1 x0 x1 x2 x3 x4 xs0 xs1 = arg11.view.read (Elt Ideal) (arg11.view.writes (Elt Ideal) (harg11.unread xs1) (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).2.2) := by
    unfold sout0_C_1
    exact congrArg (fun L => arg11.view.read (Elt Ideal) (arg11.view.writes (Elt Ideal) (harg11.unread xs1) L)) e1
  have d6 : out0_C_6 c (grid0.coords t) arg2 harg2 arg3 harg3 arg4 harg4 arg5 harg5 arg6 harg6 arg7 harg7 arg8 harg8 arg9 harg9 arg10 harg10 arg11 harg11 hc0 hc1 x0 x1 x2 x3 x4 xs0 xs1 = k0_pay11 (View.readAt (Elt Ideal) arg10.view
          (Rect.unit ![0, 0] S2048x128.size inb_S2048x128_S2048x128_0_0).toLoadRect (arg10.view.writes (Elt Ideal) (harg10.unread xs0) (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).2.1)) := by
    unfold out0_C_6
    exact (congrArg (fun L => VO0_6.read (Elt Ideal) (VO0_6.writes (Elt Ideal) VO0_6.junk L)) e6).trans (store_all VO0_6 VO0_6.junk [] inb_S2048x128_S2048x128_0_0 _)
  have d7 : out0_C_7 c (grid0.coords t) arg2 harg2 arg3 harg3 arg4 harg4 arg5 harg5 arg6 harg6 arg7 harg7 arg8 harg8 arg9 harg9 arg10 harg10 arg11 harg11 hc0 hc1 x0 x1 x2 x3 x4 xs0 xs1 = k0_pay12 (View.readAt (Elt Ideal) arg11.view
          (Rect.unit ![0, 0] S2048x128.size inb_S2048x128_S2048x128_0_0).toLoadRect (arg11.view.writes (Elt Ideal) (harg11.unread xs1) (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).2.2)) := by
    unfold out0_C_7
    exact (congrArg (fun L => VO0_7.read (Elt Ideal) (VO0_7.writes (Elt Ideal) VO0_7.junk L)) e7).trans (store_all VO0_7 VO0_7.junk [] inb_S2048x128_S2048x128_0_0 _)
  have l6 := load_all arg10.view (arg10.view.writes (Elt Ideal) (harg10.unread xs0) (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).2.1) inb_S2048x128_S2048x128_0_0
  have l7 := load_all arg11.view (arg11.view.writes (Elt Ideal) (harg11.unread xs1) (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (harg10.unread xs0) (harg11.unread xs1) (k0_t1_loop (grid0.coords t)).trips).2.2) inb_S2048x128_S2048x128_0_0
  exact ⟨{ dq := fun x d => (congrFun d5 _).trans (L.dq x d), dk := fun s d => (congrFun d0 _).trans (L.dk s d), dv := fun s d => (congrFun d1 _).trans (L.dv s d) }, {
    dk := fun s d => (congrFun d6 _).trans ((congrFun l6 (ix2 s d)).trans ((L.dk s d).trans (congrArg _ (by rw [dkUpto, Head.dk, h3]))))
    dv := fun s d => (congrFun d7 _).trans ((congrFun l7 (ix2 s d)).trans ((L.dv s d).trans (congrArg _ (by rw [dvUpto, Head.dv, h3])))) }⟩

set_option maxHeartbeats 1000000 in
theorem point_A (hc0 : cond0_0 (grid0.coords t)) (hc1 : ¬cond0_1 (grid0.coords t)) (h3 : t.val % 4 = 0) (R : Reads H (512 * (t.val % 4)) x0 x3 x4 x1 x2) :
    Ends H (512 * (t.val % 4)) (out0_A_5 c (grid0.coords t) arg2 harg2 arg3 harg3 arg4 harg4 arg5 harg5 arg6 harg6 arg7 harg7 arg8 harg8 arg9 harg9 arg10 harg10 arg11 harg11 hc0 hc1 x0 x1 x2 x3 x4)
      (sout0_A_0 c (grid0.coords t) arg2 harg2 arg3 harg3 arg4 harg4 arg5 harg5 arg6 harg6 arg7 harg7 arg8 harg8 arg9 harg9 arg10 harg10 arg11 harg11 hc0 hc1 x0 x1 x2 x3 x4) (sout0_A_1 c (grid0.coords t) arg2 harg2 arg3 harg3 arg4 harg4 arg5 harg5 arg6 harg6 arg7 harg7 arg8 harg8 arg9 harg9 arg10 harg10 arg11 harg11 hc0 hc1 x0 x1 x2 x3 x4) := by
  have hr : 512 * (t.val % 4) = 0 := by omega
  have z10 : Full (arg10.view.read (Elt Ideal) (arg10.view.writes (Elt Ideal) arg10.view.junk [⟨Rect.unit ![0, 0] S2048x128.size inb_S2048x128_S2048x128_0_0, k0_pay67 (F := Ideal)⟩])) (dkUpto H (512 * (t.val % 4))) := by
    rw [store_all]
    exact fun s d => (pay67_zero s d).trans (congrArg _ (dkUpto_zero H hr).symm)
  have z11 : Full (arg11.view.read (Elt Ideal) (arg11.view.writes (Elt Ideal) arg11.view.junk [⟨Rect.unit ![0, 0] S2048x128.size inb_S2048x128_S2048x128_0_0, k0_pay68 (F := Ideal)⟩])) (dvUpto H (512 * (t.val % 4))) := by
    rw [store_all]
    exact fun s d => (pay68_zero s d).trans (congrArg _ (dvUpto_zero H hr).symm)
  have L := loop_ends (c := c) (harg2 := harg2) (harg3 := harg3) (harg4 := harg4) (harg5 := harg5) (harg6 := harg6) (harg7 := harg7) (harg8 := harg8) (harg9 := harg9)
    (harg10 := harg10) (harg11 := harg11) (G10 := (arg10.view.writes (Elt Ideal) arg10.view.junk [⟨Rect.unit ![0, 0] S2048x128.size inb_S2048x128_S2048x128_0_0, k0_pay67 (F := Ideal)⟩])) (G11 := (arg11.view.writes (Elt Ideal) arg11.view.junk [⟨Rect.unit ![0, 0] S2048x128.size inb_S2048x128_S2048x128_0_0, k0_pay68 (F := Ideal)⟩])) R
    z10 z11
  have e5 : (kernelRun0_A (F := Ideal) c (grid0.coords t) arg2 harg2 arg3 harg3 arg4 harg4 arg5 harg5 arg6 harg6 arg7 harg7 arg8 harg8 arg9 harg9 arg10 harg10 arg11 harg11 hc0 hc1 x0 x1 x2 x3 x4).1
      = [⟨Rect.unit ![0, 0] S512x128.size inb_S512x128_S512x128_0_0, k0_pay10 (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (arg10.view.writes (Elt Ideal) arg10.view.junk [⟨Rect.unit ![0, 0] S2048x128.size inb_S2048x128_S2048x128_0_0, k0_pay67 (F := Ideal)⟩]) (arg11.view.writes (Elt Ideal) arg11.view.junk [⟨Rect.unit ![0, 0] S2048x128.size inb_S2048x128_S2048x128_0_0, k0_pay68 (F := Ideal)⟩]) (k0_t1_loop (grid0.coords t)).trips).1.1⟩] := by
    unfold kernelRun0_A
    sl_unfold_words
    simp only [rest2 t, st_k0_t2.eq_1, List.nil_append]
  have e0 : (kernelRun0_A (F := Ideal) c (grid0.coords t) arg2 harg2 arg3 harg3 arg4 harg4 arg5 harg5 arg6 harg6 arg7 harg7 arg8 harg8 arg9 harg9 arg10 harg10 arg11 harg11 hc0 hc1 x0 x1 x2 x3 x4).2.2.2.1
      = (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (arg10.view.writes (Elt Ideal) arg10.view.junk [⟨Rect.unit ![0, 0] S2048x128.size inb_S2048x128_S2048x128_0_0, k0_pay67 (F := Ideal)⟩]) (arg11.view.writes (Elt Ideal) arg11.view.junk [⟨Rect.unit ![0, 0] S2048x128.size inb_S2048x128_S2048x128_0_0, k0_pay68 (F := Ideal)⟩]) (k0_t1_loop (grid0.coords t)).trips).2.1 ++ [⟨Rect.unit ![0, 0] S2048x128.size inb_S2048x128_S2048x128_0_0, k0_pay67 (F := Ideal)⟩] := by
    unfold kernelRun0_A
    sl_unfold_words
    simp only [rest2 t, st_k0_t2.eq_1, List.nil_append]
  have e1 : (kernelRun0_A (F := Ideal) c (grid0.coords t) arg2 harg2 arg3 harg3 arg4 harg4 arg5 harg5 arg6 harg6 arg7 harg7 arg8 harg8 arg9 harg9 arg10 harg10 arg11 harg11 hc0 hc1 x0 x1 x2 x3 x4).2.2.2.2.1
      = (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (arg10.view.writes (Elt Ideal) arg10.view.junk [⟨Rect.unit ![0, 0] S2048x128.size inb_S2048x128_S2048x128_0_0, k0_pay67 (F := Ideal)⟩]) (arg11.view.writes (Elt Ideal) arg11.view.junk [⟨Rect.unit ![0, 0] S2048x128.size inb_S2048x128_S2048x128_0_0, k0_pay68 (F := Ideal)⟩]) (k0_t1_loop (grid0.coords t)).trips).2.2 ++ [⟨Rect.unit ![0, 0] S2048x128.size inb_S2048x128_S2048x128_0_0, k0_pay68 (F := Ideal)⟩] := by
    unfold kernelRun0_A
    sl_unfold_words
    simp only [rest2 t, st_k0_t2.eq_1, List.nil_append]
  have c0 := scover0_A_0 (F := Ideal) c (grid0.coords t) arg2 harg2 arg3 harg3 arg4 harg4 arg5 harg5 arg6 harg6 arg7 harg7 arg8 harg8 arg9 harg9 arg10 harg10 arg11 harg11 hc0 hc1 x0 x1 x2 x3 x4
  have c1 := scover0_A_1 (F := Ideal) c (grid0.coords t) arg2 harg2 arg3 harg3 arg4 harg4 arg5 harg5 arg6 harg6 arg7 harg7 arg8 harg8 arg9 harg9 arg10 harg10 arg11 harg11 hc0 hc1 x0 x1 x2 x3 x4
  have s0 : sout0_A_0 c (grid0.coords t) arg2 harg2 arg3 harg3 arg4 harg4 arg5 harg5 arg6 harg6 arg7 harg7 arg8 harg8 arg9 harg9 arg10 harg10 arg11 harg11 hc0 hc1 x0 x1 x2 x3 x4 = arg10.view.read (Elt Ideal) (arg10.view.writes (Elt Ideal) (arg10.view.writes (Elt Ideal) arg10.view.junk [⟨Rect.unit ![0, 0] S2048x128.size inb_S2048x128_S2048x128_0_0, k0_pay67 (F := Ideal)⟩]) (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (arg10.view.writes (Elt Ideal) arg10.view.junk [⟨Rect.unit ![0, 0] S2048x128.size inb_S2048x128_S2048x128_0_0, k0_pay67 (F := Ideal)⟩]) (arg11.view.writes (Elt Ideal) arg11.view.junk [⟨Rect.unit ![0, 0] S2048x128.size inb_S2048x128_S2048x128_0_0, k0_pay68 (F := Ideal)⟩]) (k0_t1_loop (grid0.coords t)).trips).2.1) := by
    unfold sout0_A_0
    exact (View.read_writes_eq_canon VS0_0 VS0_0.junk _ c0).trans ((View.read_writes_eq_canon arg10.view arg10.view.junk _ c0).symm.trans
      ((congrArg (fun L => arg10.view.read (Elt Ideal) (arg10.view.writes (Elt Ideal) arg10.view.junk L)) e0).trans
        (congrArg (arg10.view.read (Elt Ideal)) (View.writes_append arg10.view arg10.view.junk _ _))))
  have s1 : sout0_A_1 c (grid0.coords t) arg2 harg2 arg3 harg3 arg4 harg4 arg5 harg5 arg6 harg6 arg7 harg7 arg8 harg8 arg9 harg9 arg10 harg10 arg11 harg11 hc0 hc1 x0 x1 x2 x3 x4 = arg11.view.read (Elt Ideal) (arg11.view.writes (Elt Ideal) (arg11.view.writes (Elt Ideal) arg11.view.junk [⟨Rect.unit ![0, 0] S2048x128.size inb_S2048x128_S2048x128_0_0, k0_pay68 (F := Ideal)⟩]) (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (arg10.view.writes (Elt Ideal) arg10.view.junk [⟨Rect.unit ![0, 0] S2048x128.size inb_S2048x128_S2048x128_0_0, k0_pay67 (F := Ideal)⟩]) (arg11.view.writes (Elt Ideal) arg11.view.junk [⟨Rect.unit ![0, 0] S2048x128.size inb_S2048x128_S2048x128_0_0, k0_pay68 (F := Ideal)⟩]) (k0_t1_loop (grid0.coords t)).trips).2.2) := by
    unfold sout0_A_1
    exact (View.read_writes_eq_canon VS0_1 VS0_1.junk _ c1).trans ((View.read_writes_eq_canon arg11.view arg11.view.junk _ c1).symm.trans
      ((congrArg (fun L => arg11.view.read (Elt Ideal) (arg11.view.writes (Elt Ideal) arg11.view.junk L)) e1).trans
        (congrArg (arg11.view.read (Elt Ideal)) (View.writes_append arg11.view arg11.view.junk _ _))))
  have d5 : out0_A_5 c (grid0.coords t) arg2 harg2 arg3 harg3 arg4 harg4 arg5 harg5 arg6 harg6 arg7 harg7 arg8 harg8 arg9 harg9 arg10 harg10 arg11 harg11 hc0 hc1 x0 x1 x2 x3 x4 = k0_pay10 (lp c t arg2 harg2 arg3 harg3 arg4 harg4 arg5 harg5 arg6 harg6 arg7 harg7 arg8 harg8 arg9 harg9 arg10 harg10 arg11 harg11 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (k0_pay69 (View.readAt (Elt Ideal) arg6.view (Rect.unit ![0, 0] S512x128.size inb_S512x128_S512x128_0_0).toLoadRect (harg6.unread x4))) (harg3.unread x1) (harg4.unread x2) (arg10.view.writes (Elt Ideal) arg10.view.junk [⟨Rect.unit ![0, 0] S2048x128.size inb_S2048x128_S2048x128_0_0, k0_pay67 (F := Ideal)⟩]) (arg11.view.writes (Elt Ideal) arg11.view.junk [⟨Rect.unit ![0, 0] S2048x128.size inb_S2048x128_S2048x128_0_0, k0_pay68 (F := Ideal)⟩]) (k0_t1_loop (grid0.coords t)).trips).1.1 := by
    unfold out0_A_5
    exact (congrArg (fun L => VO0_5.read (Elt Ideal) (VO0_5.writes (Elt Ideal) VO0_5.junk L)) e5).trans (store_all VO0_5 VO0_5.junk [] inb_S512x128_S512x128_0_0 _)
  rw [s0, s1, d5]
  exact { dq := L.dq, dk := L.dk, dv := L.dv }

end point

end

end Cert.KernelIdeal.Sbk
-- ==== Proof.SbHead.lean ====
/- The heads of the two arguments, as reals. -/
module

public import proofs.«01_k».proof.Proof.SbModel
public import proofs.«01_k».proof.Proof.SbIdeal

@[expose] public section

set_option maxRecDepth 16384

namespace Sb

open Idealize.ShloMosaic Finset

noncomputable section

/-- The scale of the logits, the printed word. -/
abbrev scale : EReal := Ideal.ofBits FTy.f32 1035273459#32
/-- The shape of the joined queries, keys and values. -/
abbrev ShQ : Shape := ⟨2, ![2048, 6144]⟩
/-- The shape of the cotangent. -/
abbrev ShD : Shape := ⟨2, ![2048, 2048]⟩

/-- Head `h` of the two arguments: its queries, keys and values in the columns of the first, its cotangent in those of the second. -/
def hd (Q : ShQ.Idx → EReal) (D : ShD.Idx → EReal) (h : ℕ) : Head where
  c := scale.toReal
  q r d := (Q (ix2 (Fin.ofNat 2048 r) (Fin.ofNat 6144 (128 * h + d)))).toReal
  k r d := (Q (ix2 (Fin.ofNat 2048 r) (Fin.ofNat 6144 (2048 + 128 * h + d)))).toReal
  v r d := (Q (ix2 (Fin.ofNat 2048 r) (Fin.ofNat 6144 (4096 + 128 * h + d)))).toReal
  g r d := (D (ix2 (Fin.ofNat 2048 r) (Fin.ofNat 2048 (128 * h + d)))).toReal

/-- Every entry is a real number. -/
def AllReal {S : Shape} (X : S.Idx → EReal) : Prop := ∀ y, ((X y).toReal : EReal) = X y

section reads

variable {Q : ShQ.Idx → EReal} {D : ShD.Idx → EReal} (hQ : AllReal Q) (hD : AllReal D) {h : ℕ} (hh : h < 8)
include hh

include hQ in
theorem hd_q {r d : ℕ} (hr : r < 2048) (hd' : d < 128) (hc : 128 * h + d < 6144) : Q (ix2 ⟨r, hr⟩ ⟨128 * h + d, hc⟩) = (((hd Q D h).q r d : ℝ) : EReal) := by
  rw [hd, hQ]
  exact congrArg Q (congrArg₂ ix2 (Fin.ext (Nat.mod_eq_of_lt hr).symm) (Fin.ext (Nat.mod_eq_of_lt hc).symm))

include hQ in
theorem hd_k {r d : ℕ} (hr : r < 2048) (hd' : d < 128) (hc : 2048 + 128 * h + d < 6144) : Q (ix2 ⟨r, hr⟩ ⟨2048 + 128 * h + d, hc⟩) = (((hd Q D h).k r d : ℝ) : EReal) := by
  rw [hd, hQ]
  exact congrArg Q (congrArg₂ ix2 (Fin.ext (Nat.mod_eq_of_lt hr).symm) (Fin.ext (Nat.mod_eq_of_lt hc).symm))

include hQ in
theorem hd_v {r d : ℕ} (hr : r < 2048) (hd' : d < 128) (hc : 4096 + 128 * h + d < 6144) : Q (ix2 ⟨r, hr⟩ ⟨4096 + 128 * h + d, hc⟩) = (((hd Q D h).v r d : ℝ) : EReal) := by
  rw [hd, hQ]
  exact congrArg Q (congrArg₂ ix2 (Fin.ext (Nat.mod_eq_of_lt hr).symm) (Fin.ext (Nat.mod_eq_of_lt hc).symm))

include hD in
theorem hd_g {r d : ℕ} (hr : r < 2048) (hd' : d < 128) (hc : 128 * h + d < 2048) : D (ix2 ⟨r, hr⟩ ⟨128 * h + d, hc⟩) = (((hd Q D h).g r d : ℝ) : EReal) := by
  rw [hd, hD]
  exact congrArg D (congrArg₂ ix2 (Fin.ext (Nat.mod_eq_of_lt hr).symm) (Fin.ext (Nat.mod_eq_of_lt hc).symm))

end reads

end

end Sb
-- ==== Proof.SbBlocks.lean ====
/- The heads of the arguments, and the blocks that a grid point reads of them. -/
module

public import proofs.«01_k».proof.Proof.SbPoint
public import proofs.«01_k».proof.Proof.SbHead

@[expose] public section

set_option maxRecDepth 16384

namespace Cert.KernelIdeal.Sbk

open Cert.KernelIdeal Cert.KernelIdeal.Gen Idealize.ShloMosaic Idealize.ShloMosaic.TcCoe Sb Finset

noncomputable section

variable (m : (ℓ : Loc nD τ sig) → Buf (Elt Ideal) ℓ) (c : Dev nD) (t : Fin cfg0.N)

/-- The first argument on a device. -/
abbrev argQ : S2048x6144.Idx → EReal := m ((c : Thread nD τ).loc main_arg0)
/-- The second. -/
abbrev argD : S2048x2048.Idx → EReal := m ((c : Thread nD τ).loc main_arg1)

theorem idx0 : ∀ t : Fin cfg0.N, win0_0.index t = ![t.val % 4, t.val / 4] ∧ win0_1.index t = ![0, 16 + t.val / 4] ∧ win0_2.index t = ![0, 32 + t.val / 4]
    ∧ win0_3.index t = ![t.val % 4, t.val / 4] ∧ win0_4.index t = ![t.val % 4, t.val / 4] ∧ win0_5.index t = ![t.val % 4, t.val / 4]
    ∧ win0_6.index t = ![0, t.val / 4] ∧ win0_7.index t = ![0, t.val / 4] := (by decide +kernel : ∀ t : Fin grid0.N, _)

theorem head_lt : t.val / 4 < 8 := by
  have : t.val < 32 := t.isLt
  omega

theorem blk_q (x : Fin 512) (d : Fin 128) (hr : 512 * (t.val % 4) + x.val < 2048) (hc : 128 * (t.val / 4) + d.val < 6144) :
    (iblk m c 0 t : S512x128.Idx → EReal) (ix2 x d) = argQ m c (ix2 ⟨512 * (t.val % 4) + x.val, hr⟩ ⟨128 * (t.val / 4) + d.val, hc⟩) := by
  blk_ext [iblk, V_main_arg0, idx0 t]

theorem blk_k (x : Fin 2048) (d : Fin 128) (hc : 2048 + 128 * (t.val / 4) + d.val < 6144) :
    (iblk m c 1 t : S2048x128.Idx → EReal) (ix2 x d) = argQ m c (ix2 x ⟨2048 + 128 * (t.val / 4) + d.val, hc⟩) := by
  blk_ext [iblk, V_main_arg0, idx0 t]

theorem blk_v (x : Fin 2048) (d : Fin 128) (hc : 4096 + 128 * (t.val / 4) + d.val < 6144) :
    (iblk m c 2 t : S2048x128.Idx → EReal) (ix2 x d) = argQ m c (ix2 x ⟨4096 + 128 * (t.val / 4) + d.val, hc⟩) := by
  blk_ext [iblk, V_main_arg0, idx0 t]

theorem blk_g (x : Fin 512) (d : Fin 128) (hr : 512 * (t.val % 4) + x.val < 2048) (hc : 128 * (t.val / 4) + d.val < 2048) :
    (iblk m c 3 t : S512x128.Idx → EReal) (ix2 x d) = argD m c (ix2 ⟨512 * (t.val % 4) + x.val, hr⟩ ⟨128 * (t.val / 4) + d.val, hc⟩) := by
  blk_ext [iblk, V_main_arg1, idx0 t]

/-- The row sums that the host hands to the call. -/
abbrev argT : S2048x1024.Idx → EReal := V m c (Pipeline.arrRef spec0 4)

theorem blk_t (x : Fin 512) (d : Fin 128) (hr : 512 * (t.val % 4) + x.val < 2048) (hc : 128 * (t.val / 4) + d.val < 1024) :
    (iblk m c 4 t : S512x128.Idx → EReal) (ix2 x d) = argT m c (ix2 ⟨512 * (t.val % 4) + x.val, hr⟩ ⟨128 * (t.val / 4) + d.val, hc⟩) := by
  blk_ext [iblk, idx0 t]

/-- Head `h` on a device. -/
abbrev dev (h : ℕ) : Head := hd (argQ m c) (argD m c) h

/-- What the host hands over is the row sums of every head. -/
def Totals : Prop := ∀ (r : Fin 2048) (h : Fin 8) (d : Fin 128), argT m c (ix2 r ⟨128 * h.val + d.val, by omega⟩) = (((dev m c h.val).tot r.val : ℝ) : EReal)

variable {m c t} (hc : cw = ((cw.toReal : ℝ) : EReal)) (hQ : AllReal (argQ m c)) (hD : AllReal (argD m c)) (hT : Totals m c)
include hc hQ hD hT

theorem reads : Reads (dev m c (t.val / 4)) (512 * (t.val % 4)) (iblk m c 0 t) (iblk m c 3 t) (iblk m c 4 t) (iblk m c 1 t) (iblk m c 2 t) where
  hc := hc
  hq x d := by
    have := head_lt t
    have hx := x.isLt; have hd := d.isLt
    rw [blk_q m c t x d (by omega) (by omega)]
    exact hd_q hQ this _ hd _
  hk x d := by
    have := head_lt t
    have hx := x.isLt; have hd := d.isLt
    rw [blk_k m c t x d (by omega)]
    exact hd_k hQ this _ hd _
  hv x d := by
    have := head_lt t
    have hx := x.isLt; have hd := d.isLt
    rw [blk_v m c t x d (by omega)]
    exact hd_v hQ this _ hd _
  hg x d := by
    have := head_lt t
    have hx := x.isLt; have hd := d.isLt
    rw [blk_g m c t x d (by omega) (by omega)]
    exact hd_g hD this _ hd _
  ht x d := by
    have := head_lt t
    have hx := x.isLt; have hd := d.isLt
    rw [blk_t m c t x d (by omega) (by omega)]
    exact hT ⟨512 * (t.val % 4) + x.val, by omega⟩ ⟨t.val / 4, this⟩ d

/-- What a point leaves, the first of a head. -/
theorem left_A (h0 : t.val % 4 = 0) : Ends (dev m c (t.val / 4)) (512 * (t.val % 4)) (outsAt0 m c t.val t.isLt).1 (outsAt0 m c t.val t.isLt).2.2.2.1 (outsAt0 m c t.val t.isLt).2.2.2.2 := by
  have R := reads (t := t) hc hQ hD hT
  rw [outsAt0_A m c t h0 (fun h => by omega)]
  dsimp only
  exact point_A _ _ h0 R

/-- A middle one. -/
theorem left_B (h0 : ¬t.val % 4 = 0) (h1 : ¬t.val % 4 = 3)
    (hs : Full (outsAt0 m c (t.val - 1) (Nat.lt_of_le_of_lt (Nat.sub_le _ _) t.isLt)).2.2.2.1 (dkUpto (dev m c (t.val / 4)) (512 * (t.val % 4))))
    (hs' : Full (outsAt0 m c (t.val - 1) (Nat.lt_of_le_of_lt (Nat.sub_le _ _) t.isLt)).2.2.2.2 (dvUpto (dev m c (t.val / 4)) (512 * (t.val % 4)))) :
    Ends (dev m c (t.val / 4)) (512 * (t.val % 4)) (outsAt0 m c t.val t.isLt).1 (outsAt0 m c t.val t.isLt).2.2.2.1 (outsAt0 m c t.val t.isLt).2.2.2.2 := by
  have R := reads (t := t) hc hQ hD hT
  rw [outsAt0_B m c t h0 h1]
  dsimp only
  exact point_B _ _ R hs hs'

/-- The last one. -/
theorem left_C (h0 : ¬t.val % 4 = 0) (h1 : t.val % 4 = 3)
    (hs : Full (outsAt0 m c (t.val - 1) (Nat.lt_of_le_of_lt (Nat.sub_le _ _) t.isLt)).2.2.2.1 (dkUpto (dev m c (t.val / 4)) (512 * (t.val % 4))))
    (hs' : Full (outsAt0 m c (t.val - 1) (Nat.lt_of_le_of_lt (Nat.sub_le _ _) t.isLt)).2.2.2.2 (dvUpto (dev m c (t.val / 4)) (512 * (t.val % 4)))) :
    Ends (dev m c (t.val / 4)) (512 * (t.val % 4)) (outsAt0 m c t.val t.isLt).1 (outsAt0 m c t.val t.isLt).2.2.2.1 (outsAt0 m c t.val t.isLt).2.2.2.2
      ∧ Stores (dev m c (t.val / 4)) (outsAt0 m c t.val t.isLt).2.1 (outsAt0 m c t.val t.isLt).2.2.1 := by
  have R := reads (t := t) hc hQ hD hT
  rw [outsAt0_C m c t h0 h1]
  dsimp only
  exact point_C _ _ h1 R hs hs'

/-- The scratch and the block of the queries' gradient after every point. -/
theorem after_point : ∀ (n : ℕ) (hn : n < cfg0.N), Ends (dev m c (n / 4)) (512 * (n % 4)) (outsAt0 m c n hn).1 (outsAt0 m c n hn).2.2.2.1 (outsAt0 m c n hn).2.2.2.2
    ∧ (n % 4 = 3 → Stores (dev m c (n / 4)) (outsAt0 m c n hn).2.1 (outsAt0 m c n hn).2.2.1) := by
  intro n
  induction n with
  | zero => exact fun hn => ⟨left_A (t := ⟨0, hn⟩) hc hQ hD hT (Nat.zero_mod _), fun h => by omega⟩
  | succ n ih =>
    intro hn
    by_cases h0 : (n + 1) % 4 = 0
    · exact ⟨left_A (t := ⟨n + 1, hn⟩) hc hQ hD hT h0, fun h => by omega⟩
    · have I := (ih (Nat.lt_of_succ_lt hn)).1
      have hs := I.dk
      have hs' := I.dv
      rw [show n / 4 = (n + 1) / 4 by omega, show 512 * (n % 4) + 512 = 512 * ((n + 1) % 4) by omega] at hs hs'
      by_cases h1 : (n + 1) % 4 = 3
      · have P := left_C (t := ⟨n + 1, hn⟩) hc hQ hD hT h0 h1 hs hs'
        exact ⟨P.1, fun _ => P.2⟩
      · exact ⟨left_B (t := ⟨n + 1, hn⟩) hc hQ hD hT h0 h1 hs hs', fun h => absurd h h1⟩

end

end Cert.KernelIdeal.Sbk
-- ==== Proof.SbScan.lean ====
/- A running sum along the last axis, as the host's window sum computes it. -/
module

public import proofs.«01_k».proof.Proof.SbModel
public import proofs.«01_k».proof.Proof.SbIdeal
public import proofs.«01_k».proof.Proof.Gen.ReferenceIdeal.Read

@[expose] public section

set_option maxRecDepth 16384

namespace Sb

open Idealize.ShloMosaic Finset

noncomputable section

/-- A left fold of additions is the sum. -/
theorem fold_add {ι : Type} (g : ι → EReal) : ∀ (l : List ι) (v : EReal), l.foldl (fun r n => r + g n) v = v + (l.map g).sum
  | [], v => by simp
  | a :: l, v => by rw [List.foldl_cons, fold_add g l, List.map_cons, List.sum_cons, add_assoc]

/-- The window: one position on each of the first two axes, all on the last. -/
abbrev Win : Shape := ⟨3, ![1, 1, 2048]⟩
/-- The array. -/
abbrev Arr : Shape := ⟨3, ![8, 2048, 2048]⟩

theorem win_at (n : Fin Win.numel) : (Win.rowMajor.symm n 0).val = 0 ∧ (Win.rowMajor.symm n 1).val = 0 ∧ (Win.rowMajor.symm n 2).val = n.val := by
  have e := Shape.rowMajor_val_three (Win.rowMajor.symm n)
  rw [Equiv.apply_symm_apply] at e
  have h0 : (Win.rowMajor.symm n 0).val < 1 := (Win.rowMajor.symm n 0).isLt
  have h1 : (Win.rowMajor.symm n 1).val < 1 := (Win.rowMajor.symm n 1).isLt
  have a0 : (Win.rowMajor.symm n 0).val = 0 := by omega
  have a1 : (Win.rowMajor.symm n 1).val = 0 := by omega
  rw [a0, a1] at e
  refine ⟨a0, a1, ?_⟩
  omega

/-- The window sum of a row of reals, the padding zero. -/
theorem window_row (lo : ℕ) (los his : Fin 3 → ℕ) (hlo : los = ![0, 0, lo]) (x : Arr.Idx → EReal) (hw : Arr.ReduceWindows (![1, 1, 2048] : Fin 3 → ℕ) ![1, 1, 1] los his Arr)
    (h : Fin 8) (r s : Fin 2048) (f : ℕ → ℝ) (hf : ∀ s' : Fin 2048, x (ix3 h r s') = ((f s'.val : ℝ) : EReal)) :
    Ideal.hostReduceWindowAdd (![1, 1, 2048] : Fin 3 → ℕ) ![1, 1, 1] los his hw x 0 (ix3 h r s)
      = ((∑ n ∈ range 2048, if lo ≤ s.val + n ∧ s.val + n - lo < 2048 then f (s.val + n - lo) else 0 : ℝ) : EReal) := by
  subst hlo
  unfold Ideal.hostReduceWindowAdd Host.reduceWindow
  refine (fold_add _ _ _).trans ?_
  rw [zero_add, ← Fin.sum_univ_def]
  refine (sum_of_coe (fun n : Fin Win.numel => if lo ≤ s.val + n.val ∧ s.val + n.val - lo < 2048 then f (s.val + n.val - lo) else 0) fun n => ?_).trans ?_
  · obtain ⟨w0, w1, w2⟩ := win_at n
    dsimp only
    split
    · next hin =>
      have h2 := hin 2
      change lo ≤ s.val * 1 + (Win.rowMajor.symm n 2).val ∧ s.val * 1 + (Win.rowMajor.symm n 2).val - lo < 2048 at h2
      rw [w2, Nat.mul_one] at h2
      rw [if_pos h2]
      refine (congrArg x (funext fun a => Fin.ext ?_)).trans (hf ⟨s.val + n.val - lo, h2.2⟩)
      match a with
      | ⟨0, _⟩ => show h.val * 1 + (Win.rowMajor.symm n 0).val - 0 = h.val; omega
      | ⟨1, _⟩ => show r.val * 1 + (Win.rowMajor.symm n 1).val - 0 = r.val; omega
      | ⟨2, _⟩ => show s.val * 1 + (Win.rowMajor.symm n 2).val - lo = s.val + n.val - lo; omega
    · next hin =>
      rw [if_neg fun hle => hin fun a => ?_]
      · rfl
      · have hr := r.isLt
        have hh := h.isLt
        match a with
        | ⟨0, _⟩ => show 0 ≤ h.val * 1 + (Win.rowMajor.symm n 0).val ∧ h.val * 1 + (Win.rowMajor.symm n 0).val - 0 < 8; omega
        | ⟨1, _⟩ => show 0 ≤ r.val * 1 + (Win.rowMajor.symm n 1).val ∧ r.val * 1 + (Win.rowMajor.symm n 1).val - 0 < 2048; omega
        | ⟨2, _⟩ => show lo ≤ s.val * 1 + (Win.rowMajor.symm n 2).val ∧ s.val * 1 + (Win.rowMajor.symm n 2).val - lo < 2048; omega
  · rw [Finset.sum_range (n := 2048)]
    have e : Win.numel = 2048 := by decide
    exact congrArg _ (Fintype.sum_equiv (finCongr e) _ _ fun n => rfl)

/-- Summed from the position on. -/
theorem window_from (f : ℕ → ℝ) (s : ℕ) (hs : s < 2048) :
    (∑ n ∈ range 2048, if 0 ≤ s + n ∧ s + n - 0 < 2048 then f (s + n - 0) else 0) = ∑ s' ∈ range 2048, if s ≤ s' then f s' else 0 := by
  have e1 := Finset.sum_range_add (fun n => if 0 ≤ s + n ∧ s + n - 0 < 2048 then f (s + n - 0) else 0) (2048 - s) s
  have e2 := Finset.sum_range_add (fun s' => if s ≤ s' then f s' else 0) s (2048 - s)
  rw [show 2048 - s + s = 2048 by omega] at e1
  rw [show s + (2048 - s) = 2048 by omega] at e2
  rw [e1, e2, Finset.sum_eq_zero (s := range s) fun x hx => if_neg (by rw [mem_range] at hx; omega),
    Finset.sum_eq_zero (s := range s) fun x hx => if_neg (by rw [mem_range] at hx; omega), add_zero, zero_add]
  refine Finset.sum_congr rfl fun x hx => ?_
  rw [mem_range] at hx
  rw [if_pos (by omega), if_pos (by omega), Nat.sub_zero]

/-- Summed up to the position. -/
theorem window_upto (f : ℕ → ℝ) (s : ℕ) (hs : s < 2048) :
    (∑ n ∈ range 2048, if 2047 ≤ s + n ∧ s + n - 2047 < 2048 then f (s + n - 2047) else 0) = ∑ s' ∈ range (s + 1), f s' := by
  have e1 := Finset.sum_range_add (fun n => if 2047 ≤ s + n ∧ s + n - 2047 < 2048 then f (s + n - 2047) else 0) (2047 - s) (s + 1)
  rw [show 2047 - s + (s + 1) = 2048 by omega] at e1
  rw [e1, Finset.sum_eq_zero fun x hx => if_neg (by rw [mem_range] at hx; omega), zero_add]
  refine Finset.sum_congr rfl fun x hx => ?_
  rw [mem_range] at hx
  rw [if_pos (by omega), show s + (2047 - s + x) - 2047 = x by omega]

end

end Sb
-- ==== Proof.SbRef.lean ====
/- The reference's forward stages, read as the model's. -/
module

public import proofs.«01_k».proof.Proof.SbHead
public import proofs.«01_k».proof.Proof.SbScan

@[expose] public section

set_option maxRecDepth 16384

namespace Cert.ReferenceIdeal.Sbr

open Cert.ReferenceIdeal Cert.ReferenceIdeal.Gen Cert.ReferenceIdeal.Read Idealize.ShloMosaic Sb Finset

noncomputable section

/-- The two arguments' types. -/
abbrev TQ : Type := (⟨S2048x6144, .bf16⟩ : BufTy).Contents (Elt Ideal)
/-- The second. -/
abbrev TD : Type := (⟨S2048x2048, .bf16⟩ : BufTy).Contents (Elt Ideal)

variable {Q : TQ} {D : TD} (hQ : AllReal (S := ShQ) Q) (hD : AllReal (S := ShD) D) (hc : scale = ((scale.toReal : ℝ) : EReal)) (h : Fin 8)

include hQ in
theorem v8_at (r : Fin 2048) (d : Fin 128) : val_main_v8 (F := Ideal) Q (ix3 h r d) = (((hd Q D h.val).q r.val d.val : ℝ) : EReal) := by
  rw [val_main_v8_apply, val_main_v7_apply, val_main_v6_apply, val_main_v5_apply, val_main_v4_apply]
  refine Eq.trans ?_ (hd_q (D := D) hQ h.isLt r.isLt d.isLt (by omega))
  have hd' := d.isLt
  have hr := r.isLt
  have e1 : ((h.val * 2048 + r.val) * 128 + d.val) / 128 % 2048 = r.val := by omega
  have e2 : ((h.val * 2048 + r.val) * 128 + d.val) / 262144 % 8 = h.val := by omega
  have e3 : ((h.val * 2048 + r.val) * 128 + d.val) % 128 = d.val := by omega
  refine congrArg Q (funext fun a => Fin.ext ?_)
  match a with
  | ⟨0, _⟩ => dsimp; rw [e1, e2, e3]; omega
  | ⟨1, _⟩ => dsimp; rw [e1, e2, e3]; omega

include hQ in
theorem v10_at (r : Fin 2048) (d : Fin 128) : val_main_v10 (F := Ideal) Q (ix3 h r d) = (((hd Q D h.val).k r.val d.val : ℝ) : EReal) := by
  rw [val_main_v10_apply, val_main_v9_apply, val_main_v6_apply, val_main_v5_apply, val_main_v4_apply]
  refine Eq.trans ?_ (hd_k (D := D) hQ h.isLt r.isLt d.isLt (by omega))
  have hd' := d.isLt
  have hr := r.isLt
  have e1 : ((h.val * 2048 + r.val) * 128 + d.val) / 128 % 2048 = r.val := by omega
  have e2 : ((h.val * 2048 + r.val) * 128 + d.val) / 262144 % 8 = h.val := by omega
  have e3 : ((h.val * 2048 + r.val) * 128 + d.val) % 128 = d.val := by omega
  refine congrArg Q (funext fun a => Fin.ext ?_)
  match a with
  | ⟨0, _⟩ => dsimp; rw [e1, e2, e3]; omega
  | ⟨1, _⟩ => dsimp; rw [e1, e2, e3]; omega

include hQ in
theorem v12_at (r : Fin 2048) (d : Fin 128) : val_main_v12 (F := Ideal) Q (ix3 h r d) = (((hd Q D h.val).v r.val d.val : ℝ) : EReal) := by
  rw [val_main_v12_apply, val_main_v11_apply, val_main_v6_apply, val_main_v5_apply, val_main_v4_apply]
  refine Eq.trans ?_ (hd_v (D := D) hQ h.isLt r.isLt d.isLt (by omega))
  have hd' := d.isLt
  have hr := r.isLt
  have e1 : ((h.val * 2048 + r.val) * 128 + d.val) / 128 % 2048 = r.val := by omega
  have e2 : ((h.val * 2048 + r.val) * 128 + d.val) / 262144 % 8 = h.val := by omega
  have e3 : ((h.val * 2048 + r.val) * 128 + d.val) % 128 = d.val := by omega
  refine congrArg Q (funext fun a => Fin.ext ?_)
  match a with
  | ⟨0, _⟩ => dsimp; rw [e1, e2, e3]; omega
  | ⟨1, _⟩ => dsimp; rw [e1, e2, e3]; omega

include hD in
theorem v3_at (r : Fin 2048) (d : Fin 128) : val_main_v3 (F := Ideal) D (ix3 h r d) = (((hd Q D h.val).g r.val d.val : ℝ) : EReal) := by
  rw [val_main_v3_apply, val_main_v2_apply, val_main_v1_apply, val_main_v0_apply]
  refine Eq.trans ?_ (hd_g (Q := Q) hD h.isLt r.isLt d.isLt (by omega))
  refine congrArg D (funext fun a => Fin.ext ?_)
  match a with
  | ⟨0, _⟩ => dsimp; omega
  | ⟨1, _⟩ => dsimp; omega

/-- Every position before its row. -/
theorem v19_at (r s : Fin 2048) : val_main_v19 (F := Ideal) (ix3 (0 : Fin 1) r s) = BitVec.ofBool (decide (s.val < r.val)) := by
  rw [val_main_v19_apply, val_main_v18_apply, val_main_v16_apply, val_main_v17_apply, val_main_v14_apply, val_main_v15_apply, val_main_v13_apply, val_main_v13_apply]
  exact congrArg BitVec.ofBool (slt_small _ _ (by have := s.isLt; show s.val < _; omega) (by have := r.isLt; show r.val < _; omega))

include hQ hc in
/-- The logits. -/
theorem v22_at (r s : Fin 2048) : val_main_v22 (F := Ideal) Q (ix3 h r s) = (((hd Q D h.val).z r.val s.val : ℝ) : EReal) := by
  rw [val_main_v22_apply, val_main_v20_apply, val_main_v21_apply, val_main_cst_apply]
  have e : (∑ k : Fin 128, (val_main_v8 (F := Ideal) Q) (lidx_main_v20 (ix3 h r s) k) * (val_main_v10 (F := Ideal) Q) (ridx_main_v20 (ix3 h r s) k) : EReal)
      = ((∑ k : Fin 128, (hd Q D h.val).q r.val k.val * (hd Q D h.val).k s.val k.val : ℝ) : EReal) := by
    refine sum_of_coe _ fun k => ?_
    rw [EReal.coe_mul]
    refine congrArg₂ (· * ·) ((congrArg _ (funext fun a => ?_)).trans (v8_at (D := D) hQ h r k)) ((congrArg _ (funext fun a => ?_)).trans (v10_at (D := D) hQ h s k))
    · match a with
      | ⟨0, _⟩ => rfl
      | ⟨1, _⟩ => rfl
      | ⟨2, _⟩ => rfl
    · match a with
      | ⟨0, _⟩ => rfl
      | ⟨1, _⟩ => rfl
      | ⟨2, _⟩ => rfl
  refine (congrArg₂ (fun a b : EReal => a * b) e hc).trans ?_
  rw [← EReal.coe_mul]
  rfl

/-- The printed zero. -/
theorem zero_word : FloatOps.ofBits (F := Ideal) .f32 0x00000000#32 = ((0 : ℝ) : EReal) := by simp

/-- The printed infinity. -/
theorem inf_word : FloatOps.ofBits (F := Ideal) .f32 0x7F800000#32 = (⊤ : EReal) := by
  show Ideal.ofBits .f32 0x7F800000#32 = ⊤
  simp [Ideal.ofBits, Ideal.ieee]

/-- A finite number equals itself. -/
theorem une_self (a : ℝ) : FloatOps.cmpf (F := Ideal) (φ := .f32) .une (a : EReal) (a : EReal) = 0#1 := by
  simp [Ideal.cmpf_def, Ideal.cmp]

/-- A finite number is not the printed infinity. -/
theorem oeq_inf (a : ℝ) : FloatOps.cmpf (F := Ideal) (φ := .f32) .oeq (a : EReal) (FloatOps.ofBits (F := Ideal) .f32 0x7F800000#32) = 0#1 := by
  rw [inf_word]
  simp [Ideal.cmpf_def, Ideal.cmp]

/-- The host's softplus, at a finite logit. -/
theorem host_softplus (a : ℝ) : Scalar.select (FloatOps.cmpf (F := Ideal) (φ := .f32) .une (FloatOps.subf (F := Ideal) (φ := .f32) (a : EReal) (FloatOps.ofBits (F := Ideal) .f32 0x00000000#32)) (FloatOps.subf (F := Ideal) (φ := .f32) (a : EReal) (FloatOps.ofBits (F := Ideal) .f32 0x00000000#32)))
    (FloatOps.addf (F := Ideal) (φ := .f32) (a : EReal) (FloatOps.ofBits (F := Ideal) .f32 0x00000000#32))
    (FloatOps.addf (F := Ideal) (φ := .f32) (FloatOps.maximumf (F := Ideal) (φ := .f32) (a : EReal) (FloatOps.ofBits (F := Ideal) .f32 0x00000000#32))
      (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) (a : EReal) (FloatOps.ofBits (F := Ideal) .f32 0x00000000#32)))))))
    = ((softplus a : ℝ) : EReal) := by
  have e : FloatOps.subf (F := Ideal) (φ := .f32) (a : EReal) (FloatOps.ofBits (F := Ideal) .f32 0x00000000#32) = (a : EReal) := by
    rw [zero_word]
    show (a : EReal) - ((0 : ℝ) : EReal) = a
    rw [← EReal.coe_sub, sub_zero]
  rw [e, une_self]
  refine Eq.trans ?_ (softplus_coe a)
  rw [zero_sub]
  rw [zero_word]
  rfl

/-- The host's derivative of the softplus, at a finite logit. -/
theorem host_sig (a b : ℝ) : FloatOps.hostUnary (F := Ideal) (φ := .f32) .exp (FloatOps.subf (F := Ideal) (φ := .f32) (Scalar.select (FloatOps.cmpf (F := Ideal) (φ := .f32) .oeq (a : EReal) (FloatOps.ofBits (F := Ideal) .f32 0x7F800000#32)) (FloatOps.ofBits (F := Ideal) .f32 0x00000000#32) (a : EReal))
      (Scalar.select (FloatOps.cmpf (F := Ideal) (φ := .f32) .oeq (b : EReal) (FloatOps.ofBits (F := Ideal) .f32 0x7F800000#32)) (FloatOps.ofBits (F := Ideal) .f32 0x00000000#32) (b : EReal))) = ((Real.exp (a - b) : ℝ) : EReal) := by
  rw [oeq_inf, oeq_inf]
  show Ideal.exp ((a : EReal) - (b : EReal)) = _
  rw [← EReal.coe_sub, Ideal.exp_coe]

include hQ hc in
theorem v23_at (r s : Fin 2048) : val_main_v23_0 (F := Ideal) Q (ix3 h r s) = ((softplus ((hd Q D h.val).z r.val s.val) : ℝ) : EReal) := by
  rw [val_main_v23_0_apply, val_main_call0_v4_apply, val_main_call0_v6_apply, val_main_call0_v11_apply, val_main_call0_v3_apply, val_main_call0_v1_apply, val_main_call0_v10_apply,
    val_main_call0_v9_apply, val_main_call0_v8_apply, val_main_call0_v7_apply, val_main_call0_v3_apply, val_main_call0_v0_apply, val_main_call0_v2_apply, val_main_call0_v5_apply,
    val_main_call0_cst_apply, v22_at (D := D) hQ hc h r s]
  exact host_softplus _

include hQ hc in
theorem v23_1_at (r s : Fin 2048) : val_main_v23_1 (F := Ideal) Q (ix3 h r s) = (((hd Q D h.val).sig r.val s.val : ℝ) : EReal) := by
  rw [val_main_v23_1_apply, val_main_call0_v21_apply, val_main_call0_v16_apply, val_main_call0_v20_apply, val_main_call0_v14_apply, val_main_call0_v18_apply, val_main_call0_v15_apply,
    val_main_call0_v19_apply, val_main_call0_v13_apply, val_main_call0_v17_apply, val_main_call0_cst_0_apply, val_main_call0_cst_1_apply, val_main_call0_cst_2_apply, val_main_call0_cst_3_apply,
    v22_at (D := D) hQ hc h r s, v23_at (D := D) hQ hc h r s]
  exact host_sig _ _

theorem v25_1_at (r s : Fin 2048) : val_main_v25_1 (F := Ideal) (ix3 h r s) = BitVec.ofBool (decide (s.val < r.val)) := by
  rw [val_main_v25_1_apply, ← v19_at r s]
  refine congrArg _ (funext fun a => ?_)
  match a with
  | ⟨0, _⟩ => rfl
  | ⟨1, _⟩ => rfl
  | ⟨2, _⟩ => rfl

theorem v31_1_at (r s : Fin 2048) : val_main_v31_1 (F := Ideal) (ix3 h r s) = BitVec.ofBool (decide (s.val < r.val)) := by
  rw [val_main_v31_1_apply, ← v19_at r s]
  refine congrArg _ (funext fun a => ?_)
  match a with
  | ⟨0, _⟩ => rfl
  | ⟨1, _⟩ => rfl
  | ⟨2, _⟩ => rfl

include hQ hc in
theorem v25_at (r s : Fin 2048) : val_main_v25_0 (F := Ideal) Q (ix3 h r s) = (((hd Q D h.val).lnb r.val s.val : ℝ) : EReal) := by
  rw [val_main_v25_0_apply, v25_1_at, val_main_v24_apply, v23_at (D := D) hQ hc h r s, val_main_call1_v2_apply, val_main_call1_v0_apply, val_main_cst_0_apply, zero_word, select_decide]
  show (if s.val < r.val then -((_ : ℝ) : EReal) else ((0 : ℝ) : EReal)) = _
  rw [← EReal.coe_neg, ite_coe, Head.lnb, zero_sub]

include hQ hc in
theorem v26_at (r s : Fin 2048) : val_main_v26 (F := Ideal) Q (ix3 h r s) = ((∑ s' ∈ range 2048, if s.val ≤ s' then (hd Q D h.val).lnb r.val s' else 0 : ℝ) : EReal) := by
  rw [← window_from _ _ s.isLt, ← window_row 0 ![0, 0, 0] ![0, 0, 2047] rfl (val_main_v25_0 (F := Ideal) Q) reduceWindows_S8x2048x2048_S8x2048x2048_w1s1p0_0_w1s1p0_0_w2048s1p0_2047 h r s _ fun s' => v25_at hQ hc h r s']
  unfold val_main_v26 Host.reduceWindowAdd
  rw [val_main_call2_v0_apply, val_main_call2_cst_apply, zero_word]
  rfl

include hQ hc in
/-- The sum of the logarithms strictly after a position. -/
theorem v27_at (r s : Fin 2048) : val_main_v27 (F := Ideal) Q (ix3 h r s)
    = (((hd Q D h.val).tot r.val - ∑ s' ∈ range (s.val + 1), (hd Q D h.val).lnb r.val s' : ℝ) : EReal) := by
  rw [val_main_v27_apply, v26_at (D := D) hQ hc h r s, v25_at (D := D) hQ hc h r s, ← Head.after_eq _ _ _ s.isLt]
  exact (EReal.coe_sub _ _).symm

include hQ hc in
theorem neg_at (r s : Fin 2048) : val_main_call3_v0 (F := Ideal) Q (ix3 h r s) = ((-(hd Q D h.val).z r.val s.val : ℝ) : EReal) := by
  rw [val_main_call3_v0_apply, v22_at (D := D) hQ hc h r s]
  exact (EReal.coe_neg _).symm

include hQ hc in
theorem sp_neg_at (r s : Fin 2048) : val_main_call3_v1_0 (F := Ideal) Q (ix3 h r s) = ((softplus (-(hd Q D h.val).z r.val s.val) : ℝ) : EReal) := by
  rw [val_main_call3_v1_0_apply, val_main_call3_call0_v4_apply, val_main_call3_call0_v6_apply, val_main_call3_call0_v11_apply, val_main_call3_call0_v3_apply, val_main_call3_call0_v1_apply, val_main_call3_call0_v10_apply,
    val_main_call3_call0_v9_apply, val_main_call3_call0_v8_apply, val_main_call3_call0_v7_apply, val_main_call3_call0_v3_apply, val_main_call3_call0_v0_apply, val_main_call3_call0_v2_apply, val_main_call3_call0_v5_apply,
    val_main_call3_call0_cst_apply, neg_at (D := D) hQ hc h r s]
  exact host_softplus _

include hQ hc in
theorem v28_1_at (r s : Fin 2048) : val_main_v28_1 (F := Ideal) Q (ix3 h r s) = ((1 - (hd Q D h.val).sig r.val s.val : ℝ) : EReal) := by
  rw [val_main_v28_1_apply, val_main_call3_call0_v21_apply, val_main_call3_call0_v16_apply, val_main_call3_call0_v20_apply, val_main_call3_call0_v14_apply, val_main_call3_call0_v18_apply, val_main_call3_call0_v15_apply,
    val_main_call3_call0_v19_apply, val_main_call3_call0_v13_apply, val_main_call3_call0_v17_apply, val_main_call3_call0_cst_0_apply, val_main_call3_call0_cst_1_apply, val_main_call3_call0_cst_2_apply, val_main_call3_call0_cst_3_apply,
    neg_at (D := D) hQ hc h r s, sp_neg_at (D := D) hQ hc h r s]
  refine (host_sig _ _).trans (congrArg _ ?_)
  have := sig_add ((hd Q D h.val).z r.val s.val)
  rw [Head.sig]
  linarith

/-- The weight before the mask. -/
def aw (H : Head) (r s : ℕ) : ℝ := Real.exp (H.z r s - softplus (H.z r s) + (H.tot r - ∑ s' ∈ range (s + 1), H.lnb r s'))

theorem w_aw (H : Head) (r s : ℕ) : H.w r s = if s < r then aw H r s else 0 := rfl

include hQ hc in
theorem v30_at (r s : Fin 2048) : val_main_v30 (F := Ideal) Q (ix3 h r s) = ((aw (hd Q D h.val) r.val s.val : ℝ) : EReal) := by
  rw [val_main_v30_apply, val_main_v29_apply, val_main_v28_0_apply, sp_neg_at (D := D) hQ hc h r s, v27_at (D := D) hQ hc h r s]
  show Ideal.exp (-((_ : ℝ) : EReal) + ((_ : ℝ) : EReal)) = _
  rw [← EReal.coe_neg, ← EReal.coe_add, Ideal.exp_coe, softplus_neg, neg_sub]
  rfl

include hQ hc in
theorem v31_at (r s : Fin 2048) : val_main_v31_0 (F := Ideal) Q (ix3 h r s) = (((hd Q D h.val).w r.val s.val : ℝ) : EReal) := by
  rw [val_main_v31_0_apply, v31_1_at, v30_at (D := D) hQ hc h r s, val_main_call4_v2_apply, val_main_call4_v0_apply, val_main_cst_1_apply, zero_word, select_decide]
  exact ite_coe _ _ _

end

end Cert.ReferenceIdeal.Sbr
-- ==== Proof.SbHost.lean ====
/- The row sums that the host hands to the call. -/
module

public import proofs.«01_k».proof.Proof.SbBlocks
public import proofs.«01_k».proof.Proof.SbRef
public import Idealize.ShloMosaic.Lib.Claim

@[expose] public section

set_option maxRecDepth 16384

namespace Cert.KernelIdeal.Sbk

open Cert.KernelIdeal Cert.KernelIdeal.Gen Idealize.ShloMosaic Idealize.ShloMosaic.TcCoe Sb Finset

noncomputable section

variable (m : (ℓ : Loc nD τ sig) → Buf (Elt Ideal) ℓ) (c : Dev nD)

theorem argT_eq : argT m c = shapeCast S2048x1024 (broadcastInDim S2048x8x128 ![0, 1, 2] bcast_S2048x8x1_S2048x8x128_0_1_2 (broadcastInDim S2048x8x1 ![0, 1] bcast_S2048x8_S2048x8x1_0_1
    (transpose S2048x8 [1, 0] (Host.reduceAdd (F := Ideal) (φ := .f32) (Cert.ReferenceIdeal.Read.val_main_v25_0 (F := Ideal) (argQ m c)) (constant (F := Ideal) S_ .f32 0x00000000#32) reducesTo_S8x2048x2048_S8x2048_d2 h_S_) transposes_S8x2048_S2048x8_1_0))) shapeCasts_S2048x8x128_S2048x1024 := by
  show V m c (Pipeline.arrRef spec0 4) = _
  entry_read
  rfl

/-- Each row's sum, repeated along its head's lanes. -/
theorem spread (x : S8x2048x2048.Idx → EReal) (r : Fin 2048) (h : Fin 8) (d : Fin 128) (hx : 128 * h.val + d.val < 1024) :
    shapeCast S2048x1024 (broadcastInDim S2048x8x128 ![0, 1, 2] bcast_S2048x8x1_S2048x8x128_0_1_2 (broadcastInDim S2048x8x1 ![0, 1] bcast_S2048x8_S2048x8x1_0_1
      (transpose S2048x8 [1, 0] (Host.reduceAdd (F := Ideal) (φ := .f32) x (constant (F := Ideal) S_ .f32 0x00000000#32) reducesTo_S8x2048x2048_S8x2048_d2 h_S_) transposes_S8x2048_S2048x8_1_0))) shapeCasts_S2048x8x128_S2048x1024
      (ix2 r ⟨128 * h.val + d.val, hx⟩) = ∑ s : Fin 2048, x (ix3 h r s) := by
  pointwise

variable {m c} (hc : scale = ((scale.toReal : ℝ) : EReal)) (hQ : AllReal (S := ShQ) (argQ m c))
include hc hQ

theorem totals : Totals m c := by
  intro r h d
  rw [argT_eq, spread, Head.tot, Finset.sum_range]
  exact sum_of_coe _ fun s => Cert.ReferenceIdeal.Sbr.v25_at hQ hc h r s

end

end Cert.KernelIdeal.Sbk
-- ==== Proof.SbRefBack.lean ====
/- The reference's backward stages and results, read as the model's. -/
module

public import proofs.«01_k».proof.Proof.SbRef

@[expose] public section

set_option maxRecDepth 16384

namespace Cert.ReferenceIdeal.Sbr

open Cert.ReferenceIdeal Cert.ReferenceIdeal.Gen Cert.ReferenceIdeal.Read Idealize.ShloMosaic Sb Finset

noncomputable section

variable {Q : TQ} {D : TD} (hQ : AllReal (S := ShQ) Q) (hD : AllReal (S := ShD) D) (hc : scale = ((scale.toReal : ℝ) : EReal)) (h : Fin 8)

/-- A sum of products of reals. -/
theorem dot_of {n : ℕ} {a b : Fin n → EReal} (f g : Fin n → ℝ) (ha : ∀ i, a i = ((f i : ℝ) : EReal)) (hb : ∀ i, b i = ((g i : ℝ) : EReal)) :
    (∑ i, a i * b i : EReal) = ((∑ i, f i * g i : ℝ) : EReal) :=
  sum_of_coe _ fun i => by rw [ha, hb, ← EReal.coe_mul]

include hQ hD in
theorem v35_at (r s : Fin 2048) : val_main_v35 (F := Ideal) Q D (ix3 h r s) = (((hd Q D h.val).gv r.val s.val : ℝ) : EReal) := by
  rw [val_main_v35_apply]
  refine dot_of (fun k : Fin 128 => (hd Q D h.val).g r.val k.val) (fun k => (hd Q D h.val).v s.val k.val) (fun k => (congrArg _ (funext fun a => ?_)).trans (v3_at hD h r k)) (fun k => (congrArg _ (funext fun a => ?_)).trans (v12_at (D := D) hQ h s k))
  · match a with
    | ⟨0, _⟩ => rfl
    | ⟨1, _⟩ => rfl
    | ⟨2, _⟩ => rfl
  · match a with
    | ⟨0, _⟩ => rfl
    | ⟨1, _⟩ => rfl
    | ⟨2, _⟩ => rfl

include hQ hD hc in
theorem v37_at (r s : Fin 2048) : val_main_v37 (F := Ideal) Q D (ix3 h r s) = (((hd Q D h.val).dl r.val s.val : ℝ) : EReal) := by
  rw [val_main_v37_apply, val_main_v36_apply, v31_1_at, v35_at hQ hD h r s, v30_at (D := D) hQ hc h r s, val_main_call5_v0_apply, val_main_call5_cst_apply, zero_word, select_decide, ite_coe]
  show ((_ : ℝ) : EReal) * ((_ : ℝ) : EReal) = _
  rw [← EReal.coe_mul, Head.dl, w_aw]
  split
  · rw [mul_comm]
  · rw [zero_mul, zero_mul]

include hQ hD hc in
theorem v40_at (r s : Fin 2048) : val_main_v40 (F := Ideal) Q D (ix3 h r s) = ((∑ s' ∈ range (s.val + 1), (hd Q D h.val).dl r.val s' : ℝ) : EReal) := by
  rw [← window_upto _ _ s.isLt, ← window_row 2047 ![0, 0, 2047] ![0, 0, 0] rfl (val_main_v37 (F := Ideal) Q D) reduceWindows_S8x2048x2048_S8x2048x2048_w1s1p0_0_w1s1p0_0_w2048s1p2047_0 h r s _ fun s' => v37_at hQ hD hc h r s']
  unfold val_main_v40 Host.reduceWindowAdd
  rw [val_main_call7_v0_apply, val_main_call7_cst_apply, zero_word]
  rfl

include hQ hD hc in
theorem v41_at (r s : Fin 2048) : val_main_v41 (F := Ideal) Q D (ix3 h r s) = ((∑ s' ∈ range s.val, (hd Q D h.val).dl r.val s' : ℝ) : EReal) := by
  rw [val_main_v41_apply, val_main_v39_apply, v37_at hQ hD hc h r s, v40_at hQ hD hc h r s]
  show -((_ : ℝ) : EReal) + ((_ : ℝ) : EReal) = _
  rw [← EReal.coe_neg, ← EReal.coe_add, Finset.sum_range_succ]
  exact congrArg _ (by ring)

include hQ hD hc in
/-- The gradient of the logits. -/
theorem v47_at (r s : Fin 2048) : val_main_v47 (F := Ideal) Q D (ix3 h r s) = (((hd Q D h.val).dz r.val s.val : ℝ) : EReal) := by
  rw [val_main_v47_apply, val_main_v45_apply, val_main_v38_apply, val_main_call6_v1_apply, val_main_call6_v0_apply, val_main_v44_apply, val_main_v43_apply, val_main_v42_apply,
    v37_at hQ hD hc h r s, v41_at hQ hD hc h r s, v28_1_at (D := D) hQ hc h r s, v23_1_at (D := D) hQ hc h r s, v25_1_at, val_main_call8_v0_apply, val_main_call8_cst_apply, zero_word, select_decide, ite_coe,
    val_main_v46_apply, val_main_cst_2_apply]
  show (-(-((_ : ℝ) : EReal) * ((_ : ℝ) : EReal)) + -((_ : ℝ) : EReal) * ((_ : ℝ) : EReal)) * scale = _
  rw [hc, ← EReal.coe_neg, ← EReal.coe_mul, ← EReal.coe_neg, ← EReal.coe_neg, ← EReal.coe_mul, ← EReal.coe_add, ← EReal.coe_mul, Head.dz]
  refine congrArg _ (congrArg (· * (hd Q D h.val).c) ?_)
  split
  · ring
  · next hs => rw [Head.dl_masked _ hs]; ring

include hQ hD hc in
theorem v49_at (r : Fin 2048) (d : Fin 128) : val_main_v49 (F := Ideal) Q D (ix3 h r d) = (((hd Q D h.val).dq r.val d.val : ℝ) : EReal) := by
  rw [val_main_v49_apply, Head.dq, Finset.sum_range]
  refine dot_of (fun k : Fin 2048 => (hd Q D h.val).dz r.val k.val) (fun k => (hd Q D h.val).k k.val d.val) (fun k => (congrArg _ (funext fun a => ?_)).trans (v47_at hQ hD hc h r k)) (fun k => (congrArg _ (funext fun a => ?_)).trans (v10_at (D := D) hQ h k d))
  · match a with
    | ⟨0, _⟩ => rfl
    | ⟨1, _⟩ => rfl
    | ⟨2, _⟩ => rfl
  · match a with
    | ⟨0, _⟩ => rfl
    | ⟨1, _⟩ => rfl
    | ⟨2, _⟩ => rfl

include hQ hD hc in
theorem v48_at (s : Fin 2048) (d : Fin 128) : val_main_v48 (F := Ideal) Q D (ix3 h s d) = (((hd Q D h.val).dk s.val d.val : ℝ) : EReal) := by
  rw [val_main_v48_apply, Head.dk, Finset.sum_range]
  refine dot_of (fun k : Fin 2048 => (hd Q D h.val).dz k.val s.val) (fun k => (hd Q D h.val).q k.val d.val) (fun k => (congrArg _ (funext fun a => ?_)).trans (v47_at hQ hD hc h k s)) (fun k => (congrArg _ (funext fun a => ?_)).trans (v8_at (D := D) hQ h k d))
  · match a with
    | ⟨0, _⟩ => rfl
    | ⟨1, _⟩ => rfl
    | ⟨2, _⟩ => rfl
  · match a with
    | ⟨0, _⟩ => rfl
    | ⟨1, _⟩ => rfl
    | ⟨2, _⟩ => rfl

include hQ hD hc in
theorem v34_at (s : Fin 2048) (d : Fin 128) : val_main_v34 (F := Ideal) Q D (ix3 h s d) = (((hd Q D h.val).dv s.val d.val : ℝ) : EReal) := by
  rw [val_main_v34_apply, val_main_v33_apply, Head.dv, Finset.sum_range]
  refine (dot_of (fun k : Fin 2048 => (hd Q D h.val).g k.val d.val) (fun k => (hd Q D h.val).w k.val s.val) (fun k => (congrArg _ (funext fun a => ?_)).trans (v3_at hD h k d)) (fun k => (congrArg _ (funext fun a => ?_)).trans (v31_at (D := D) hQ hc h k s))).trans ?_
  · match a with
    | ⟨0, _⟩ => rfl
    | ⟨1, _⟩ => rfl
    | ⟨2, _⟩ => rfl
  · match a with
    | ⟨0, _⟩ => rfl
    | ⟨1, _⟩ => rfl
    | ⟨2, _⟩ => rfl
  · exact congrArg _ (Finset.sum_congr rfl fun x _ => mul_comm _ _)

include hQ hD hc in
theorem v52_at (r : Fin 2048) (d : Fin 128) (hx : 128 * h.val + d.val < 1024) : val_main_v52 (F := Ideal) Q D (ix2 r ⟨128 * h.val + d.val, hx⟩) = (((hd Q D h.val).dq r.val d.val : ℝ) : EReal) := by
  rw [val_main_v52_apply, val_main_v51_apply, val_main_v50_apply]
  refine Eq.trans ?_ (v49_at hQ hD hc h r d)
  have hd' := d.isLt
  have hh := h.isLt
  have hr := r.isLt
  refine congrArg (val_main_v49 (F := Ideal) Q D) (funext fun a => Fin.ext ?_)
  match a with
  | ⟨0, _⟩ => dsimp; omega
  | ⟨1, _⟩ => dsimp; omega
  | ⟨2, _⟩ => dsimp; omega

include hQ hD hc in
theorem v55_at (r : Fin 2048) (d : Fin 128) (hx : 128 * h.val + d.val < 1024) : val_main_v55 (F := Ideal) Q D (ix2 r ⟨128 * h.val + d.val, hx⟩) = (((hd Q D h.val).dk r.val d.val : ℝ) : EReal) := by
  rw [val_main_v55_apply, val_main_v54_apply, val_main_v53_apply]
  refine Eq.trans ?_ (v48_at hQ hD hc h r d)
  have hd' := d.isLt
  have hh := h.isLt
  have hr := r.isLt
  refine congrArg (val_main_v48 (F := Ideal) Q D) (funext fun a => Fin.ext ?_)
  match a with
  | ⟨0, _⟩ => dsimp; omega
  | ⟨1, _⟩ => dsimp; omega
  | ⟨2, _⟩ => dsimp; omega

include hQ hD hc in
theorem v58_at (r : Fin 2048) (d : Fin 128) (hx : 128 * h.val + d.val < 1024) : val_main_v58 (F := Ideal) Q D (ix2 r ⟨128 * h.val + d.val, hx⟩) = (((hd Q D h.val).dv r.val d.val : ℝ) : EReal) := by
  rw [val_main_v58_apply, val_main_v57_apply, val_main_v56_apply]
  refine Eq.trans ?_ (v34_at hQ hD hc h r d)
  have hd' := d.isLt
  have hh := h.isLt
  have hr := r.isLt
  refine congrArg (val_main_v34 (F := Ideal) Q D) (funext fun a => Fin.ext ?_)
  match a with
  | ⟨0, _⟩ => dsimp; omega
  | ⟨1, _⟩ => dsimp; omega
  | ⟨2, _⟩ => dsimp; omega

end

end Cert.ReferenceIdeal.Sbr
-- ==== Proof.SbArrays.lean ====
/- The kernel's three result arrays and the reference's, entry by entry, and their equality. -/
module

public import proofs.«01_k».proof.Proof.SbHost
public import proofs.«01_k».proof.Proof.SbRefBack
public import proofs.«01_k».proof.Proof.Gen.KernelIdeal.Value

@[expose] public section

set_option maxRecDepth 16384

namespace Cert.KernelIdeal.Sbk

open Cert.KernelIdeal Cert.KernelIdeal.Gen Idealize.ShloMosaic Idealize.ShloMosaic.TcCoe Sb Finset

noncomputable section

variable {m : (ℓ : Loc nD τ sig) → Buf (Elt Ideal) ℓ} {c : Dev nD}

/-- The scale is a real number. -/
theorem scale_real : scale = ((scale.toReal : ℝ) : EReal) := by
  refine (EReal.coe_toReal ?_ ?_).symm
  · simp [Ideal.ofBits, Ideal.ieee]
    rw [← EReal.coe_mul]; exact EReal.coe_ne_top _
  · simp [Ideal.ofBits, Ideal.ieee]
    rw [← EReal.coe_mul]; exact EReal.coe_ne_bot _

variable (hQ : AllReal (S := ShQ) (argQ m c)) (hD : AllReal (S := ShD) (argD m c))
include hQ hD

theorem points (n : ℕ) (hn : n < cfg0.N) : Ends (dev m c (n / 4)) (512 * (n % 4)) (outsAt0 m c n hn).1 (outsAt0 m c n hn).2.2.2.1 (outsAt0 m c n hn).2.2.2.2
    ∧ (n % 4 = 3 → Stores (dev m c (n / 4)) (outsAt0 m c n hn).2.1 (outsAt0 m c n hn).2.2.1) :=
  after_point scale_real hQ hD (totals scale_real hQ) n hn

theorem dq_at (r : Fin 2048) (h : Fin 8) (d : Fin 128) (hx : 128 * h.val + d.val < 1024) :
    Value.G5 m c (ix2 r ⟨128 * h.val + d.val, hx⟩) = (((dev m c h.val).dq r.val d.val : ℝ) : EReal) := by
  have hr := r.isLt
  have hh := h.isLt
  have hd' := d.isLt
  have hp : Value.pt5Of (ix2 r ⟨128 * h.val + d.val, hx⟩) = 4 * h.val + r.val / 512 := by
    show 1 * (r.val / 512 - 0) + 4 * ((128 * h.val + d.val) / 128 - 0) = _
    omega
  have hN : Value.pt5Of (ix2 r ⟨128 * h.val + d.val, hx⟩) < cfg0.N := by
    rw [hp, show cfg0.N = 32 from N_0]; omega
  have hl : Value.loc5Of (ix2 r ⟨128 * h.val + d.val, hx⟩) = ix2 ⟨r.val % 512, Nat.mod_lt _ (by decide)⟩ d := by
    funext a
    refine Fin.ext ?_
    match a with
    | ⟨0, _⟩ => rfl
    | ⟨1, _⟩ => exact (by omega : (128 * h.val + d.val) % 128 = d.val)
  unfold Value.G5
  rw [dif_pos hN, ← Value.outsAt0_sweep m c _ hN, hl]
  refine ((points hQ hD _ hN).1.dq ⟨r.val % 512, Nat.mod_lt _ (by decide)⟩ d).trans ?_
  rw [hp, show (4 * h.val + r.val / 512) / 4 = h.val by omega, show 512 * ((4 * h.val + r.val / 512) % 4) + r.val % 512 = r.val by omega]

theorem dk_at (r : Fin 2048) (h : Fin 8) (d : Fin 128) (hx : 128 * h.val + d.val < 1024) :
    Value.G6 m c (ix2 r ⟨128 * h.val + d.val, hx⟩) = (((dev m c h.val).dk r.val d.val : ℝ) : EReal) := by
  have hr := r.isLt
  have hh := h.isLt
  have hd' := d.isLt
  have hp : Value.pt6Of (ix2 r ⟨128 * h.val + d.val, hx⟩) = 4 * h.val + 3 := by
    show 4 * (8 * (r.val / 2048 - 0) + 1 * ((128 * h.val + d.val) / 128 - 0)) + 3 = _
    omega
  have hN : Value.pt6Of (ix2 r ⟨128 * h.val + d.val, hx⟩) < cfg0.N := by
    rw [hp, show cfg0.N = 32 from N_0]; omega
  have hl : Value.loc6Of (ix2 r ⟨128 * h.val + d.val, hx⟩) = ix2 r d := by
    funext a
    refine Fin.ext ?_
    match a with
    | ⟨0, _⟩ => exact Nat.mod_eq_of_lt hr
    | ⟨1, _⟩ => exact (by omega : (128 * h.val + d.val) % 128 = d.val)
  unfold Value.G6
  rw [dif_pos hN, ← Value.outsAt0_sweep m c _ hN, hl]
  refine (((points hQ hD _ hN).2 (by rw [hp]; omega)).dk r d).trans ?_
  rw [hp, show (4 * h.val + 3) / 4 = h.val by omega]

theorem dv_at (r : Fin 2048) (h : Fin 8) (d : Fin 128) (hx : 128 * h.val + d.val < 1024) :
    Value.G7 m c (ix2 r ⟨128 * h.val + d.val, hx⟩) = (((dev m c h.val).dv r.val d.val : ℝ) : EReal) := by
  have hr := r.isLt
  have hh := h.isLt
  have hd' := d.isLt
  have hp : Value.pt7Of (ix2 r ⟨128 * h.val + d.val, hx⟩) = 4 * h.val + 3 := by
    show 4 * (8 * (r.val / 2048 - 0) + 1 * ((128 * h.val + d.val) / 128 - 0)) + 3 = _
    omega
  have hN : Value.pt7Of (ix2 r ⟨128 * h.val + d.val, hx⟩) < cfg0.N := by
    rw [hp, show cfg0.N = 32 from N_0]; omega
  have hl : Value.loc7Of (ix2 r ⟨128 * h.val + d.val, hx⟩) = ix2 r d := by
    funext a
    refine Fin.ext ?_
    match a with
    | ⟨0, _⟩ => exact Nat.mod_eq_of_lt hr
    | ⟨1, _⟩ => exact (by omega : (128 * h.val + d.val) % 128 = d.val)
  unfold Value.G7
  rw [dif_pos hN, ← Value.outsAt0_sweep m c _ hN, hl]
  refine (((points hQ hD _ hN).2 (by rw [hp]; omega)).dv r d).trans ?_
  rw [hp, show (4 * h.val + 3) / 4 = h.val by omega]

omit hQ hD in
/-- An index of a result is a row, a head and a lane. -/
theorem split_index (y : S2048x1024.Idx) : ∃ (r : Fin 2048) (h : Fin 8) (d : Fin 128) (hx : 128 * h.val + d.val < 1024), y = ix2 r ⟨128 * h.val + d.val, hx⟩ := by
  have h1 : (y 1).val < 1024 := (y 1).isLt
  refine ⟨y 0, ⟨(y 1).val / 128, by omega⟩, ⟨(y 1).val % 128, Nat.mod_lt _ (by decide)⟩, by dsimp only; omega, ?_⟩
  funext a
  refine Fin.ext ?_
  match a with
  | ⟨0, _⟩ => rfl
  | ⟨1, _⟩ => show (y 1).val = 128 * ((y 1).val / 128) + (y 1).val % 128; omega

theorem dq_eq : Cert.ReferenceIdeal.Read.val_main_v52 (F := Ideal) (argQ m c) (argD m c) = Value.G5 m c := by
  funext y
  obtain ⟨r, h, d, hx, rfl⟩ := split_index y
  exact (Cert.ReferenceIdeal.Sbr.v52_at hQ hD scale_real h r d hx).trans (dq_at hQ hD r h d hx).symm

theorem dk_eq : Cert.ReferenceIdeal.Read.val_main_v55 (F := Ideal) (argQ m c) (argD m c) = Value.G6 m c := by
  funext y
  obtain ⟨r, h, d, hx, rfl⟩ := split_index y
  exact (Cert.ReferenceIdeal.Sbr.v55_at hQ hD scale_real h r d hx).trans (dk_at hQ hD r h d hx).symm

theorem dv_eq : Cert.ReferenceIdeal.Read.val_main_v58 (F := Ideal) (argQ m c) (argD m c) = Value.G7 m c := by
  funext y
  obtain ⟨r, h, d, hx, rfl⟩ := split_index y
  exact (Cert.ReferenceIdeal.Sbr.v58_at hQ hD scale_real h r d hx).trans (dv_at hQ hD r h d hx).symm

end

end Cert.KernelIdeal.Sbk
-- ==== Proof.FfInput.lean ====
/- The gradient of the input of the gate and the up projection: the call's result array is the reference's. -/
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Cert.Kernel2Ideal.Ff

open Cert.Kernel2Ideal Cert.Kernel2Ideal.Gen Idealize.ShloMosaic Idealize.ShloMosaic.TcCoe Idealize.SL.Sem
open Idealize.ShloMosaic.Pipeline (Dat)
open Cert.Reference2Ideal.Read

variable (m : (ℓ : Loc nD τ sig) → Buf (Elt Ideal) ℓ)

/-- The reference's result on the kernel's arguments. -/
abbrev goal (c : Dev nD) := val_main_v9 (F := Ideal) (m ((c : Thread nD τ).loc main_arg0)) (m ((c : Thread nD τ).loc main_arg1))
  (m ((c : Thread nD τ).loc main_arg2)) (m ((c : Thread nD τ).loc main_arg3))

/-- Where each window's block lies, at every grid point. -/
theorem idx : ∀ t : Fin cfg0.N, win0_0.index t = ![t.val % 8, t.val / 8, 0] ∧ win0_1.index t = ![t.val % 8, t.val / 8, 0] ∧ win0_2.index t = ![t.val % 8, 0, 0]
    ∧ win0_3.index t = ![t.val % 8, 0, 0] ∧ win0_4.index t = ![t.val / 8, 0] ∧ t.val / 8 < 2 :=
  (by decide +kernel : ∀ t : Fin grid0.N, _)

/-- The accumulator starts at zero. -/
theorem start (j) : k0_pay1 (F := Ideal) j = 0 := by pointwise [k0_pay1]

/-- A grid point adds the products of its block of the hidden units. -/
theorem step (acc x0 x1 x2 x3 j) : k0_pay3 (F := Ideal) (k0_pay2 acc x0 x2) x1 x3 j
    = acc j + ∑ k : Fin 704, (x0 (ix3 0 (j 0) k) * x2 (ix3 0 (j 1) k) + x1 (ix3 0 (j 0) k) * x3 (ix3 0 (j 1) k)) := by
  pointwise [k0_pay3, k0_pay2]
  rw [Finset.sum_add_distrib, add_assoc]

/-- The reference's entry as one sum over the hidden units. -/
theorem whole (X0 X1 X2 X3 j) : val_main_v9 (F := Ideal) X0 X1 X2 X3 j
    = ∑ l : Fin 5632, (X0 (ix2 (j 0) l) * X2 (ix2 (j 1) l) + X1 (ix2 (j 0) l) * X3 (ix2 (j 1) l)) := by
  pointwise [val_main_v9, val_main_v8, val_main_v7, val_main_v6, val_main_v5, val_main_v3, val_main_v1]
  rw [Finset.sum_add_distrib, add_comm]

/-- At the last block of hidden units the result's block is the accumulator. -/
theorem stored (c : Dev nD) (t : Fin cfg0.N) (h : t.val % 8 = 7) (j) : (outsAt0 m c t.val t.isLt).1 j = (outsAt0 m c t.val t.isLt).2 j := by
  rw [outsAt0_C m c t (by omega) h]; frame_out

/-- The result array after the run is the reference's. -/
theorem final (c : Dev nD) : (dats m 0 c).arrAt 4 (cfgs 0).N = goal m c := by
  refine (dats m 0 c).arrAt_eq_of_covers 4 _ (by decide +kernel) fun t hf y => ?_
  blk_simp
  rw [after0_4, stored m c t ((flush0_4 t).mp hf), Pipeline.eq_sum_fin_of_reset_step_apply_of_flush (fun n h => (outsAt0 m c n h).2) 8 (fun _ => 0) _
    (fun t h j => by rw [outsAt0_A m c t h (by omega)]; frame_out; rw [step, start])
    (fun t h j => by
      by_cases h7 : t.val % 8 = 7
      · rw [outsAt0_C m c t h h7]; frame_out; rw [step]; exact congrArg (· + _) (congrFun ((Memref.isWhole_whole _).read_unread _) _)
      · rw [outsAt0_B m c t h h7]; frame_out; rw [step]; exact congrArg (· + _) (congrFun ((Memref.isWhole_whole _).read_unread _) _))
    t ((flush0_4 t).mp hf) _, zero_add]
  refine Eq.trans ?_ (whole _ _ _ _ _).symm
  refine Fin.sum_mul_add_congr fun s k hl => ?_
  blk_point [iblk, V, idx t, idx ⟨_, Pipeline.run_point_lt_of_flush t ((flush0_4 t).mp hf) s⟩]

end Cert.Kernel2Ideal.Ff

end
-- ==== Proof.FfCols.lean ====
/- The gradients of the gate's and the up projection's weights: the call's two result arrays are the reference's. -/
module

public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.Kernel3Ideal.Ff

open Cert.Kernel3Ideal Cert.Kernel3Ideal.Gen Idealize.ShloMosaic Idealize.ShloMosaic.TcCoe Idealize.SL.Sem
open Idealize.ShloMosaic.Pipeline (Dat)
open Cert.Reference3Ideal.Read

variable (m : (ℓ : Loc nD τ sig) → Buf (Elt Ideal) ℓ)

/-- The reference's gradient of the gate's weights on the kernel's arguments. -/
abbrev gate (c : Dev nD) := val_main_v13 (F := Ideal) (m ((c : Thread nD τ).loc main_arg0)) (m ((c : Thread nD τ).loc main_arg1))

/-- The reference's gradient of the up projection's weights on the kernel's arguments. -/
abbrev up (c : Dev nD) := val_main_v16 (F := Ideal) (m ((c : Thread nD τ).loc main_arg0)) (m ((c : Thread nD τ).loc main_arg2))

/-- Where each window's block lies, at every grid point. -/
theorem idx : ∀ t : Fin cfg0.N, win0_0.index t = ![t.val % 2, 0] ∧ win0_1.index t = ![t.val / 2, 0, 0] ∧ win0_2.index t = ![t.val / 2, 0, 0]
    ∧ win0_3.index t = ![t.val / 2, t.val % 2, 0] ∧ win0_4.index t = ![t.val / 2, t.val % 2, 0] ∧ t.val / 2 < 8 :=
  (by decide +kernel : ∀ t : Fin grid0.N, _)

/-- What a grid point stores for the gate is the reference's block. -/
theorem gate_point (c : Dev nD) (t : Fin cfg0.N) (y) : k0_pay2 (iblk m c 0 t) (iblk m c 1 t) y = gate m c (((cfg0.win 3).blk t).view.emb y) := by
  pointwise [k0_pay2, k0_pay1, gate, val_main_v13, val_main_v12, val_main_v11, val_main_v10, val_main_v9, val_main_v5, val_main_v1]
  refine Fin.sum_fin_congr fun k => (mul_comm _ _).trans ?_
  blk_point [iblk, V, idx t]

/-- What a grid point stores for the up projection is the reference's block. -/
theorem up_point (c : Dev nD) (t : Fin cfg0.N) (y) : k0_pay3 (iblk m c 0 t) (iblk m c 2 t) y = up m c (((cfg0.win 4).blk t).view.emb y) := by
  pointwise [k0_pay3, k0_pay1, up, val_main_v16, val_main_v15, val_main_v14, val_main_v8, val_main_v7, val_main_v6, val_main_v3]
  refine Fin.sum_fin_congr fun k => (mul_comm _ _).trans ?_
  blk_point [iblk, V, idx t]

/-- The gate's result array after the run is the reference's. -/
theorem gate_final (c : Dev nD) : (dats m 0 c).arrAt 3 (cfgs 0).N = gate m c := by
  refine (dats m 0 c).arrAt_eq_of_covers 3 _ (by decide +kernel) fun t _ y => ?_
  blk_simp
  rw [after0_3]; frame_out
  exact gate_point m c t y

/-- The up projection's result array after the run is the reference's. -/
theorem up_final (c : Dev nD) : (dats m 0 c).arrAt 4 (cfgs 0).N = up m c := by
  refine (dats m 0 c).arrAt_eq_of_covers 4 _ (by decide +kernel) fun t _ y => ?_
  blk_simp
  rw [after0_4]; frame_out
  exact up_point m c t y

end Cert.Kernel3Ideal.Ff

end
-- ==== Proof.FfRows.lean ====
/- The gradient of the down projection's weights: the call's result array is the reference's. -/
module

public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

namespace Cert.Kernel4Ideal.Ff

open Cert.Kernel4Ideal Cert.Kernel4Ideal.Gen Idealize.ShloMosaic Idealize.ShloMosaic.TcCoe Idealize.SL.Sem
open Idealize.ShloMosaic.Pipeline (Dat)
open Cert.Reference4Ideal.Read

variable (m : (ℓ : Loc nD τ sig) → Buf (Elt Ideal) ℓ)

/-- The reference's result on the kernel's arguments. -/
abbrev goal (c : Dev nD) := val_main_v7 (F := Ideal) (m ((c : Thread nD τ).loc main_arg0)) (m ((c : Thread nD τ).loc main_arg1))

/-- Where each window's block lies, at every grid point. -/
theorem idx : ∀ t : Fin cfg0.N, win0_0.index t = ![t.val, 0, 0] ∧ win0_1.index t = ![0, 0] ∧ win0_2.index t = ![t.val, 0, 0] :=
  (by decide +kernel : ∀ t : Fin grid0.N, _)

/-- What a grid point stores is the reference's block. -/
theorem point (c : Dev nD) (t : Fin cfg0.N) (y) : k0_pay1 (iblk m c 0 t) (iblk m c 1 t) y = goal m c (((cfg0.win 2).blk t).view.emb y) := by
  pointwise [k0_pay1, goal, val_main_v7, val_main_v6, val_main_v5, val_main_v4, val_main_v3, val_main_v1]
  refine Fin.sum_fin_congr fun k => (mul_comm _ _).trans ?_
  blk_point [iblk, V, idx t]

/-- The result array after the run is the reference's. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.Kernel4Ideal.Ff

end
-- ==== Proof.FfDown.lean ====
/- The down projection: the call's result array is the reference's. -/
module

public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

namespace Cert.Kernel5Ideal.Ff

open Cert.Kernel5Ideal Cert.Kernel5Ideal.Gen Idealize.ShloMosaic Idealize.ShloMosaic.TcCoe Idealize.SL.Sem
open Idealize.ShloMosaic.Pipeline (Dat)
open Cert.Reference5Ideal.Read

variable (m : (ℓ : Loc nD τ sig) → Buf (Elt Ideal) ℓ)

/-- The reference's result on the kernel's arguments. -/
abbrev goal (c : Dev nD) := val_main_v5 (F := Ideal) (m ((c : Thread nD τ).loc main_arg0)) (m ((c : Thread nD τ).loc main_arg1))
  (m ((c : Thread nD τ).loc main_arg2))

/-- The half by which the layer's result is scaled. -/
abbrev half : Ideal .f32 := FloatOps.ofBits .f32 0x3F000000#32

/-- Where each window's block lies, at every grid point. -/
theorem idx : ∀ t : Fin cfg0.N, win0_0.index t = ![t.val % 8, t.val / 8, 0] ∧ win0_1.index t = ![t.val % 8, 0, 0] ∧ win0_2.index t = ![t.val / 8, 0]
    ∧ win0_3.index t = ![t.val / 8, 0] ∧ t.val / 8 < 4 :=
  (by decide +kernel : ∀ t : Fin grid0.N, _)

/-- The accumulator starts at zero. -/
theorem start (j) : k0_pay1 (F := Ideal) j = 0 := by pointwise [k0_pay1]

/-- A grid point adds the products of its block of the hidden units. -/
theorem step (acc x0 x1 j) : k0_pay2 (F := Ideal) acc x0 x1 j = acc j + ∑ k : Fin 704, x0 (ix3 0 (j 0) k) * x1 (ix3 0 k (j 1)) := by
  pointwise [k0_pay2]

/-- The last step scales the accumulator and adds the layer's input. -/
theorem last (x acc j) : k0_pay3 (F := Ideal) x acc j = x j + half * acc j := by
  pointwise [k0_pay3]

/-- The reference's entry as a scaled sum over the hidden units. -/
theorem whole (X0 X1 X2 j) : val_main_v5 (F := Ideal) X0 X1 X2 j
    = X2 j + half * ∑ l : Fin 5632, X0 (ix2 (j 0) l) * X1 (ix2 l (j 1)) := by
  pointwise [val_main_v5, val_main_v4, val_main_v3, val_main_cst, val_main_v2, val_main_v1, val_main_v0]

/-- At the last block of hidden units the result's block is the layer's input and half the accumulator. -/
theorem stored (c : Dev nD) (t : Fin cfg0.N) (h : t.val % 8 = 7) (j) :
    (outsAt0 m c t.val t.isLt).1 j = k0_pay3 (iblk m c 2 t) (outsAt0 m c t.val t.isLt).2 j := by
  rw [outsAt0_C m c t (by omega) h]; frame_out

/-- The result array after the run is the reference's. -/
theorem final (c : Dev nD) : (dats m 0 c).arrAt 3 (cfgs 0).N = goal m c := by
  refine (dats m 0 c).arrAt_eq_of_covers 3 _ (by decide +kernel) fun t hf y => ?_
  blk_simp
  rw [after0_3, stored m c t ((flush0_3 t).mp hf), last, Pipeline.eq_sum_fin_of_reset_step_apply_of_flush (fun n h => (outsAt0 m c n h).2) 8 (fun _ => 0) _
    (fun t h j => by rw [outsAt0_A m c t h (by omega)]; frame_out; rw [step, start])
    (fun t h j => by
      by_cases h7 : t.val % 8 = 7
      · rw [outsAt0_C m c t h h7]; frame_out; rw [step]; exact congrArg (· + _) (congrFun ((Memref.isWhole_whole _).read_unread _) _)
      · rw [outsAt0_B m c t h h7]; frame_out; rw [step]; exact congrArg (· + _) (congrFun ((Memref.isWhole_whole _).read_unread _) _))
    t ((flush0_3 t).mp hf) _, zero_add]
  refine Eq.trans ?_ (whole _ _ _ _).symm
  refine congrArg₂ (fun a b : EReal => a + half * b) (by blk_point [iblk, V, idx t]) (Fin.sum_mul_add_congr fun s k hl => ?_)
  blk_point [iblk, V, idx t, idx ⟨_, Pipeline.run_point_lt_of_flush t ((flush0_3 t).mp hf) s⟩]

end Cert.Kernel5Ideal.Ff

end
-- ==== Proof.FfReal.lean ====
/- Real numbers among the extended ones: sums of products of finite numbers, and the derivative of `x` times its logistic function. -/
module

public import Idealize.ShloMosaic.Lib.Pipeline.ValueKit
public import Idealize.ShloMosaic.PureOps.Ideal

@[expose] public section

noncomputable section

namespace Cert.Ff

open Idealize.ShloMosaic

/-- A finite number: the extended real of its real part. -/
abbrev IsReal (x : EReal) : Prop := ((x.toReal : ℝ) : EReal) = x

/-- A sum of products of finite numbers is finite. -/
theorem real_dot {n : ℕ} (f g : Fin n → EReal) (hf : ∀ k, IsReal (f k)) (hg : ∀ k, IsReal (g k)) : ∃ r : ℝ, ∑ k, f k * g k = (r : EReal) := by
  refine Finset.sum_induction _ (fun x => ∃ r : ℝ, x = (r : EReal)) ?_ ⟨0, rfl⟩ fun k _ => ⟨(f k).toReal * (g k).toReal, ?_⟩
  · rintro _ _ ⟨a, rfl⟩ ⟨b, rfl⟩
    exact ⟨a + b, (EReal.coe_add a b).symm⟩
  · rw [EReal.coe_mul, hf k, hg k]

/-- The derivative of `x` times its logistic function, as the kernel writes it and as the product rule writes it. -/
theorem silu_back {g u : EReal} (hg : ∃ r : ℝ, g = (r : EReal)) (hu : ∃ r : ℝ, u = (r : EReal)) :
    u * (Ideal.logistic g * (1 + g * (1 - Ideal.logistic g))) = u * Ideal.logistic g + g * u * (Ideal.logistic g * (1 - Ideal.logistic g)) := by
  obtain ⟨a, rfl⟩ := hg
  obtain ⟨b, rfl⟩ := hu
  simp only [Ideal.logistic_coe, ← EReal.coe_one, ← EReal.coe_sub, ← EReal.coe_mul, ← EReal.coe_add]
  congr 1
  ring

/-- The same under a factor from behind. -/
theorem silu_back_dot {d g u : EReal} (hd : ∃ r : ℝ, d = (r : EReal)) (hg : ∃ r : ℝ, g = (r : EReal)) (hu : ∃ r : ℝ, u = (r : EReal)) :
    d * (u * (Ideal.logistic g * (1 + g * (1 - Ideal.logistic g)))) = d * u * Ideal.logistic g + g * (d * u) * (Ideal.logistic g * (1 - Ideal.logistic g)) := by
  obtain ⟨a, rfl⟩ := hg
  obtain ⟨b, rfl⟩ := hu
  obtain ⟨e, rfl⟩ := hd
  simp only [Ideal.logistic_coe, ← EReal.coe_one, ← EReal.coe_sub, ← EReal.coe_mul, ← EReal.coe_add]
  congr 1
  ring

end Cert.Ff

end
-- ==== Proof.FfUp.lean ====
/- The gate and the up projection: the four result arrays of the call are those of the reference. -/
module

public import proofs.«01_k».proof.Proof.Gen.Kernel6Ideal.Value
public import proofs.«01_k».proof.Proof.Gen.Reference6Ideal.Read
public import proofs.«01_k».proof.Proof.FfReal
public import Idealize.ShloMosaic.Lib.Pipeline.ValueKit

@[expose] public section

set_option maxRecDepth 16384

noncomputable section

namespace Cert.Kernel6Ideal.Ff

open Cert.Kernel6Ideal Cert.Kernel6Ideal.Gen Idealize.ShloMosaic Idealize.ShloMosaic.TcCoe Idealize.SL.Sem
open Idealize.ShloMosaic.Pipeline (Dat)
open Cert.Reference6Ideal.Read

variable (m : (ℓ : Loc nD τ sig) → Buf (Elt Ideal) ℓ)

/-- The reference's gradient of the gate's weights on the kernel's arguments. -/
abbrev gate (c : Dev nD) := val_main_v13 (F := Ideal) (m ((c : Thread nD τ).loc main_arg0)) (m ((c : Thread nD τ).loc main_arg1))

/-- The kernel's arguments: the rows, the gate's weights, the up projection's weights. -/
abbrev argH (c : Dev nD) := m ((c : Thread nD τ).loc main_arg0)
/-- The gate's weights. -/
abbrev argG (c : Dev nD) := m ((c : Thread nD τ).loc main_arg1)
/-- The up projection's weights. -/
abbrev argU (c : Dev nD) := m ((c : Thread nD τ).loc main_arg2)

/-- Where each window's block lies, at every grid point. -/
theorem idx : ∀ t : Fin cfg0.N, win0_0.index t = ![t.val % 2, 0] ∧ win0_1.index t = ![t.val / 2, 0, 0] ∧ win0_2.index t = ![t.val / 2, 0, 0]
    ∧ win0_3.index t = ![t.val / 2, t.val % 2, 0] ∧ win0_4.index t = ![t.val / 2, t.val % 2, 0] ∧ win0_5.index t = ![t.val / 2, t.val % 2, 0]
    ∧ win0_6.index t = ![t.val / 2, 0, t.val % 2] ∧ t.val / 2 < 8 :=
  (by decide +kernel : ∀ t : Fin grid0.N, _)

/-- The column of the whole array where column `k` of shard `s` lies. -/
abbrev col (s : Fin 8) (k : Fin 704) : Fin 5632 := ⟨s.val * 704 + k.val, by omega⟩

/-- One entry of a product of the rows with a weight array, in the reference. -/
abbrev dot (X : Vec Ideal Cert.Reference6Ideal.S2048x2048 .bf16) (W : Vec Ideal Cert.Reference6Ideal.S2048x5632 .bf16) (r : Fin 2048) (l : Fin 5632) : EReal :=
  ∑ k : Fin 2048, X (ix2 r k) * W (ix2 k l)

/-- One entry of a product of a block of the rows with a block of the weights, in the kernel. -/
abbrev bdot (x : Vec Ideal S1024x2048 .bf16) (w : Vec Ideal S1x2048x704 .bf16) (r : Fin 1024) (l : Fin 704) : EReal :=
  ∑ k : Fin 2048, x (ix2 r k) * w (ix3 0 k l)

/-- The derivative the kernel stores for the gate. -/
theorem back_block (x0 x1 x2) (y) : k0_pay6 (F := Ideal) x0 x1 x2 y = bdot x0 x2 (y 1) (y 2) * (Ideal.logistic (bdot x0 x1 (y 1) (y 2)) * (1 + bdot x0 x1 (y 1) (y 2) * (1 - Ideal.logistic (bdot x0 x1 (y 1) (y 2))))) := by
  pointwise [k0_pay6, k0_pay4, k0_pay3, k0_pay2]

/-- What the kernel stores for the up projection. -/
theorem silu_block (x0 x1) (y) : k0_pay7 (F := Ideal) x0 x1 y = bdot x0 x1 (y 1) (y 2) * Ideal.logistic (bdot x0 x1 (y 1) (y 2)) := by
  pointwise [k0_pay7, k0_pay5, k0_pay4, k0_pay2]

/-- What the kernel stores for the activation. -/
theorem act_block (x0 x1 x2) (y) : k0_pay9 (F := Ideal) x0 x1 x2 y = bdot x0 x1 (y 1) (y 2) * Ideal.logistic (bdot x0 x1 (y 1) (y 2)) * bdot x0 x2 (y 1) (y 2) := by
  pointwise [k0_pay9, k0_pay8, k0_pay5, k0_pay4, k0_pay3, k0_pay2]

/-- What the kernel stores for the transposed activation. -/
theorem turned_block (x0 x1 x2) (y) : k0_pay1 (k0_pay10 (F := Ideal) x0 x1 x2) y = bdot x0 x1 (y 2) (y 1) * Ideal.logistic (bdot x0 x1 (y 2) (y 1)) * bdot x0 x2 (y 2) (y 1) := by
  pointwise [k0_pay1, k0_pay10, k0_pay8, k0_pay5, k0_pay4, k0_pay3, k0_pay2]

/-- The reference's derivative for the gate. -/
theorem back_whole (X0 X1 X2) (i) : val_main_v11 (F := Ideal) X0 X1 X2 i = dot X0 X2 (i 1) (col (i 0) (i 2)) * Ideal.logistic (dot X0 X1 (i 1) (col (i 0) (i 2)))
    + dot X0 X1 (i 1) (col (i 0) (i 2)) * dot X0 X2 (i 1) (col (i 0) (i 2)) * (Ideal.logistic (dot X0 X1 (i 1) (col (i 0) (i 2))) * (1 - Ideal.logistic (dot X0 X1 (i 1) (col (i 0) (i 2))))) := by
  simp only [Ideal.logistic]
  pointwise [val_main_v11, val_main_v10, val_main_v9, val_main_v7, val_main_call1_v1, val_main_call1_v2, val_main_call1_v0, val_main_v6_2, val_main_v6_1,
    val_main_call0_v7, val_main_call0_v6, val_main_call0_v4, val_main_call0_v3, val_main_call0_v2, val_main_call0_v1, val_main_call0_v0, val_main_v2, val_main_v5,
    val_main_v0, val_main_v1, val_main_v3, val_main_v4, val_main_call0_cst, val_main_call0_cst_0, val_main_call0_cst_1]

/-- The reference's gated value. -/
theorem silu_whole (X0 X1) (i) : val_main_v14 (F := Ideal) X0 X1 i = dot X0 X1 (i 1) (col (i 0) (i 2)) * Ideal.logistic (dot X0 X1 (i 1) (col (i 0) (i 2))) := by
  simp only [Ideal.logistic]
  pointwise [val_main_v14, val_main_v13, val_main_v12, val_main_v6_0, val_main_v6_2,
    val_main_call0_v4, val_main_call0_v3, val_main_call0_v2, val_main_call0_v1, val_main_call0_v0, val_main_v2, val_main_v0, val_main_v1, val_main_call0_cst, val_main_call0_cst_0]

/-- The reference's activation. -/
theorem act_whole (X0 X1 X2) (i) : val_main_v17 (F := Ideal) X0 X1 X2 i
    = dot X0 X1 (i 1) (col (i 0) (i 2)) * Ideal.logistic (dot X0 X1 (i 1) (col (i 0) (i 2))) * dot X0 X2 (i 1) (col (i 0) (i 2)) := by
  simp only [Ideal.logistic]
  pointwise [val_main_v17, val_main_v16, val_main_v15, val_main_v8, val_main_v6_0, val_main_v6_2, val_main_call0_v4, val_main_call0_v3, val_main_call0_v2, val_main_call0_v1,
    val_main_call0_v0, val_main_v2, val_main_v5, val_main_v0, val_main_v1, val_main_v3, val_main_v4, val_main_call0_cst, val_main_call0_cst_0]

/-- The reference's transposed activation. -/
theorem turned_whole (X0 X1 X2) (i) : val_main_v20 (F := Ideal) X0 X1 X2 i
    = dot X0 X1 (i 2) (col (i 0) (i 1)) * Ideal.logistic (dot X0 X1 (i 2) (col (i 0) (i 1))) * dot X0 X2 (i 2) (col (i 0) (i 1)) := by
  simp only [Ideal.logistic]
  pointwise [val_main_v20, val_main_v19, val_main_v18, val_main_v8, val_main_v6_0, val_main_v6_2, val_main_call0_v4, val_main_call0_v3, val_main_call0_v2, val_main_call0_v1,
    val_main_call0_v0, val_main_v2, val_main_v5, val_main_v0, val_main_v1, val_main_v3, val_main_v4, val_main_call0_cst, val_main_call0_cst_0]

/-- A grid point's entry of the gate's product is the reference's. -/
theorem gate_entry (c : Dev nD) (t : Fin cfg0.N) (r : Fin 1024) (l : Fin 704) (R : Fin 2048) (L : Fin 5632) (hr : R.val = t.val % 2 * 1024 + r.val) (hl : L.val = t.val / 2 * 704 + l.val) :
    bdot (iblk m c 0 t) (iblk m c 1 t) r l = dot (argH m c) (argG m c) R L := by
  refine Fin.sum_fin_congr fun k => ?_
  blk_point [iblk, V, idx t, hr, hl]

/-- A grid point's entry of the up projection's product is the reference's. -/
theorem up_entry (c : Dev nD) (t : Fin cfg0.N) (r : Fin 1024) (l : Fin 704) (R : Fin 2048) (L : Fin 5632) (hr : R.val = t.val % 2 * 1024 + r.val) (hl : L.val = t.val / 2 * 704 + l.val) :
    bdot (iblk m c 0 t) (iblk m c 2 t) r l = dot (argH m c) (argU m c) R L := by
  refine Fin.sum_fin_congr fun k => ?_
  blk_point [iblk, V, idx t, hr, hl]

/-- The first result array after the run is the reference's. -/
theorem back_final (c : Dev nD) (hH : ∀ i, Cert.Ff.IsReal (argH m c i)) (hG : ∀ i, Cert.Ff.IsReal (argG m c i)) (hU : ∀ i, Cert.Ff.IsReal (argU m c i)) :
    (dats m 0 c).arrAt 3 (cfgs 0).N = val_main_v11 (F := Ideal) (argH m c) (argG m c) (argU m c) := by
  refine (dats m 0 c).arrAt_eq_of_covers 3 _ (by decide +kernel) fun t _ y => ?_
  blk_simp
  have hr : (((((cfg0.win 3).blk t).view.emb y) 1)).val = t.val % 2 * 1024 + ((y 1)).val := by blk_point [idx t]
  have h0 : ((((cfg0.win 3).blk t).view.emb y) 0).val = t.val / 2 + (y 0).val := by blk_point [idx t]
  have h2 : ((((cfg0.win 3).blk t).view.emb y) 2).val = (y 2).val := by blk_point [idx t]
  have hy : (y 0).val < 1 := (y 0).isLt
  have hl : ((col ((((cfg0.win 3).blk t).view.emb y) 0) ((((cfg0.win 3).blk t).view.emb y) 2))).val = t.val / 2 * 704 + ((y 2)).val := by
    show ((((cfg0.win 3).blk t).view.emb y) 0).val * 704 + ((((cfg0.win 3).blk t).view.emb y) 2).val = _
    omega
  rw [after0_3]; frame_out
  rw [back_block, gate_entry m c t (y 1) (y 2) ((((cfg0.win 3).blk t).view.emb y) 1) (col ((((cfg0.win 3).blk t).view.emb y) 0) ((((cfg0.win 3).blk t).view.emb y) 2)) hr hl, up_entry m c t (y 1) (y 2) ((((cfg0.win 3).blk t).view.emb y) 1) (col ((((cfg0.win 3).blk t).view.emb y) 0) ((((cfg0.win 3).blk t).view.emb y) 2)) hr hl]
  exact (Cert.Ff.silu_back (Cert.Ff.real_dot _ _ (fun _ => hH _) fun _ => hG _) (Cert.Ff.real_dot _ _ (fun _ => hH _) fun _ => hU _)).trans (back_whole _ _ _ _).symm

/-- The second result array after the run is the reference's. -/
theorem silu_final (c : Dev nD) :
    (dats m 0 c).arrAt 4 (cfgs 0).N = val_main_v14 (F := Ideal) (argH m c) (argG m c) := by
  refine (dats m 0 c).arrAt_eq_of_covers 4 _ (by decide +kernel) fun t _ y => ?_
  blk_simp
  have hr : (((((cfg0.win 4).blk t).view.emb y) 1)).val = t.val % 2 * 1024 + ((y 1)).val := by blk_point [idx t]
  have h0 : ((((cfg0.win 4).blk t).view.emb y) 0).val = t.val / 2 + (y 0).val := by blk_point [idx t]
  have h2 : ((((cfg0.win 4).blk t).view.emb y) 2).val = (y 2).val := by blk_point [idx t]
  have hy : (y 0).val < 1 := (y 0).isLt
  have hl : ((col ((((cfg0.win 4).blk t).view.emb y) 0) ((((cfg0.win 4).blk t).view.emb y) 2))).val = t.val / 2 * 704 + ((y 2)).val := by
    show ((((cfg0.win 4).blk t).view.emb y) 0).val * 704 + ((((cfg0.win 4).blk t).view.emb y) 2).val = _
    omega
  rw [after0_4]; frame_out
  rw [silu_block, gate_entry m c t (y 1) (y 2) ((((cfg0.win 4).blk t).view.emb y) 1) (col ((((cfg0.win 4).blk t).view.emb y) 0) ((((cfg0.win 4).blk t).view.emb y) 2)) hr hl]
  exact (silu_whole _ _ _).symm

/-- The third result array after the run is the reference's. -/
theorem act_final (c : Dev nD) :
    (dats m 0 c).arrAt 5 (cfgs 0).N = val_main_v17 (F := Ideal) (argH m c) (argG m c) (argU m c) := by
  refine (dats m 0 c).arrAt_eq_of_covers 5 _ (by decide +kernel) fun t _ y => ?_
  blk_simp
  have hr : (((((cfg0.win 5).blk t).view.emb y) 1)).val = t.val % 2 * 1024 + ((y 1)).val := by blk_point [idx t]
  have h0 : ((((cfg0.win 5).blk t).view.emb y) 0).val = t.val / 2 + (y 0).val := by blk_point [idx t]
  have h2 : ((((cfg0.win 5).blk t).view.emb y) 2).val = (y 2).val := by blk_point [idx t]
  have hy : (y 0).val < 1 := (y 0).isLt
  have hl : ((col ((((cfg0.win 5).blk t).view.emb y) 0) ((((cfg0.win 5).blk t).view.emb y) 2))).val = t.val / 2 * 704 + ((y 2)).val := by
    show ((((cfg0.win 5).blk t).view.emb y) 0).val * 704 + ((((cfg0.win 5).blk t).view.emb y) 2).val = _
    omega
  rw [after0_5]; frame_out
  rw [act_block, gate_entry m c t (y 1) (y 2) ((((cfg0.win 5).blk t).view.emb y) 1) (col ((((cfg0.win 5).blk t).view.emb y) 0) ((((cfg0.win 5).blk t).view.emb y) 2)) hr hl, up_entry m c t (y 1) (y 2) ((((cfg0.win 5).blk t).view.emb y) 1) (col ((((cfg0.win 5).blk t).view.emb y) 0) ((((cfg0.win 5).blk t).view.emb y) 2)) hr hl]
  exact (act_whole _ _ _ _).symm

/-- The fourth result array after the run is the reference's. -/
theorem turned_final (c : Dev nD) :
    (dats m 0 c).arrAt 6 (cfgs 0).N = val_main_v20 (F := Ideal) (argH m c) (argG m c) (argU m c) := by
  refine (dats m 0 c).arrAt_eq_of_covers 6 _ (by decide +kernel) fun t _ y => ?_
  blk_simp
  have hr : (((((cfg0.win 6).blk t).view.emb y) 2)).val = t.val % 2 * 1024 + ((y 2)).val := by blk_point [idx t]
  have h0 : ((((cfg0.win 6).blk t).view.emb y) 0).val = t.val / 2 + (y 0).val := by blk_point [idx t]
  have h2 : ((((cfg0.win 6).blk t).view.emb y) 1).val = (y 1).val := by blk_point [idx t]
  have hy : (y 0).val < 1 := (y 0).isLt
  have hl : ((col ((((cfg0.win 6).blk t).view.emb y) 0) ((((cfg0.win 6).blk t).view.emb y) 1))).val = t.val / 2 * 704 + ((y 1)).val := by
    show ((((cfg0.win 6).blk t).view.emb y) 0).val * 704 + ((((cfg0.win 6).blk t).view.emb y) 1).val = _
    omega
  rw [after0_6]; frame_out
  rw [turned_block, gate_entry m c t (y 2) (y 1) ((((cfg0.win 6).blk t).view.emb y) 2) (col ((((cfg0.win 6).blk t).view.emb y) 0) ((((cfg0.win 6).blk t).view.emb y) 1)) hr hl, up_entry m c t (y 2) (y 1) ((((cfg0.win 6).blk t).view.emb y) 2) (col ((((cfg0.win 6).blk t).view.emb y) 0) ((((cfg0.win 6).blk t).view.emb y) 1)) hr hl]
  exact (turned_whole _ _ _ _).symm

end Cert.Kernel6Ideal.Ff

end
-- ==== Proof.FfBackRun.lean ====
/- The run of the two calls behind the gradient of the activation: what the two result arrays hold when it ends. -/
module

public import proofs.«01_k».proof.Proof.Gen.Kernel7Ideal.Frame

@[expose] public section

set_option maxRecDepth 16384

noncomputable section

namespace Cert.Kernel7Ideal.Ff

open Cert.Kernel7Ideal Cert.Kernel7Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- The run of the two calls: the result arrays at the second call's exit contents, the arguments as launched. -/
theorem run : θ_run defs (onTc (τ := τ) (main (F := F))) ⟨m, fun _ => 0, ρ⟩ (fun r => ∀ c : Dev nD,
      r.2.mem ((c.tc : Thread nD τ).loc main_v6_0) = (dat1 (V3 m ρ) c).arrAt 4 cfg1.N
      ∧ r.2.mem ((c.tc : Thread nD τ).loc main_v6_1) = (dat1 (V3 m ρ) c).arrAt 5 cfg1.N
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v6_0 (by decide))).trans (W4_arr m ρ c 4),
       (h c _ (mem_uc main_v6_1 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Kernel7Ideal.Ff

end
-- ==== Proof.FfBack.lean ====
/- The gradient of the activation: the call's two result arrays, over what the forward call saved, are those of the reference. -/
module

public import proofs.«01_k».proof.Proof.FfBackRun
public import proofs.«01_k».proof.Proof.FfReal
public import proofs.«01_k».proof.Proof.Gen.Reference7Ideal.Read
public import Idealize.ShloMosaic.Lib.Pipeline.ValueKit

@[expose] public section

set_option maxRecDepth 16384

noncomputable section

namespace Cert.Kernel7Ideal.Ff

open Cert.Kernel7Ideal Cert.Kernel7Ideal.Gen Idealize.ShloMosaic Idealize.ShloMosaic.TcCoe Idealize.SL.Sem
open Idealize.ShloMosaic.Pipeline (Dat)
open Cert.Reference7Ideal.Read

/-- Where each window's block of the forward call lies, at every grid point. -/
theorem idx0 : ∀ t : Fin cfg0.N, win0_0.index t = ![t.val % 2, 0] ∧ win0_1.index t = ![t.val / 2, 0, 0] ∧ win0_2.index t = ![t.val / 2, 0, 0]
    ∧ win0_3.index t = ![t.val / 2, t.val % 2, 0] ∧ win0_4.index t = ![t.val / 2, t.val % 2, 0] ∧ t.val / 2 < 8 :=
  (by decide +kernel : ∀ t : Fin grid0.N, _)

/-- Where each window's block of the backward call lies, at every grid point. -/
theorem idx1 : ∀ t : Fin cfg1.N, win1_0.index t = ![t.val / 8, 0] ∧ win1_1.index t = ![t.val % 8, 0, 0] ∧ win1_2.index t = ![t.val % 8, t.val / 8, 0]
    ∧ win1_3.index t = ![t.val % 8, t.val / 8, 0] ∧ win1_4.index t = ![t.val % 8, t.val / 8, 0] ∧ win1_5.index t = ![t.val % 8, t.val / 8, 0] ∧ t.val / 8 < 2 :=
  (by decide +kernel : ∀ t : Fin grid1.N, _)

/-- One entry of a product of the rows with a shard of the weights. -/
abbrev dot (X : Vec Ideal S2048x2048 .bf16) (W : Vec Ideal S8x2048x704 .bf16) (s : Fin 8) (r : Fin 2048) (l : Fin 704) : EReal :=
  ∑ k : Fin 2048, X (ix2 r k) * W (ix3 s k l)

/-- One entry of a product of the rows with a transposed shard of the weights. -/
abbrev dotT (X : Vec Ideal S2048x2048 .bf16) (W : Vec Ideal S8x704x2048 .bf16) (s : Fin 8) (r : Fin 2048) (l : Fin 704) : EReal :=
  ∑ k : Fin 2048, X (ix2 r k) * W (ix3 s l k)

/-- What the forward call saves for the gate's gradient. -/
def back (X : Vec Ideal S2048x2048 .bf16) (G U : Vec Ideal S8x2048x704 .bf16) : Vec Ideal S8x2048x704 .bf16 := fun i =>
  dot X U (i 0) (i 1) (i 2) * (Ideal.logistic (dot X G (i 0) (i 1) (i 2)) * (1 + dot X G (i 0) (i 1) (i 2) * (1 - Ideal.logistic (dot X G (i 0) (i 1) (i 2)))))

/-- What the forward call saves for the up projection's gradient. -/
def silu (X : Vec Ideal S2048x2048 .bf16) (G : Vec Ideal S8x2048x704 .bf16) : Vec Ideal S8x2048x704 .bf16 := fun i =>
  dot X G (i 0) (i 1) (i 2) * Ideal.logistic (dot X G (i 0) (i 1) (i 2))

/-- What the backward call makes of the result's gradient and a saved array. -/
def scaled (Y : Vec Ideal S2048x2048 .bf16) (D : Vec Ideal S8x704x2048 .bf16) (S : Vec Ideal S8x2048x704 .bf16) : Vec Ideal S8x2048x704 .bf16 := fun i =>
  dotT Y D (i 0) (i 1) (i 2) * S i

/-- One entry of a product of a block of the rows with a block of the weights. -/
abbrev bdot (x : Vec Ideal S1024x2048 .bf16) (w : Vec Ideal S1x2048x704 .bf16) (r : Fin 1024) (l : Fin 704) : EReal :=
  ∑ k : Fin 2048, x (ix2 r k) * w (ix3 0 k l)

/-- What a grid point of the forward call stores for the gate. -/
theorem back_block (x0 x1 x2) (y) : k0_pay6 (F := Ideal) x0 x1 x2 y = bdot x0 x2 (y 1) (y 2) * (Ideal.logistic (bdot x0 x1 (y 1) (y 2)) * (1 + bdot x0 x1 (y 1) (y 2) * (1 - Ideal.logistic (bdot x0 x1 (y 1) (y 2))))) := by
  pointwise [k0_pay6, k0_pay4, k0_pay3, k0_pay2]

/-- What a grid point of the forward call stores for the up projection. -/
theorem silu_block (x0 x1) (y) : k0_pay7 (F := Ideal) x0 x1 y = bdot x0 x1 (y 1) (y 2) * Ideal.logistic (bdot x0 x1 (y 1) (y 2)) := by
  pointwise [k0_pay7, k0_pay5, k0_pay4, k0_pay2]

/-- What a grid point of the backward call stores for the gate. -/
theorem gate_block (x0 x1 x2) (y) : k1_pay2 (F := Ideal) x0 x1 x2 y = (∑ k : Fin 2048, x0 (ix2 (y 1) k) * x1 (ix3 0 (y 2) k)) * x2 y := by
  pointwise [k1_pay2, k1_pay1]

/-- What a grid point of the backward call stores for the up projection. -/
theorem up_block (x0 x1 x2) (y) : k1_pay3 (F := Ideal) x0 x1 x2 y = (∑ k : Fin 2048, x0 (ix2 (y 1) k) * x1 (ix3 0 (y 2) k)) * x2 y := by
  pointwise [k1_pay3, k1_pay1]

section Calls
variable (V : (c : Dev nD) → (b : Ref sig .tc) → Buf (Elt Ideal) ((c : Thread nD τ).loc b))

/-- A grid point's entry of the gate's product. -/
theorem gate_entry (c : Dev nD) (t : Fin cfg0.N) (r : Fin 1024) (l : Fin 704) (s : Fin 8) (R : Fin 2048) (L : Fin 704) (hs : s.val = t.val / 2) (hr : R.val = t.val % 2 * 1024 + r.val) (hl : L.val = l.val) :
    bdot (iblk0 V c 0 t) (iblk0 V c 1 t) r l = dot (V c main_arg0) (V c main_v1) s R L := by
  refine Fin.sum_fin_congr fun k => ?_
  blk_point [iblk0, idx0 t, hs, hr, hl]

/-- A grid point's entry of the up projection's product. -/
theorem up_entry (c : Dev nD) (t : Fin cfg0.N) (r : Fin 1024) (l : Fin 704) (s : Fin 8) (R : Fin 2048) (L : Fin 704) (hs : s.val = t.val / 2) (hr : R.val = t.val % 2 * 1024 + r.val) (hl : L.val = l.val) :
    bdot (iblk0 V c 0 t) (iblk0 V c 2 t) r l = dot (V c main_arg0) (V c main_v3) s R L := by
  refine Fin.sum_fin_congr fun k => ?_
  blk_point [iblk0, idx0 t, hs, hr, hl]

/-- The array the forward call saves for the gate's gradient. -/
theorem back_saved (c : Dev nD) : (dat0 V c).arrAt 3 cfg0.N = back (V c main_arg0) (V c main_v1) (V c main_v3) := by
  refine (dat0 V c).arrAt_eq_of_covers 3 _ (by decide +kernel) fun t _ y => ?_
  blk_simp
  have hs : ((((cfg0.win 3).blk t).view.emb y) 0).val = t.val / 2 := by
    have h0 : ((((cfg0.win 3).blk t).view.emb y) 0).val = t.val / 2 + (y 0).val := by blk_point [idx0 t]
    have hy : (y 0).val < 1 := (y 0).isLt
    omega
  have hr : ((((cfg0.win 3).blk t).view.emb y) 1).val = t.val % 2 * 1024 + (y 1).val := by blk_point [idx0 t]
  have hl : ((((cfg0.win 3).blk t).view.emb y) 2).val = (y 2).val := by blk_point [idx0 t]
  rw [after0_3]; frame_out
  rw [back_block, gate_entry V c t (y 1) (y 2) _ _ _ hs hr hl, up_entry V c t (y 1) (y 2) _ _ _ hs hr hl]
  rfl

/-- The array the forward call saves for the up projection's gradient. -/
theorem silu_saved (c : Dev nD) : (dat0 V c).arrAt 4 cfg0.N = silu (V c main_arg0) (V c main_v1) := by
  refine (dat0 V c).arrAt_eq_of_covers 4 _ (by decide +kernel) fun t _ y => ?_
  blk_simp
  have hs : ((((cfg0.win 4).blk t).view.emb y) 0).val = t.val / 2 := by
    have h0 : ((((cfg0.win 4).blk t).view.emb y) 0).val = t.val / 2 + (y 0).val := by blk_point [idx0 t]
    have hy : (y 0).val < 1 := (y 0).isLt
    omega
  have hr : ((((cfg0.win 4).blk t).view.emb y) 1).val = t.val % 2 * 1024 + (y 1).val := by blk_point [idx0 t]
  have hl : ((((cfg0.win 4).blk t).view.emb y) 2).val = (y 2).val := by blk_point [idx0 t]
  rw [after0_4]; frame_out
  rw [silu_block, gate_entry V c t (y 1) (y 2) _ _ _ hs hr hl]
  rfl

/-- The backward call's array for the gate. -/
theorem gate_result (c : Dev nD) : (dat1 V c).arrAt 4 cfg1.N = scaled (V c main_arg4) (V c main_v5) (V c main_v4_0) := by
  refine (dat1 V c).arrAt_eq_of_covers 4 _ (by decide +kernel) fun t _ y => ?_
  blk_simp
  rw [after1_4]; frame_out
  rw [gate_block]
  refine congrArg₂ (fun a b : EReal => a * b) (Fin.sum_fin_congr fun k => ?_) ?_
  · blk_point [iblk1, idx1 t]
  · blk_point [iblk1, idx1 t]

/-- The backward call's array for the up projection. -/
theorem up_result (c : Dev nD) : (dat1 V c).arrAt 5 cfg1.N = scaled (V c main_arg4) (V c main_v5) (V c main_v4_1) := by
  refine (dat1 V c).arrAt_eq_of_covers 5 _ (by decide +kernel) fun t _ y => ?_
  blk_simp
  rw [after1_5]; frame_out
  rw [up_block]
  refine congrArg₂ (fun a b : EReal => a * b) (Fin.sum_fin_congr fun k => ?_) ?_
  · blk_point [iblk1, idx1 t]
  · blk_point [iblk1, idx1 t]

end Calls

variable (m : (ℓ : Loc nD τ sig) → Buf (Elt Ideal) ℓ) (ρ : Dev nD → PrngReg)

/-- The kernel's arguments: the rows. -/
abbrev argH (c : Dev nD) := m ((c : Thread nD τ).loc main_arg0)
/-- The gate's weights. -/
abbrev argG (c : Dev nD) := m ((c : Thread nD τ).loc main_arg1)
/-- The up projection's weights. -/
abbrev argU (c : Dev nD) := m ((c : Thread nD τ).loc main_arg2)
/-- The down projection's weights. -/
abbrev argD (c : Dev nD) := m ((c : Thread nD τ).loc main_arg3)
/-- The gradient of the layer's result. -/
abbrev argY (c : Dev nD) := m ((c : Thread nD τ).loc main_arg4)

/-- The column of the whole array where column `k` of shard `s` lies. -/
abbrev col (s : Fin 8) (k : Fin 704) : Fin 5632 := ⟨s.val * 704 + k.val, by omega⟩

/-- One entry of a product of the rows with a weight array, in the reference. -/
abbrev rdot (X : Vec Ideal Cert.Reference7Ideal.S2048x2048 .bf16) (W : Vec Ideal Cert.Reference7Ideal.S2048x5632 .bf16) (r : Fin 2048) (l : Fin 5632) : EReal :=
  ∑ k : Fin 2048, X (ix2 r k) * W (ix2 k l)

/-- One entry of a product of the rows with a transposed weight array, in the reference. -/
abbrev rdotT (X : Vec Ideal Cert.Reference7Ideal.S2048x2048 .bf16) (W : Vec Ideal Cert.Reference7Ideal.S5632x2048 .bf16) (r : Fin 2048) (l : Fin 5632) : EReal :=
  ∑ k : Fin 2048, X (ix2 r k) * W (ix2 l k)

/-- The gate's shards are blocks of columns of its weights. -/
theorem gate_shard (c : Dev nD) (s : Fin 8) (k : Fin 2048) (l : Fin 704) : V1 m ρ c main_v1 (ix3 s k l) = argG m c (ix2 k (col s l)) := by
  blk_point [V1, W1, W0]

/-- The up projection's shards are blocks of columns of its weights. -/
theorem up_shard (c : Dev nD) (s : Fin 8) (k : Fin 2048) (l : Fin 704) : V1 m ρ c main_v3 (ix3 s k l) = argU m c (ix2 k (col s l)) := by
  blk_point [V1, W1, W0]

/-- The down projection's shards are blocks of rows of its weights. -/
theorem down_shard (c : Dev nD) (s : Fin 8) (l : Fin 704) (k : Fin 2048) : V3 m ρ c main_v5 (ix3 s l k) = argD m c (ix2 (col s l) k) := by
  have e : W2 m ρ c (Proc.devRef .tc main_arg3) = argD m c := W2_args m ρ c main_arg3 (by decide)
  rw [← e]
  blk_point [V3, W3]

/-- The gate's products over the shards are those over the whole weights. -/
theorem gate_dot (c : Dev nD) (s : Fin 8) (r : Fin 2048) (l : Fin 704) : dot (V1 m ρ c main_arg0) (V1 m ρ c main_v1) s r l = rdot (argH m c) (argG m c) r (col s l) := by
  have e : V1 m ρ c main_arg0 = argH m c := W1_args m ρ c main_arg0 (by decide)
  refine Fin.sum_fin_congr fun k => ?_
  rw [e, gate_shard]

/-- The up projection's products over the shards are those over the whole weights. -/
theorem up_dot (c : Dev nD) (s : Fin 8) (r : Fin 2048) (l : Fin 704) : dot (V1 m ρ c main_arg0) (V1 m ρ c main_v3) s r l = rdot (argH m c) (argU m c) r (col s l) := by
  have e : V1 m ρ c main_arg0 = argH m c := W1_args m ρ c main_arg0 (by decide)
  refine Fin.sum_fin_congr fun k => ?_
  rw [e, up_shard]

/-- The down projection's products over the shards are those over the whole weights. -/
theorem down_dot (c : Dev nD) (s : Fin 8) (r : Fin 2048) (l : Fin 704) : dotT (V3 m ρ c main_arg4) (V3 m ρ c main_v5) s r l = rdotT (argY m c) (argD m c) r (col s l) := by
  have e : V3 m ρ c main_arg4 = argY m c := W3_args m ρ c main_arg4 (by decide)
  refine Fin.sum_fin_congr fun k => ?_
  rw [e, down_shard]

/-- The backward call reads what the forward call saved for the gate. -/
theorem back_read (c : Dev nD) : V3 m ρ c main_v4_0 = back (V1 m ρ c main_arg0) (V1 m ρ c main_v1) (V1 m ρ c main_v3) :=
  ((W3_of m ρ c main_v4_0 (by decide)).trans (W2_arr m ρ c 3)).trans (back_saved (V1 m ρ) c)

/-- The backward call reads what the forward call saved for the up projection. -/
theorem silu_read (c : Dev nD) : V3 m ρ c main_v4_1 = silu (V1 m ρ c main_arg0) (V1 m ρ c main_v1) :=
  ((W3_of m ρ c main_v4_1 (by decide)).trans (W2_arr m ρ c 4)).trans (silu_saved (V1 m ρ) c)

/-- The reference's gradient of the gate's product. -/
theorem gate_whole (X0 X1 X2 X3 X4) (i) : val_main_v17 (F := Ideal) X0 X1 X2 X3 X4 i
    = rdotT X4 X3 (i 1) (col (i 0) (i 2)) * rdot X0 X2 (i 1) (col (i 0) (i 2)) * Ideal.logistic (rdot X0 X1 (i 1) (col (i 0) (i 2)))
    + rdot X0 X1 (i 1) (col (i 0) (i 2)) * (rdotT X4 X3 (i 1) (col (i 0) (i 2)) * rdot X0 X2 (i 1) (col (i 0) (i 2)))
      * (Ideal.logistic (rdot X0 X1 (i 1) (col (i 0) (i 2))) * (1 - Ideal.logistic (rdot X0 X1 (i 1) (col (i 0) (i 2))))) := by
  simp only [Ideal.logistic]
  pointwise [val_main_v17, val_main_v16, val_main_v15, val_main_v14, val_main_v13, val_main_v11, val_main_v10, val_main_v8, val_main_call1_v1, val_main_call1_v2, val_main_call1_v0,
    val_main_v6_2, val_main_v6_1, val_main_call0_v7, val_main_call0_v6, val_main_call0_v4, val_main_call0_v3, val_main_call0_v2, val_main_call0_v1, val_main_call0_v0,
    val_main_v2, val_main_v5, val_main_v0, val_main_v1, val_main_v3, val_main_v4, val_main_call0_cst, val_main_call0_cst_0, val_main_call0_cst_1]

/-- The reference's gradient of the up projection's product. -/
theorem up_whole (X0 X1 X3 X4) (i) : val_main_v20 (F := Ideal) X0 X1 X3 X4 i
    = rdot X0 X1 (i 1) (col (i 0) (i 2)) * Ideal.logistic (rdot X0 X1 (i 1) (col (i 0) (i 2))) * rdotT X4 X3 (i 1) (col (i 0) (i 2)) := by
  simp only [Ideal.logistic]
  pointwise [val_main_v20, val_main_v19, val_main_v18, val_main_v12, val_main_v11, val_main_v10, val_main_v8, val_main_v6_0, val_main_v6_2,
    val_main_call0_v4, val_main_call0_v3, val_main_call0_v2, val_main_call0_v1, val_main_call0_v0, val_main_v2, val_main_v0, val_main_v1, val_main_call0_cst, val_main_call0_cst_0]

/-- The gate's entry from its three products. -/
theorem back_parts {d g u d' g' u' : EReal} (hd : d = d') (hg : g = g') (hu : u = u') :
    d * (u * (Ideal.logistic g * (1 + g * (1 - Ideal.logistic g)))) = d' * (u' * (Ideal.logistic g' * (1 + g' * (1 - Ideal.logistic g')))) := by
  rw [hd, hg, hu]

/-- The up projection's entry from its two products. -/
theorem silu_parts {d g d' g' : EReal} (hd : d = d') (hg : g = g') : d * (g * Ideal.logistic g) = d' * (g' * Ideal.logistic g') := by
  rw [hd, hg]

/-- The gate's array after the run is the reference's. -/
theorem gate_final (c : Dev nD) (hH : ∀ i, Cert.Ff.IsReal (argH m c i)) (hG : ∀ i, Cert.Ff.IsReal (argG m c i)) (hU : ∀ i, Cert.Ff.IsReal (argU m c i))
    (hD : ∀ i, Cert.Ff.IsReal (argD m c i)) (hY : ∀ i, Cert.Ff.IsReal (argY m c i)) :
    (dat1 (V3 m ρ) c).arrAt 4 cfg1.N = val_main_v17 (F := Ideal) (argH m c) (argG m c) (argU m c) (argD m c) (argY m c) := by
  rw [gate_result, back_read]
  funext i
  refine Eq.trans ?_ (gate_whole _ _ _ _ _ i).symm
  refine (back_parts (down_dot m ρ c (i 0) (i 1) (i 2)) (gate_dot m ρ c (i 0) (i 1) (i 2)) (up_dot m ρ c (i 0) (i 1) (i 2))).trans ?_
  exact Cert.Ff.silu_back_dot (Cert.Ff.real_dot _ _ (fun _ => hY _) fun _ => hD _) (Cert.Ff.real_dot _ _ (fun _ => hH _) fun _ => hG _)
    (Cert.Ff.real_dot _ _ (fun _ => hH _) fun _ => hU _)

/-- The up projection's array after the run is the reference's. -/
theorem up_final (c : Dev nD) : (dat1 (V3 m ρ) c).arrAt 5 cfg1.N = val_main_v20 (F := Ideal) (argH m c) (argG m c) (argD m c) (argY m c) := by
  rw [up_result, silu_read]
  funext i
  refine Eq.trans ?_ (up_whole _ _ _ _ i).symm
  exact (silu_parts (down_dot m ρ c (i 0) (i 1) (i 2)) (gate_dot m ρ c (i 0) (i 1) (i 2))).trans (mul_comm _ _)

end Cert.Kernel7Ideal.Ff

end
-- ==== Proof.MixQkv.lean ====
/- The projection to queries, keys and values: the call's result array is the reference's. -/
module

public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

namespace Cert.Kernel8Ideal.Mix

open Cert.Kernel8Ideal Cert.Kernel8Ideal.Gen Idealize.ShloMosaic Idealize.ShloMosaic.TcCoe Idealize.SL.Sem
open Idealize.ShloMosaic.Pipeline (Dat)
open Cert.Reference8Ideal.Read

variable (m : (ℓ : Loc nD τ sig) → Buf (Elt Ideal) ℓ)

/-- The reference's result on the kernel's arguments. -/
abbrev goal (c : Dev nD) := val_main_v3 (F := Ideal) (m ((c : Thread nD τ).loc main_arg0)) (m ((c : Thread nD τ).loc main_arg1))

/-- Where each window's block lies, at every grid point. -/
theorem idx : ∀ t : Fin cfg0.N, win0_0.index t = ![t.val % 2, 0] ∧ win0_1.index t = ![0, t.val / 2] ∧ win0_2.index t = ![t.val % 2, t.val / 2] ∧ t.val / 2 < 8 :=
  (by decide +kernel : ∀ t : Fin grid0.N, _)

/-- What a grid point stores is the reference's block. -/
theorem point (c : Dev nD) (t : Fin cfg0.N) (y) : k0_pay1 (iblk m c 0 t) (iblk m c 1 t) y = goal m c (((cfg0.win 2).blk t).view.emb y) := by
  pointwise [k0_pay1, goal, val_main_v3, val_main_v2, val_main_v1, val_main_v0]
  refine Fin.sum_fin_congr fun k => ?_
  blk_point [iblk, V, idx t]

/-- The result array after the run is the reference's. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.Kernel8Ideal.Mix

end
-- ==== Proof.MixOut.lean ====
/- The projection of the mixer's output with the residual: the call's result array is the reference's. -/
module

public import proofs.«01_k».proof.Proof.Gen.Kernel9Ideal.Value
public import proofs.«01_k».proof.Proof.Gen.Reference9Ideal.Read
public import Idealize.ShloMosaic.Lib.Pipeline.ValueKit

@[expose] public section

set_option maxRecDepth 16384

noncomputable section

namespace Cert.Kernel9Ideal.Mix

open Cert.Kernel9Ideal Cert.Kernel9Ideal.Gen Idealize.ShloMosaic Idealize.ShloMosaic.TcCoe Idealize.SL.Sem
open Idealize.ShloMosaic.Pipeline (Dat)
open Cert.Reference9Ideal.Read

variable (m : (ℓ : Loc nD τ sig) → Buf (Elt Ideal) ℓ)

/-- The reference's result on the kernel's arguments. -/
abbrev goal (c : Dev nD) := val_main_v3 (F := Ideal) (m ((c : Thread nD τ).loc main_arg0)) (m ((c : Thread nD τ).loc main_arg1)) (m ((c : Thread nD τ).loc main_arg2))

/-- Where each window's block lies, at every grid point. -/
theorem idx : ∀ t : Fin cfg0.N, win0_0.index t = ![t.val % 2, 0] ∧ win0_1.index t = ![0, t.val / 2] ∧ win0_2.index t = ![t.val % 2, t.val / 2] ∧ win0_3.index t = ![t.val % 2, t.val / 2] ∧ t.val / 2 < 2 :=
  (by decide +kernel : ∀ t : Fin grid0.N, _)

/-- What a grid point stores is the reference's block. -/
theorem point (c : Dev nD) (t : Fin cfg0.N) (y) : k0_pay1 (iblk m c 2 t) (iblk m c 0 t) (iblk m c 1 t) y = goal m c (((cfg0.win 3).blk t).view.emb y) := by
  pointwise [k0_pay1, goal, val_main_v3, val_main_v2, val_main_v1, val_main_v0]
  refine congrArg₂ (fun a b : EReal => a + b) (by blk_point [iblk, V, idx t]) (Fin.sum_fin_congr fun k => ?_)
  blk_point [iblk, V, idx t]

/-- The result array after the run is the reference's. -/
theorem final (c : Dev nD) : (dats m 0 c).arrAt 3 (cfgs 0).N = goal m c := by
  refine (dats m 0 c).arrAt_eq_of_covers 3 _ (by decide +kernel) fun t _ y => ?_
  blk_simp
  rw [after0_3]; frame_out
  exact point m c t y

end Cert.Kernel9Ideal.Mix

end
-- ==== Proof.MixOutW.lean ====
/- The gradient of the output projection's weights: the call's result array is the reference's. -/
module

public import proofs.«01_k».proof.Proof.Gen.Kernel10Ideal.Value
public import proofs.«01_k».proof.Proof.Gen.Reference10Ideal.Read
public import Idealize.ShloMosaic.Lib.Pipeline.ValueKit

@[expose] public section

set_option maxRecDepth 16384

noncomputable section

namespace Cert.Kernel10Ideal.Mix

open Cert.Kernel10Ideal Cert.Kernel10Ideal.Gen Idealize.ShloMosaic Idealize.ShloMosaic.TcCoe Idealize.SL.Sem
open Idealize.ShloMosaic.Pipeline (Dat)
open Cert.Reference10Ideal.Read

variable (m : (ℓ : Loc nD τ sig) → Buf (Elt Ideal) ℓ)

/-- The reference's result on the kernel's arguments. -/
abbrev goal (c : Dev nD) := val_main_v6 (F := Ideal) (m ((c : Thread nD τ).loc main_arg0)) (m ((c : Thread nD τ).loc main_arg1))

/-- Where each window's block lies, at every grid point. -/
theorem idx : ∀ t : Fin cfg0.N, win0_0.index t = ![t.val % 2, 0] ∧ win0_1.index t = ![0, t.val / 2] ∧ win0_2.index t = ![t.val % 2, t.val / 2] ∧ t.val / 2 < 2 :=
  (by decide +kernel : ∀ t : Fin grid0.N, _)

/-- What a grid point stores is the reference's block. -/
theorem point (c : Dev nD) (t : Fin cfg0.N) (y) : k0_pay1 (iblk m c 0 t) (iblk m c 1 t) y = goal m c (((cfg0.win 2).blk t).view.emb y) := by
  pointwise [k0_pay1, goal, val_main_v6, val_main_v5, val_main_v4, val_main_v3, val_main_v1]
  refine Fin.sum_fin_congr fun k => (mul_comm _ _).trans ?_
  blk_point [iblk, V, idx t]

/-- The result array after the run is the reference's. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.Kernel10Ideal.Mix

end
-- ==== Proof.MixOutIn.lean ====
/- The gradient of the mixer's output: the call's result array is the reference's. -/
module

public import proofs.«01_k».proof.Proof.Gen.Kernel11Ideal.Value
public import proofs.«01_k».proof.Proof.Gen.Reference11Ideal.Read
public import Idealize.ShloMosaic.Lib.Pipeline.ValueKit

@[expose] public section

set_option maxRecDepth 16384

noncomputable section

namespace Cert.Kernel11Ideal.Mix

open Cert.Kernel11Ideal Cert.Kernel11Ideal.Gen Idealize.ShloMosaic Idealize.ShloMosaic.TcCoe Idealize.SL.Sem
open Idealize.ShloMosaic.Pipeline (Dat)
open Cert.Reference11Ideal.Read

variable (m : (ℓ : Loc nD τ sig) → Buf (Elt Ideal) ℓ)

/-- The reference's result on the kernel's arguments. -/
abbrev goal (c : Dev nD) := val_main_v5 (F := Ideal) (m ((c : Thread nD τ).loc main_arg0)) (m ((c : Thread nD τ).loc main_arg1))

/-- Where each window's block lies, at every grid point. -/
theorem idx : ∀ t : Fin cfg0.N, win0_0.index t = ![t.val % 4, 0] ∧ win0_1.index t = ![t.val / 4, 0] ∧ win0_2.index t = ![t.val % 4, t.val / 4] ∧ t.val / 4 < 4 :=
  (by decide +kernel : ∀ t : Fin grid0.N, _)

/-- What a grid point stores is the reference's block. -/
theorem point (c : Dev nD) (t : Fin cfg0.N) (y) : k0_pay1 (iblk m c 0 t) (iblk m c 1 t) y = goal m c (((cfg0.win 2).blk t).view.emb y) := by
  pointwise [k0_pay1, goal, val_main_v5, val_main_v4, val_main_v3, val_main_v1]
  refine Fin.sum_fin_congr fun k => ?_
  blk_point [iblk, V, idx t]

/-- The result array after the run is the reference's. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.Kernel11Ideal.Mix

end
-- ==== Proof.MixQkvW.lean ====
/- The gradient of the even layer's input projection's weights: the call's result array is the reference's. -/
module

public import proofs.«01_k».proof.Proof.Gen.Kernel12Ideal.Value
public import proofs.«01_k».proof.Proof.Gen.Reference12Ideal.Read
public import Idealize.ShloMosaic.Lib.Pipeline.ValueKit

@[expose] public section

set_option maxRecDepth 16384

noncomputable section

namespace Cert.Kernel12Ideal.Mix

open Cert.Kernel12Ideal Cert.Kernel12Ideal.Gen Idealize.ShloMosaic Idealize.ShloMosaic.TcCoe Idealize.SL.Sem
open Idealize.ShloMosaic.Pipeline (Dat)
open Cert.Reference12Ideal.Read

variable (m : (ℓ : Loc nD τ sig) → Buf (Elt Ideal) ℓ)

/-- The reference's result on the kernel's arguments. -/
abbrev goal (c : Dev nD) := val_main_v6 (F := Ideal) (m ((c : Thread nD τ).loc main_arg0)) (m ((c : Thread nD τ).loc main_arg1))

/-- Where each window's block lies, at every grid point. -/
theorem idx : ∀ t : Fin cfg0.N, win0_0.index t = ![t.val % 2, 0] ∧ win0_1.index t = ![0, t.val / 2] ∧ win0_2.index t = ![t.val % 2, t.val / 2] ∧ t.val / 2 < 8 :=
  (by decide +kernel : ∀ t : Fin grid0.N, _)

/-- What a grid point stores is the reference's block. -/
theorem point (c : Dev nD) (t : Fin cfg0.N) (y) : k0_pay1 (iblk m c 0 t) (iblk m c 1 t) y = goal m c (((cfg0.win 2).blk t).view.emb y) := by
  pointwise [k0_pay1, goal, val_main_v6, val_main_v5, val_main_v4, val_main_v3, val_main_v1]
  refine Fin.sum_fin_congr fun k => (mul_comm _ _).trans ?_
  blk_point [iblk, V, idx t]

/-- The result array after the run is the reference's. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.Kernel12Ideal.Mix

end
-- ==== Proof.MixIn.lean ====
/- The gradient of the even layer's projection's input: the call's result array is the reference's. -/
module

public import proofs.«01_k».proof.Proof.Gen.Kernel13Ideal.Value
public import proofs.«01_k».proof.Proof.Gen.Reference13Ideal.Read
public import Idealize.ShloMosaic.Lib.Pipeline.ValueKit

@[expose] public section

set_option maxRecDepth 16384

noncomputable section

namespace Cert.Kernel13Ideal.Mix

open Cert.Kernel13Ideal Cert.Kernel13Ideal.Gen Idealize.ShloMosaic Idealize.ShloMosaic.TcCoe Idealize.SL.Sem
open Idealize.ShloMosaic.Pipeline (Dat)
open Cert.Reference13Ideal.Read

variable (m : (ℓ : Loc nD τ sig) → Buf (Elt Ideal) ℓ)

/-- The reference's result on the kernel's arguments. -/
abbrev goal (c : Dev nD) := val_main_v11 (F := Ideal) (m ((c : Thread nD τ).loc main_arg0)) (m ((c : Thread nD τ).loc main_arg1)) (m ((c : Thread nD τ).loc main_arg2))

/-- Where each window's block lies, at every grid point. -/
theorem idx : ∀ t : Fin cfg0.N, win0_0.index t = ![t.val % 4, 0] ∧ win0_1.index t = ![t.val / 4, 0] ∧ win0_2.index t = ![t.val % 4, 0] ∧ win0_3.index t = ![t.val / 4, 0] ∧ win0_4.index t = ![t.val % 4, t.val / 4] ∧ t.val / 4 < 4 :=
  (by decide +kernel : ∀ t : Fin grid0.N, _)

/-- The packed columns of the weights, which the host cuts off. -/
theorem packed (c : Dev nD) (i) (k : Fin 6144) : V m c main_v2 (ix2 i k) = m ((c : Thread nD τ).loc main_arg2) (ix2 i ⟨k.val, by omega⟩) := by
  have e : V m c main_v2 = extractStridedSlice S2048x6144 ![0, 0] (m ((c : Thread nD τ).loc main_arg2)) slices_S2048x6152_S2048x6144_0_0 := rfl
  rw [e]
  pointwise []

/-- The columns of the forget gate, which the host cuts off and fills up with zeros. -/
theorem padded (c : Dev nD) : V m c main_v1 = pad S2048x128 ![0, 0] ![0, 120] ![0, 0]
    (extractStridedSlice S2048x8 ![0, 6144] (m ((c : Thread nD τ).loc main_arg2)) slices_S2048x6152_S2048x8_0_6144)
    (sitofp (F := Ideal) .bf16 (constantI S_ 32 0#32)) pads_S2048x8_S2048x128_000_01200 h_S_ := rfl

/-- The word zero as a number. -/
theorem zero_word : FloatOps.sitofp (F := Ideal) FTy.bf16 0#32 = (0 : EReal) := by
  show (((0#32).toInt : ℝ) : EReal) = 0
  simp

/-- One of the eight columns of the forget gate. -/
theorem gate_col (c : Dev nD) (i) (k : Fin 8) : V m c main_v1 (ix2 i (Fin.castAdd 120 k)) = m ((c : Thread nD τ).loc main_arg2) (ix2 i (k.natAdd 6144)) := by
  rw [padded]
  pointwise []
  have h := k.isLt
  simp only [Fin.val_castAdd, h, dite_true]
  rfl

/-- A column that the host filled up. -/
theorem zero_col (c : Dev nD) (i) (k : Fin 120) : V m c main_v1 (ix2 i (Fin.natAdd 8 k)) = (0 : EReal) := by
  rw [padded]
  pointwise []
  have h : ¬(8 + k.val < 8) := by omega
  simp only [Fin.val_natAdd, h, dite_false]
  exact zero_word

/-- The reference's entry: the products over the packed columns and over the eight columns of the forget gate. -/
theorem whole (X0 X1 X2 j) : val_main_v11 (F := Ideal) X0 X1 X2 j
    = ∑ k : Fin 6144, X0 (ix2 (j 0) k) * X2 (ix2 (j 1) ⟨k.val, by omega⟩) + ∑ k : Fin 8, X1 (ix2 (j 0) (k.castAdd 120)) * X2 (ix2 (j 1) (k.natAdd 6144)) := by
  pointwise [val_main_v11, val_main_v10, val_main_v9, val_main_v8, val_main_v4, val_main_v2, val_main_v1, val_main_v0, val_main_cst_0, val_main_cst_1]
  refine (Fin.sum_univ_add (a := 6144) (b := 8) _).trans ?_
  refine congrArg₂ (fun a b : EReal => a + b) (Fin.sum_fin_congr fun k => ?_) (Fin.sum_fin_congr fun k => ?_)
  · have h : ¬(6144 ≤ k.val ∧ k.val - 6144 < 8) := by omega
    simp only [Fin.val_castAdd, h, k.isLt, dite_true, dite_false, zero_add]
    rfl
  · have h' : ¬(6144 + k.val < 6144) := by omega
    have h := k.isLt
    simp only [Fin.val_natAdd, Nat.le_add_right, h, h', and_true, true_and, dite_true, dite_false, add_zero, Nat.add_sub_cancel_left]
    rfl

/-- What a grid point stores is the reference's block. -/
theorem point (c : Dev nD) (t : Fin cfg0.N) (y) : k0_pay1 (iblk m c 0 t) (iblk m c 1 t) (iblk m c 2 t) (iblk m c 3 t) y = goal m c (((cfg0.win 4).blk t).view.emb y) := by
  refine Eq.trans ?_ (whole _ _ _ _).symm
  pointwise [k0_pay1]
  refine congrArg₂ (fun a b : EReal => a + b) (Fin.sum_fin_congr fun k => ?_) ?_
  · refine congrArg₂ (fun a b : EReal => a * b) ?_ ((?_ : _ = V m c main_v2 (ix2 (((cfg0.win 4).blk t).view.emb y 1) k)).trans (packed m c _ k))
    · blk_point [iblk, V, idx t]
    · blk_point [iblk, idx t]
  · refine (Fin.sum_univ_add (a := 8) (b := 120) _).trans ?_
    refine (congrArg₂ (fun a b : EReal => a + b) (Fin.sum_fin_congr fun k => ?_) ?_).trans (add_zero _)
    · refine congrArg₂ (fun a b : EReal => a * b) ?_ ((?_ : _ = V m c main_v1 (ix2 (((cfg0.win 4).blk t).view.emb y 1) (Fin.castAdd 120 k))).trans (gate_col m c _ k))
      · blk_point [iblk, V, idx t]
      · blk_point [iblk, idx t]
    · refine Finset.sum_eq_zero fun k _ => ?_
      have hz : ∀ a b : EReal, b = 0 → a * b = 0 := fun a b h => by rw [h, mul_zero]
      refine hz _ _ ((?_ : _ = V m c main_v1 (ix2 (((cfg0.win 4).blk t).view.emb y 1) (Fin.natAdd 8 k))).trans (zero_col m c _ k))
      blk_point [iblk, idx t]

/-- The result array after the run is the reference's. -/
theorem final (c : Dev nD) : (dats m 0 c).arrAt 4 (cfgs 0).N = goal m c := by
  refine (dats m 0 c).arrAt_eq_of_covers 4 _ (by decide +kernel) fun t _ y => ?_
  blk_simp
  rw [after0_4]; frame_out
  exact point m c t y

end Cert.Kernel13Ideal.Mix

end
-- ==== Proof.MixColsW.lean ====
/- The gradient of the odd layer's input projection's weights: the call's result array is the reference's. -/
module

public import proofs.«01_k».proof.Proof.Gen.Kernel14Ideal.Value
public import proofs.«01_k».proof.Proof.Gen.Reference14Ideal.Read
public import Idealize.ShloMosaic.Lib.Pipeline.ValueKit

@[expose] public section

set_option maxRecDepth 16384

noncomputable section

namespace Cert.Kernel14Ideal.Mix

open Cert.Kernel14Ideal Cert.Kernel14Ideal.Gen Idealize.ShloMosaic Idealize.ShloMosaic.TcCoe Idealize.SL.Sem
open Idealize.ShloMosaic.Pipeline (Dat)
open Cert.Reference14Ideal.Read

variable (m : (ℓ : Loc nD τ sig) → Buf (Elt Ideal) ℓ)

/-- The reference's result on the kernel's arguments. -/
abbrev goal (c : Dev nD) := val_main_v8 (F := Ideal) (m ((c : Thread nD τ).loc main_arg0)) (m ((c : Thread nD τ).loc main_arg1))

/-- Where each window's block lies, at every grid point. -/
theorem idx : ∀ t : Fin cfg0.N, win0_0.index t = ![t.val % 2, 0] ∧ win0_1.index t = ![0, t.val / 2] ∧ win0_2.index t = ![t.val / 2, t.val % 2, 0] ∧ t.val / 2 < 8 :=
  (by decide +kernel : ∀ t : Fin grid0.N, _)

/-- What a grid point stores is the reference's block. -/
theorem point (c : Dev nD) (t : Fin cfg0.N) (y) : k0_pay1 (iblk m c 0 t) (iblk m c 1 t) y = goal m c (((cfg0.win 2).blk t).view.emb y) := by
  pointwise [k0_pay1, goal, val_main_v8, val_main_v7, val_main_v6, val_main_v5, val_main_v4, val_main_v3, val_main_v1]
  refine Fin.sum_fin_congr fun k => (mul_comm _ _).trans ?_
  blk_point [iblk, V, idx t]

/-- The result array after the run is the reference's. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.Kernel14Ideal.Mix

end
-- ==== Proof.MixColsIn.lean ====
/- The gradient of the odd layer's projection's input: the call's result array is the reference's. -/
module

public import proofs.«01_k».proof.Proof.Gen.Kernel15Ideal.Value
public import proofs.«01_k».proof.Proof.Gen.Reference15Ideal.Read
public import Idealize.ShloMosaic.Lib.Pipeline.ValueKit

@[expose] public section

set_option maxRecDepth 16384

noncomputable section

namespace Cert.Kernel15Ideal.Mix

open Cert.Kernel15Ideal Cert.Kernel15Ideal.Gen Idealize.ShloMosaic Idealize.ShloMosaic.TcCoe Idealize.SL.Sem
open Idealize.ShloMosaic.Pipeline (Dat)
open Cert.Reference15Ideal.Read

variable (m : (ℓ : Loc nD τ sig) → Buf (Elt Ideal) ℓ)

/-- The reference's result on the kernel's arguments. -/
abbrev goal (c : Dev nD) := val_main_v4 (F := Ideal) (m ((c : Thread nD τ).loc main_arg0)) (m ((c : Thread nD τ).loc main_arg1))

/-- Where each window's block lies, at every grid point. -/
theorem idx : ∀ t : Fin cfg0.N, win0_0.index t = ![t.val / 8, t.val % 8] ∧ win0_1.index t = ![t.val % 8, 0, 0] ∧ win0_2.index t = ![t.val / 8, 0] ∧ t.val / 8 < 2 :=
  (by decide +kernel : ∀ t : Fin grid0.N, _)

/-- The accumulator starts at zero. -/
theorem start (j) : k0_pay1 (F := Ideal) j = 0 := by pointwise [k0_pay1]

/-- A grid point adds the products of its block of columns. -/
theorem step (acc x0 x1 j) : k0_pay2 (F := Ideal) acc x0 x1 j = acc j + ∑ k : Fin 768, x0 (ix2 (j 0) k) * x1 (ix3 0 (j 1) k) := by
  pointwise [k0_pay2]

/-- The reference's entry as one sum over all columns. -/
theorem whole (X0 X1 j) : val_main_v4 (F := Ideal) X0 X1 j = ∑ l : Fin 6144, X0 (ix2 (j 0) l) * X1 (ix2 (j 1) l) := by
  pointwise [val_main_v4, val_main_v3, val_main_v1]

/-- At the last block of columns the result's block is the accumulator. -/
theorem stored (c : Dev nD) (t : Fin cfg0.N) (h : t.val % 8 = 7) (j) : (outsAt0 m c t.val t.isLt).1 j = (outsAt0 m c t.val t.isLt).2 j := by
  rw [outsAt0_C m c t (by omega) h]; frame_out

/-- The result array after the run is the reference's. -/
theorem final (c : Dev nD) : (dats m 0 c).arrAt 2 (cfgs 0).N = goal m c := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 8 (fun _ => 0) _
    (fun t h j => by rw [outsAt0_A m c t h (by omega)]; frame_out; rw [step, start])
    (fun t h j => by
      by_cases h7 : t.val % 8 = 7
      · rw [outsAt0_C m c t h h7]; frame_out; rw [step]; exact congrArg (· + _) (congrFun ((Memref.isWhole_whole _).read_unread _) _)
      · rw [outsAt0_B m c t h h7]; frame_out; rw [step]; exact congrArg (· + _) (congrFun ((Memref.isWhole_whole _).read_unread _) _))
    t ((flush0_2 t).mp hf) _, zero_add]
  refine Eq.trans ?_ (whole _ _ _).symm
  refine Fin.sum_mul_add_congr fun s k hl => ?_
  blk_point [iblk, V, idx t, idx ⟨_, Pipeline.run_point_lt_of_flush t ((flush0_2 t).mp hf) s⟩]

end Cert.Kernel15Ideal.Mix

end
-- ==== Proof.RopeRef.lean ====
/- The rotated projection: the reference's entry, as one formula in the column. -/
module

public import proofs.«01_k».proof.Proof.Gen.Reference16Ideal.Read
public import Idealize.ShloMosaic.Lib.Pipeline.ValueKit

@[expose] public section

set_option maxRecDepth 16384

noncomputable section

namespace Cert.Rope

open Idealize.ShloMosaic Cert.Reference16Ideal Cert.Reference16Ideal.Read

/-- Row `r` of the first array times column `n` of the second. -/
def prod (X0 : (⟨S2048x2048, .bf16⟩ : BufTy).Contents (Elt Ideal)) (X1 : (⟨S2048x6144, .bf16⟩ : BufTy).Contents (Elt Ideal)) (r : Fin 2048) (n : ℕ) : EReal :=
  if h : n < 6144 then ∑ k : Fin 2048, X0 (ix2 r k) * X1 (ix2 k ⟨n, h⟩) else 0

/-- The cosine of position `r` at frequency `l`. -/
def cosT (r : Fin 2048) (l : ℕ) : EReal := if h : l < 16 then val_main_v18 (F := Ideal) (ix2 r ⟨l, h⟩) else 0

/-- The sine of position `r` at frequency `l`. -/
def sinT (r : Fin 2048) (l : ℕ) : EReal := if h : l < 16 then val_main_v20 (F := Ideal) (ix2 r ⟨l, h⟩) else 0

/-- A lane of a head after the rotation of the first 32 lanes: `f` the entries of the row by their columns, `n` the column, `l` the lane. -/
def turned (f c s : ℕ → EReal) (n l : ℕ) : EReal :=
  if l < 16 then f n * c l - f (n + 16) * s l else if l < 32 then f n * c (l - 16) + f (n - 16) * s (l - 16) else f n

variable (X0 : (⟨S2048x2048, .bf16⟩ : BufTy).Contents (Elt Ideal)) (X1 : (⟨S2048x6144, .bf16⟩ : BufTy).Contents (Elt Ideal))

/-- The projection, split by thirds, heads and lanes. -/
theorem split (r : Fin 2048) (p : Fin 3) (h : Fin 16) (l : Fin 128) : val_main_v3 (F := Ideal) X0 X1 (ix4 r p h l) = prod X0 X1 r (2048 * p.val + 128 * h.val + l.val) := by
  rw [prod, dif_pos (by omega)]
  pointwise [val_main_v3, val_main_v2, val_main_v1, val_main_v0]
  refine Finset.sum_congr rfl fun k _ => congrArg (fun n : Fin 6144 => X0 (ix2 r k) * X1 (ix2 k n)) (Fin.ext ?_)
  show p.val * 2048 + h.val * 128 + l.val = 2048 * p.val + 128 * h.val + l.val
  omega

/-- The rotated queries. -/
theorem queries (r : Fin 2048) (h : Fin 16) (l : Fin 128) : val_main_v37 (F := Ideal) X0 X1 (ix3 r h l) = turned (prod X0 X1 r) (cosT r) (sinT r) (128 * h.val + l.val) l.val := by
  rw [turned]
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v19, val_main_v6, val_main_v5, split]
  by_cases h1 : l.val < 16
  · have h2 : l.val < 32 := by omega
    simp only [h1, h2, dite_true, if_true, cosT, sinT, Nat.add_assoc, Nat.add_comm 16 l.val]
  · by_cases h2 : l.val < 32
    · have h3 : l.val - 16 < 16 := by omega
      simp only [h1, h2, h3, dite_true, dite_false, if_true, if_false, cosT, sinT]
      rw [show 16 + (l.val - 16) = l.val by omega, ← Nat.add_sub_assoc (by omega)]
    · simp only [h1, h2, dite_false, if_false]
      rw [show 32 + (l.val - 32) = l.val by omega]

/-- The keys' cosines are the queries'. -/
theorem cos_keys : val_main_v51 (F := Ideal) = val_main_v18 := rfl

/-- The keys' sines are the queries'. -/
theorem sin_keys : val_main_v53 (F := Ideal) = val_main_v20 := rfl

/-- The rotated keys. -/
theorem keys (r : Fin 2048) (h : Fin 16) (l : Fin 128) : val_main_v70 (F := Ideal) X0 X1 (ix3 r h l) = turned (prod X0 X1 r) (cosT r) (sinT r) (2048 + 128 * h.val + l.val) l.val := by
  rw [turned]
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v52, val_main_v39, val_main_v38, split, cos_keys, sin_keys]
  by_cases h1 : l.val < 16
  · have h2 : l.val < 32 := by omega
    simp only [h1, h2, dite_true, if_true, cosT, sinT, Nat.add_assoc, Nat.add_comm 16 l.val]
  · by_cases h2 : l.val < 32
    · have h3 : l.val - 16 < 16 := by omega
      simp only [h1, h2, h3, dite_true, dite_false, if_true, if_false, cosT, sinT]
      rw [show 16 + (l.val - 16) = l.val by omega, ← Nat.add_sub_assoc (by omega)]
    · simp only [h1, h2, dite_false, if_false]
      rw [show 32 + (l.val - 32) = l.val by omega]

/-- The values. -/
theorem values (r : Fin 2048) (h : Fin 16) (l : Fin 128) : val_main_v72 (F := Ideal) X0 X1 (ix3 r h l) = prod X0 X1 r (4096 + 128 * h.val + l.val) := by
  pointwise [val_main_v72, val_main_v71, split]

/-- The reference's entry. -/
theorem whole (j) : val_main_v77 (F := Ideal) X0 X1 j = if (j 1).val < 4096 then turned (prod X0 X1 (j 0)) (cosT (j 0)) (sinT (j 0)) (j 1).val ((j 1).val % 128) else prod X0 X1 (j 0) (j 1).val := by
  pointwise [val_main_v77, val_main_v76, val_main_v75, val_main_v74, val_main_v73, queries, keys, values]
  by_cases h1 : (j 1).val < 2048
  · have h2 : (j 1).val < 4096 := by omega
    simp only [h1, h2, dite_true, if_true]
    rw [show 128 * ((j 1).val / 128) + (j 1).val % 128 = (j 1).val by omega]
  · by_cases h2 : (j 1).val < 4096
    · have h3 : (j 1).val - 2048 < 2048 := by omega
      simp only [h1, h2, h3, dite_true, dite_false, if_true]
      rw [show 2048 + 128 * (((j 1).val - 2048) / 128) + ((j 1).val - 2048) % 128 = (j 1).val by omega, show ((j 1).val - 2048) % 128 = (j 1).val % 128 by omega]
    · have h3 : ¬(j 1).val - 2048 < 2048 := by omega
      simp only [h1, h2, h3, dite_false, if_false]
      rw [show 4096 + 128 * (((j 1).val - 2048 - 2048) / 128) + ((j 1).val - 2048 - 2048) % 128 = (j 1).val by omega]

end Cert.Rope

end
-- ==== Proof.Rope.lean ====
/- The rotated projection: the call's result array is the reference's. -/
module

public import proofs.«01_k».proof.Proof.Gen.Kernel16Ideal.Value
public import proofs.«01_k».proof.Proof.RopeRef

@[expose] public section

set_option maxRecDepth 16384

noncomputable section

namespace Cert.Kernel16Ideal.Rope

open Cert.Kernel16Ideal Cert.Kernel16Ideal.Gen Idealize.ShloMosaic Idealize.ShloMosaic.TcCoe Idealize.SL.Sem
open Idealize.ShloMosaic.Pipeline (Dat)
open Cert.Reference16Ideal.Read Cert.Rope

variable (m : (ℓ : Loc nD τ sig) → Buf (Elt Ideal) ℓ)

/-- The reference's result on the kernel's arguments. -/
abbrev goal (c : Dev nD) := val_main_v77 (F := Ideal) (m ((c : Thread nD τ).loc main_arg0)) (m ((c : Thread nD τ).loc main_arg1))

/-- Where each window's block lies, at every grid point. -/
theorem idx : ∀ t : Fin cfg0.N, win0_0.index t = ![t.val % 2, 0] ∧ win0_1.index t = ![t.val / 2, 0, 0] ∧ win0_2.index t = ![t.val % 2, 0] ∧ win0_3.index t = ![t.val % 2, 0] ∧ win0_4.index t = ![t.val % 2, 0] ∧ win0_5.index t = ![t.val % 2, t.val / 2] ∧ t.val / 2 < 8 :=
  (by decide +kernel : ∀ t : Fin grid0.N, _)

/-- The first coordinate of a grid point. -/
theorem shard : ∀ t : Fin cfg0.N, (grid0.coords t 0).val = t.val / 2 := (by decide +kernel : ∀ t : Fin grid0.N, _)

/-- The columns of ones. -/
abbrev ones96 : FVec Ideal S2048x96 .f32 := broadcastInDim S2048x96 ![] bcast_S_S2048x96 (constant (F := Ideal) S_ .f32 0x3F800000#32)

/-- The columns of zeros. -/
abbrev zeros96 : FVec Ideal S2048x96 .f32 := broadcastInDim S2048x96 ![] bcast_S_S2048x96 (constant (F := Ideal) S_ .f32 0x00000000#32)

/-- The sixteen columns of zeros. -/
abbrev zeros16 : FVec Ideal S2048x16 .f32 := broadcastInDim S2048x16 ![] bcast_S_S2048x16 (constant (F := Ideal) S_ .f32 0x00000000#32)

/-- The cosines. -/
abbrev cos16 : FVec Ideal S2048x16 .f32 := val_main_v18 (F := Ideal)

/-- The sines, times the sign. -/
abbrev sin16 : FVec Ideal S2048x16 .f32 := mulf (broadcastInDim S2048x16 ![] bcast_S_S2048x16 (constant (F := Ideal) S_ .f32 0x3F800000#32)) (val_main_v20 (F := Ideal))

/-- Three arrays side by side. -/
abbrev join (a b : FVec Ideal S2048x16 .f32) (d : FVec Ideal S2048x96 .f32) : FVec Ideal S2048x128 .f32 := concatenate S2048x128 1 [⟨S2048x16, a⟩, ⟨S2048x16, b⟩, ⟨S2048x96, d⟩] concatenates_S2048x16_S2048x16_S2048x96_S2048x128_d1

/-- The table of the entry itself. -/
theorem tab0 (c : Dev nD) (r : Fin 2048) (l : Fin 128) : V m c main_v21 (ix2 r l) = if l.val < 16 then cosT r l.val else if l.val < 32 then cosT r (l.val - 16) else 1 := by
  have e : V m c main_v21 = join cos16 cos16 ones96 := rfl
  rw [e]
  pointwise []
  by_cases h1 : l.val < 16
  · simp only [h1, dite_true, if_true, cosT]
  · by_cases h2 : l.val < 32
    · have h3 : l.val - 16 < 16 := by omega
      simp only [h1, h2, h3, dite_true, dite_false, if_true, if_false, cosT]
    · have h3 : ¬l.val - 16 < 16 := by omega
      simp only [h1, h2, h3, dite_false, if_false]

/-- The table of the entry sixteen lanes up. -/
theorem tab1 (c : Dev nD) (r : Fin 2048) (l : Fin 128) : V m c main_v23 (ix2 r l) = if l.val < 16 then -(sinT r l.val) else 0 := by
  have e : V m c main_v23 = join (Host.negf sin16) zeros16 zeros96 := rfl
  rw [e]
  pointwise []
  by_cases h1 : l.val < 16
  · simp only [h1, dite_true, if_true, sinT]
  · simp only [h1, dite_false, if_false, dite_eq_ite, ite_self]

/-- The table of the entry sixteen lanes down. -/
theorem tab2 (c : Dev nD) (r : Fin 2048) (l : Fin 128) : V m c main_v24 (ix2 r l) = if l.val < 16 then 0 else if l.val < 32 then sinT r (l.val - 16) else 0 := by
  have e : V m c main_v24 = join zeros16 sin16 zeros96 := rfl
  rw [e]
  pointwise []
  by_cases h1 : l.val < 16
  · simp only [h1, dite_true, if_true]
  · by_cases h2 : l.val < 32
    · have h3 : l.val - 16 < 16 := by omega
      simp only [h1, h2, h3, dite_true, dite_false, if_true, if_false, sinT]
    · have h3 : ¬l.val - 16 < 16 := by omega
      simp only [h1, h2, h3, dite_false, if_false]

/-- The shards of the weights. -/
theorem shards (c : Dev nD) (s : Fin 8) (k : Fin 2048) (n : Fin 768) : V m c main_v1 (ix3 s k n) = m ((c : Thread nD τ).loc main_arg1) (ix2 k ⟨768 * s.val + n.val, by omega⟩) := by
  have e : V m c main_v1 = transpose S8x2048x768 [1, 0, 2] (shapeCast S2048x8x768 (m ((c : Thread nD τ).loc main_arg1)) shapeCasts_S2048x6144_S2048x8x768) transposes_S2048x8x768_S8x2048x768_1_0_2 := rfl
  rw [e]
  pointwise []
  exact congrArg (fun a : Fin 6144 => m ((c : Thread nD τ).loc main_arg1) (ix2 k a)) (Fin.ext (by show s.val * 768 + n.val = 768 * s.val + n.val; omega))

/-- An entry of the block's product. -/
def dot (x0 : Vec Ideal S1024x2048 .bf16) (x1 : Vec Ideal S1x2048x768 .bf16) (r : Fin 1024) (n : Fin 768) : EReal := ∑ k : Fin 2048, x0 (ix2 r k) * x1 (ix3 0 k n)

/-- The product. -/
theorem pay3 (x0 x1 j) : k0_pay3 (F := Ideal) x0 x1 j = dot x0 x1 (j 0) (j 1) := by
  pointwise [k0_pay3, dot]

/-- What a grid point leaves at lane `l` of its head `h`: rotated if the head is one of the queries' or the keys'. -/
def entry (s h : ℕ) (f : ℕ → EReal) (a b d : Fin 128 → EReal) (l : Fin 128) : EReal :=
  if 6 * s + h < 32 then f l.val * a l + f ((l.val + 16) % 128) * b l + f ((l.val + 112) % 128) * d l else f l.val

/-- The comparison of the head's number. -/
theorem head_lt (s : Fin 8) (h : Fin 6) : (Scalar.cmpi .slt (Scalar.addi (Scalar.muli (BitVec.ofNat 32 s.val) 6#32) (BitVec.ofNat 32 h.val)) 32#32 = 1#1) = (6 * s.val + h.val < 32) := by
  revert s h; decide +kernel

/-- What a grid point leaves in its block, as one formula in the column. -/
def out (i : grid0.Coords) (x0 : Vec Ideal S1024x2048 .bf16) (x1 : Vec Ideal S1x2048x768 .bf16) (x2 x3 x4 : Vec Ideal S1024x128 .f32) : Vec Ideal S1024x768 .bf16 := fun j =>
  entry (i 0).val ((j 1).val / 128) (fun n => dot x0 x1 (j 0) ⟨((j 1).val / 128 * 128 + n) % 768, Nat.mod_lt _ (by norm_num)⟩)
    (fun l => x2 (ix2 (j 0) l)) (fun l => x3 (ix2 (j 0) l)) (fun l => x4 (ix2 (j 0) l)) ⟨(j 1).val % 128, Nat.mod_lt _ (by norm_num)⟩

/-- One stored head, read at its place in the block. -/
theorem piece (i : grid0.Coords) (x0 : Vec Ideal S1024x2048 .bf16) (x1 : Vec Ideal S1x2048x768 .bf16) (x2 x3 x4 : Vec Ideal S1024x128 .f32) (h : ℕ) (hh : h < 6) (x : S1024x128.Idx) (e : S1024x768.Idx)
    (he0 : e 0 = x 0) (he1 : (e 1).val = 128 * h + (x 1).val) (a b d : Fin 768) (ha : a.val = 128 * h + (x 1).val) (hb : b.val = 128 * h + ((x 1).val + 128 - 112) % 128) (hd : d.val = 128 * h + ((x 1).val + 128 - 16) % 128)
    (w : BitVec 1) (hw : (w = 1#1) = (6 * (i 0).val + h < 32)) :
    Scalar.select w (dot x0 x1 (x 0) a * x2 x + dot x0 x1 (x 0) b * x3 x + dot x0 x1 (x 0) d * x4 x) (dot x0 x1 (x 0) a) = out i x0 x1 x2 x3 x4 e := by
  have hx : (x 1).val < 128 := (x 1).isLt
  have q : (e 1).val / 128 = h := by omega
  have r : (e 1).val % 128 = (x 1).val := by omega
  have hix : ix2 (n0 := 1024) (n1 := 128) (e 0) ⟨(e 1).val % 128, Nat.mod_lt _ (by norm_num)⟩ = x := by
    refine (congrArg₂ (fun (u : Fin 1024) (v : Fin 128) => ix2 u v) he0 (Fin.ext r)).trans (ix2_eta x)
  rw [he0] at hix
  have h1 : (⟨(h * 128 + (e 1).val % 128) % 768, Nat.mod_lt _ (by norm_num)⟩ : Fin 768) = a := Fin.ext (by show (h * 128 + (e 1).val % 128) % 768 = a.val; omega)
  have h2 : (⟨(h * 128 + ((e 1).val % 128 + 16) % 128) % 768, Nat.mod_lt _ (by norm_num)⟩ : Fin 768) = b := Fin.ext (by show (h * 128 + ((e 1).val % 128 + 16) % 128) % 768 = b.val; omega)
  have h3 : (⟨(h * 128 + ((e 1).val % 128 + 112) % 128) % 768, Nat.mod_lt _ (by norm_num)⟩ : Fin 768) = d := Fin.ext (by show (h * 128 + ((e 1).val % 128 + 112) % 128) % 768 = d.val; omega)
  simp only [out, entry, q, he0, h1, h2, h3, hix]
  by_cases hc : 6 * (i 0).val + h < 32
  · rw [if_pos hc, Scalar.select, if_pos (hw.symm ▸ hc)]
  · rw [if_neg hc, Scalar.select, if_neg (hw.symm ▸ hc)]

/-- What a grid point leaves in its block. -/
theorem block (i : grid0.Coords) (x0 : Vec Ideal S1024x2048 .bf16) (x1 : Vec Ideal S1x2048x768 .bf16) (x2 x3 x4 : Vec Ideal S1024x128 .f32) (j : S1024x768.Idx) :
    out0_5 (F := Ideal) i x0 x1 x2 x3 x4 j = out i x0 x1 x2 x3 x4 j := by
  unfold_out out0_5
  frame_out
  refine View.canon_apply_of_pieces (Val := Elt Ideal) (out i x0 x1 x2 x3 x4) _ ?_ j (cover0_5 _ _ _ _ _ _ j)
  intro p hp
  simp only [List.mem_cons, List.not_mem_nil, or_false] at hp
  rcases hp with rfl | rfl | rfl | rfl | rfl | rfl <;> intro x <;> dsimp only
  · pointwise [k0_pay2, k0_pay4, k0_pay5, k0_pay6, pay3]
    exact piece i x0 x1 x2 x3 x4 5 (by norm_num) x _ (Fin.ext (by show 0 + 1 * (x 0).val = _; omega)) (by show 640 + 1 * (x 1).val = _; omega) _ _ _ rfl rfl rfl _ (head_lt (i 0) 5)
  · pointwise [k0_pay1, k0_pay13, k0_pay14, k0_pay15, k0_pay4, k0_pay5, k0_pay6, pay3]
    exact piece i x0 x1 x2 x3 x4 4 (by norm_num) x _ (Fin.ext (by show 0 + 1 * (x 0).val = _; omega)) (by show 512 + 1 * (x 1).val = _; omega) _ _ _ rfl rfl rfl _ (head_lt (i 0) 4)
  · pointwise [k0_pay12, k0_pay4, k0_pay5, k0_pay6, pay3]
    exact piece i x0 x1 x2 x3 x4 3 (by norm_num) x _ (Fin.ext (by show 0 + 1 * (x 0).val = _; omega)) (by show 384 + 1 * (x 1).val = _; omega) _ _ _ rfl rfl rfl _ (head_lt (i 0) 3)
  · pointwise [k0_pay11, k0_pay4, k0_pay5, k0_pay6, pay3]
    exact piece i x0 x1 x2 x3 x4 2 (by norm_num) x _ (Fin.ext (by show 0 + 1 * (x 0).val = _; omega)) (by show 256 + 1 * (x 1).val = _; omega) _ _ _ rfl rfl rfl _ (head_lt (i 0) 2)
  · pointwise [k0_pay10, k0_pay8, k0_pay9, k0_pay4, k0_pay5, k0_pay6, pay3]
    exact piece i x0 x1 x2 x3 x4 1 (by norm_num) x _ (Fin.ext (by show 0 + 1 * (x 0).val = _; omega)) (by show 128 + 1 * (x 1).val = _; omega) _ _ _ rfl rfl rfl _ (head_lt (i 0) 1)
  · pointwise [k0_pay7, k0_pay4, k0_pay5, k0_pay6, pay3]
    exact piece i x0 x1 x2 x3 x4 0 (by norm_num) x _ (Fin.ext (by show 0 + 1 * (x 0).val = _; omega)) (by show 0 + 1 * (x 1).val = _; omega) _ _ _ (by simp) (by simp) (by simp) _ (head_lt (i 0) 0)

/-- The block's product is the projection's entry. -/
theorem dot_eq (c : Dev nD) (t : Fin cfg0.N) (y : Fin 1024) (r : Fin 2048) (hr : r.val = 1024 * (t.val % 2) + y.val) (n : Fin 768) :
    dot (iblk m c 0 t) (iblk m c 1 t) y n = prod (m ((c : Thread nD τ).loc main_arg0)) (m ((c : Thread nD τ).loc main_arg1)) r (768 * (t.val / 2) + n.val) := by
  have ht := (idx t).2.2.2.2.2.2
  rw [prod, dif_pos (by omega), dot]
  refine Fin.sum_fin_congr fun k => congrArg₂ (fun a b : EReal => a * b) ?_ ?_
  · rw [show r = ⟨1024 * (t.val % 2) + y.val, by omega⟩ from Fin.ext hr]
    blk_point [iblk, V, idx t]
  · refine (?_ : _ = V m c main_v1 (ix3 ⟨t.val / 2, ht⟩ k n)).trans (shards m c ⟨t.val / 2, ht⟩ k n)
    blk_point [iblk, idx t]

/-- The tables' blocks. -/
theorem tab_eq (c : Dev nD) (t : Fin cfg0.N) (y : Fin 1024) (r : Fin 2048) (hr : r.val = 1024 * (t.val % 2) + y.val) (l : Fin 128) :
    iblk m c 2 t (ix2 y l) = V m c main_v21 (ix2 r l) ∧ iblk m c 3 t (ix2 y l) = V m c main_v23 (ix2 r l) ∧ iblk m c 4 t (ix2 y l) = V m c main_v24 (ix2 r l) := by
  rw [show r = ⟨1024 * (t.val % 2) + y.val, by omega⟩ from Fin.ext hr]
  refine ⟨?_, ?_, ?_⟩
  · blk_point [iblk, idx t]
  · blk_point [iblk, idx t]
  · blk_point [iblk, idx t]

/-- The kernel's way of rotating a head is the reference's. -/
theorem turn (f c s : ℕ → EReal) (n : ℕ) (l : Fin 128) :
    f (n + l.val) * (if l.val < 16 then c l.val else if l.val < 32 then c (l.val - 16) else 1) + f (n + (l.val + 16) % 128) * (if l.val < 16 then -(s l.val) else 0)
      + f (n + (l.val + 112) % 128) * (if l.val < 16 then 0 else if l.val < 32 then s (l.val - 16) else 0) = turned f c s (n + l.val) l.val := by
  have hl := l.isLt
  rw [turned]
  by_cases h1 : l.val < 16
  · simp only [h1, if_true, mul_zero, add_zero, mul_neg, sub_eq_add_neg]
    rw [show (l.val + 16) % 128 = l.val + 16 by omega, Nat.add_assoc]
  · by_cases h2 : l.val < 32
    · simp only [h1, h2, if_true, if_false, mul_zero, add_zero]
      rw [show (l.val + 112) % 128 = l.val - 16 by omega, Nat.add_sub_assoc (by omega)]
    · simp only [h1, h2, if_false, mul_zero, add_zero, mul_one]

/-- What a grid point stores is the reference's entry. -/
theorem meet (c : Dev nD) (t : Fin cfg0.N) (y : S1024x768.Idx) (e : Cert.Reference16Ideal.S2048x6144.Idx) (he0 : (e 0).val = 1024 * (t.val % 2) + (y 0).val) (he1 : (e 1).val = 768 * (t.val / 2) + (y 1).val) :
    out (grid0.coords t) (iblk m c 0 t) (iblk m c 1 t) (iblk m c 2 t) (iblk m c 3 t) (iblk m c 4 t) y = goal m c e := by
  have hy : (y 1).val < 768 := (y 1).isLt
  have ht := (idx t).2.2.2.2.2.2
  have hd : ∀ n : ℕ, n < 128 → dot (iblk m c 0 t) (iblk m c 1 t) (y 0) ⟨((y 1).val / 128 * 128 + n) % 768, Nat.mod_lt _ (by norm_num)⟩
      = prod (m ((c : Thread nD τ).loc main_arg0)) (m ((c : Thread nD τ).loc main_arg1)) (e 0) (768 * (t.val / 2) + (y 1).val / 128 * 128 + n) := fun n hn =>
    (dot_eq m c t (y 0) (e 0) he0 _).trans (congrArg _ (by show 768 * (t.val / 2) + ((y 1).val / 128 * 128 + n) % 768 = _; omega))
  have h0 := fun l => (tab_eq m c t (y 0) (e 0) he0 l).1.trans (tab0 m c (e 0) l)
  have h1 := fun l => (tab_eq m c t (y 0) (e 0) he0 l).2.1.trans (tab1 m c (e 0) l)
  have h2 := fun l => (tab_eq m c t (y 0) (e 0) he0 l).2.2.trans (tab2 m c (e 0) l)
  have hl : (y 1).val % 128 < 128 := by omega
  refine Eq.trans ?_ (whole _ _ e).symm
  simp only [out, entry, shard t]
  rw [hd _ hl, hd _ (Nat.mod_lt _ (by norm_num)), hd _ (Nat.mod_lt _ (by norm_num)), h0, h1, h2]
  rw [turn (prod (m ((c : Thread nD τ).loc main_arg0)) (m ((c : Thread nD τ).loc main_arg1)) (e 0)) (cosT (e 0)) (sinT (e 0)) (768 * (t.val / 2) + (y 1).val / 128 * 128) ⟨(y 1).val % 128, hl⟩]
  rw [show 768 * (t.val / 2) + (y 1).val / 128 * 128 + (y 1).val % 128 = (e 1).val by omega]
  have hc : 6 * (t.val / 2) + (y 1).val / 128 < 32 ↔ (e 1).val < 4096 := by omega
  simp only [hc, show (e 1).val % 128 = (y 1).val % 128 by omega]

/-- A block's entry in the result: its row. -/
theorem emb0 (t : Fin cfg0.N) (y : S1024x768.Idx) : ((((cfg0.win 5).blk t).view.emb y) 0).val = 1024 * (t.val % 2) + (y 0).val := by
  blk_simp [idx t]
  omega

/-- A block's entry in the result: its column. -/
theorem emb1 (t : Fin cfg0.N) (y : S1024x768.Idx) : ((((cfg0.win 5).blk t).view.emb y) 1).val = 768 * (t.val / 2) + (y 1).val := by
  blk_simp [idx t]
  omega

/-- What a grid point stores is the reference's block. -/
theorem point (c : Dev nD) (t : Fin cfg0.N) (y : S1024x768.Idx) : out0_5 (F := Ideal) (grid0.coords t) (iblk m c 0 t) (iblk m c 1 t) (iblk m c 2 t) (iblk m c 3 t) (iblk m c 4 t) y = goal m c (((cfg0.win 5).blk t).view.emb y) :=
  (block _ _ _ _ _ _ y).trans (meet m c t y _ (emb0 t y) (emb1 t y))

/-- The result array after the run is the reference's. -/
theorem final (c : Dev nD) : (dats m 0 c).arrAt 5 (cfgs 0).N = goal m c := by
  refine (dats m 0 c).arrAt_eq_of_covers 5 _ (by decide +kernel) fun t _ y => ?_
  blk_simp
  rw [after0_5]
  exact point m c t y

end Cert.Kernel16Ideal.Rope

end
-- ==== Proof.NormReal.lean ====
/- The gradient of the norm in extended reals: the kernel's formula for a row and the chain rule's are the same, at finite and at infinite entries. -/
module

public import Idealize.ShloMosaic.Lib.Pipeline.ValueKit
public import Idealize.ShloMosaic.PureOps.Ideal

@[expose] public section

noncomputable section

namespace Cert.Norm

open Idealize.ShloMosaic

/-- The row's length, as the programs write it. -/
theorem len_word : Ideal.ofBits .f32 0x45000000#32 = ((2048 : ℝ) : EReal) := by
  simp [Ideal.ofBits, Ideal.ieee]
  rw [← EReal.coe_mul]
  norm_num

/-- Minus a half, as the programs write it. -/
theorem half_word : Ideal.ofBits .f32 0xBF000000#32 = ((-(1 / 2) : ℝ) : EReal) := by
  simp [Ideal.ofBits, Ideal.ieee]
  rw [← EReal.coe_mul]
  norm_num

/-- The number added under the root is positive. -/
theorem eps_word : ∃ e : ℝ, 0 < e ∧ Ideal.ofBits .f32 0x358637BD#32 = (e : EReal) := by
  refine ⟨8796093 * (1 / 8796093022208), by norm_num, ?_⟩
  simp [Ideal.ofBits, Ideal.ieee]
  norm_num

/-- A positive number times a sum is the sum of the products, infinite terms or not. -/
theorem pos_mul_sum {n : ℕ} (r : ℝ) (hr : 0 < r) (f : Fin n → EReal) : (r : EReal) * ∑ k, f k = ∑ k, (r : EReal) * f k := by
  refine Finset.induction_on (Finset.univ : Finset (Fin n)) (by simp) fun k s hk ih => ?_
  rw [Finset.sum_insert hk, Finset.sum_insert hk, ← ih, EReal.left_distrib_of_nonneg_of_ne_top (EReal.coe_nonneg.2 hr.le) (EReal.coe_ne_top r)]

/-- Twice a multiple is the multiple by the double, of an infinite number too. -/
theorem double (a : ℝ) (s : EReal) : (a : EReal) * s + (a : EReal) * s = ((2 * a : ℝ) : EReal) * s := by
  induction s using EReal.rec with
  | coe b => norm_cast; ring
  | top =>
    rcases lt_trichotomy a 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy a 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

/-- A square is not negative. -/
theorem sq_nonneg' (a : EReal) : 0 ≤ a * a := by
  induction a using EReal.rec with
  | coe b => rw [← EReal.coe_mul]; exact EReal.coe_nonneg.2 (mul_self_nonneg b)
  | top => simp
  | bot => simp

/-- The mean of a row's squares and the small number under the root. -/
def mean (x : Fin 2048 → EReal) : EReal := Ideal.div (∑ k, x k * x k) (Ideal.ofBits .f32 0x45000000#32) + Ideal.ofBits .f32 0x358637BD#32

/-- A row with an infinite entry has an infinite mean. -/
theorem mean_top (x : Fin 2048 → EReal) (k : Fin 2048) (h : x k * x k = ⊤) : mean x = ⊤ := by
  obtain ⟨e, _, he⟩ := eps_word
  have hs : ∑ k, x k * x k = ⊤ := top_le_iff.1 (h ▸ Finset.single_le_sum (f := fun k => x k * x k) (fun k _ => sq_nonneg' (x k)) (Finset.mem_univ k))
  rw [mean, hs, len_word, Ideal.div_coe (by norm_num), he, EReal.top_mul_coe_of_pos (by norm_num), EReal.top_add_coe]

/-- A finite row's mean is a positive number. -/
theorem mean_coe (x : Fin 2048 → ℝ) : ∃ v : ℝ, 0 < v ∧ mean (fun k => (x k : EReal)) = (v : EReal) := by
  obtain ⟨e, h0, he⟩ := eps_word
  refine ⟨(∑ k, x k * x k) * (1 / 2048) + e, ?_, ?_⟩
  · have : 0 ≤ ∑ k, x k * x k := Finset.sum_nonneg fun k _ => mul_self_nonneg (x k)
    positivity
  · have hs : ∑ k, (x k : EReal) * (x k : EReal) = ((∑ k, x k * x k : ℝ) : EReal) :=
      (Finset.sum_congr rfl fun k _ => (EReal.coe_mul _ _).symm).trans (map_sum (⟨⟨fun r : ℝ => (r : EReal), rfl⟩, EReal.coe_add⟩ : ℝ →+ EReal) _ _).symm
    rw [mean, hs, len_word, Ideal.div_coe (by norm_num), he, EReal.coe_add, EReal.coe_mul]

/-- The gradient of a row's entry as the kernel writes it. -/
def kernelRow (x a : Fin 2048 → EReal) (xi ai : EReal) : EReal :=
  Ideal.rsqrt (mean x) * (ai - xi * Ideal.rsqrt (mean x) * Ideal.div (∑ k, a k * (x k * Ideal.rsqrt (mean x))) (Ideal.ofBits .f32 0x45000000#32))

/-- The factor of the entry itself in the chain rule. -/
def through (x a : Fin 2048 → EReal) : EReal :=
  Ideal.div ((∑ k, x k * a k) * (Ideal.ofBits .f32 0xBF000000#32 * Ideal.div (Ideal.rsqrt (mean x)) (mean x))) (Ideal.ofBits .f32 0x45000000#32)

/-- The gradient of a row's entry as the chain rule writes it. -/
def ruleRow (x a : Fin 2048 → EReal) (xi ai : EReal) : EReal := ai * Ideal.rsqrt (mean x) + xi * through x a + through x a * xi

/-- The two are the same. -/
theorem row_eq (x a : Fin 2048 → EReal) (i : Fin 2048) (ai : EReal) : kernelRow x a (x i) ai = ruleRow x a (x i) ai := by
  by_cases hx : ∀ k, ((x k).toReal : EReal) = x k
  · obtain ⟨y, rfl⟩ : ∃ y : Fin 2048 → ℝ, x = fun k => (y k : EReal) := ⟨fun k => (x k).toReal, funext fun k => (hx k).symm⟩
    obtain ⟨v, hv, hm⟩ := mean_coe y
    have hr : 0 < (Real.sqrt v)⁻¹ := inv_pos.2 (Real.sqrt_pos.2 hv)
    have hrr : (Real.sqrt v)⁻¹ * (Real.sqrt v)⁻¹ = 1 / v := by rw [← mul_inv, Real.mul_self_sqrt hv.le, one_div]
    have hq : Ideal.rsqrt (v : EReal) = (((Real.sqrt v)⁻¹ : ℝ) : EReal) := by rw [Ideal.rsqrt_coe, if_neg (not_lt.2 hv.le), if_neg hv.ne']
    simp only [kernelRow, ruleRow, through, hm, hq, len_word, half_word]
    generalize (Real.sqrt v)⁻¹ = r at hr hrr
    have hT : ∑ k, a k * ((y k : EReal) * (r : EReal)) = (r : EReal) * ∑ k, (y k : EReal) * a k := by
      rw [pos_mul_sum r hr]
      exact Finset.sum_congr rfl fun k _ => by rw [mul_comm (a k), mul_comm (y k : EReal), mul_assoc]
    rw [hT]
    generalize ∑ k, (y k : EReal) * a k = S
    rw [Ideal.div_coe (by norm_num), Ideal.div_coe (by norm_num), Ideal.div_coe hv.ne']
    rw [sub_eq_add_neg, EReal.left_distrib_of_nonneg_of_ne_top (EReal.coe_nonneg.2 hr.le) (EReal.coe_ne_top r), add_assoc, mul_comm ai]
    congr 1
    have e1 : (r : EReal) * -((y i : EReal) * (r : EReal) * ((r : EReal) * S * ((1 / 2048 : ℝ) : EReal))) = ((r * -(y i * r * (r * (1 / 2048))) : ℝ) : EReal) * S := by
      push_cast
      simp only [mul_neg, neg_mul]
      ac_rfl
    have e2 : (y i : EReal) * (S * (((-(1 / 2) : ℝ) : EReal) * ((r : EReal) * ((1 / v : ℝ) : EReal))) * ((1 / 2048 : ℝ) : EReal)) = ((y i * (-(1 / 2)) * r * (1 / v) * (1 / 2048) : ℝ) : EReal) * S := by
      rw [EReal.coe_mul, EReal.coe_mul, EReal.coe_mul, EReal.coe_mul]
      ac_rfl
    rw [e1, mul_comm (S * _ * _) (y i : EReal), e2, double]
    congr 2
    rw [← hrr]
    ring
  · obtain ⟨k, hk⟩ := not_forall.1 hx
    have hs : x k * x k = ⊤ := by
      generalize x k = z at hk
      induction z using EReal.rec with
      | coe b => exact absurd rfl hk
      | top => simp
      | bot => simp
    simp [kernelRow, ruleRow, through, mean_top x k hs, len_word, half_word, Ideal.div_coe (y := 2048) (by norm_num), Ideal.div]

end Cert.Norm

end
-- ==== Proof.NormBack.lean ====
/- The gradient of the norm: the call's four result arrays are the reference's. -/
module

public import proofs.«01_k».proof.Proof.Gen.Kernel17Ideal.Value
public import proofs.«01_k».proof.Proof.Gen.Reference17Ideal.Read
public import proofs.«01_k».proof.Proof.NormReal

@[expose] public section

set_option maxRecDepth 16384

noncomputable section

namespace Cert.Kernel17Ideal.Norm

open Cert.Kernel17Ideal Cert.Kernel17Ideal.Gen Idealize.ShloMosaic Idealize.ShloMosaic.TcCoe Idealize.SL.Sem
open Idealize.ShloMosaic.Pipeline (Dat)
open Cert.Reference17Ideal.Read Cert.Norm

variable (m : (ℓ : Loc nD τ sig) → Buf (Elt Ideal) ℓ)

/-- The reference's gradient of the stream on the kernel's arguments. -/
abbrev goal (c : Dev nD) := val_main_v34 (F := Ideal) (m ((c : Thread nD τ).loc main_arg0)) (m ((c : Thread nD τ).loc main_arg1)) (m ((c : Thread nD τ).loc main_arg2)) (m ((c : Thread nD τ).loc main_arg3))

/-- The reference's scaled gradient of the stream. -/
abbrev goalS (c : Dev nD) := val_main_v37 (F := Ideal) (m ((c : Thread nD τ).loc main_arg0)) (m ((c : Thread nD τ).loc main_arg1)) (m ((c : Thread nD τ).loc main_arg2)) (m ((c : Thread nD τ).loc main_arg3))

/-- The reference's scaled gradient of the stream, transposed. -/
abbrev goalT (c : Dev nD) := val_main_v39 (F := Ideal) (m ((c : Thread nD τ).loc main_arg0)) (m ((c : Thread nD τ).loc main_arg1)) (m ((c : Thread nD τ).loc main_arg2)) (m ((c : Thread nD τ).loc main_arg3))

/-- The reference's gradient of the gain. -/
abbrev goalG (c : Dev nD) := val_main_v17 (F := Ideal) (m ((c : Thread nD τ).loc main_arg0)) (m ((c : Thread nD τ).loc main_arg2))

/-- Where each window's block lies, at every grid point. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, t.val] ∧ win0_7.index t = ![0, 0] ∧ t.val < 8 :=
  (by decide +kernel : ∀ t : Fin grid0.N, _)

/-- The reciprocal root in the kernel, at a row. -/
theorem pay3 (x0 j) : k0_pay3 (F := Ideal) x0 j = Ideal.rsqrt (mean fun k => x0 (ix2 (j 0) k)) := by
  pointwise [k0_pay3, mean]

/-- The normed entry in the kernel. -/
theorem pay4 (x0 j) : k0_pay4 (F := Ideal) x0 j = x0 j * Ideal.rsqrt (mean fun k => x0 (ix2 (j 0) k)) := by
  pointwise [k0_pay4, pay3]

/-- The kernel's gradient of the stream. -/
theorem pay5 (x0 x2 x1 x3 j) : k0_pay5 (F := Ideal) x0 x2 x1 x3 j = x3 j + kernelRow (fun k => x0 (ix2 (j 0) k)) (fun k => x2 (ix2 (j 0) k) * x1 (ix2 0 k)) (x0 j) (x2 j * x1 (ix2 0 (j 1))) := by
  pointwise [k0_pay5, pay3, pay4, kernelRow]

/-- The reference's gradient of the stream. -/
theorem ref (X0 X1 X2 X3 j) : val_main_v34 (F := Ideal) X0 X1 X2 X3 j = X3 j + ruleRow (fun k => X0 (ix2 (j 0) k)) (fun k => X2 (ix2 (j 0) k) * X1 (ix2 0 k)) (X0 j) (X2 j * X1 (ix2 0 (j 1))) := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6, ruleRow, through, mean]
  simp only [Finset.sum_const, Finset.card_univ, Fintype.card_fin, one_smul]

/-- The reference's gradient of the stream, by the kernel's formula. -/
theorem ref' (X0 X1 X2 X3 j) : val_main_v34 (F := Ideal) X0 X1 X2 X3 j = X3 j + kernelRow (fun k => X0 (ix2 (j 0) k)) (fun k => X2 (ix2 (j 0) k) * X1 (ix2 0 k)) (X0 j) (X2 j * X1 (ix2 0 (j 1))) := by
  have h := row_eq (fun k => X0 (ix2 (j 0) k)) (fun k => X2 (ix2 (j 0) k) * X1 (ix2 0 k)) (j 1) (X2 j * X1 (ix2 0 (j 1)))
  rw [show X0 (ix2 (j 0) (j 1)) = X0 j from congrArg X0 (funext fun a => by fin_cases a <;> rfl)] at h
  exact (ref X0 X1 X2 X3 j).trans (congrArg (X3 j + ·) h.symm)

/-- The kernel's block of the gradient of the stream is the reference's. -/
theorem point (c : Dev nD) (t : Fin cfg0.N) (y) : k0_pay5 (iblk m c 0 t) (iblk m c 2 t) (iblk m c 1 t) (iblk m c 3 t) y = goal m c (((cfg0.win 4).blk t).view.emb y) := by
  refine (pay5 _ _ _ _ y).trans (Eq.trans ?_ (ref' _ _ _ _ _).symm)
  refine congrArg₂ (fun a b : EReal => a + b) ?_ (congr (congr (congr (congrArg kernelRow (funext fun k => ?_)) (funext fun k => congrArg₂ (fun a b : EReal => a * b) ?_ ?_)) ?_) (congrArg₂ (fun a b : EReal => a * b) ?_ ?_)) <;> blk_point [iblk, V, idx t]

/-- The kernel's scaled block. -/
theorem pointS (c : Dev nD) (t : Fin cfg0.N) (y) : k0_pay7 (iblk m c 0 t) (iblk m c 2 t) (iblk m c 1 t) (iblk m c 3 t) y = goalS m c (((cfg0.win 5).blk t).view.emb y) := by
  pointwise [k0_pay7, k0_pay6, goalS, val_main_v37, val_main_v36, val_main_v35, val_main_cst_7]
  rw [pay5, ref']
  refine (mul_comm _ _).trans (congrArg (FloatOps.ofBits (F := Ideal) .f32 0x3F000000#32 * ·) ?_)
  refine congrArg₂ (fun a b : EReal => a + b) ?_ (congr (congr (congr (congrArg kernelRow (funext fun k => ?_)) (funext fun k => congrArg₂ (fun a b : EReal => a * b) ?_ ?_)) ?_) (congrArg₂ (fun a b : EReal => a * b) ?_ ?_)) <;> blk_point [iblk, V, idx t]

/-- The kernel's scaled and transposed block. -/
theorem pointT (c : Dev nD) (t : Fin cfg0.N) (y) : k0_pay8 (iblk m c 0 t) (iblk m c 2 t) (iblk m c 1 t) (iblk m c 3 t) y = goalT m c (((cfg0.win 6).blk t).view.emb y) := by
  pointwise [k0_pay8, k0_pay6, goalT, val_main_v39, val_main_v38, val_main_v36, val_main_v35, val_main_cst_7]
  rw [pay5, ref']
  refine (mul_comm _ _).trans (congrArg (FloatOps.ofBits (F := Ideal) .f32 0x3F000000#32 * ·) ?_)
  refine congrArg₂ (fun a b : EReal => a + b) ?_ (congr (congr (congr (congrArg kernelRow (funext fun k => ?_)) (funext fun k => congrArg₂ (fun a b : EReal => a * b) ?_ ?_)) ?_) (congrArg₂ (fun a b : EReal => a * b) ?_ ?_)) <;> blk_point [iblk, V, idx t]

/-- What every grid point leaves in the block of the gradient of the stream. -/
theorem out4 (c : Dev nD) (t : Fin cfg0.N) (y) : (outsAt0 m c t.val t.isLt).1 y = k0_pay5 (iblk m c 0 t) (iblk m c 2 t) (iblk m c 1 t) (iblk m c 3 t) y := by
  by_cases h : t.val % 8 = 0
  · rw [outsAt0_A m c t h]; frame_out
  · rw [outsAt0_B m c t h]; frame_out

/-- What every grid point leaves in the scaled block. -/
theorem out5 (c : Dev nD) (t : Fin cfg0.N) (y) : (outsAt0 m c t.val t.isLt).2.1 y = k0_pay7 (iblk m c 0 t) (iblk m c 2 t) (iblk m c 1 t) (iblk m c 3 t) y := by
  by_cases h : t.val % 8 = 0
  · rw [outsAt0_A m c t h]; frame_out
  · rw [outsAt0_B m c t h]; frame_out

/-- What every grid point leaves in the scaled and transposed block. -/
theorem out6 (c : Dev nD) (t : Fin cfg0.N) (y) : (outsAt0 m c t.val t.isLt).2.2.1 y = k0_pay8 (iblk m c 0 t) (iblk m c 2 t) (iblk m c 1 t) (iblk m c 3 t) y := by
  by_cases h : t.val % 8 = 0
  · rw [outsAt0_A m c t h]; frame_out
  · rw [outsAt0_B m c t h]; frame_out

/-- The gradient of the stream after the run is the reference's. -/
theorem final (c : Dev nD) : (dats m 0 c).arrAt 4 (cfgs 0).N = goal m c := by
  refine (dats m 0 c).arrAt_eq_of_covers 4 _ (by decide +kernel) fun t _ y => ?_
  blk_simp
  rw [after0_4, out4]
  exact point m c t y

/-- The scaled gradient after the run is the reference's. -/
theorem finalS (c : Dev nD) : (dats m 0 c).arrAt 5 (cfgs 0).N = goalS m c := by
  refine (dats m 0 c).arrAt_eq_of_covers 5 _ (by decide +kernel) fun t _ y => ?_
  blk_simp
  rw [after0_5, out5]
  exact pointS m c t y

/-- The transposed gradient after the run is the reference's. -/
theorem finalT (c : Dev nD) : (dats m 0 c).arrAt 6 (cfgs 0).N = goalT m c := by
  refine (dats m 0 c).arrAt_eq_of_covers 6 _ (by decide +kernel) fun t _ y => ?_
  blk_simp
  rw [after0_6, out6]
  exact pointT m c t y

/-- An entry of the normed array times the cotangent's. -/
def term (x : Fin 2048 → EReal) (a d : EReal) : EReal := a * Ideal.rsqrt (mean x) * d

/-- The gain's gradient starts at zero. -/
theorem start (j) : k0_pay1 (F := Ideal) j = 0 := by pointwise [k0_pay1]

/-- A grid point adds its block of rows. -/
theorem step (x0 x2 acc j) : k0_pay2 (F := Ideal) (k0_pay4 x0) x2 acc j = acc j + ∑ r : Fin 256, term (fun k => x0 (ix2 r k)) (x0 (ix2 r (j 1))) (x2 (ix2 r (j 1))) := by
  pointwise [k0_pay2, pay4, term]
  refine congrArg (acc j + ·) (Finset.sum_congr rfl fun r _ => mul_comm _ _)

/-- The reference's gradient of the gain as one sum over all rows. -/
theorem whole (X0 X2 j) : val_main_v17 (F := Ideal) X0 X2 j = ∑ l : Fin 2048, term (fun k => X0 (ix2 l k)) (X0 (ix2 l (j 1))) (X2 (ix2 l (j 1))) := by
  pointwise [val_main_v17, val_main_v16, val_main_v15, val_main_v12, val_main_v11, val_main_v7, val_main_v6, val_main_v5, val_main_v4, val_main_v3, val_main_v2, val_main_v1, val_main_v0, val_main_cst, val_main_cst_0, val_main_cst_1, val_main_cst_3, term, mean]

/-- The gradient of the gain after the run is the reference's. -/
theorem finalG (c : Dev nD) : (dats m 0 c).arrAt 7 (cfgs 0).N = goalG m c := by
  refine (dats m 0 c).arrAt_eq_of_covers 7 _ (by decide +kernel) fun t hf y => ?_
  blk_simp
  rw [after0_7, Pipeline.eq_sum_fin_of_reset_step_apply_of_flush (fun n h => (outsAt0 m c n h).2.2.2) 8 (fun _ => 0) _
    (fun t h j => by rw [outsAt0_A m c t h]; frame_out; rw [step, start])
    (fun t h j => by rw [outsAt0_B m c t h]; frame_out; rw [step])
    t ((flush0_7 t).mp hf) _, zero_add]
  refine Eq.trans ?_ (whole _ _ _).symm
  refine Fin.sum_mul_add_congr fun s k hl => ?_
  refine congr (congr (congrArg term (funext fun k => ?_)) ?_) ?_ <;> blk_point [iblk, V, idx t, idx ⟨_, Pipeline.run_point_lt_of_flush t ((flush0_7 t).mp hf) s⟩]

end Cert.Kernel17Ideal.Norm

end
-- ==== Proof.Norm.lean ====
/- The norm: the call's two result arrays are the reference's. -/
module

public import proofs.«01_k».proof.Proof.Gen.Kernel18Ideal.Value
public import proofs.«01_k».proof.Proof.Gen.Reference18Ideal.Read
public import Idealize.ShloMosaic.Lib.Pipeline.ValueKit

@[expose] public section

set_option maxRecDepth 16384

noncomputable section

namespace Cert.Kernel18Ideal.Norm

open Cert.Kernel18Ideal Cert.Kernel18Ideal.Gen Idealize.ShloMosaic Idealize.ShloMosaic.TcCoe Idealize.SL.Sem
open Idealize.ShloMosaic.Pipeline (Dat)
open Cert.Reference18Ideal.Read

variable (m : (ℓ : Loc nD τ sig) → Buf (Elt Ideal) ℓ)

/-- The reference's normed array on the kernel's arguments. -/
abbrev goal (c : Dev nD) := val_main_v12 (F := Ideal) (m ((c : Thread nD τ).loc main_arg0)) (m ((c : Thread nD τ).loc main_arg1))

/-- The reference's transposed normed array on the kernel's arguments. -/
abbrev goalT (c : Dev nD) := val_main_v14 (F := Ideal) (m ((c : Thread nD τ).loc main_arg0)) (m ((c : Thread nD τ).loc main_arg1))

/-- Where each window's block lies, at every grid point. -/
theorem idx : ∀ t : Fin cfg0.N, win0_0.index t = ![t.val, 0] ∧ win0_1.index t = ![0, 0] ∧ win0_2.index t = ![t.val, 0] ∧ win0_3.index t = ![0, t.val] ∧ t.val < 8 :=
  (by decide +kernel : ∀ t : Fin grid0.N, _)

/-- An entry of a row divided by the row's root mean square, times the weight. -/
def entry (x : Fin 2048 → EReal) (a w : EReal) : EReal := a * Ideal.rsqrt (Ideal.div (∑ k, x k * x k) (Ideal.ofBits .f32 0x45000000#32) + Ideal.ofBits .f32 0x358637BD#32) * w

/-- The kernel's entry. -/
theorem pay (x0 x1 j) : k0_pay1 (F := Ideal) x0 x1 j = entry (fun k => x0 (ix2 (j 0) k)) (x0 j) (x1 (ix2 0 (j 1))) := by
  pointwise [k0_pay1, entry]

/-- The reference's entry. -/
theorem ref (X0 X1 j) : val_main_v11 (F := Ideal) X0 X1 j = entry (fun k => X0 (ix2 (j 0) k)) (X0 j) (X1 (ix2 0 (j 1))) := by
  pointwise [val_main_v11, val_main_v10, val_main_v9, val_main_v8, val_main_v7, val_main_v6, val_main_v5, val_main_v4, val_main_v3, val_main_v2, val_main_v1, val_main_v0, val_main_cst, val_main_cst_0, val_main_cst_1, entry]

/-- What a grid point stores is the reference's block. -/
theorem point (c : Dev nD) (t : Fin cfg0.N) (y) : k0_pay2 (iblk m c 0 t) (iblk m c 1 t) y = goal m c (((cfg0.win 2).blk t).view.emb y) := by
  refine (pay _ _ y).trans (Eq.trans ?_ (ref _ _ _).symm)
  refine congr (congr (congrArg entry (funext fun k => ?_)) ?_) ?_ <;> blk_point [iblk, V, idx t]

/-- What a grid point stores transposed is the reference's transposed block. -/
theorem pointT (c : Dev nD) (t : Fin cfg0.N) (y) : k0_pay3 (iblk m c 0 t) (iblk m c 1 t) y = goalT m c (((cfg0.win 3).blk t).view.emb y) := by
  pointwise [k0_pay3, goalT, val_main_v14, val_main_v13]
  rw [pay, ref]
  refine congr (congr (congrArg entry (funext fun k => ?_)) ?_) ?_ <;> blk_point [iblk, V, idx t]

/-- The normed array after the run is the reference's. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

/-- The transposed array after the run is the reference's. -/
theorem finalT (c : Dev nD) : (dats m 0 c).arrAt 3 (cfgs 0).N = goalT m c := by
  refine (dats m 0 c).arrAt_eq_of_covers 3 _ (by decide +kernel) fun t _ y => ?_
  blk_simp
  rw [after0_3]; frame_out
  exact pointT m c t y

end Cert.Kernel18Ideal.Norm

end
-- ==== Proof.SbFwdPay.lean ====
/- The vectors of one trip of the forward kernel's loop over key tiles, read at an index: the stages of
   one tile of one query block, each a real number of the model. -/
module

public import proofs.«01_k».proof.Proof.SbIdeal
public import proofs.«01_k».proof.Proof.Gen.Kernel19Ideal.Skeleton

@[expose] public section

set_option maxRecDepth 16384

namespace Sb

open Finset Idealize.ShloMosaic

noncomputable section

/-- The attention's result for one row and lane. -/
def Head.o (H : Head) (r d : ℕ) : ℝ := ∑ s ∈ range 2048, H.w r s * H.v s d

/-- A block's sum of the lanes after lane `y`, added to the sum after the block, is the sum after that position. -/
theorem after_block (f : ℕ → ℝ) (T : ℝ) (a y n : ℕ) (hy : y < n) :
    T - ∑ s ∈ range (a + n), f s + ∑ x : Fin n, f (a + x.val) * (if y < x.val then 1 else 0) = T - ∑ s ∈ range (a + y + 1), f s := by
  have e : ∑ x : Fin n, f (a + x.val) = ∑ x : Fin n, f (a + x.val) * (if x.val ≤ y then 1 else 0) + ∑ x : Fin n, f (a + x.val) * (if y < x.val then 1 else 0) := by
    rw [← Finset.sum_add_distrib]
    refine Finset.sum_congr rfl fun x _ => ?_
    by_cases h : x.val ≤ y
    · rw [if_pos h, if_neg (by omega)]; ring
    · rw [if_neg h, if_pos (by omega)]; ring
  rw [← upto_block f a y n hy, range_add f a n, e]
  ring

/-- The split of a value into a leading part and a remainder, both times a triangle of ones: the sum after the lane. -/
theorem scan_after (f : ℕ → ℝ) (T : ℝ) (a y : ℕ) (hy : y < 128) (p : EReal) (v t u : Fin 128 → EReal)
    (hp : p = ((T - ∑ s ∈ range (a + 128), f s : ℝ) : EReal))
    (hv : ∀ x, v x = ((f (a + x.val) : ℝ) : EReal))
    (ht : ∀ x, t x = ((if y < x.val then 1 else 0 : ℝ) : EReal)) (hu : ∀ x, u x = ((if y < x.val then 1 else 0 : ℝ) : EReal)) :
    p + (∑ x, v x * t x + ∑ x, (v x - v x) * u x) = ((T - ∑ s ∈ range (a + y + 1), f s : ℝ) : EReal) := by
  rw [hp, sum_of_coe (v := fun x => v x * t x) (fun x => f (a + x.val) * if y < x.val then 1 else 0)
      fun x => by rw [hv, ht, ← EReal.coe_mul],
    sum_of_coe (v := fun x => (v x - v x) * u x) (fun _ => 0)
      fun x => by rw [hv, hu, ← EReal.coe_sub, sub_self, ← EReal.coe_mul, zero_mul],
    Finset.sum_const_zero, EReal.coe_zero, add_zero, ← EReal.coe_add, after_block f T a y 128 hy]

/-- A block's sum added to the sum after it. -/
theorem block_after (f : ℕ → ℝ) (T : ℝ) (a : ℕ) (p : EReal) (v : Fin 128 → EReal)
    (hp : p = ((T - ∑ s ∈ range (a + 128), f s : ℝ) : EReal)) (hv : ∀ x, v x = ((f (a + x.val) : ℝ) : EReal)) :
    p + ∑ x, v x = ((T - ∑ s ∈ range a, f s : ℝ) : EReal) := by
  rw [hp, sum_of_coe _ hv, ← EReal.coe_add, range_add f a 128]
  congr 1
  ring

end

end Sb

namespace Cert.Kernel19Ideal.Sbf

open Cert.Kernel19Ideal.Gen Idealize.ShloMosaic Sb Finset

noncomputable section

/-- The scale of the logits as the programs print it. -/
abbrev cw : EReal := Ideal.ofBits FTy.f32 1035273459#32

variable {i : grid0.Coords} {arg1 la : BitVec 32} {v1 v2 : IVec S512x512 32} {a0 a1 : BitVec 32} {k : Fin (k0_t1_loop i).trips}
variable {v0 v52 v54 : Vec Ideal S512x128 .bf16} {arg10 v92 : FVec Ideal S512x1 .f32} {v9 : FVec Ideal S256x128 .bf16}
variable {v57 v73 : FVec Ideal S512x512 .f32} {v63 : IVec S512x512 1} {arg9 v78 v79 v80 v89 : FVec Ideal S512x128 .f32}
variable {H : Head} {r0 s0 : ℕ} {f : ℕ → ℕ → ℝ} {g : ℕ → ℝ}

/-- The mask of the tile: the key's position before the query's. -/
def Mask (r0 s0 : ℕ) (v63 : IVec S512x512 1) : Prop := ∀ x y : Fin 512, v63 (ix2 x y) = BitVec.ofBool (decide (s0 + y.val < r0 + x.val))

/-- A tile of a function of query row and key position. -/
def Tile (r0 s0 : ℕ) (v : FVec Ideal S512x512 .f32) (f : ℕ → ℕ → ℝ) : Prop :=
  ∀ x y : Fin 512, v (ix2 x y) = ((f (r0 + x.val) (s0 + y.val) : ℝ) : EReal)

/-- A block of 128 keys of such a function, from the tile's key `b`. -/
def Blk (r0 s0 b : ℕ) (v : FVec Ideal S512x128 .f32) (f : ℕ → ℕ → ℝ) : Prop :=
  ∀ (x : Fin 512) (y : Fin 128), v (ix2 x y) = ((f (r0 + x.val) (s0 + b + y.val) : ℝ) : EReal)

/-- A column of a function of the query row. -/
def Column (r0 : ℕ) (v : FVec Ideal S512x1 .f32) (f : ℕ → ℝ) : Prop :=
  ∀ x : Fin 512, v (ix2 x 0) = ((f (r0 + x.val) : ℝ) : EReal)

/-- Rows of a matrix from `b` on. -/
def Rows (b : ℕ) (v : S512x128.Idx → EReal) (f : ℕ → ℕ → ℝ) : Prop :=
  ∀ (x : Fin 512) (d : Fin 128), v (ix2 x d) = ((f (b + x.val) d.val : ℝ) : EReal)

/-- The triangle of ones strictly after the diagonal. -/
def After (v9 : FVec Ideal S256x128 .bf16) : Prop :=
  ∀ (x : Fin 256) (y : Fin 128), v9 (ix2 x y) = ((if y.val < x.val % 128 then 1 else 0 : ℝ) : EReal)

theorem After.lo (h : After v9) (d y : Fin 128) (hd) : v9 (ix2 ⟨d.val, hd⟩ y) = ((if y.val < d.val then 1 else 0 : ℝ) : EReal) := by
  rw [h]
  exact congrArg _ (if_congr (by rw [show (⟨d.val, hd⟩ : Fin 256).val % 128 = d.val from Nat.mod_eq_of_lt d.isLt]) rfl rfl)

theorem After.hi (h : After v9) (d y : Fin 128) (hd) : v9 (ix2 ⟨128 + d.val, hd⟩ y) = ((if y.val < d.val then 1 else 0 : ℝ) : EReal) := by
  rw [h]
  exact congrArg _ (if_congr (by rw [show (⟨128 + d.val, hd⟩ : Fin 256).val % 128 = d.val by
    change (128 + d.val) % 128 = d.val; omega]) rfl rfl)

theorem tri_after : After (k0_pay28 (F := Ideal)) := by
  intro x y
  pointwise [k0_pay28]
  split
  · rw [IntOp.cmpi, slt_small _ _ (by omega) (by omega), bit_num, Nat.mod_eq_of_lt ‹_›]
  · rw [IntOp.cmpi, slt_small _ _ (by omega) (by omega), bit_num, show x.val % 128 = x.val - 128 by omega]

theorem pay8_tile (hc : cw = ((H.c : ℝ) : EReal)) (hq : Rows r0 v0 H.q) (hk : Rows s0 v52 H.k) :
    Tile r0 s0 (k0_pay8 v0 v52) H.z := by
  intro x y
  pointwise [k0_pay8]
  rw [sum_of_coe (fun d : Fin 128 => H.q (r0 + x.val) d.val * H.k (s0 + y.val) d.val)
    fun d => by rw [hq, hk, ← EReal.coe_mul]]
  rw [show Ideal.ofBits FTy.f32 1035273459#32 = ((H.c : ℝ) : EReal) from hc, ← EReal.coe_mul]
  rfl

theorem pay10_tile (hc : cw = ((H.c : ℝ) : EReal)) (hq : Rows r0 v0 H.q) (hk : Rows s0 v52 H.k) :
    Tile r0 s0 (k0_pay10 v0 v52) fun r s => softplus (H.z r s) := by
  intro x y
  pointwise [k0_pay10]
  rw [pay8_tile hc hq hk x y]
  exact softplus_coe _

theorem pay11_tile (hm : Mask r0 s0 (k0_pay9 i arg1 v1 v2 la a0 a1 k)) (hc : cw = ((H.c : ℝ) : EReal))
    (hq : Rows r0 v0 H.q) (hk : Rows s0 v52 H.k) :
    Tile r0 s0 (k0_pay11 i arg1 v0 v1 v2 la a0 a1 k v52) H.lnb := by
  intro x y
  pointwise [k0_pay11]
  rw [hm, select_decide, pay10_tile hc hq hk x y, ← EReal.coe_zero, ← EReal.coe_sub, ite_coe]
  rfl

theorem pay12_blk (h : Tile r0 s0 (k0_pay11 i arg1 v0 v1 v2 la a0 a1 k v52) f) :
    Blk r0 s0 0 (k0_pay12 i arg1 v0 v1 v2 la a0 a1 k v52) f := by
  intro x y
  pointwise [k0_pay12]
  rw [h]

theorem pay13_blk (h : Tile r0 s0 (k0_pay11 i arg1 v0 v1 v2 la a0 a1 k v52) f) :
    Blk r0 s0 128 (k0_pay13 i arg1 v0 v1 v2 la a0 a1 k v52) f := by
  intro x y
  pointwise [k0_pay13]
  rw [h]
  simp [Nat.add_assoc]

theorem pay14_blk (h : Tile r0 s0 (k0_pay11 i arg1 v0 v1 v2 la a0 a1 k v52) f) :
    Blk r0 s0 256 (k0_pay14 i arg1 v0 v1 v2 la a0 a1 k v52) f := by
  intro x y
  pointwise [k0_pay14]
  rw [h]
  simp [Nat.add_assoc]

theorem pay15_blk (h : Tile r0 s0 (k0_pay11 i arg1 v0 v1 v2 la a0 a1 k v52) f) :
    Blk r0 s0 384 (k0_pay15 i arg1 v0 v1 v2 la a0 a1 k v52) f := by
  intro x y
  pointwise [k0_pay15]
  rw [h]
  simp [Nat.add_assoc]

theorem pay16_blk (ht : After v9) (h : Blk r0 s0 384 (k0_pay15 i arg1 v0 v1 v2 la a0 a1 k v52) f)
    (h10 : Column r0 arg10 fun r => g r - ∑ s ∈ range (s0 + 512), f r s) :
    Blk r0 s0 384 (k0_pay16 i arg1 v0 v1 v2 v9 la a0 a1 k arg10 v52) fun r s => g r - ∑ s' ∈ range (s + 1), f r s' := by
  intro x y
  pointwise [k0_pay16]
  exact scan_after (f (r0 + x.val)) (g (r0 + x.val)) (s0 + 384) y.val y.isLt _ (fun d => k0_pay15 i arg1 v0 v1 v2 la a0 a1 k v52 (ix2 x d)) _ _ (h10 x)
    (fun d => h x d) (fun d => ht.lo d y _) (fun d => ht.hi d y _)

theorem pay17_col (h : Blk r0 s0 384 (k0_pay15 i arg1 v0 v1 v2 la a0 a1 k v52) f)
    (h10 : Column r0 arg10 fun r => g r - ∑ s ∈ range (s0 + 512), f r s) :
    Column r0 (k0_pay17 i arg1 v0 v1 v2 la a0 a1 k arg10 v52) fun r => g r - ∑ s ∈ range (s0 + 384), f r s := by
  intro x
  pointwise [k0_pay17]
  exact block_after (f (r0 + x.val)) (g (r0 + x.val)) (s0 + 384) _ _ (h10 x) fun y => h x y

theorem pay31_col (h92 : Column r0 v92 fun r => g r - ∑ s ∈ range (s0 + 384), f r s) (h80 : Blk r0 s0 256 v80 f) :
    Column r0 (k0_pay31 v80 v92) fun r => g r - ∑ s ∈ range (s0 + 256), f r s := by
  intro x
  pointwise [k0_pay31]
  exact block_after (f (r0 + x.val)) (g (r0 + x.val)) (s0 + 256) _ _ (h92 x) fun y => h80 x y

theorem pay32_col (h92 : Column r0 v92 fun r => g r - ∑ s ∈ range (s0 + 384), f r s) (h80 : Blk r0 s0 256 v80 f)
    (h79 : Blk r0 s0 128 v79 f) :
    Column r0 (k0_pay32 v79 v80 v92) fun r => g r - ∑ s ∈ range (s0 + 128), f r s := by
  intro x
  pointwise [k0_pay32]
  exact block_after (f (r0 + x.val)) (g (r0 + x.val)) (s0 + 128) _ _ (pay31_col h92 h80 x) fun y => h79 x y

theorem pay33_col (h92 : Column r0 v92 fun r => g r - ∑ s ∈ range (s0 + 384), f r s) (h80 : Blk r0 s0 256 v80 f)
    (h79 : Blk r0 s0 128 v79 f) (h78 : Blk r0 s0 0 v78 f) :
    Column r0 (k0_pay33 v78 v79 v80 v92) fun r => g r - ∑ s ∈ range s0, f r s := by
  intro x
  pointwise [k0_pay33]
  exact block_after (f (r0 + x.val)) (g (r0 + x.val)) s0 _ _ (pay32_col h92 h80 h79 x) fun y => h78 x y

/-- The tile's weights times the values, added to the later tiles' part of the result. -/
theorem pay34_rows (hm : Mask r0 s0 v63) (h57 : Tile r0 s0 v57 H.z) (h73 : Tile r0 s0 v73 fun r s => softplus (H.z r s))
    (h92 : Column r0 v92 fun r => H.tot r - ∑ s ∈ range (s0 + 384), H.lnb r s)
    (h89 : Blk r0 s0 384 v89 fun r s => H.tot r - ∑ s' ∈ range (s + 1), H.lnb r s')
    (h78 : Blk r0 s0 0 v78 H.lnb) (h79 : Blk r0 s0 128 v79 H.lnb) (h80 : Blk r0 s0 256 v80 H.lnb) (hv : Rows s0 v54 H.v)
    (h9 : Rows r0 arg9 fun r d => H.o r d - ∑ s ∈ range (s0 + 512), H.w r s * H.v s d) :
    Rows r0 (k0_pay34 arg9 v54 v57 v63 v73 v78 v79 v80 v89 v92) fun r d => H.o r d - ∑ s ∈ range s0, H.w r s * H.v s d := by
  have ht := tri_after
  intro x d
  pointwise [k0_pay34]
  have key : ∀ (y : Fin 512) (E : EReal), E = ((H.tot (r0 + x.val) - ∑ s' ∈ range (s0 + y.val + 1), H.lnb (r0 + x.val) s' : ℝ) : EReal) →
      Scalar.select (v63 (ix2 x y)) (Ideal.exp (v57 (ix2 x y) - v73 (ix2 x y) + E) * v54 (ix2 y d)) 0
        = ((H.w (r0 + x.val) (s0 + y.val) * H.v (s0 + y.val) d.val : ℝ) : EReal) := by
    intro y E hE
    rw [hE, hm, select_decide, h57, h73, ← EReal.coe_sub, ← EReal.coe_add, Ideal.exp_coe, hv, ← EReal.coe_mul, ← EReal.coe_zero, ite_coe]
    rw [Head.w]
    congr 1
    split
    · rfl
    · rw [zero_mul]
  rw [h9, sum_of_coe (fun y : Fin 512 => H.w (r0 + x.val) (s0 + y.val) * H.v (s0 + y.val) d.val) fun y => ?_, ← EReal.coe_add]
  · dsimp only
    rw [range_add (fun s => H.w (r0 + x.val) s * H.v s d.val) s0 512]
    congr 1
    ring
  refine key y _ ?_
  have hy := y.isLt
  split
  · exact scan_after (H.lnb (r0 + x.val)) (H.tot (r0 + x.val)) s0 y.val (by omega) _ (fun d => v78 (ix2 x d)) _ _
      (pay32_col h92 h80 h79 x) (fun d => h78 x d) (fun d => ht.lo d _ _) (fun d => ht.hi d _ _)
  split
  · rw [show s0 + y.val + 1 = s0 + 128 + (y.val - 128) + 1 by omega]
    exact scan_after (H.lnb (r0 + x.val)) (H.tot (r0 + x.val)) (s0 + 128) (y.val - 128) (by omega) _ (fun d => v79 (ix2 x d)) _ _
      (pay31_col h92 h80 x) (fun d => h79 x d) (fun d => ht.lo d _ _) (fun d => ht.hi d _ _)
  split
  · rw [show s0 + y.val + 1 = s0 + 256 + (y.val - 128 - 128) + 1 by omega]
    exact scan_after (H.lnb (r0 + x.val)) (H.tot (r0 + x.val)) (s0 + 256) (y.val - 128 - 128) (by omega) _ (fun d => v80 (ix2 x d)) _ _
      (h92 x) (fun d => h80 x d) (fun d => ht.lo d _ _) (fun d => ht.hi d _ _)
  · rw [h89]
    dsimp only
    rw [show s0 + 384 + (y.val - 128 - 128 - 128) + 1 = s0 + y.val + 1 by omega]

theorem pay29_zero (b : ℕ) (f : ℕ → ℕ → ℝ) (hf : ∀ (x : Fin 512) (d : Fin 128), f (b + x.val) d.val = 0) : Rows b (k0_pay29 (F := Ideal)) f := by
  intro x d
  pointwise [k0_pay29]
  rw [hf]; rfl

theorem pay30_zero (b : ℕ) (f : ℕ → ℝ) (hf : ∀ x : Fin 512, f (b + x.val) = 0) : Column b (k0_pay30 (F := Ideal)) f := by
  intro x
  pointwise [k0_pay30]
  rw [hf]; rfl

/-- The block of the result. -/
theorem pay5_rows {v : FVec Ideal S512x128 .f32} {f : ℕ → ℕ → ℝ} (h : Rows r0 v f) : Rows r0 (k0_pay5 v) f := by
  intro x d
  pointwise [k0_pay5]
  exact h x d

/-- The transposed block of the result. -/
theorem pay6_cols {v : FVec Ideal S512x128 .f32} {f : ℕ → ℕ → ℝ} (h : Rows r0 v f) (d : Fin 128) (x : Fin 512) :
    k0_pay6 v (ix2 d x) = ((f (r0 + x.val) d.val : ℝ) : EReal) := by
  pointwise [k0_pay6]
  exact h x d

/-- The row sums, repeated across the lanes. -/
theorem pay7_rows {v : FVec Ideal S512x1 .f32} {g : ℕ → ℝ} (h : Column r0 v g) : Rows r0 (k0_pay7 v) fun r _ => g r := by
  intro x d
  pointwise [k0_pay7]
  exact h x

end

end Cert.Kernel19Ideal.Sbf
-- ==== Proof.SbFwdLoop.lean ====
/- The forward kernel's loop over key tiles, from a query block's own tile to the first: what it hands on
   after any number of trips. -/
module

public import proofs.«01_k».proof.Proof.SbFwdPay
public import proofs.«01_k».proof.Proof.Gen.Kernel19Ideal.Loops
public import Idealize.ShloMosaic.Lib.Pipeline.ValueKit
public import Idealize.ShloMosaic.Lib.WritesUnit

@[expose] public section

set_option maxRecDepth 16384

namespace Cert.Kernel19Ideal.Sbf

open Cert.Kernel19Ideal Cert.Kernel19Ideal.Gen Idealize.ShloMosaic Sb Finset

noncomputable section

section trip

variable (i : grid0.Coords) (k : Fin (k0_t1_loop i).trips) (arg1 la : BitVec 32) (v0 : Vec Ideal S512x128 .bf16) (v1 v2 : IVec S512x512 32)
variable (kt vt : Vec Ideal S512x128 .bf16) (acc : FVec Ideal S512x128 .f32 × FVec Ideal S512x1 .f32)

/-- The values the trip hands on. -/
def tR : FVec Ideal S512x128 .f32 × FVec Ideal S512x1 .f32 :=
  (k0_pay34 acc.1 vt (k0_pay8 v0 kt) (k0_pay9 i arg1 v1 v2 la 0#32 1#32 k) (k0_pay10 v0 kt) (k0_pay12 i arg1 v0 v1 v2 la 0#32 1#32 k kt)
      (k0_pay13 i arg1 v0 v1 v2 la 0#32 1#32 k kt) (k0_pay14 i arg1 v0 v1 v2 la 0#32 1#32 k kt)
      (k0_pay16 i arg1 v0 v1 v2 k0_pay28 la 0#32 1#32 k acc.2 kt) (k0_pay17 i arg1 v0 v1 v2 la 0#32 1#32 k acc.2 kt),
    k0_pay33 (k0_pay12 i arg1 v0 v1 v2 la 0#32 1#32 k kt) (k0_pay13 i arg1 v0 v1 v2 la 0#32 1#32 k kt)
      (k0_pay14 i arg1 v0 v1 v2 la 0#32 1#32 k kt) (k0_pay17 i arg1 v0 v1 v2 la 0#32 1#32 k acc.2 kt))

/-- What a trip finds in the carried values: the later tiles' part of the result and of the row sums. -/
structure Carried (H : Head) (r0 s0 : ℕ) (acc : FVec Ideal S512x128 .f32 × FVec Ideal S512x1 .f32) : Prop where
  /-- the result -/
  o : Rows r0 acc.1 fun r d => H.o r d - ∑ s ∈ range s0, H.w r s * H.v s d
  /-- the row sums -/
  tot : Column r0 acc.2 fun r => H.tot r - ∑ s ∈ range s0, H.lnb r s

variable {i k arg1 la v0 v1 v2 kt vt acc} {H : Head} {r0 s0 : ℕ}

/-- The trip carries the sums on by its tile. -/
theorem tR_carried (hc : cw = ((H.c : ℝ) : EReal)) (hm : Mask r0 s0 (k0_pay9 i arg1 v1 v2 la 0#32 1#32 k)) (hq : Rows r0 v0 H.q)
    (hk : Rows s0 kt H.k) (hv : Rows s0 vt H.v) (C : Carried H r0 (s0 + 512) acc) : Carried H r0 s0 (tR i k arg1 la v0 v1 v2 kt vt acc) := by
  have h11 := pay11_tile (i := i) (arg1 := arg1) (la := la) (v1 := v1) (v2 := v2) (a0 := 0#32) (a1 := 1#32) (k := k) hm hc hq hk
  have h17 := pay17_col (pay15_blk h11) C.tot
  exact {
    o := pay34_rows hm (pay8_tile hc hq hk) (pay10_tile hc hq hk) h17 (pay16_blk tri_after (pay15_blk h11) C.tot) (pay12_blk h11) (pay13_blk h11)
      (pay14_blk h11) hv C.o
    tot := pay33_col h17 (pay14_blk h11) (pay13_blk h11) (pay12_blk h11) }

end trip

section run

variable (𝒱 : Variants) (c : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S512x128 .f32) (harg7 : arg7.IsWhole) (arg1 : BitVec 32) (v0 : Vec Ideal S512x128 .bf16) (v1 : IVec S512x512 32) (v2 : IVec S512x512 32) (la : BitVec 32) (X_arg3 : BufTy.Contents (Elt Ideal) arg3.view.ty) (X_arg4 : BufTy.Contents (Elt Ideal) arg4.view.ty) (k : Fin (k0_t1_loop i).trips) (acc : FVec Ideal S512x128 .f32 × FVec Ideal S512x1 .f32)

/-- The rectangle of the trip's tile of keys. -/
abbrev tRect : Rect S2048x128 := Rect.unit (s := S2048x128) (k0_off1 i k) S512x128.size (k0_off1_inb i k)

theorem tripR_eq : tripR_k0_t1 (F := Ideal) 𝒱 c bd i arg2 harg2 arg3 harg3 arg4 harg4 arg5 harg5 arg6 harg6 arg7 harg7 arg1 v0 v1 v2 la X_arg3 X_arg4 k acc
    = tR i k arg1 la v0 v1 v2 (View.readAt (Elt Ideal) arg3.view (tRect i k).toLoadRect X_arg3)
        (View.readAt (Elt Ideal) arg4.view (tRect i k).toLoadRect X_arg4) acc := by
  unfold tripR_k0_t1 trip_k0_t1
  rfl

end run

/-- The whole of a matrix with a row for each position. -/
def Full (v : S2048x128.Idx → EReal) (f : ℕ → ℕ → ℝ) : Prop :=
  ∀ (s : Fin 2048) (d : Fin 128), v (ix2 s d) = ((f s.val d.val : ℝ) : EReal)

/-- The word the kernel computes for a query block's last tile. -/
def lastWord (arg1 : BitVec 32) : BitVec 32 :=
  Scalar.select (Scalar.andi (Scalar.cmpi .ne (Scalar.subi (Scalar.extui (Scalar.cmpi .sgt (Scalar.subi (Scalar.addi (Scalar.muli arg1 512#32) 512#32) 1#32) 0#32)) (Scalar.extui (Scalar.cmpi .slt (Scalar.subi (Scalar.addi (Scalar.muli arg1 512#32) 512#32) 1#32) 0#32)))
      (Scalar.subi (Scalar.extui (Scalar.cmpi .sgt 512#32 0#32)) (Scalar.extui (Scalar.cmpi .slt 512#32 0#32))))
    (Scalar.cmpi .ne (Scalar.remsi (Scalar.subi (Scalar.addi (Scalar.muli arg1 512#32) 512#32) 1#32) 512#32) 0#32))
    (Scalar.subi (Scalar.divsi (Scalar.subi (Scalar.addi (Scalar.muli arg1 512#32) 512#32) 1#32) 512#32) 1#32)
    (Scalar.divsi (Scalar.subi (Scalar.addi (Scalar.muli arg1 512#32) 512#32) 1#32) 512#32)

theorem trips1 : ∀ t : Fin grid0.N, (k0_t1_loop (grid0.coords t)).trips = t.val % 4 + 1 := by decide +kernel

theorem trips2 : ∀ t : Fin grid0.N, (k0_t2_loop (grid0.coords t)).trips = 0 := by decide +kernel

theorem off1 : ∀ (t : Fin grid0.N) (k : Fin (k0_t1_loop (grid0.coords t)).trips), k0_off1 (grid0.coords t) k = ![512 * (t.val % 4 - k.val), 0] := by
  decide +kernel

theorem word1 : ∀ (t : Fin grid0.N) (k : Fin (k0_t1_loop (grid0.coords t)).trips),
    Scalar.subi (Scalar.muli (BitVec.ofNat 32 ((grid0.coords t) 1).val) 512#32) (Scalar.muli (Scalar.subi (lastWord (BitVec.ofNat 32 ((grid0.coords t) 1).val)) (Scf.iv 0#32 1#32 k.val)) 512#32)
      = BitVec.ofNat 32 (512 * k.val) := by decide +kernel

variable {t : Fin grid0.N}

theorem trip_le (k : Fin (k0_t1_loop (grid0.coords t)).trips) : k.val ≤ t.val % 4 := by
  have h := k.isLt
  have e := trips1 t
  omega

theorem mask9 (k : Fin (k0_t1_loop (grid0.coords t)).trips) :
    Mask (512 * (t.val % 4)) (512 * (t.val % 4 - k.val)) (k0_pay9 (grid0.coords t) (BitVec.ofNat 32 ((grid0.coords t) 1).val)
      (iota Kind.tc S512x512 32 [0] iota_S512x512_d0_w32) (iota Kind.tc S512x512 32 [1] iota_S512x512_d1_w32) (lastWord (BitVec.ofNat 32 ((grid0.coords t) 1).val)) 0#32 1#32 k) := by
  intro x y
  have hk := trip_le k
  pointwise [k0_pay9]
  refine (congrArg (fun w => IntOp.cmpi CmpIPredicate.sgt (IntOp.addi (BitVec.ofNat 32 x.val) w) (BitVec.ofNat 32 y.val)) (word1 t k)).trans ?_
  show IntOp.cmpi CmpIPredicate.slt (BitVec.ofNat 32 y.val) (BitVec.ofNat 32 x.val + BitVec.ofNat 32 (512 * k.val)) = _
  rw [← BitVec.ofNat_add, IntOp.cmpi, slt_small _ _ (by omega) (by omega)]
  congr 2
  exact propext ⟨fun h => by omega, fun h => by omega⟩

theorem at_rows {off : Fin S2048x128.rank → ℕ} (inb : ∀ a, off a + S512x128.size a ≤ S2048x128.size a) (b : ℕ) (ho : off = ![b, 0])
    (x : Fin 512) (d : Fin 128) (hb : b + x.val < 2048) :
    (Rect.unit (s := S2048x128) off S512x128.size inb).idx (ix2 x d) = ix2 ⟨b + x.val, hb⟩ d := by
  subst ho
  funext a
  fin_cases a <;> apply Fin.ext
  · show b + 1 * x.val = b + x.val
    omega
  · show 0 + 1 * d.val = d.val
    omega

/-- A load of 512 rows from `b` on. -/
theorem rows_at {e : EltTy} (V : View sig .tc .vmem S2048x128 e) (f : BufTy.Contents (Elt Ideal) V.ty) (he : Elt Ideal e = EReal) (g : ℕ → ℕ → ℝ)
    (h : Full (fun y => cast he (V.read (Elt Ideal) f y)) g) {off : Fin S2048x128.rank → ℕ}
    (inb : ∀ a, off a + S512x128.size a ≤ S2048x128.size a) (b : ℕ) (ho : off = ![b, 0]) :
    Rows b (fun y => cast he (View.readAt (Elt Ideal) V (Rect.unit (s := S2048x128) off S512x128.size inb).toLoadRect f y)) g := by
  intro x d
  have hb : b + 512 ≤ 2048 := by subst ho; exact inb 0
  rw [View.readAt_eq_ld]
  exact (congrArg (fun y => cast he (V.read (Elt Ideal) f y)) (at_rows inb b ho x d (by omega))).trans (h ⟨b + x.val, by omega⟩ d)

theorem at_all {S : Shape} {off : Fin S.rank → ℕ} (inb : ∀ a, off a + S.size a ≤ S.size a) (y : S.Idx) : (Rect.unit (s := S) off S.size inb).idx y = y := by
  funext a
  apply Fin.ext
  have := inb a
  show off a + 1 * (y a).val = (y a).val
  omega

theorem load_all {S : Shape} {e : EltTy} (V : View sig .tc .vmem S e) (f : BufTy.Contents (Elt Ideal) V.ty) {off : Fin S.rank → ℕ}
    (inb : ∀ a, off a + S.size a ≤ S.size a) :
    View.readAt (Elt Ideal) V (Rect.unit (s := S) off S.size inb).toLoadRect f = V.read (Elt Ideal) f := by
  rw [View.readAt_eq_ld]
  funext y
  exact congrArg (V.read (Elt Ideal) f) (at_all inb y)

theorem store_all {S : Shape} {e : EltTy} (V : View sig .tc .vmem S e) (f : BufTy.Contents (Elt Ideal) V.ty) (L : List (View.Piece (Elt Ideal) S e)) {off : Fin S.rank → ℕ}
    (inb : ∀ a, off a + S.size a ≤ S.size a) (w : S.Idx → Elt Ideal e) :
    V.read (Elt Ideal) (V.writes (Elt Ideal) f ((⟨Rect.unit off S.size inb, w⟩ : View.Piece (Elt Ideal) S e) :: L)) = w := by
  funext y
  refine View.read_writes_cons_unit_of_mem V f inb w L y y rfl fun a => ?_
  have := inb a
  omega

section loop

variable (c : Dev nD) (t : Fin grid0.N) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S512x128 .f32) (harg7 : arg7.IsWhole)
  (v0 : Vec Ideal S512x128 .bf16) (X_arg3 : BufTy.Contents (Elt Ideal) arg3.view.ty) (X_arg4 : BufTy.Contents (Elt Ideal) arg4.view.ty)

/-- What the loop holds after `n` trips. -/
abbrev lp (n : ℕ) : FVec Ideal S512x128 .f32 × FVec Ideal S512x1 .f32 :=
  st_k0_t1 (F := Ideal) Variants.none c none (grid0.coords t) arg2 harg2 arg3 harg3 arg4 harg4 arg5 harg5 arg6 harg6 arg7 harg7
    (BitVec.ofNat 32 ((grid0.coords t) 1).val) v0 (iota Kind.tc S512x512 32 [0] iota_S512x512_d0_w32) (iota Kind.tc S512x512 32 [1] iota_S512x512_d1_w32)
    (lastWord (BitVec.ofNat 32 ((grid0.coords t) 1).val)) X_arg3 X_arg4 (k0_pay29, k0_pay30) n

variable {c t arg2 harg2 arg3 harg3 arg4 harg4 arg5 harg5 arg6 harg6 arg7 harg7 v0 X_arg3 X_arg4}

theorem loop_left {H : Head} (hc : cw = ((H.c : ℝ) : EReal)) (hq : Rows (512 * (t.val % 4)) v0 H.q)
    (hk : Full (arg3.view.read (Elt Ideal) X_arg3) H.k) (hv : Full (arg4.view.read (Elt Ideal) X_arg4) H.v) :
    ∀ n ≤ t.val % 4 + 1, Carried H (512 * (t.val % 4)) (512 * (t.val % 4 + 1 - n))
      (lp c t arg2 harg2 arg3 harg3 arg4 harg4 arg5 harg5 arg6 harg6 arg7 harg7 v0 X_arg3 X_arg4 n)
  | 0, _ => by
    have ht := Nat.mod_lt t.val (show 0 < 4 by omega)
    exact {
      o := pay29_zero _ _ fun x d => by
        have hx := x.isLt
        rw [Head.o, range_stop (fun s => H.w (512 * (t.val % 4) + x.val) s * H.v s d.val) (a := 512 * (t.val % 4 + 1 - 0)) (by omega)
          fun s hs => by rw [H.w_masked (by omega), zero_mul], sub_self]
      tot := pay30_zero _ _ fun x => by
        have hx := x.isLt
        rw [Head.tot, range_stop (fun s => H.lnb (512 * (t.val % 4) + x.val) s) (a := 512 * (t.val % 4 + 1 - 0)) (by omega)
          fun s hs => H.lnb_masked (by omega), sub_self] }
  | n + 1, hn => by
    have I := loop_left hc hq hk hv n (by omega)
    have hlt : n < (k0_t1_loop (grid0.coords t)).trips := by rw [trips1]; omega
    have ho := off1 t ⟨n, hlt⟩
    have e := st_k0_t1_succ (F := Ideal) Variants.none c none (grid0.coords t) arg2 harg2 arg3 harg3 arg4 harg4 arg5 harg5 arg6 harg6 arg7 harg7
      (BitVec.ofNat 32 ((grid0.coords t) 1).val) v0 (iota Kind.tc S512x512 32 [0] iota_S512x512_d0_w32) (iota Kind.tc S512x512 32 [1] iota_S512x512_d1_w32)
      (lastWord (BitVec.ofNat 32 ((grid0.coords t) 1).val)) X_arg3 X_arg4 (k0_pay29, k0_pay30) ⟨n, hlt⟩
    rw [tripR_eq] at e
    rw [show 512 * (t.val % 4 + 1 - n) = 512 * (t.val % 4 - n) + 512 by omega] at I
    rw [show 512 * (t.val % 4 + 1 - (n + 1)) = 512 * (t.val % 4 - n) by omega]
    have := tR_carried (k := ⟨n, hlt⟩) (arg1 := (BitVec.ofNat 32 ((grid0.coords t) 1).val)) hc (mask9 ⟨n, hlt⟩) hq
      (rows_at arg3.view X_arg3 rfl H.k hk (k0_off1_inb (grid0.coords t) ⟨n, hlt⟩) _ ho)
      (rows_at arg4.view X_arg4 rfl H.v hv (k0_off1_inb (grid0.coords t) ⟨n, hlt⟩) _ ho) I
    exact (congrArg (Carried H _ _) e).mpr this

end loop

end

end Cert.Kernel19Ideal.Sbf
-- ==== Proof.SbFwdPoint.lean ====
/- One grid point of the forward kernel: its block of the result, of the transposed result and of the row sums. -/
module

public import proofs.«01_k».proof.Proof.SbFwdLoop
public import proofs.«01_k».proof.Proof.SbHead
public import proofs.«01_k».proof.Proof.Gen.Kernel19Ideal.Value

@[expose] public section

set_option maxRecDepth 16384

namespace Cert.Kernel19Ideal.Sbf

open Cert.Kernel19Ideal Cert.Kernel19Ideal.Gen Idealize.ShloMosaic Idealize.ShloMosaic.TcCoe Sb Finset

noncomputable section

theorem rest2 (t : Fin grid0.N) : Scf.trips (k0_t2_loop (grid0.coords t)).lb (k0_t2_loop (grid0.coords t)).ub (k0_t2_loop (grid0.coords t)).st = 0 := trips2 t

/-- What a point leaves in its three blocks. -/
structure Ends (H : Head) (r0 : ℕ) (o : S512x128.Idx → EReal) (oT : S128x512.Idx → EReal) (tot : S512x128.Idx → EReal) : Prop where
  /-- the result -/
  o : Rows r0 o H.o
  /-- the result transposed -/
  oT : ∀ (d : Fin 128) (x : Fin 512), oT (ix2 d x) = ((H.o (r0 + x.val) d.val : ℝ) : EReal)
  /-- the row sums -/
  tot : Rows r0 tot fun r _ => H.tot r

section point

variable {c : Dev nD} {t : Fin grid0.N} {arg2 : Memref sig .tc .vmem S512x128 .bf16} {harg2 : arg2.IsWhole} {arg3 : Memref sig .tc .vmem S2048x128 .bf16} {harg3 : arg3.IsWhole} {arg4 : Memref sig .tc .vmem S2048x128 .bf16} {harg4 : arg4.IsWhole} {arg5 : Memref sig .tc .vmem S512x128 .bf16} {harg5 : arg5.IsWhole} {arg6 : Memref sig .tc .vmem S128x512 .bf16} {harg6 : arg6.IsWhole} {arg7 : Memref sig .tc .vmem S512x128 .f32} {harg7 : arg7.IsWhole}
  {x0 : Vec Ideal S512x128 .bf16} {x1 : Vec Ideal S2048x128 .bf16} {x2 : Vec Ideal S2048x128 .bf16} {H : Head}

theorem loop_ends (hc : cw = ((H.c : ℝ) : EReal)) (hq : Rows (512 * (t.val % 4)) x0 H.q) (hk : Full x1 H.k) (hv : Full x2 H.v) :
    Carried H (512 * (t.val % 4)) 0 (lp c t arg2 harg2 arg3 harg3 arg4 harg4 arg5 harg5 arg6 harg6 arg7 harg7 (View.readAt (Elt Ideal) arg2.view (Rect.unit ![0, 0] S512x128.size inb_S512x128_S512x128_0_0).toLoadRect (harg2.unread x0)) (harg3.unread x1) (harg4.unread x2) (k0_t1_loop (grid0.coords t)).trips) := by
  have L := loop_left (c := c) (harg2 := harg2) (harg3 := harg3) (harg4 := harg4) (harg5 := harg5) (harg6 := harg6) (harg7 := harg7)
    (v0 := (View.readAt (Elt Ideal) arg2.view (Rect.unit ![0, 0] S512x128.size inb_S512x128_S512x128_0_0).toLoadRect (harg2.unread x0))) (X_arg3 := harg3.unread x1) (X_arg4 := harg4.unread x2) hc (by rw [load_all, harg2.read_unread]; exact hq)
    (by rw [harg3.read_unread]; exact hk) (by rw [harg4.read_unread]; exact hv) _ (trips1 t).le
  rw [show 512 * (t.val % 4 + 1 - (k0_t1_loop (grid0.coords t)).trips) = 0 by rw [trips1]; omega] at L
  exact L

set_option maxHeartbeats 1000000 in
theorem point (hc : cw = ((H.c : ℝ) : EReal)) (hq : Rows (512 * (t.val % 4)) x0 H.q) (hk : Full x1 H.k) (hv : Full x2 H.v) :
    Ends H (512 * (t.val % 4)) (out0_A_3 c (grid0.coords t) arg2 harg2 arg3 harg3 arg4 harg4 arg5 harg5 arg6 harg6 arg7 harg7 x0 x1 x2) (out0_A_4 c (grid0.coords t) arg2 harg2 arg3 harg3 arg4 harg4 arg5 harg5 arg6 harg6 arg7 harg7 x0 x1 x2)
      (out0_A_5 c (grid0.coords t) arg2 harg2 arg3 harg3 arg4 harg4 arg5 harg5 arg6 harg6 arg7 harg7 x0 x1 x2) := by
  have L := loop_ends (c := c) (harg2 := harg2) (harg3 := harg3) (harg4 := harg4) (harg5 := harg5) (harg6 := harg6) (harg7 := harg7) hc hq hk hv
  have e3 : (kernelRun0_A (F := Ideal) c (grid0.coords t) arg2 harg2 arg3 harg3 arg4 harg4 arg5 harg5 arg6 harg6 arg7 harg7 x0 x1 x2).1
      = [⟨Rect.unit ![0, 0] S512x128.size inb_S512x128_S512x128_0_0, k0_pay5 (lp c t arg2 harg2 arg3 harg3 arg4 harg4 arg5 harg5 arg6 harg6 arg7 harg7 (View.readAt (Elt Ideal) arg2.view (Rect.unit ![0, 0] S512x128.size inb_S512x128_S512x128_0_0).toLoadRect (harg2.unread x0)) (harg3.unread x1) (harg4.unread x2) (k0_t1_loop (grid0.coords t)).trips).1⟩] := by
    unfold kernelRun0_A
    sl_unfold_words
    simp only [rest2 t, st_k0_t2.eq_1]
    rfl
  have d3 : out0_A_3 c (grid0.coords t) arg2 harg2 arg3 harg3 arg4 harg4 arg5 harg5 arg6 harg6 arg7 harg7 x0 x1 x2 = k0_pay5 (lp c t arg2 harg2 arg3 harg3 arg4 harg4 arg5 harg5 arg6 harg6 arg7 harg7 (View.readAt (Elt Ideal) arg2.view (Rect.unit ![0, 0] S512x128.size inb_S512x128_S512x128_0_0).toLoadRect (harg2.unread x0)) (harg3.unread x1) (harg4.unread x2) (k0_t1_loop (grid0.coords t)).trips).1 := by
    unfold out0_A_3
    exact (congrArg (fun L => VO0_3.read (Elt Ideal) (VO0_3.writes (Elt Ideal) VO0_3.junk L)) e3).trans (store_all VO0_3 VO0_3.junk [] inb_S512x128_S512x128_0_0 _)
  have e4 : (kernelRun0_A (F := Ideal) c (grid0.coords t) arg2 harg2 arg3 harg3 arg4 harg4 arg5 harg5 arg6 harg6 arg7 harg7 x0 x1 x2).2.1
      = [⟨Rect.unit ![0, 0] S128x512.size inb_S128x512_S128x512_0_0, k0_pay6 (lp c t arg2 harg2 arg3 harg3 arg4 harg4 arg5 harg5 arg6 harg6 arg7 harg7 (View.readAt (Elt Ideal) arg2.view (Rect.unit ![0, 0] S512x128.size inb_S512x128_S512x128_0_0).toLoadRect (harg2.unread x0)) (harg3.unread x1) (harg4.unread x2) (k0_t1_loop (grid0.coords t)).trips).1⟩] := by
    unfold kernelRun0_A
    sl_unfold_words
    simp only [rest2 t, st_k0_t2.eq_1]
    rfl
  have d4 : out0_A_4 c (grid0.coords t) arg2 harg2 arg3 harg3 arg4 harg4 arg5 harg5 arg6 harg6 arg7 harg7 x0 x1 x2 = k0_pay6 (lp c t arg2 harg2 arg3 harg3 arg4 harg4 arg5 harg5 arg6 harg6 arg7 harg7 (View.readAt (Elt Ideal) arg2.view (Rect.unit ![0, 0] S512x128.size inb_S512x128_S512x128_0_0).toLoadRect (harg2.unread x0)) (harg3.unread x1) (harg4.unread x2) (k0_t1_loop (grid0.coords t)).trips).1 := by
    unfold out0_A_4
    exact (congrArg (fun L => VO0_4.read (Elt Ideal) (VO0_4.writes (Elt Ideal) VO0_4.junk L)) e4).trans (store_all VO0_4 VO0_4.junk [] inb_S128x512_S128x512_0_0 _)
  have e5 : (kernelRun0_A (F := Ideal) c (grid0.coords t) arg2 harg2 arg3 harg3 arg4 harg4 arg5 harg5 arg6 harg6 arg7 harg7 x0 x1 x2).2.2.1
      = [⟨Rect.unit ![0, 0] S512x128.size inb_S512x128_S512x128_0_0, k0_pay7 (lp c t arg2 harg2 arg3 harg3 arg4 harg4 arg5 harg5 arg6 harg6 arg7 harg7 (View.readAt (Elt Ideal) arg2.view (Rect.unit ![0, 0] S512x128.size inb_S512x128_S512x128_0_0).toLoadRect (harg2.unread x0)) (harg3.unread x1) (harg4.unread x2) (k0_t1_loop (grid0.coords t)).trips).2⟩] := by
    unfold kernelRun0_A
    sl_unfold_words
    simp only [rest2 t, st_k0_t2.eq_1]
    rfl
  have d5 : out0_A_5 c (grid0.coords t) arg2 harg2 arg3 harg3 arg4 harg4 arg5 harg5 arg6 harg6 arg7 harg7 x0 x1 x2 = k0_pay7 (lp c t arg2 harg2 arg3 harg3 arg4 harg4 arg5 harg5 arg6 harg6 arg7 harg7 (View.readAt (Elt Ideal) arg2.view (Rect.unit ![0, 0] S512x128.size inb_S512x128_S512x128_0_0).toLoadRect (harg2.unread x0)) (harg3.unread x1) (harg4.unread x2) (k0_t1_loop (grid0.coords t)).trips).2 := by
    unfold out0_A_5
    exact (congrArg (fun L => VO0_5.read (Elt Ideal) (VO0_5.writes (Elt Ideal) VO0_5.junk L)) e5).trans (store_all VO0_5 VO0_5.junk [] inb_S512x128_S512x128_0_0 _)
  rw [d3, d4, d5]
  have ho : Rows (512 * (t.val % 4)) _ H.o := fun x d => (L.o x d).trans (by dsimp only; rw [Finset.sum_range_zero, sub_zero])
  have hs : Column (512 * (t.val % 4)) _ H.tot := fun x => (L.tot x).trans (by dsimp only; rw [Finset.sum_range_zero, sub_zero])
  exact { o := pay5_rows ho, oT := pay6_cols ho, tot := pay7_rows hs }

end point

section blocks

variable (m : (ℓ : Loc nD τ sig) → Buf (Elt Ideal) ℓ) (c : Dev nD) (t : Fin cfg0.N)

/-- The argument on a device. -/
abbrev argQ : S2048x6144.Idx → EReal := m ((c : Thread nD τ).loc main_arg0)

theorem idx0 : ∀ t : Fin cfg0.N, win0_0.index t = ![t.val % 4, t.val / 4] ∧ win0_1.index t = ![0, 16 + t.val / 4] ∧ win0_2.index t = ![0, 32 + t.val / 4]
    ∧ win0_3.index t = ![t.val % 4, t.val / 4] ∧ win0_4.index t = ![t.val / 4, t.val % 4] ∧ win0_5.index t = ![t.val % 4, t.val / 4] :=
  (by decide +kernel : ∀ t : Fin grid0.N, _)

theorem head_lt : t.val / 4 < 8 := by
  have : t.val < 32 := t.isLt
  omega

theorem blk_q (x : Fin 512) (d : Fin 128) (hr : 512 * (t.val % 4) + x.val < 2048) (hc : 128 * (t.val / 4) + d.val < 6144) :
    (iblk m c 0 t : S512x128.Idx → EReal) (ix2 x d) = argQ m c (ix2 ⟨512 * (t.val % 4) + x.val, hr⟩ ⟨128 * (t.val / 4) + d.val, hc⟩) := by
  blk_ext [iblk, V_main_arg0, idx0 t]

theorem blk_k (x : Fin 2048) (d : Fin 128) (hc : 2048 + 128 * (t.val / 4) + d.val < 6144) :
    (iblk m c 1 t : S2048x128.Idx → EReal) (ix2 x d) = argQ m c (ix2 x ⟨2048 + 128 * (t.val / 4) + d.val, hc⟩) := by
  blk_ext [iblk, V_main_arg0, idx0 t]

theorem blk_v (x : Fin 2048) (d : Fin 128) (hc : 4096 + 128 * (t.val / 4) + d.val < 6144) :
    (iblk m c 2 t : S2048x128.Idx → EReal) (ix2 x d) = argQ m c (ix2 x ⟨4096 + 128 * (t.val / 4) + d.val, hc⟩) := by
  blk_ext [iblk, V_main_arg0, idx0 t]

/-- Head `h` on a device; the cotangent plays no part. -/
abbrev dev (h : ℕ) : Head := hd (argQ m c) (fun _ => 0) h

variable {m c t} (hc : cw = ((cw.toReal : ℝ) : EReal)) (hQ : AllReal (S := ShQ) (argQ m c))
include hc hQ

/-- What a point of the run leaves. -/
theorem ends : Ends (dev m c (t.val / 4)) (512 * (t.val % 4)) (outsAt0 m c t).1 (outsAt0 m c t).2.1 (outsAt0 m c t).2.2 := by
  have hq : Rows (512 * (t.val % 4)) (iblk m c 0 t : S512x128.Idx → EReal) (dev m c (t.val / 4)).q := by
    intro x d
    have := head_lt t
    have hx := x.isLt; have hd := d.isLt
    rw [blk_q m c t x d (by omega) (by omega)]
    exact hd_q hQ this _ hd _
  have hk : Full (iblk m c 1 t : S2048x128.Idx → EReal) (dev m c (t.val / 4)).k := by
    intro x d
    have := head_lt t
    have hx := x.isLt; have hd := d.isLt
    rw [blk_k m c t x d (by omega)]
    exact hd_k hQ this _ hd _
  have hv : Full (iblk m c 2 t : S2048x128.Idx → EReal) (dev m c (t.val / 4)).v := by
    intro x d
    have := head_lt t
    have hx := x.isLt; have hd := d.isLt
    rw [blk_v m c t x d (by omega)]
    exact hd_v hQ this _ hd _
  unfold outsAt0
  dsimp only
  exact point hc hq hk hv

end blocks

end

end Cert.Kernel19Ideal.Sbf
-- ==== Proof.SbFwdRef.lean ====
/- The forward reference's stages, read as the model's, and its three results. -/
module

public import proofs.«01_k».proof.Proof.SbRef
public import proofs.«01_k».proof.Proof.SbFwdPay
public import proofs.«01_k».proof.Proof.Gen.Reference19Ideal.Read

@[expose] public section

set_option maxRecDepth 16384

namespace Cert.Reference19Ideal.Sbg

open Cert.Reference19Ideal Cert.Reference19Ideal.Gen Cert.Reference19Ideal.Read Idealize.ShloMosaic Sb Finset
open Cert.ReferenceIdeal.Sbr (zero_word host_softplus aw)

noncomputable section

/-- The argument's type. -/
abbrev TQ : Type := (⟨S2048x6144, .bf16⟩ : BufTy).Contents (Elt Ideal)

variable {Q : TQ} {D : ShD.Idx → EReal} (hQ : AllReal (S := ShQ) Q) (hc : scale = ((scale.toReal : ℝ) : EReal)) (h : Fin 8)

include hQ in
theorem v4_at (r : Fin 2048) (d : Fin 128) : val_main_v4 (F := Ideal) Q (ix3 h r d) = (((hd Q D h.val).q r.val d.val : ℝ) : EReal) := by
  rw [val_main_v4_apply, val_main_v3_apply, val_main_v2_apply, val_main_v1_apply, val_main_v0_apply]
  refine Eq.trans ?_ (hd_q (D := D) hQ h.isLt r.isLt d.isLt (by omega))
  have hd' := d.isLt
  have hr := r.isLt
  have e1 : ((h.val * 2048 + r.val) * 128 + d.val) / 128 % 2048 = r.val := by omega
  have e2 : ((h.val * 2048 + r.val) * 128 + d.val) / 262144 % 8 = h.val := by omega
  have e3 : ((h.val * 2048 + r.val) * 128 + d.val) % 128 = d.val := by omega
  refine congrArg Q (funext fun a => Fin.ext ?_)
  match a with
  | ⟨0, _⟩ => dsimp; rw [e1, e2, e3]; omega
  | ⟨1, _⟩ => dsimp; rw [e1, e2, e3]; omega

include hQ in
theorem v6_at (r : Fin 2048) (d : Fin 128) : val_main_v6 (F := Ideal) Q (ix3 h r d) = (((hd Q D h.val).k r.val d.val : ℝ) : EReal) := by
  rw [val_main_v6_apply, val_main_v5_apply, val_main_v2_apply, val_main_v1_apply, val_main_v0_apply]
  refine Eq.trans ?_ (hd_k (D := D) hQ h.isLt r.isLt d.isLt (by omega))
  have hd' := d.isLt
  have hr := r.isLt
  have e1 : ((h.val * 2048 + r.val) * 128 + d.val) / 128 % 2048 = r.val := by omega
  have e2 : ((h.val * 2048 + r.val) * 128 + d.val) / 262144 % 8 = h.val := by omega
  have e3 : ((h.val * 2048 + r.val) * 128 + d.val) % 128 = d.val := by omega
  refine congrArg Q (funext fun a => Fin.ext ?_)
  match a with
  | ⟨0, _⟩ => dsimp; rw [e1, e2, e3]; omega
  | ⟨1, _⟩ => dsimp; rw [e1, e2, e3]; omega

include hQ in
theorem v8_at (r : Fin 2048) (d : Fin 128) : val_main_v8 (F := Ideal) Q (ix3 h r d) = (((hd Q D h.val).v r.val d.val : ℝ) : EReal) := by
  rw [val_main_v8_apply, val_main_v7_apply, val_main_v2_apply, val_main_v1_apply, val_main_v0_apply]
  refine Eq.trans ?_ (hd_v (D := D) hQ h.isLt r.isLt d.isLt (by omega))
  have hd' := d.isLt
  have hr := r.isLt
  have e1 : ((h.val * 2048 + r.val) * 128 + d.val) / 128 % 2048 = r.val := by omega
  have e2 : ((h.val * 2048 + r.val) * 128 + d.val) / 262144 % 8 = h.val := by omega
  have e3 : ((h.val * 2048 + r.val) * 128 + d.val) % 128 = d.val := by omega
  refine congrArg Q (funext fun a => Fin.ext ?_)
  match a with
  | ⟨0, _⟩ => dsimp; rw [e1, e2, e3]; omega
  | ⟨1, _⟩ => dsimp; rw [e1, e2, e3]; omega

/-- Every position before its row. -/
theorem v15_at (r s : Fin 2048) : val_main_v15 (F := Ideal) (ix3 (0 : Fin 1) r s) = BitVec.ofBool (decide (s.val < r.val)) := by
  rw [val_main_v15_apply, val_main_v14_apply, val_main_v12_apply, val_main_v13_apply, val_main_v10_apply, val_main_v11_apply, val_main_v9_apply, val_main_v9_apply]
  exact congrArg BitVec.ofBool (slt_small _ _ (by have := s.isLt; show s.val < _; omega) (by have := r.isLt; show r.val < _; omega))

include hQ hc in
/-- The logits. -/
theorem v18_at (r s : Fin 2048) : val_main_v18 (F := Ideal) Q (ix3 h r s) = (((hd Q D h.val).z r.val s.val : ℝ) : EReal) := by
  rw [val_main_v18_apply, val_main_v16_apply, val_main_v17_apply, val_main_cst_apply]
  have e : (∑ k : Fin 128, (val_main_v4 (F := Ideal) Q) (lidx_main_v16 (ix3 h r s) k) * (val_main_v6 (F := Ideal) Q) (ridx_main_v16 (ix3 h r s) k) : EReal)
      = ((∑ k : Fin 128, (hd Q D h.val).q r.val k.val * (hd Q D h.val).k s.val k.val : ℝ) : EReal) := by
    refine sum_of_coe _ fun k => ?_
    rw [EReal.coe_mul]
    refine congrArg₂ (· * ·) ((congrArg _ (funext fun a => ?_)).trans (v4_at (D := D) hQ h r k)) ((congrArg _ (funext fun a => ?_)).trans (v6_at (D := D) hQ h s k))
    · match a with
      | ⟨0, _⟩ => rfl
      | ⟨1, _⟩ => rfl
      | ⟨2, _⟩ => rfl
    · match a with
      | ⟨0, _⟩ => rfl
      | ⟨1, _⟩ => rfl
      | ⟨2, _⟩ => rfl
  refine (congrArg₂ (fun a b : EReal => a * b) e hc).trans ?_
  rw [← EReal.coe_mul]
  rfl

include hQ hc in
theorem v19_at (r s : Fin 2048) : val_main_v19 (F := Ideal) Q (ix3 h r s) = ((softplus ((hd Q D h.val).z r.val s.val) : ℝ) : EReal) := by
  rw [val_main_v19_apply, val_main_call0_v4_apply, val_main_call0_v6_apply, val_main_call0_v11_apply, val_main_call0_v3_apply, val_main_call0_v1_apply, val_main_call0_v10_apply,
    val_main_call0_v9_apply, val_main_call0_v8_apply, val_main_call0_v7_apply, val_main_call0_v3_apply, val_main_call0_v0_apply, val_main_call0_v2_apply, val_main_call0_v5_apply,
    val_main_call0_cst_apply, v18_at (D := D) hQ hc h r s]
  exact host_softplus _

theorem m21_at (r s : Fin 2048) : val_main_call1_v1 (F := Ideal) (ix3 h r s) = BitVec.ofBool (decide (s.val < r.val)) := by
  rw [val_main_call1_v1_apply, ← v15_at r s]
  refine congrArg _ (funext fun a => ?_)
  match a with
  | ⟨0, _⟩ => rfl
  | ⟨1, _⟩ => rfl
  | ⟨2, _⟩ => rfl

include hQ hc in
theorem v21_at (r s : Fin 2048) : val_main_v21 (F := Ideal) Q (ix3 h r s) = (((hd Q D h.val).lnb r.val s.val : ℝ) : EReal) := by
  rw [val_main_v21_apply, m21_at, val_main_v20_apply, v19_at (D := D) hQ hc h r s, val_main_call1_v2_apply, val_main_call1_v0_apply, val_main_cst_0_apply, zero_word, select_decide]
  show (if s.val < r.val then -((_ : ℝ) : EReal) else ((0 : ℝ) : EReal)) = _
  rw [← EReal.coe_neg, ite_coe, Head.lnb, zero_sub]

include hQ hc in
theorem v22_at (r s : Fin 2048) : val_main_v22 (F := Ideal) Q (ix3 h r s) = ((∑ s' ∈ range 2048, if s.val ≤ s' then (hd Q D h.val).lnb r.val s' else 0 : ℝ) : EReal) := by
  rw [← window_from _ _ s.isLt, ← window_row 0 ![0, 0, 0] ![0, 0, 2047] rfl (val_main_v21 (F := Ideal) Q) reduceWindows_S8x2048x2048_S8x2048x2048_w1s1p0_0_w1s1p0_0_w2048s1p0_2047 h r s _ fun s' => v21_at hQ hc h r s']
  unfold val_main_v22 Host.reduceWindowAdd
  rw [val_main_call2_v0_apply, val_main_call2_cst_apply, zero_word]
  rfl

include hQ hc in
/-- The sum of the logarithms strictly after a position. -/
theorem v23_at (r s : Fin 2048) : val_main_v23 (F := Ideal) Q (ix3 h r s)
    = (((hd Q D h.val).tot r.val - ∑ s' ∈ range (s.val + 1), (hd Q D h.val).lnb r.val s' : ℝ) : EReal) := by
  rw [val_main_v23_apply, v22_at (D := D) hQ hc h r s, v21_at (D := D) hQ hc h r s, ← Head.after_eq _ _ _ s.isLt]
  exact (EReal.coe_sub _ _).symm

include hQ hc in
theorem neg_at (r s : Fin 2048) : val_main_call3_v0 (F := Ideal) Q (ix3 h r s) = ((-(hd Q D h.val).z r.val s.val : ℝ) : EReal) := by
  rw [val_main_call3_v0_apply, v18_at (D := D) hQ hc h r s]
  exact (EReal.coe_neg _).symm

include hQ hc in
theorem sp_neg_at (r s : Fin 2048) : val_main_call3_v1 (F := Ideal) Q (ix3 h r s) = ((softplus (-(hd Q D h.val).z r.val s.val) : ℝ) : EReal) := by
  rw [val_main_call3_v1_apply, val_main_call3_call0_v4_apply, val_main_call3_call0_v6_apply, val_main_call3_call0_v11_apply, val_main_call3_call0_v3_apply, val_main_call3_call0_v1_apply, val_main_call3_call0_v10_apply,
    val_main_call3_call0_v9_apply, val_main_call3_call0_v8_apply, val_main_call3_call0_v7_apply, val_main_call3_call0_v3_apply, val_main_call3_call0_v0_apply, val_main_call3_call0_v2_apply, val_main_call3_call0_v5_apply,
    val_main_call3_call0_cst_apply, neg_at (D := D) hQ hc h r s]
  exact host_softplus _

include hQ hc in
theorem v26_at (r s : Fin 2048) : val_main_v26 (F := Ideal) Q (ix3 h r s) = ((aw (hd Q D h.val) r.val s.val : ℝ) : EReal) := by
  rw [val_main_v26_apply, val_main_v25_apply, val_main_v24_apply, sp_neg_at (D := D) hQ hc h r s, v23_at (D := D) hQ hc h r s]
  show Ideal.exp (-((_ : ℝ) : EReal) + ((_ : ℝ) : EReal)) = _
  rw [← EReal.coe_neg, ← EReal.coe_add, Ideal.exp_coe, softplus_neg, neg_sub]
  rfl

theorem m27_at (r s : Fin 2048) : val_main_call4_v1 (F := Ideal) (ix3 h r s) = BitVec.ofBool (decide (s.val < r.val)) := by
  rw [val_main_call4_v1_apply, ← v15_at r s]
  refine congrArg _ (funext fun a => ?_)
  match a with
  | ⟨0, _⟩ => rfl
  | ⟨1, _⟩ => rfl
  | ⟨2, _⟩ => rfl

include hQ hc in
/-- The weights. -/
theorem v27_at (r s : Fin 2048) : val_main_v27 (F := Ideal) Q (ix3 h r s) = (((hd Q D h.val).w r.val s.val : ℝ) : EReal) := by
  rw [val_main_v27_apply, m27_at, v26_at (D := D) hQ hc h r s, val_main_call4_v2_apply, val_main_call4_v0_apply, val_main_cst_1_apply, zero_word, select_decide]
  exact ite_coe _ _ _

include hQ hc in
/-- The attention's result. -/
theorem v28_at (r : Fin 2048) (d : Fin 128) : val_main_v28 (F := Ideal) Q (ix3 h r d) = (((hd Q D h.val).o r.val d.val : ℝ) : EReal) := by
  rw [val_main_v28_apply]
  refine (sum_of_coe (fun k : Fin 2048 => (hd Q D h.val).w r.val k.val * (hd Q D h.val).v k.val d.val) fun k => ?_).trans ?_
  · rw [EReal.coe_mul]
    refine congrArg₂ (fun a b : EReal => a * b) ((congrArg _ (funext fun a => ?_)).trans (v27_at (D := D) hQ hc h r k)) ((congrArg _ (funext fun a => ?_)).trans (v8_at (D := D) hQ h k d))
    · match a with
      | ⟨0, _⟩ => rfl
      | ⟨1, _⟩ => rfl
      | ⟨2, _⟩ => rfl
    · match a with
      | ⟨0, _⟩ => rfl
      | ⟨1, _⟩ => rfl
      | ⟨2, _⟩ => rfl
  · rw [Head.o, sum_fin_range 2048 fun s => (hd Q D h.val).w r.val s * (hd Q D h.val).v s d.val]

/-- Every position before its row. -/
theorem v37_at (r s : Fin 2048) : val_main_v37 (F := Ideal) (ix3 (0 : Fin 1) r s) = BitVec.ofBool (decide (s.val < r.val)) := by
  rw [val_main_v37_apply, val_main_v36_apply, val_main_v34_apply, val_main_v35_apply, val_main_v32_apply, val_main_v33_apply, val_main_v31_apply, val_main_v31_apply]
  exact congrArg BitVec.ofBool (slt_small _ _ (by have := s.isLt; show s.val < _; omega) (by have := r.isLt; show r.val < _; omega))

include hQ hc in
/-- The logits. -/
theorem v40_at (r s : Fin 2048) : val_main_v40 (F := Ideal) Q (ix3 h r s) = (((hd Q D h.val).z r.val s.val : ℝ) : EReal) := by
  rw [val_main_v40_apply, val_main_v38_apply, val_main_v39_apply, val_main_cst_2_apply]
  have e : (∑ k : Fin 128, (val_main_v4 (F := Ideal) Q) (lidx_main_v38 (ix3 h r s) k) * (val_main_v6 (F := Ideal) Q) (ridx_main_v38 (ix3 h r s) k) : EReal)
      = ((∑ k : Fin 128, (hd Q D h.val).q r.val k.val * (hd Q D h.val).k s.val k.val : ℝ) : EReal) := by
    refine sum_of_coe _ fun k => ?_
    rw [EReal.coe_mul]
    refine congrArg₂ (· * ·) ((congrArg _ (funext fun a => ?_)).trans (v4_at (D := D) hQ h r k)) ((congrArg _ (funext fun a => ?_)).trans (v6_at (D := D) hQ h s k))
    · match a with
      | ⟨0, _⟩ => rfl
      | ⟨1, _⟩ => rfl
      | ⟨2, _⟩ => rfl
    · match a with
      | ⟨0, _⟩ => rfl
      | ⟨1, _⟩ => rfl
      | ⟨2, _⟩ => rfl
  refine (congrArg₂ (fun a b : EReal => a * b) e hc).trans ?_
  rw [← EReal.coe_mul]
  rfl

include hQ hc in
theorem v41_at (r s : Fin 2048) : val_main_v41 (F := Ideal) Q (ix3 h r s) = ((softplus ((hd Q D h.val).z r.val s.val) : ℝ) : EReal) := by
  rw [val_main_v41_apply, val_main_call5_v4_apply, val_main_call5_v6_apply, val_main_call5_v11_apply, val_main_call5_v3_apply, val_main_call5_v1_apply, val_main_call5_v10_apply,
    val_main_call5_v9_apply, val_main_call5_v8_apply, val_main_call5_v7_apply, val_main_call5_v3_apply, val_main_call5_v0_apply, val_main_call5_v2_apply, val_main_call5_v5_apply,
    val_main_call5_cst_apply, v40_at (D := D) hQ hc h r s]
  exact host_softplus _

theorem m43_at (r s : Fin 2048) : val_main_call6_v1 (F := Ideal) (ix3 h r s) = BitVec.ofBool (decide (s.val < r.val)) := by
  rw [val_main_call6_v1_apply, ← v37_at r s]
  refine congrArg _ (funext fun a => ?_)
  match a with
  | ⟨0, _⟩ => rfl
  | ⟨1, _⟩ => rfl
  | ⟨2, _⟩ => rfl

include hQ hc in
theorem v43_at (r s : Fin 2048) : val_main_v43 (F := Ideal) Q (ix3 h r s) = (((hd Q D h.val).lnb r.val s.val : ℝ) : EReal) := by
  rw [val_main_v43_apply, m43_at, val_main_v42_apply, v41_at (D := D) hQ hc h r s, val_main_call6_v2_apply, val_main_call6_v0_apply, val_main_cst_3_apply, zero_word, select_decide]
  show (if s.val < r.val then -((_ : ℝ) : EReal) else ((0 : ℝ) : EReal)) = _
  rw [← EReal.coe_neg, ite_coe, Head.lnb, zero_sub]

include hQ hc in
/-- The row sums. -/
theorem v44_at (r : Fin 2048) : val_main_v44 (F := Ideal) Q (ix2 h r) = (((hd Q D h.val).tot r.val : ℝ) : EReal) := by
  pointwise [val_main_v44, val_main_cst_4]
  rw [sum_of_coe _ fun k => v43_at (D := D) hQ hc h r k, Head.tot, sum_fin_range 2048 fun s => (hd Q D h.val).lnb r.val s]

include hQ hc in
theorem v30_at (r : Fin 2048) (d : Fin 128) (hx : 128 * h.val + d.val < 1024) :
    val_main_v30 (F := Ideal) Q (ix2 r ⟨128 * h.val + d.val, hx⟩) = (((hd Q D h.val).o r.val d.val : ℝ) : EReal) := by
  have hd' := d.isLt
  have hr := r.isLt
  have hh := h.isLt
  rw [val_main_v30_apply, val_main_v29_apply, ← v28_at (D := D) hQ hc h r d]
  refine congrArg (val_main_v28 (F := Ideal) Q) (funext fun a => Fin.ext ?_)
  match a with
  | ⟨0, _⟩ => dsimp; omega
  | ⟨1, _⟩ => dsimp; omega
  | ⟨2, _⟩ => dsimp; omega

include hQ hc in
theorem v46_at (r : Fin 2048) (d : Fin 128) (hx : 128 * h.val + d.val < 1024) :
    val_main_v46 (F := Ideal) Q (ix2 r ⟨128 * h.val + d.val, hx⟩) = (((hd Q D h.val).o r.val d.val : ℝ) : EReal) := by
  rw [val_main_v46_apply]
  exact v30_at hQ hc h r d hx

include hQ hc in
theorem v48_at (r : Fin 2048) (d : Fin 128) (hx : 128 * h.val + d.val < 1024) :
    val_main_v48 (F := Ideal) Q (ix2 ⟨128 * h.val + d.val, hx⟩ r) = (((hd Q D h.val).o r.val d.val : ℝ) : EReal) := by
  rw [val_main_v48_apply, val_main_v47_apply, ← v30_at (D := D) hQ hc h r d hx]
  refine congrArg (val_main_v30 (F := Ideal) Q) (funext fun a => Fin.ext ?_)
  match a with
  | ⟨0, _⟩ => rfl
  | ⟨1, _⟩ => rfl

include hQ hc in
theorem v50_at (r : Fin 2048) (d : Fin 128) (hx : 128 * h.val + d.val < 1024) :
    val_main_v50 (F := Ideal) Q (ix2 r ⟨128 * h.val + d.val, hx⟩) = (((hd Q D h.val).tot r.val : ℝ) : EReal) := by
  have hd' := d.isLt
  have hr := r.isLt
  have hh := h.isLt
  rw [val_main_v50_apply, val_main_v49_apply, val_main_v45_apply, ← v44_at (D := D) hQ hc h r]
  refine congrArg (val_main_v44 (F := Ideal) Q) (funext fun a => Fin.ext ?_)
  match a with
  | ⟨0, _⟩ => dsimp; omega
  | ⟨1, _⟩ => dsimp; omega

end

end Cert.Reference19Ideal.Sbg
-- ==== Proof.SbFwdArrays.lean ====
/- The forward kernel's three result arrays are the reference's. -/
module

public import proofs.«01_k».proof.Proof.SbFwdPoint
public import proofs.«01_k».proof.Proof.SbFwdRef
public import proofs.«01_k».proof.Proof.SbArrays

@[expose] public section

set_option maxRecDepth 16384

namespace Cert.Kernel19Ideal.Sbf

open Cert.Kernel19Ideal Cert.Kernel19Ideal.Gen Idealize.ShloMosaic Idealize.ShloMosaic.TcCoe Sb Finset
open Cert.KernelIdeal.Sbk (scale_real)
open Cert.Reference19Ideal.Read Cert.Reference19Ideal.Sbg

noncomputable section

variable (m : (ℓ : Loc nD τ sig) → Buf (Elt Ideal) ℓ) (c : Dev nD)

/-- The reference's attention on the kernel's argument. -/
abbrev goal := val_main_v46 (F := Ideal) (argQ m c)

/-- The reference's transposed attention on the kernel's argument. -/
abbrev goalT := val_main_v48 (F := Ideal) (argQ m c)

/-- The reference's row sums on the kernel's argument. -/
abbrev goalS := val_main_v50 (F := Ideal) (argQ m c)

variable {m c} (hQ : AllReal (S := ShQ) (argQ m c))
include hQ

theorem at_o (r h d : ℕ) (hr : r < 2048) (hh : h < 8) (hd' : d < 128) (e : S2048x1024.Idx) (e0 : (e 0).val = r) (e1 : (e 1).val = 128 * h + d) :
    goal m c e = (((dev m c h).o r d : ℝ) : EReal) := by
  refine Eq.trans (congrArg (goal m c) (funext fun a => Fin.ext ?_)) (v46_at (D := fun _ => 0) hQ scale_real ⟨h, hh⟩ ⟨r, hr⟩ ⟨d, hd'⟩ (by dsimp only; omega))
  match a with
  | ⟨0, _⟩ => exact e0
  | ⟨1, _⟩ => exact e1

theorem at_t (r h d : ℕ) (hr : r < 2048) (hh : h < 8) (hd' : d < 128) (e : S1024x2048.Idx) (e0 : (e 0).val = 128 * h + d) (e1 : (e 1).val = r) :
    goalT m c e = (((dev m c h).o r d : ℝ) : EReal) := by
  refine Eq.trans (congrArg (goalT m c) (funext fun a => Fin.ext ?_)) (v48_at (D := fun _ => 0) hQ scale_real ⟨h, hh⟩ ⟨r, hr⟩ ⟨d, hd'⟩ (by dsimp only; omega))
  match a with
  | ⟨0, _⟩ => exact e0
  | ⟨1, _⟩ => exact e1

theorem at_s (r h d : ℕ) (hr : r < 2048) (hh : h < 8) (hd' : d < 128) (e : S2048x1024.Idx) (e0 : (e 0).val = r) (e1 : (e 1).val = 128 * h + d) :
    goalS m c e = (((dev m c h).tot r : ℝ) : EReal) := by
  refine Eq.trans (congrArg (goalS m c) (funext fun a => Fin.ext ?_)) (v50_at (D := fun _ => 0) hQ scale_real ⟨h, hh⟩ ⟨r, hr⟩ ⟨d, hd'⟩ (by dsimp only; omega))
  match a with
  | ⟨0, _⟩ => exact e0
  | ⟨1, _⟩ => exact e1

omit hQ

/-- Where an entry of a block lies in its array. -/
theorem emb3 (t : Fin cfg0.N) (y : S512x128.Idx) : ((((cfg0.win 3).blk t).view.emb y) 0).val = 512 * (t.val % 4) + (y 0).val
    ∧ ((((cfg0.win 3).blk t).view.emb y) 1).val = 128 * (t.val / 4) + (y 1).val := by
  constructor <;> · blk_simp [idx0 t]; omega

theorem emb4 (t : Fin cfg0.N) (y : S128x512.Idx) : ((((cfg0.win 4).blk t).view.emb y) 0).val = 128 * (t.val / 4) + (y 0).val
    ∧ ((((cfg0.win 4).blk t).view.emb y) 1).val = 512 * (t.val % 4) + (y 1).val := by
  constructor <;> · blk_simp [idx0 t]; omega

theorem emb5 (t : Fin cfg0.N) (y : S512x128.Idx) : ((((cfg0.win 5).blk t).view.emb y) 0).val = 512 * (t.val % 4) + (y 0).val
    ∧ ((((cfg0.win 5).blk t).view.emb y) 1).val = 128 * (t.val / 4) + (y 1).val := by
  constructor <;> · blk_simp [idx0 t]; omega

include hQ

theorem point3 (t : Fin cfg0.N) (y : S512x128.Idx) : (outsAt0 m c t).1 y = goal m c (((cfg0.win 3).blk t).view.emb y) := by
  have h0 : (y 0).val < 512 := (y 0).isLt
  have h1 : (y 1).val < 128 := (y 1).isLt
  refine Eq.trans ?_ (at_o hQ (512 * (t.val % 4) + (y 0).val) (t.val / 4) (y 1).val (by omega) (head_lt t) h1 _ (emb3 t y).1 (emb3 t y).2).symm
  refine Eq.trans (congrArg _ (funext fun a => ?_)) ((ends (t := t) scale_real hQ).o (y 0) (y 1))
  match a with
  | ⟨0, _⟩ => rfl
  | ⟨1, _⟩ => rfl

theorem point4 (t : Fin cfg0.N) (y : S128x512.Idx) : (outsAt0 m c t).2.1 y = goalT m c (((cfg0.win 4).blk t).view.emb y) := by
  have h0 : (y 0).val < 128 := (y 0).isLt
  have h1 : (y 1).val < 512 := (y 1).isLt
  refine Eq.trans ?_ (at_t hQ (512 * (t.val % 4) + (y 1).val) (t.val / 4) (y 0).val (by omega) (head_lt t) h0 _ (emb4 t y).1 (emb4 t y).2).symm
  refine Eq.trans (congrArg _ (funext fun a => ?_)) ((ends (t := t) scale_real hQ).oT (y 0) (y 1))
  match a with
  | ⟨0, _⟩ => rfl
  | ⟨1, _⟩ => rfl

theorem point5 (t : Fin cfg0.N) (y : S512x128.Idx) : (outsAt0 m c t).2.2 y = goalS m c (((cfg0.win 5).blk t).view.emb y) := by
  have h0 : (y 0).val < 512 := (y 0).isLt
  have h1 : (y 1).val < 128 := (y 1).isLt
  refine Eq.trans ?_ (at_s hQ (512 * (t.val % 4) + (y 0).val) (t.val / 4) (y 1).val (by omega) (head_lt t) h1 _ (emb5 t y).1 (emb5 t y).2).symm
  refine Eq.trans (congrArg _ (funext fun a => ?_)) ((ends (t := t) scale_real hQ).tot (y 0) (y 1))
  match a with
  | ⟨0, _⟩ => rfl
  | ⟨1, _⟩ => rfl

/-- The attention after the run is the reference's. -/
theorem final : (dats m 0 c).arrAt 3 (cfgs 0).N = goal m c := by
  refine (dats m 0 c).arrAt_eq_of_covers 3 _ (by decide +kernel) fun t _ y => ?_
  blk_simp
  rw [after0_3]
  exact point3 hQ t y

/-- The transposed attention after the run is the reference's. -/
theorem finalT : (dats m 0 c).arrAt 4 (cfgs 0).N = goalT m c := by
  refine (dats m 0 c).arrAt_eq_of_covers 4 _ (by decide +kernel) fun t _ y => ?_
  blk_simp
  rw [after0_4]
  exact point4 hQ t y

/-- The row sums after the run are the reference's. -/
theorem finalS : (dats m 0 c).arrAt 5 (cfgs 0).N = goalS m c := by
  refine (dats m 0 c).arrAt_eq_of_covers 5 _ (by decide +kernel) fun t _ y => ?_
  blk_simp
  rw [after0_5]
  exact point5 hQ t y

end

end Cert.Kernel19Ideal.Sbf
-- ==== Proof.FoxModel.lean ====
/- Forgetting attention for one head over the reals, and the row of a softmax carried from tile to tile
   at a reference value of its own. -/
module

public import proofs.«01_k».proof.Proof.SbIdeal

@[expose] public section

namespace Fox

noncomputable section

open Finset Idealize.ShloMosaic Sb

/-- One head's arguments: the scale of the logits, the query, key and value rows and the running sums of the gate's logarithms. -/
structure Head where
  /-- the scale of the logits -/
  c : ℝ
  /-- query row, lane -/
  q : ℕ → ℕ → ℝ
  /-- key row, lane -/
  k : ℕ → ℕ → ℝ
  /-- value row, lane -/
  v : ℕ → ℕ → ℝ
  /-- running sum at a position -/
  f : ℕ → ℝ

variable (H : Head)

/-- The logit of query row `r` against key row `s`. -/
def Head.z (r s : ℕ) : ℝ := (∑ d : Fin 128, H.q r d * H.k s d) * H.c + H.f r - H.f s
/-- The logit with the mask: minus infinity after the row. -/
def Head.zm (r s : ℕ) : EReal := if s ≤ r then ((H.z r s : ℝ) : EReal) else ⊥
/-- The exponential of a logit less a reference value, zero where the mask excludes the key. -/
def Head.e (M : ℝ) (r s : ℕ) : ℝ := if s ≤ r then Real.exp (H.z r s - M) else 0
/-- The sum of a row of exponentials before position `n`. -/
def Head.den (M : ℝ) (r n : ℕ) : ℝ := ∑ s ∈ range n, H.e M r s
/-- The same sum with the values. -/
def Head.num (M : ℝ) (r n d : ℕ) : ℝ := ∑ s ∈ range n, H.e M r s * H.v s d
/-- The attention's result. -/
def Head.o (r d : ℕ) : ℝ := H.num 0 r 2048 d / H.den 0 r 2048
/-- The logarithm of a row's sum. -/
def Head.lse (r : ℕ) : ℝ := Real.log (H.den 0 r 2048)

variable {H}

theorem Head.e_move (M M' : ℝ) (r s : ℕ) : Real.exp (M - M') * H.e M r s = H.e M' r s := by
  unfold Head.e
  split
  · rw [← Real.exp_add]; congr 1; ring
  · rw [mul_zero]

theorem Head.den_move (M M' : ℝ) (r n : ℕ) : Real.exp (M - M') * H.den M r n = H.den M' r n := by
  unfold Head.den
  rw [Finset.mul_sum]
  exact Finset.sum_congr rfl fun s _ => H.e_move M M' r s

theorem Head.num_move (M M' : ℝ) (r n d : ℕ) : Real.exp (M - M') * H.num M r n d = H.num M' r n d := by
  unfold Head.num
  rw [Finset.mul_sum]
  exact Finset.sum_congr rfl fun s _ => by rw [← mul_assoc, H.e_move M M' r s]

theorem Head.den_pos (M : ℝ) (r n : ℕ) (hn : 0 < n) : 0 < H.den M r n := by
  unfold Head.den
  refine Finset.sum_pos' (fun s _ => ?_) ⟨0, mem_range.mpr hn, ?_⟩
  · unfold Head.e; split
    · exact (Real.exp_pos _).le
    · exact le_refl 0
  · unfold Head.e; rw [if_pos (Nat.zero_le r)]; exact Real.exp_pos _

theorem Head.den_stop (M : ℝ) (r n : ℕ) (hn : n ≤ 2048) (h : r < n) : H.den M r n = H.den M r 2048 := by
  unfold Head.den
  refine Finset.sum_subset (Finset.range_mono hn) fun s _ hs => if_neg ?_
  rw [mem_range] at hs; omega

theorem Head.num_stop (M : ℝ) (r n d : ℕ) (hn : n ≤ 2048) (h : r < n) : H.num M r n d = H.num M r 2048 d := by
  unfold Head.num
  refine Finset.sum_subset (Finset.range_mono hn) fun s _ hs => ?_
  rw [mem_range] at hs
  rw [Head.e, if_neg (by omega), zero_mul]

/-- The quotient does not depend on the reference value. -/
theorem Head.quot (M : ℝ) (r d : ℕ) : H.num M r 2048 d / H.den M r 2048 = H.o r d := by
  rw [Head.o, ← H.num_move 0 M r 2048 d, ← H.den_move 0 M r 2048]
  exact mul_div_mul_left _ _ (Real.exp_pos _).ne'

/-- Nor does the logarithm of the sum. -/
theorem Head.log_sum (M : ℝ) (r : ℕ) : M + Real.log (H.den M r 2048) = H.lse r := by
  rw [Head.lse, ← H.den_move 0 M r 2048, Real.log_mul (Real.exp_pos _).ne' (H.den_pos 0 r 2048 (by omega)).ne', Real.log_exp]
  ring

/-- A fold of maxima over entries below the top, one of them above the bottom, is a real. -/
theorem fold_real {ι : Type} [Fintype ι] [DecidableEq ι] (b : EReal) (v : ι → EReal) (hb : b ≠ ⊤) (h : ∀ i, v i ≠ ⊤) (i : ι) (hi : v i ≠ ⊥) :
    Finset.univ.fold max b v ≠ ⊤ ∧ Finset.univ.fold max b v ≠ ⊥ := by
  constructor
  · exact (Finset.fold_max_lt (s := univ) (b := b) (f := v) ⊤ |>.mpr ⟨lt_top_iff_ne_top.mpr hb, fun i _ => lt_top_iff_ne_top.mpr (h i)⟩).ne
  · exact (Finset.lt_fold_max (s := univ) (b := b) (f := v) ⊥ |>.mpr (Or.inr ⟨i, mem_univ i, bot_lt_iff_ne_bot.mpr hi⟩)).ne'

theorem fold_ne_top {ι : Type} [Fintype ι] [DecidableEq ι] (b : EReal) (v : ι → EReal) (hb : b ≠ ⊤) (h : ∀ i, v i ≠ ⊤) :
    Finset.univ.fold max b v ≠ ⊤ :=
  (Finset.fold_max_lt (s := univ) (b := b) (f := v) ⊤ |>.mpr ⟨lt_top_iff_ne_top.mpr hb, fun i _ => lt_top_iff_ne_top.mpr (h i)⟩).ne

theorem Head.zm_top (r s : ℕ) : H.zm r s ≠ ⊤ := by
  unfold Head.zm; split
  · exact EReal.coe_ne_top _
  · exact bot_ne_top

theorem Head.zm_zero (r : ℕ) : H.zm r 0 ≠ ⊥ := by
  unfold Head.zm; rw [if_pos (Nat.zero_le r)]; exact EReal.coe_ne_bot _

/-- The exponential of a masked logit less a real. -/
theorem Head.exp_zm (M : ℝ) (r s : ℕ) : Ideal.exp (H.zm r s - (M : EReal)) = ((H.e M r s : ℝ) : EReal) := by
  unfold Head.zm Head.e; split
  · rw [← EReal.coe_sub, Ideal.exp_coe]
  · rw [EReal.bot_sub, Ideal.exp_bot]; rfl

/-- What a row holds after the keys before `n`: nothing yet, or the sums at some real reference value. -/
def Row (H : Head) (r n : ℕ) (m l : EReal) (a : Fin 128 → EReal) : Prop :=
  (n = 0 ∧ m = ⊥ ∧ l = 0 ∧ ∀ d, a d = 0) ∨ ∃ M : ℝ, m = (M : EReal) ∧ l = ((H.den M r n : ℝ) : EReal) ∧ ∀ d, a d = ((H.num M r n d.val : ℝ) : EReal)

/-- One tile of keys carries the row on. -/
theorem Row.step {r n : ℕ} {m l : EReal} {a : Fin 128 → EReal} (h : Row H r n m l a) {z : Fin 512 → EReal} (hz : ∀ y, z y = H.zm r (n + y.val))
    {m' : EReal} (hm : m' = max m (Finset.univ.fold max ⊥ z)) {v : Fin 512 → Fin 128 → EReal}
    (hv : ∀ y d, v y d = ((H.v (n + y.val) d.val : ℝ) : EReal)) :
    Row H r (n + 512) m' (Ideal.exp (m - m') * l + ∑ y, Ideal.exp (z y - m')) fun d => Ideal.exp (m - m') * a d + ∑ y, Ideal.exp (z y - m') * v y d := by
  have ht : Finset.univ.fold max ⊥ z ≠ ⊤ := fold_ne_top _ _ bot_ne_top fun y => by rw [hz]; exact H.zm_top _ _
  have hmt : m ≠ ⊤ := by
    rcases h with ⟨_, rfl, _⟩ | ⟨M, rfl, _⟩
    · exact bot_ne_top
    · exact EReal.coe_ne_top _
  have h1 : m' ≠ ⊤ := by rw [hm]; exact (max_lt (lt_top_iff_ne_top.mpr hmt) (lt_top_iff_ne_top.mpr ht)).ne
  have h2 : m' ≠ ⊥ := by
    rw [hm]
    rcases h with ⟨rfl, rfl, _⟩ | ⟨M, rfl, _⟩
    · refine (lt_max_of_lt_right (bot_lt_iff_ne_bot.mpr (fold_real _ _ bot_ne_top (fun y => by rw [hz]; exact H.zm_top _ _) 0 ?_).2)).ne'
      rw [hz]; exact H.zm_zero r
    · exact (lt_max_of_lt_left (EReal.bot_lt_coe M)).ne'
  obtain ⟨M', e⟩ : ∃ M' : ℝ, m' = (M' : EReal) := ⟨m'.toReal, (EReal.coe_toReal h1 h2).symm⟩
  clear hm
  subst e
  have hl : Ideal.exp (m - (M' : EReal)) * l = ((H.den M' r n : ℝ) : EReal) ∧ ∀ d, Ideal.exp (m - (M' : EReal)) * a d = ((H.num M' r n d.val : ℝ) : EReal) := by
    rcases h with ⟨rfl, rfl, rfl, ha⟩ | ⟨M, rfl, rfl, ha⟩
    · rw [EReal.bot_sub, Ideal.exp_bot]
      refine ⟨by rw [zero_mul]; rfl, fun d => by rw [zero_mul]; rfl⟩
    · rw [← EReal.coe_sub, Ideal.exp_coe]
      exact ⟨by rw [← EReal.coe_mul, H.den_move], fun d => by rw [ha, ← EReal.coe_mul, H.num_move]⟩
  refine Or.inr ⟨M', rfl, ?_, fun d => ?_⟩
  · rw [hl.1, sum_of_coe (fun y : Fin 512 => H.e M' r (n + y.val)) fun y => by rw [hz, H.exp_zm], ← EReal.coe_add, Head.den, Head.den, range_add _ n 512]
  · dsimp only
    rw [hl.2, sum_of_coe (fun y : Fin 512 => H.e M' r (n + y.val) * H.v (n + y.val) d.val) fun y => by rw [hz, H.exp_zm, hv, ← EReal.coe_mul],
      ← EReal.coe_add, Head.num, Head.num, range_add _ n 512]

/-- The quotient of two reals. -/
theorem div_real (a b : ℝ) (h : b ≠ 0) : Ideal.div (a : EReal) (b : EReal) = ((a / b : ℝ) : EReal) := by
  rw [Ideal.div_coe h, ← EReal.coe_mul]
  congr 1; ring

/-- Past the row the quotient is the attention's result. -/
theorem Row.out {r n : ℕ} {m l : EReal} {a : Fin 128 → EReal} (h : Row H r n m l a) (hn : n ≤ 2048) (hr : r < n) (d : Fin 128) :
    Ideal.div (a d) l = ((H.o r d.val : ℝ) : EReal) := by
  rcases h with ⟨rfl, _⟩ | ⟨M, rfl, rfl, ha⟩
  · omega
  · rw [ha, H.den_stop M r n hn hr, H.num_stop M r n d.val hn hr, div_real _ _ (H.den_pos M r 2048 (by omega)).ne', H.quot]

/-- And the reference value with the logarithm of the sum is the logarithm of the row's sum. -/
theorem Row.log {r n : ℕ} {m l : EReal} {a : Fin 128 → EReal} (h : Row H r n m l a) (hn : n ≤ 2048) (hr : r < n) :
    m + Ideal.log l = ((H.lse r : ℝ) : EReal) := by
  rcases h with ⟨rfl, _⟩ | ⟨M, rfl, rfl, ha⟩
  · omega
  · rw [H.den_stop M r n hn hr, Ideal.log_coe, if_neg (not_le.mpr (H.den_pos M r 2048 (by omega))), ← EReal.coe_add, H.log_sum]

end

end Fox
-- ==== Proof.FoxPay.lean ====
/- The vectors of one trip of the forgetting attention's loop over key tiles, read at an index. -/
module

public import proofs.«01_k».proof.Proof.FoxModel
public import proofs.«01_k».proof.Proof.Gen.Kernel20Ideal.Skeleton

@[expose] public section

set_option maxRecDepth 16384

namespace Cert.Kernel20Ideal.Foxk

open Cert.Kernel20Ideal.Gen Idealize.ShloMosaic Sb Fox Finset

noncomputable section

/-- The scale of the logits as the programs print it. -/
abbrev cw : EReal := Ideal.ofBits FTy.f32 1035273459#32

variable {arg0 arg1 arg10 : BitVec 32} {v4 v5 : IVec S512x512 32} {acc v132 : FVec Ideal S512x128 .f32} {m l v3 : FVec Ideal S512x1 .f32}
variable {v0 v52 v54 : Vec Ideal S512x128 .bf16} {v59 : FVec Ideal S512x512 .f32} {p : FVec Ideal S512x512 .bf16} {v71 v83 : FVec Ideal S1x128 .f32}
variable {v63 v75 v87 v99 : Vec Ideal S1x8x128 .f32} {v1 : Vec Ideal S512x128 .f32} {H : Fox.Head} {r0 s0 h : ℕ}

/-- The mask of the tile: the key's position not after the query's. -/
def Mask (r0 s0 : ℕ) (arg1 arg10 : BitVec 32) (v4 v5 : IVec S512x512 32) : Prop := ∀ x y : Fin 512,
  IntOp.cmpi CmpIPredicate.sge (IntOp.addi (v4 (ix2 x y)) (Scalar.subi (Scalar.muli arg1 512#32) (Scalar.muli arg10 512#32))) (v5 (ix2 x y))
    = BitVec.ofBool (decide (s0 + y.val ≤ r0 + x.val))

/-- Rows of a matrix from `b` on. -/
def Rows (b : ℕ) (v : S512x128.Idx → EReal) (f : ℕ → ℕ → ℝ) : Prop :=
  ∀ (x : Fin 512) (d : Fin 128), v (ix2 x d) = ((f (b + x.val) d.val : ℝ) : EReal)

/-- A column of a function of the query row. -/
def Column (r0 : ℕ) (v : FVec Ideal S512x1 .f32) (f : ℕ → ℝ) : Prop :=
  ∀ x : Fin 512, v (ix2 x 0) = ((f (r0 + x.val) : ℝ) : EReal)

/-- One head's running sums from position `b` on, in row `h` of a block of all heads' sums. -/
def Gate (h b : ℕ) (v : S1x8x128.Idx → EReal) (f : ℕ → ℝ) : Prop :=
  ∀ (x : Fin 8) (y : Fin 128), x.val = h → v (ix3 0 x y) = ((f (b + y.val) : ℝ) : EReal)

theorem mask_bot : Named.named (F := Ideal) (φ := .f32) κ "mask" 4048155338#32 = (⊥ : EReal) := IdealRules.named_const.ideal_named_scalar _ _ _ _ rfl

theorem inf_word : Ideal.ofBits FTy.f32 4286578688#32 = ⊥ := by simp [Ideal.ofBits, Ideal.ieee]

theorem eq_small : ∀ x h : Fin 8, IntOp.cmpi CmpIPredicate.eq (BitVec.ofNat 32 x.val) (BitVec.ofNat 32 h.val) = BitVec.ofBool (decide (x = h)) := by
  decide

/-- The one row of eight that the head's number selects. -/
theorem pick (hh : h < 8) (w : Fin 8 → EReal) :
    ∑ x : Fin 8, Scalar.select (IntOp.cmpi CmpIPredicate.eq (BitVec.ofNat 32 x.val) (BitVec.ofNat 32 h)) (w x) 0 = w ⟨h, hh⟩ := by
  refine Eq.trans (Finset.sum_congr rfl fun x _ => ?_) (Finset.sum_ite_eq' univ (⟨h, hh⟩ : Fin 8) w |>.trans (if_pos (mem_univ _)))
  exact (congrArg (fun b => Scalar.select b (w x) 0) (eq_small x ⟨h, hh⟩)).trans (select_decide _ _ _)

theorem pay7_at (hh : h < 8) {f : ℕ → ℝ} (hg : Gate h s0 v63 f) (y : Fin 128) :
    k0_pay7 (BitVec.ofNat 32 h) v63 (ix2 0 y) = ((f (s0 + y.val) : ℝ) : EReal) := by
  pointwise [k0_pay7]
  rw [pick hh]
  exact hg _ _ rfl

theorem pay8_at (hh : h < 8) {f : ℕ → ℝ} (hg : Gate h s0 v75 f) (y : Fin 128) :
    k0_pay8 (BitVec.ofNat 32 h) v75 (ix2 0 y) = ((f (s0 + y.val) : ℝ) : EReal) := by
  pointwise [k0_pay8]
  rw [pick hh]
  exact hg _ _ rfl

theorem pay26_col (h1 : ∀ x : Fin 512, v1 (ix2 x 0) = ((H.f (r0 + x.val) : ℝ) : EReal)) : Column r0 (k0_pay26 v1) H.f := by
  intro x
  pointwise [k0_pay26]
  exact h1 x

theorem pay6_at (hc : cw = ((H.c : ℝ) : EReal)) (hq : Rows r0 v0 H.q) (hk : Rows s0 v52 H.k) (h3 : Column r0 v3 H.f) (x y : Fin 512) :
    k0_pay6 v0 v3 v52 (ix2 x y) = (((∑ d : Fin 128, H.q (r0 + x.val) d.val * H.k (s0 + y.val) d.val) * H.c + H.f (r0 + x.val) : ℝ) : EReal) := by
  pointwise [k0_pay6]
  rw [sum_of_coe (fun d : Fin 128 => H.q (r0 + x.val) d.val * H.k (s0 + y.val) d.val)
    fun d => by rw [hq, hk, ← EReal.coe_mul], h3]
  rw [show Ideal.ofBits FTy.f32 1035273459#32 = ((H.c : ℝ) : EReal) from hc, ← EReal.coe_mul, ← EReal.coe_add]

/-- The masked logits of the tile. -/
theorem pay9_at (hh : h < 8) (hm : Mask r0 s0 arg1 arg10 v4 v5)
    (h59 : ∀ x y : Fin 512, v59 (ix2 x y) = (((∑ d : Fin 128, H.q (r0 + x.val) d.val * H.k (s0 + y.val) d.val) * H.c + H.f (r0 + x.val) : ℝ) : EReal))
    (h71 : ∀ y : Fin 128, v71 (ix2 0 y) = ((H.f (s0 + y.val) : ℝ) : EReal)) (h83 : ∀ y : Fin 128, v83 (ix2 0 y) = ((H.f (s0 + 128 + y.val) : ℝ) : EReal))
    (h87 : Gate h (s0 + 256) v87 H.f) (h99 : Gate h (s0 + 384) v99 H.f) (x y : Fin 512) :
    k0_pay9 (BitVec.ofNat 32 h) arg1 v4 v5 arg10 v59 v71 v83 v87 v99 (ix2 x y) = H.zm (r0 + x.val) (s0 + y.val) := by
  have hy := y.isLt
  have key : ∀ E : EReal, E = ((H.f (s0 + y.val) : ℝ) : EReal) →
      Scalar.select (IntOp.cmpi CmpIPredicate.sge (IntOp.addi (v4 (ix2 x y)) (Scalar.subi (Scalar.muli arg1 512#32) (Scalar.muli arg10 512#32))) (v5 (ix2 x y)))
        (v59 (ix2 x y) - E) (Named.named (F := Ideal) (φ := .f32) κ "mask" 4048155338#32) = H.zm (r0 + x.val) (s0 + y.val) := by
    intro E hE
    rw [hE, hm, mask_bot, h59, select_decide, ← EReal.coe_sub]
    rfl
  pointwise [k0_pay9]
  refine key _ ?_
  split
  · exact h71 _
  split
  · rw [h83]
    dsimp only
    rw [show s0 + 128 + (y.val - 128) = s0 + y.val by omega]
  split
  · rw [pick hh, h87 _ _ rfl]
    dsimp only
    rw [show s0 + 256 + (y.val - 128 - 128) = s0 + y.val by omega]
  · rw [pick hh, h99 _ _ rfl]
    dsimp only
    rw [show s0 + 384 + (y.val - 128 - 128 - 128) = s0 + y.val by omega]

theorem pay10_at (x : Fin 512) : k0_pay10 arg0 arg1 v4 v5 m arg10 v59 v71 v83 v87 v99 (ix2 x 0)
    = max (m (ix2 x 0)) (Finset.univ.fold max ⊥ fun y : Fin 512 => k0_pay9 arg0 arg1 v4 v5 arg10 v59 v71 v83 v87 v99 (ix2 x y)) := by
  pointwise [k0_pay10]
  rw [inf_word]

theorem pay11_at (x : Fin 512) : k0_pay11 arg0 arg1 v4 v5 m arg10 v59 v71 v83 v87 v99 (ix2 x 0)
    = Ideal.exp (m (ix2 x 0) - k0_pay10 arg0 arg1 v4 v5 m arg10 v59 v71 v83 v87 v99 (ix2 x 0)) := by
  pointwise [k0_pay11]

theorem pay12_at (x y : Fin 512) : k0_pay12 arg0 arg1 v4 v5 m arg10 v59 v71 v83 v87 v99 (ix2 x y)
    = Ideal.exp (k0_pay9 arg0 arg1 v4 v5 arg10 v59 v71 v83 v87 v99 (ix2 x y) - k0_pay10 arg0 arg1 v4 v5 m arg10 v59 v71 v83 v87 v99 (ix2 x 0)) := by
  pointwise [k0_pay12]

theorem pay13_at (x : Fin 512) : k0_pay13 arg0 arg1 v4 v5 m l arg10 v59 v71 v83 v87 v99 (ix2 x 0)
    = Ideal.exp (m (ix2 x 0) - k0_pay10 arg0 arg1 v4 v5 m arg10 v59 v71 v83 v87 v99 (ix2 x 0)) * l (ix2 x 0)
      + ∑ y : Fin 512, Ideal.exp (k0_pay9 arg0 arg1 v4 v5 arg10 v59 v71 v83 v87 v99 (ix2 x y) - k0_pay10 arg0 arg1 v4 v5 m arg10 v59 v71 v83 v87 v99 (ix2 x 0)) := by
  pointwise [k0_pay13]
  rw [pay11_at]
  exact congrArg _ (Finset.sum_congr rfl fun y _ => pay12_at x y)

theorem pay30_at (x : Fin 512) (d : Fin 128) :
    k0_pay30 v54 (k0_pay14 arg0 arg1 v4 v5 acc m arg10 v59 v71 v83 v87 v99) (k0_pay15 arg0 arg1 v4 v5 m arg10 v59 v71 v83 v87 v99) (ix2 x d)
    = Ideal.exp (m (ix2 x 0) - k0_pay10 arg0 arg1 v4 v5 m arg10 v59 v71 v83 v87 v99 (ix2 x 0)) * acc (ix2 x d)
      + ∑ y : Fin 512, Ideal.exp (k0_pay9 arg0 arg1 v4 v5 arg10 v59 v71 v83 v87 v99 (ix2 x y) - k0_pay10 arg0 arg1 v4 v5 m arg10 v59 v71 v83 v87 v99 (ix2 x 0)) * v54 (ix2 y d) := by
  pointwise [k0_pay30, k0_pay14, k0_pay15]
  rw [pay11_at]
  exact congrArg _ (Finset.sum_congr rfl fun y _ => by rw [pay12_at x y])

/-- What the loop starts from. -/
theorem start (x : Fin 512) (r : ℕ) : Row H r 0 ((k0_pay28 (F := Ideal)) (ix2 x 0)) ((k0_pay29 (F := Ideal)) (ix2 x 0)) fun d => (k0_pay27 (F := Ideal)) (ix2 x d) := by
  refine Or.inl ⟨rfl, ?_, ?_, fun d => ?_⟩
  · pointwise [k0_pay28]
    exact mask_bot
  · pointwise [k0_pay29]
  · pointwise [k0_pay27]

/-- The block of the result. -/
theorem pay3_rows {f : ℕ → ℕ → ℝ} (h : ∀ (x : Fin 512) (d : Fin 128), Ideal.div (acc (ix2 x d)) (l (ix2 x 0)) = ((f (r0 + x.val) d.val : ℝ) : EReal)) :
    Rows r0 (k0_pay3 acc l) f := by
  intro x d
  pointwise [k0_pay3, k0_pay2]
  exact h x d

/-- The transposed block of the result. -/
theorem pay4_cols {f : ℕ → ℕ → ℝ} (h : ∀ (x : Fin 512) (d : Fin 128), Ideal.div (acc (ix2 x d)) (l (ix2 x 0)) = ((f (r0 + x.val) d.val : ℝ) : EReal)) (d : Fin 128) (x : Fin 512) :
    k0_pay4 acc l (ix2 d x) = ((f (r0 + x.val) d.val : ℝ) : EReal) := by
  pointwise [k0_pay4, k0_pay2]
  exact h x d

/-- The logarithms of the rows' sums, repeated across the lanes. -/
theorem pay5_rows {g : ℕ → ℝ} (h : ∀ x : Fin 512, m (ix2 x 0) + Ideal.log (l (ix2 x 0)) = ((g (r0 + x.val) : ℝ) : EReal)) : Rows r0 (k0_pay5 m l) fun r _ => g r := by
  intro x d
  pointwise [k0_pay5]
  exact h x

end

end Cert.Kernel20Ideal.Foxk
-- ==== Proof.FoxLoop.lean ====
/- The forgetting attention's loop over key tiles, from the first to a query block's own: what it hands
   on after any number of trips. -/
module

public import proofs.«01_k».proof.Proof.FoxPay
public import proofs.«01_k».proof.Proof.Gen.Kernel20Ideal.Loops
public import Idealize.ShloMosaic.Lib.Pipeline.ValueKit
public import Idealize.ShloMosaic.Lib.WritesUnit

@[expose] public section

set_option maxRecDepth 16384

namespace Cert.Kernel20Ideal.Foxk

open Cert.Kernel20Ideal Cert.Kernel20Ideal.Gen Idealize.ShloMosaic Sb Fox Finset

noncomputable section

section trip

variable (arg0 arg1 arg10 : BitVec 32) (v0 : Vec Ideal S512x128 .bf16) (v1 : Vec Ideal S512x128 .f32) (v4 v5 : IVec S512x512 32)
variable (kt vt : Vec Ideal S512x128 .bf16) (g0 g1 g2 g3 : Vec Ideal S1x8x128 .f32) (acc : FVec Ideal S512x128 .f32 × FVec Ideal S512x1 .f32 × FVec Ideal S512x1 .f32)

/-- The values the trip hands on. -/
def tR : FVec Ideal S512x128 .f32 × FVec Ideal S512x1 .f32 × FVec Ideal S512x1 .f32 :=
  (k0_pay30 vt (k0_pay14 arg0 arg1 v4 v5 acc.1 acc.2.1 arg10 (k0_pay6 v0 (k0_pay26 v1) kt) (k0_pay7 arg0 g0) (k0_pay8 arg0 g1) g2 g3)
      (k0_pay15 arg0 arg1 v4 v5 acc.2.1 arg10 (k0_pay6 v0 (k0_pay26 v1) kt) (k0_pay7 arg0 g0) (k0_pay8 arg0 g1) g2 g3),
    k0_pay10 arg0 arg1 v4 v5 acc.2.1 arg10 (k0_pay6 v0 (k0_pay26 v1) kt) (k0_pay7 arg0 g0) (k0_pay8 arg0 g1) g2 g3,
    k0_pay13 arg0 arg1 v4 v5 acc.2.1 acc.2.2 arg10 (k0_pay6 v0 (k0_pay26 v1) kt) (k0_pay7 arg0 g0) (k0_pay8 arg0 g1) g2 g3)

/-- What the carried values are after the keys before `n`: each row's softmax so far, at the row's own reference value. -/
def Carried (H : Fox.Head) (r0 n : ℕ) (acc : FVec Ideal S512x128 .f32 × FVec Ideal S512x1 .f32 × FVec Ideal S512x1 .f32) : Prop :=
  ∀ x : Fin 512, Row H (r0 + x.val) n (acc.2.1 (ix2 x 0)) (acc.2.2 (ix2 x 0)) fun d => acc.1 (ix2 x d)

variable {arg1 arg10 v0 v1 v4 v5 kt vt g0 g1 g2 g3 acc} {H : Fox.Head} {r0 n h : ℕ}

/-- The trip carries the rows on by its tile. -/
theorem tR_carried (hc : cw = ((H.c : ℝ) : EReal)) (hh : h < 8) (hm : Mask r0 n arg1 arg10 v4 v5) (hq : Rows r0 v0 H.q)
    (h1 : ∀ x : Fin 512, v1 (ix2 x 0) = ((H.f (r0 + x.val) : ℝ) : EReal)) (hk : Rows n kt H.k) (hv : Rows n vt H.v)
    (hg0 : Gate h n g0 H.f) (hg1 : Gate h (n + 128) g1 H.f) (hg2 : Gate h (n + 256) g2 H.f) (hg3 : Gate h (n + 384) g3 H.f)
    (C : Carried H r0 n acc) : Carried H r0 (n + 512) (tR (BitVec.ofNat 32 h) arg1 arg10 v0 v1 v4 v5 kt vt g0 g1 g2 g3 acc) := by
  have h9 := pay9_at (v59 := k0_pay6 v0 (k0_pay26 v1) kt) (v71 := k0_pay7 (BitVec.ofNat 32 h) g0) (v83 := k0_pay8 (BitVec.ofNat 32 h) g1) hh hm
    (pay6_at hc hq hk (pay26_col h1)) (pay7_at hh hg0) (pay8_at hh hg1) hg2 hg3
  intro x
  have S := (C x).step (z := fun y => k0_pay9 (BitVec.ofNat 32 h) arg1 v4 v5 arg10 (k0_pay6 v0 (k0_pay26 v1) kt) (k0_pay7 (BitVec.ofNat 32 h) g0) (k0_pay8 (BitVec.ofNat 32 h) g1) g2 g3 (ix2 x y))
    (fun y => h9 x y) (pay10_at (m := acc.2.1) x) (v := fun y d => vt (ix2 y d)) fun y d => hv y d
  unfold tR
  dsimp only
  rw [pay13_at]
  simp only [pay30_at]
  exact S

end trip

section run

variable (𝒱 : Variants) (c : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S16x8x128 .f32) (harg6 : arg6.IsWhole) (arg7 : Memref sig .tc .vmem S512x128 .bf16) (harg7 : arg7.IsWhole) (arg8 : Memref sig .tc .vmem S128x512 .bf16) (harg8 : arg8.IsWhole) (arg9 : Memref sig .tc .vmem S512x128 .f32) (harg9 : arg9.IsWhole) (arg0 arg1 : BitVec 32) (v0 : Vec Ideal S512x128 .bf16) (v1 : Vec Ideal S512x128 .f32) (v4 : IVec S512x512 32) (v5 : IVec S512x512 32) (X_arg3 : BufTy.Contents (Elt Ideal) arg3.view.ty) (X_arg4 : BufTy.Contents (Elt Ideal) arg4.view.ty) (X_arg6 : BufTy.Contents (Elt Ideal) arg6.view.ty) (k : Fin (k0_t1_loop i).trips) (acc : FVec Ideal S512x128 .f32 × FVec Ideal S512x1 .f32 × FVec Ideal S512x1 .f32)

/-- The rectangle of the trip's tile of keys. -/
abbrev tRect : Rect S2048x128 := Rect.unit (s := S2048x128) (k0_off1 i k) S512x128.size (k0_off1_inb i k)

/-- The rectangle of a block of the running sums. -/
abbrev gRect (j : Fin 4) : Rect S16x8x128 := Rect.unit (s := S16x8x128) (k0_off2 i k (BitVec.ofNat 32 j.val)) S1x8x128.size (k0_off2_inb i k j)

theorem tripR_eq : tripR_k0_t1 (F := Ideal) 𝒱 c bd i arg2 harg2 arg3 harg3 arg4 harg4 arg5 harg5 arg6 harg6 arg7 harg7 arg8 harg8 arg9 harg9 arg0 arg1 v0 v1 v4 v5 X_arg3 X_arg4 X_arg6 k acc
    = tR arg0 arg1 (Scf.iv 0#32 1#32 k.val) v0 v1 v4 v5 (View.readAt (Elt Ideal) arg3.view (tRect i k).toLoadRect X_arg3)
        (View.readAt (Elt Ideal) arg4.view (tRect i k).toLoadRect X_arg4) (View.readAt (Elt Ideal) arg6.view (gRect i k 0).toLoadRect X_arg6)
        (View.readAt (Elt Ideal) arg6.view (gRect i k 1).toLoadRect X_arg6) (View.readAt (Elt Ideal) arg6.view (gRect i k 2).toLoadRect X_arg6)
        (View.readAt (Elt Ideal) arg6.view (gRect i k 3).toLoadRect X_arg6) acc := by
  unfold tripR_k0_t1 trip_k0_t1
  rfl

end run

/-- The whole of a matrix with a row for each position. -/
def Full (v : S2048x128.Idx → EReal) (f : ℕ → ℕ → ℝ) : Prop :=
  ∀ (s : Fin 2048) (d : Fin 128), v (ix2 s d) = ((f s.val d.val : ℝ) : EReal)

/-- All positions' running sums of one head, in row `h` of each of the sixteen blocks. -/
def Sums (h : ℕ) (v : S16x8x128.Idx → EReal) (f : ℕ → ℝ) : Prop :=
  ∀ (a : Fin 16) (x : Fin 8) (y : Fin 128), x.val = h → v (ix3 a x y) = ((f (128 * a.val + y.val) : ℝ) : EReal)

theorem trips1 : ∀ t : Fin grid0.N, (k0_t1_loop (grid0.coords t)).trips = t.val % 4 + 1 := by decide +kernel

theorem trips2 : ∀ t : Fin grid0.N, (k0_t2_loop (grid0.coords t)).trips = 0 := by decide +kernel

theorem off1 : ∀ (t : Fin grid0.N) (k : Fin (k0_t1_loop (grid0.coords t)).trips), k0_off1 (grid0.coords t) k = ![512 * k.val, 0] := by
  decide +kernel

theorem off2 : ∀ (t : Fin grid0.N) (k : Fin (k0_t1_loop (grid0.coords t)).trips) (j : Fin 4), k0_off2 (grid0.coords t) k (BitVec.ofNat 32 j.val) = ![4 * k.val + j.val, 0, 0] := by
  decide +kernel

theorem word1 : ∀ (t : Fin grid0.N) (k : Fin (k0_t1_loop (grid0.coords t)).trips),
    Scalar.subi (Scalar.muli (BitVec.ofNat 32 ((grid0.coords t) 1).val) 512#32) (Scalar.muli (Scf.iv 0#32 1#32 k.val) 512#32)
      = BitVec.ofNat 32 (512 * (t.val % 4 - k.val)) := by decide +kernel

theorem head_word : ∀ t : Fin grid0.N, BitVec.ofNat 32 ((grid0.coords t) 0).val = BitVec.ofNat 32 (t.val / 4) := by decide +kernel

variable {t : Fin grid0.N}

theorem trip_le (k : Fin (k0_t1_loop (grid0.coords t)).trips) : k.val ≤ t.val % 4 := by
  have h := k.isLt
  have e := trips1 t
  omega

theorem iota0_at (x y : Fin 512) : iota Kind.tc S512x512 32 [0] iota_S512x512_d0_w32 (ix2 x y) = BitVec.ofNat 32 x.val := by
  pointwise

theorem iota1_at (x y : Fin 512) : iota Kind.tc S512x512 32 [1] iota_S512x512_d1_w32 (ix2 x y) = BitVec.ofNat 32 y.val := by
  pointwise

theorem mask9 (k : Fin (k0_t1_loop (grid0.coords t)).trips) :
    Mask (512 * (t.val % 4)) (512 * k.val) (BitVec.ofNat 32 ((grid0.coords t) 1).val) (Scf.iv 0#32 1#32 k.val)
      (iota Kind.tc S512x512 32 [0] iota_S512x512_d0_w32) (iota Kind.tc S512x512 32 [1] iota_S512x512_d1_w32) := by
  intro x y
  have hk := trip_le k
  have hx := x.isLt
  have hy := y.isLt
  rw [word1 t k]
  rw [iota0_at, iota1_at]
  show BitVec.ofBool ((BitVec.ofNat 32 y.val).sle (BitVec.ofNat 32 x.val + BitVec.ofNat 32 (512 * (t.val % 4 - k.val)))) = _
  rw [← BitVec.ofNat_add]
  refine (congrArg BitVec.ofBool (sle_small _ _ (by omega) (by omega))).trans ?_
  congr 2
  exact propext ⟨fun h => by omega, fun h => by omega⟩

theorem at_rows {off : Fin S2048x128.rank → ℕ} (inb : ∀ a, off a + S512x128.size a ≤ S2048x128.size a) (b : ℕ) (ho : off = ![b, 0])
    (x : Fin 512) (d : Fin 128) (hb : b + x.val < 2048) :
    (Rect.unit (s := S2048x128) off S512x128.size inb).idx (ix2 x d) = ix2 ⟨b + x.val, hb⟩ d := by
  subst ho
  funext a
  fin_cases a <;> apply Fin.ext
  · show b + 1 * x.val = b + x.val
    omega
  · show 0 + 1 * d.val = d.val
    omega

/-- A load of 512 rows from `b` on. -/
theorem rows_at {e : EltTy} (V : View sig .tc .vmem S2048x128 e) (f : BufTy.Contents (Elt Ideal) V.ty) (he : Elt Ideal e = EReal) (g : ℕ → ℕ → ℝ)
    (h : Full (fun y => cast he (V.read (Elt Ideal) f y)) g) {off : Fin S2048x128.rank → ℕ}
    (inb : ∀ a, off a + S512x128.size a ≤ S2048x128.size a) (b : ℕ) (ho : off = ![b, 0]) :
    Rows b (fun y => cast he (View.readAt (Elt Ideal) V (Rect.unit (s := S2048x128) off S512x128.size inb).toLoadRect f y)) g := by
  intro x d
  have hb : b + 512 ≤ 2048 := by subst ho; exact inb 0
  rw [View.readAt_eq_ld]
  exact (congrArg (fun y => cast he (V.read (Elt Ideal) f y)) (at_rows inb b ho x d (by omega))).trans (h ⟨b + x.val, by omega⟩ d)

theorem at_all {S : Shape} {off : Fin S.rank → ℕ} (inb : ∀ a, off a + S.size a ≤ S.size a) (y : S.Idx) : (Rect.unit (s := S) off S.size inb).idx y = y := by
  funext a
  apply Fin.ext
  have := inb a
  show off a + 1 * (y a).val = (y a).val
  omega

theorem load_all {S : Shape} {e : EltTy} (V : View sig .tc .vmem S e) (f : BufTy.Contents (Elt Ideal) V.ty) {off : Fin S.rank → ℕ}
    (inb : ∀ a, off a + S.size a ≤ S.size a) :
    View.readAt (Elt Ideal) V (Rect.unit (s := S) off S.size inb).toLoadRect f = V.read (Elt Ideal) f := by
  rw [View.readAt_eq_ld]
  funext y
  exact congrArg (V.read (Elt Ideal) f) (at_all inb y)

theorem store_all {S : Shape} {e : EltTy} (V : View sig .tc .vmem S e) (f : BufTy.Contents (Elt Ideal) V.ty) (L : List (View.Piece (Elt Ideal) S e)) {off : Fin S.rank → ℕ}
    (inb : ∀ a, off a + S.size a ≤ S.size a) (w : S.Idx → Elt Ideal e) :
    V.read (Elt Ideal) (V.writes (Elt Ideal) f ((⟨Rect.unit off S.size inb, w⟩ : View.Piece (Elt Ideal) S e) :: L)) = w := by
  funext y
  refine View.read_writes_cons_unit_of_mem V f inb w L y y rfl fun a => ?_
  have := inb a
  omega

theorem at_gate {off : Fin S16x8x128.rank → ℕ} (inb : ∀ a, off a + S1x8x128.size a ≤ S16x8x128.size a) (b : ℕ) (ho : off = ![b, 0, 0])
    (x : Fin 8) (y : Fin 128) (hb : b < 16) :
    (Rect.unit (s := S16x8x128) off S1x8x128.size inb).idx (ix3 0 x y) = ix3 ⟨b, hb⟩ x y := by
  subst ho
  funext a
  fin_cases a <;> apply Fin.ext
  · show b + 1 * 0 = b
    omega
  · show 0 + 1 * x.val = x.val
    omega
  · show 0 + 1 * y.val = y.val
    omega

/-- A load of one block of running sums. -/
theorem gate_at (V : View sig .tc .vmem S16x8x128 .f32) (f : BufTy.Contents (Elt Ideal) V.ty) {h : ℕ} (g : ℕ → ℝ)
    (hs : Sums h (V.read (Elt Ideal) f) g) {off : Fin S16x8x128.rank → ℕ} (inb : ∀ a, off a + S1x8x128.size a ≤ S16x8x128.size a) (b n : ℕ)
    (ho : off = ![b, 0, 0]) (hn : n = 128 * b) :
    Gate h n (View.readAt (Elt Ideal) V (Rect.unit (s := S16x8x128) off S1x8x128.size inb).toLoadRect f) g := by
  intro x y hx
  have hb : b + 1 ≤ 16 := by subst ho; exact inb 0
  rw [View.readAt_eq_ld, hn]
  exact (congrArg (V.read (Elt Ideal) f) (at_gate inb b ho x y (by omega))).trans (hs ⟨b, by omega⟩ x y hx)

section loop

variable (c : Dev nD) (t : Fin grid0.N) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S16x8x128 .f32) (harg6 : arg6.IsWhole) (arg7 : Memref sig .tc .vmem S512x128 .bf16) (harg7 : arg7.IsWhole) (arg8 : Memref sig .tc .vmem S128x512 .bf16) (harg8 : arg8.IsWhole) (arg9 : Memref sig .tc .vmem S512x128 .f32) (harg9 : arg9.IsWhole)
  (v0 : Vec Ideal S512x128 .bf16) (v1 : Vec Ideal S512x128 .f32) (X_arg3 : BufTy.Contents (Elt Ideal) arg3.view.ty) (X_arg4 : BufTy.Contents (Elt Ideal) arg4.view.ty) (X_arg6 : BufTy.Contents (Elt Ideal) arg6.view.ty)

/-- What the loop holds after `n` trips. -/
abbrev lp (n : ℕ) : FVec Ideal S512x128 .f32 × FVec Ideal S512x1 .f32 × FVec Ideal S512x1 .f32 :=
  st_k0_t1 (F := Ideal) Variants.none c none (grid0.coords t) arg2 harg2 arg3 harg3 arg4 harg4 arg5 harg5 arg6 harg6 arg7 harg7 arg8 harg8 arg9 harg9
    (BitVec.ofNat 32 ((grid0.coords t) 0).val) (BitVec.ofNat 32 ((grid0.coords t) 1).val) v0 v1 (iota Kind.tc S512x512 32 [0] iota_S512x512_d0_w32) (iota Kind.tc S512x512 32 [1] iota_S512x512_d1_w32)
    X_arg3 X_arg4 X_arg6 (k0_pay27, k0_pay28, k0_pay29) n

variable {c t arg2 harg2 arg3 harg3 arg4 harg4 arg5 harg5 arg6 harg6 arg7 harg7 arg8 harg8 arg9 harg9 v0 v1 X_arg3 X_arg4 X_arg6}

theorem loop_left {H : Fox.Head} (hc : cw = ((H.c : ℝ) : EReal)) (hh : t.val / 4 < 8) (hq : Rows (512 * (t.val % 4)) v0 H.q)
    (h1 : ∀ x : Fin 512, v1 (ix2 x 0) = ((H.f (512 * (t.val % 4) + x.val) : ℝ) : EReal))
    (hk : Full (arg3.view.read (Elt Ideal) X_arg3) H.k) (hv : Full (arg4.view.read (Elt Ideal) X_arg4) H.v)
    (hs : Sums (t.val / 4) (arg6.view.read (Elt Ideal) X_arg6) H.f) :
    ∀ n ≤ t.val % 4 + 1, Carried H (512 * (t.val % 4)) (512 * n)
      (lp c t arg2 harg2 arg3 harg3 arg4 harg4 arg5 harg5 arg6 harg6 arg7 harg7 arg8 harg8 arg9 harg9 v0 v1 X_arg3 X_arg4 X_arg6 n)
  | 0, _ => fun x => start x _
  | n + 1, hn => by
    have I := loop_left hc hh hq h1 hk hv hs n (by omega)
    have hlt : n < (k0_t1_loop (grid0.coords t)).trips := by rw [trips1]; omega
    have ho := off1 t ⟨n, hlt⟩
    have hw := off2 t ⟨n, hlt⟩
    have e := st_k0_t1_succ (F := Ideal) Variants.none c none (grid0.coords t) arg2 harg2 arg3 harg3 arg4 harg4 arg5 harg5 arg6 harg6 arg7 harg7 arg8 harg8 arg9 harg9
      (BitVec.ofNat 32 ((grid0.coords t) 0).val) (BitVec.ofNat 32 ((grid0.coords t) 1).val) v0 v1 (iota Kind.tc S512x512 32 [0] iota_S512x512_d0_w32) (iota Kind.tc S512x512 32 [1] iota_S512x512_d1_w32)
      X_arg3 X_arg4 X_arg6 (k0_pay27, k0_pay28, k0_pay29) ⟨n, hlt⟩
    rw [tripR_eq] at e
    have := tR_carried (arg1 := (BitVec.ofNat 32 ((grid0.coords t) 1).val)) hc hh (mask9 ⟨n, hlt⟩) hq h1
      (rows_at arg3.view X_arg3 rfl H.k hk (k0_off1_inb (grid0.coords t) ⟨n, hlt⟩) _ ho)
      (rows_at arg4.view X_arg4 rfl H.v hv (k0_off1_inb (grid0.coords t) ⟨n, hlt⟩) _ ho)
      (gate_at arg6.view X_arg6 H.f hs (k0_off2_inb (grid0.coords t) ⟨n, hlt⟩ 0) _ (512 * n) (hw 0) (by show 512 * n = 128 * (4 * n + 0); omega))
      (gate_at arg6.view X_arg6 H.f hs (k0_off2_inb (grid0.coords t) ⟨n, hlt⟩ 1) _ (512 * n + 128) (hw 1) (by show 512 * n + 128 = 128 * (4 * n + 1); omega))
      (gate_at arg6.view X_arg6 H.f hs (k0_off2_inb (grid0.coords t) ⟨n, hlt⟩ 2) _ (512 * n + 256) (hw 2) (by show 512 * n + 256 = 128 * (4 * n + 2); omega))
      (gate_at arg6.view X_arg6 H.f hs (k0_off2_inb (grid0.coords t) ⟨n, hlt⟩ 3) _ (512 * n + 384) (hw 3) (by show 512 * n + 384 = 128 * (4 * n + 3); omega)) I
    rw [← head_word t] at this
    exact (congrArg (Carried H _ _) e).mpr this

end loop

end

end Cert.Kernel20Ideal.Foxk
-- ==== Proof.FoxHead.lean ====
/- The heads of forgetting attention, as reals, and the running sums of the gate's logarithms. -/
module

public import proofs.«01_k».proof.Proof.FoxModel
public import proofs.«01_k».proof.Proof.SbHead
public import proofs.«01_k».proof.Proof.SbRef
public import proofs.«01_k».proof.Proof.Gen.Reference20Ideal.Read

@[expose] public section

set_option maxRecDepth 16384

namespace Fox

open Idealize.ShloMosaic Sb Finset

noncomputable section

/-- The shape of the gate's logarithms: a column for each head. -/
abbrev ShL : Shape := ⟨2, ![2048, 8]⟩

/-- Head `h` of the joined array, the heads before the eighth left out, with its column of the running sums. -/
def fhd (Q : ShQ.Idx → EReal) (C : ShL.Idx → EReal) (h : ℕ) : Fox.Head where
  c := scale.toReal
  q r d := (Q (ix2 (Fin.ofNat 2048 r) (Fin.ofNat 6144 (128 * (8 + h) + d)))).toReal
  k r d := (Q (ix2 (Fin.ofNat 2048 r) (Fin.ofNat 6144 (128 * (24 + h) + d)))).toReal
  v r d := (Q (ix2 (Fin.ofNat 2048 r) (Fin.ofNat 6144 (128 * (40 + h) + d)))).toReal
  f r := (C (ix2 (Fin.ofNat 2048 r) (Fin.ofNat 8 h))).toReal

section reads

variable {Q : ShQ.Idx → EReal} {C : ShL.Idx → EReal} (hQ : AllReal Q) (hC : AllReal C) {h : ℕ} (hh : h < 8)
include hh

include hQ in
theorem fhd_q {r d : ℕ} (hr : r < 2048) (hd' : d < 128) (hc : 128 * (8 + h) + d < 6144) : Q (ix2 ⟨r, hr⟩ ⟨128 * (8 + h) + d, hc⟩) = (((fhd Q C h).q r d : ℝ) : EReal) := by
  rw [fhd, hQ]
  exact congrArg Q (congrArg₂ ix2 (Fin.ext (Nat.mod_eq_of_lt hr).symm) (Fin.ext (Nat.mod_eq_of_lt hc).symm))

include hQ in
theorem fhd_k {r d : ℕ} (hr : r < 2048) (hd' : d < 128) (hc : 128 * (24 + h) + d < 6144) : Q (ix2 ⟨r, hr⟩ ⟨128 * (24 + h) + d, hc⟩) = (((fhd Q C h).k r d : ℝ) : EReal) := by
  rw [fhd, hQ]
  exact congrArg Q (congrArg₂ ix2 (Fin.ext (Nat.mod_eq_of_lt hr).symm) (Fin.ext (Nat.mod_eq_of_lt hc).symm))

include hQ in
theorem fhd_v {r d : ℕ} (hr : r < 2048) (hd' : d < 128) (hc : 128 * (40 + h) + d < 6144) : Q (ix2 ⟨r, hr⟩ ⟨128 * (40 + h) + d, hc⟩) = (((fhd Q C h).v r d : ℝ) : EReal) := by
  rw [fhd, hQ]
  exact congrArg Q (congrArg₂ ix2 (Fin.ext (Nat.mod_eq_of_lt hr).symm) (Fin.ext (Nat.mod_eq_of_lt hc).symm))

include hC in
theorem fhd_f {r : ℕ} (hr : r < 2048) : C (ix2 ⟨r, hr⟩ ⟨h, hh⟩) = (((fhd Q C h).f r : ℝ) : EReal) := by
  rw [fhd, hC]
  exact congrArg C (congrArg₂ ix2 (Fin.ext (Nat.mod_eq_of_lt hr).symm) (Fin.ext (Nat.mod_eq_of_lt hh).symm))

end reads

/-- A sum of reals, taken one by one, is real. -/
theorem fold_is_real {ι : Type} (g : ι → EReal) (hg : ∀ n, ((g n).toReal : EReal) = g n) : ∀ (l : List ι) (v : EReal), ((v.toReal : ℝ) : EReal) = v →
    (((l.foldl (fun r n => r + g n) v).toReal : ℝ) : EReal) = l.foldl (fun r n => r + g n) v
  | [], v, hv => hv
  | a :: l, v, hv => by
    rw [List.foldl_cons]
    refine fold_is_real g hg l _ ?_
    rw [← hv, ← hg a, ← EReal.coe_add, EReal.toReal_coe]

/-- The running sums of real logarithms are real. -/
theorem sums_real {L : ShL.Idx → EReal} (hL : AllReal L) : AllReal (S := ShL) (Cert.Reference20Ideal.Read.val_main_v10 (F := Ideal) L) := by
  intro y
  have e : Cert.Reference20Ideal.Read.val_main_v10 (F := Ideal) L y = Ideal.hostReduceWindowAdd (![2048, 1] : Fin 2 → ℕ) ![1, 1] ![2047, 0] ![0, 0]
      Cert.Reference20Ideal.Gen.reduceWindows_S2048x8_S2048x8_w2048s1p2047_0_w1s1p0_0 L 0 y := by
    unfold Cert.Reference20Ideal.Read.val_main_v10 Host.reduceWindowAdd
    rw [Cert.Reference20Ideal.Read.val_main_call0_v0_apply, Cert.Reference20Ideal.Read.val_main_call0_cst_apply, Cert.ReferenceIdeal.Sbr.zero_word]
    rfl
  rw [e]
  unfold Ideal.hostReduceWindowAdd Host.reduceWindow
  refine fold_is_real _ (fun n => ?_) _ _ rfl
  dsimp only
  split
  · exact hL _
  · rfl

end

end Fox
-- ==== Proof.FoxPoint.lean ====
/- One grid point of forgetting attention: its block of the result, of the transposed result and of the rows' logarithms. -/
module

public import proofs.«01_k».proof.Proof.FoxLoop
public import proofs.«01_k».proof.Proof.FoxHead
public import proofs.«01_k».proof.Proof.Gen.Kernel20Ideal.Value
public import Idealize.ShloMosaic.Lib.Claim

@[expose] public section

set_option maxRecDepth 16384

namespace Cert.Kernel20Ideal.Foxk

open Cert.Kernel20Ideal Cert.Kernel20Ideal.Gen Idealize.ShloMosaic Idealize.ShloMosaic.TcCoe Sb Fox Finset

noncomputable section

theorem rest2 (t : Fin grid0.N) : Scf.trips (k0_t2_loop (grid0.coords t)).lb (k0_t2_loop (grid0.coords t)).ub (k0_t2_loop (grid0.coords t)).st = 0 := trips2 t

/-- What a point leaves in its three blocks. -/
structure Ends (H : Fox.Head) (r0 : ℕ) (o : S512x128.Idx → EReal) (oT : S128x512.Idx → EReal) (lse : S512x128.Idx → EReal) : Prop where
  /-- the result -/
  o : Rows r0 o H.o
  /-- the result transposed -/
  oT : ∀ (d : Fin 128) (x : Fin 512), oT (ix2 d x) = ((H.o (r0 + x.val) d.val : ℝ) : EReal)
  /-- the logarithms of the rows' sums -/
  lse : Rows r0 lse fun r _ => H.lse r

section point

variable {c : Dev nD} {t : Fin grid0.N} {arg2 : Memref sig .tc .vmem S512x128 .bf16} {harg2 : arg2.IsWhole} {arg3 : Memref sig .tc .vmem S2048x128 .bf16} {harg3 : arg3.IsWhole} {arg4 : Memref sig .tc .vmem S2048x128 .bf16} {harg4 : arg4.IsWhole} {arg5 : Memref sig .tc .vmem S512x128 .f32} {harg5 : arg5.IsWhole} {arg6 : Memref sig .tc .vmem S16x8x128 .f32} {harg6 : arg6.IsWhole} {arg7 : Memref sig .tc .vmem S512x128 .bf16} {harg7 : arg7.IsWhole} {arg8 : Memref sig .tc .vmem S128x512 .bf16} {harg8 : arg8.IsWhole} {arg9 : Memref sig .tc .vmem S512x128 .f32} {harg9 : arg9.IsWhole}
  {x0 : Vec Ideal S512x128 .bf16} {x1 : Vec Ideal S2048x128 .bf16} {x2 : Vec Ideal S2048x128 .bf16} {x3 : Vec Ideal S512x128 .f32} {x4 : Vec Ideal S16x8x128 .f32} {H : Fox.Head}

theorem loop_ends (hc : cw = ((H.c : ℝ) : EReal)) (hh : t.val / 4 < 8) (hq : Rows (512 * (t.val % 4)) x0 H.q) (hk : Full x1 H.k) (hv : Full x2 H.v)
    (h1 : ∀ x : Fin 512, x3 (ix2 x 0) = ((H.f (512 * (t.val % 4) + x.val) : ℝ) : EReal)) (hs : Sums (t.val / 4) x4 H.f) :
    Carried H (512 * (t.val % 4)) (512 * (t.val % 4 + 1)) (lp c t arg2 harg2 arg3 harg3 arg4 harg4 arg5 harg5 arg6 harg6 arg7 harg7 arg8 harg8 arg9 harg9 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (harg3.unread x1) (harg4.unread x2) (harg6.unread x4) (k0_t1_loop (grid0.coords t)).trips) := by
  have L := loop_left (c := c) (t := t) (harg2 := harg2) (harg3 := harg3) (harg4 := harg4) (harg5 := harg5) (harg6 := harg6) (harg7 := harg7) (harg8 := harg8) (harg9 := harg9)
    (v0 := (View.readAt (Elt Ideal) arg2.view (Rect.unit ![0, 0] S512x128.size inb_S512x128_S512x128_0_0).toLoadRect (harg2.unread x0))) (v1 := (View.readAt (Elt Ideal) arg5.view (Rect.unit ![0, 0] S512x128.size inb_S512x128_S512x128_0_0).toLoadRect (harg5.unread x3))) (X_arg3 := harg3.unread x1) (X_arg4 := harg4.unread x2) (X_arg6 := harg6.unread x4) hc hh (by rw [load_all, harg2.read_unread]; exact hq)
    (by rw [load_all, harg5.read_unread]; exact h1)
    (by rw [harg3.read_unread]; exact hk) (by rw [harg4.read_unread]; exact hv) (by rw [harg6.read_unread]; exact hs) _ (trips1 t).le
  rw [show 512 * (k0_t1_loop (grid0.coords t)).trips = 512 * (t.val % 4 + 1) by rw [trips1]] at L
  exact L

set_option maxHeartbeats 1000000 in
theorem point (hc : cw = ((H.c : ℝ) : EReal)) (hh : t.val / 4 < 8) (hq : Rows (512 * (t.val % 4)) x0 H.q) (hk : Full x1 H.k) (hv : Full x2 H.v)
    (h1 : ∀ x : Fin 512, x3 (ix2 x 0) = ((H.f (512 * (t.val % 4) + x.val) : ℝ) : EReal)) (hs : Sums (t.val / 4) x4 H.f) :
    Ends H (512 * (t.val % 4)) (out0_A_5 c (grid0.coords t) arg2 harg2 arg3 harg3 arg4 harg4 arg5 harg5 arg6 harg6 arg7 harg7 arg8 harg8 arg9 harg9 x0 x1 x2 x3 x4) (out0_A_6 c (grid0.coords t) arg2 harg2 arg3 harg3 arg4 harg4 arg5 harg5 arg6 harg6 arg7 harg7 arg8 harg8 arg9 harg9 x0 x1 x2 x3 x4)
      (out0_A_7 c (grid0.coords t) arg2 harg2 arg3 harg3 arg4 harg4 arg5 harg5 arg6 harg6 arg7 harg7 arg8 harg8 arg9 harg9 x0 x1 x2 x3 x4) := by
  have L := loop_ends (c := c) (harg2 := harg2) (harg3 := harg3) (harg4 := harg4) (harg5 := harg5) (harg6 := harg6) (harg7 := harg7) (harg8 := harg8) (harg9 := harg9) hc hh hq hk hv h1 hs
  have e5 : (kernelRun0_A (F := Ideal) c (grid0.coords t) arg2 harg2 arg3 harg3 arg4 harg4 arg5 harg5 arg6 harg6 arg7 harg7 arg8 harg8 arg9 harg9 x0 x1 x2 x3 x4).1
      = [⟨Rect.unit ![0, 0] S512x128.size inb_S512x128_S512x128_0_0, k0_pay3 (lp c t arg2 harg2 arg3 harg3 arg4 harg4 arg5 harg5 arg6 harg6 arg7 harg7 arg8 harg8 arg9 harg9 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (harg3.unread x1) (harg4.unread x2) (harg6.unread x4) (k0_t1_loop (grid0.coords t)).trips).1 (lp c t arg2 harg2 arg3 harg3 arg4 harg4 arg5 harg5 arg6 harg6 arg7 harg7 arg8 harg8 arg9 harg9 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (harg3.unread x1) (harg4.unread x2) (harg6.unread x4) (k0_t1_loop (grid0.coords t)).trips).2.2⟩] := by
    unfold kernelRun0_A
    sl_unfold_words
    simp only [rest2 t, st_k0_t2.eq_1]
  have d5 : out0_A_5 c (grid0.coords t) arg2 harg2 arg3 harg3 arg4 harg4 arg5 harg5 arg6 harg6 arg7 harg7 arg8 harg8 arg9 harg9 x0 x1 x2 x3 x4 = k0_pay3 (lp c t arg2 harg2 arg3 harg3 arg4 harg4 arg5 harg5 arg6 harg6 arg7 harg7 arg8 harg8 arg9 harg9 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (harg3.unread x1) (harg4.unread x2) (harg6.unread x4) (k0_t1_loop (grid0.coords t)).trips).1 (lp c t arg2 harg2 arg3 harg3 arg4 harg4 arg5 harg5 arg6 harg6 arg7 harg7 arg8 harg8 arg9 harg9 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (harg3.unread x1) (harg4.unread x2) (harg6.unread x4) (k0_t1_loop (grid0.coords t)).trips).2.2 := by
    unfold out0_A_5
    exact (congrArg (fun L => VO0_5.read (Elt Ideal) (VO0_5.writes (Elt Ideal) VO0_5.junk L)) e5).trans (store_all VO0_5 VO0_5.junk [] inb_S512x128_S512x128_0_0 _)
  have e6 : (kernelRun0_A (F := Ideal) c (grid0.coords t) arg2 harg2 arg3 harg3 arg4 harg4 arg5 harg5 arg6 harg6 arg7 harg7 arg8 harg8 arg9 harg9 x0 x1 x2 x3 x4).2.1
      = [⟨Rect.unit ![0, 0] S128x512.size inb_S128x512_S128x512_0_0, k0_pay4 (lp c t arg2 harg2 arg3 harg3 arg4 harg4 arg5 harg5 arg6 harg6 arg7 harg7 arg8 harg8 arg9 harg9 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (harg3.unread x1) (harg4.unread x2) (harg6.unread x4) (k0_t1_loop (grid0.coords t)).trips).1 (lp c t arg2 harg2 arg3 harg3 arg4 harg4 arg5 harg5 arg6 harg6 arg7 harg7 arg8 harg8 arg9 harg9 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (harg3.unread x1) (harg4.unread x2) (harg6.unread x4) (k0_t1_loop (grid0.coords t)).trips).2.2⟩] := by
    unfold kernelRun0_A
    sl_unfold_words
    simp only [rest2 t, st_k0_t2.eq_1]
  have d6 : out0_A_6 c (grid0.coords t) arg2 harg2 arg3 harg3 arg4 harg4 arg5 harg5 arg6 harg6 arg7 harg7 arg8 harg8 arg9 harg9 x0 x1 x2 x3 x4 = k0_pay4 (lp c t arg2 harg2 arg3 harg3 arg4 harg4 arg5 harg5 arg6 harg6 arg7 harg7 arg8 harg8 arg9 harg9 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (harg3.unread x1) (harg4.unread x2) (harg6.unread x4) (k0_t1_loop (grid0.coords t)).trips).1 (lp c t arg2 harg2 arg3 harg3 arg4 harg4 arg5 harg5 arg6 harg6 arg7 harg7 arg8 harg8 arg9 harg9 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (harg3.unread x1) (harg4.unread x2) (harg6.unread x4) (k0_t1_loop (grid0.coords t)).trips).2.2 := by
    unfold out0_A_6
    exact (congrArg (fun L => VO0_6.read (Elt Ideal) (VO0_6.writes (Elt Ideal) VO0_6.junk L)) e6).trans (store_all VO0_6 VO0_6.junk [] inb_S128x512_S128x512_0_0 _)
  have e7 : (kernelRun0_A (F := Ideal) c (grid0.coords t) arg2 harg2 arg3 harg3 arg4 harg4 arg5 harg5 arg6 harg6 arg7 harg7 arg8 harg8 arg9 harg9 x0 x1 x2 x3 x4).2.2.1
      = [⟨Rect.unit ![0, 0] S512x128.size inb_S512x128_S512x128_0_0, k0_pay5 (lp c t arg2 harg2 arg3 harg3 arg4 harg4 arg5 harg5 arg6 harg6 arg7 harg7 arg8 harg8 arg9 harg9 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (harg3.unread x1) (harg4.unread x2) (harg6.unread x4) (k0_t1_loop (grid0.coords t)).trips).2.1 (lp c t arg2 harg2 arg3 harg3 arg4 harg4 arg5 harg5 arg6 harg6 arg7 harg7 arg8 harg8 arg9 harg9 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (harg3.unread x1) (harg4.unread x2) (harg6.unread x4) (k0_t1_loop (grid0.coords t)).trips).2.2⟩] := by
    unfold kernelRun0_A
    sl_unfold_words
    simp only [rest2 t, st_k0_t2.eq_1]
  have d7 : out0_A_7 c (grid0.coords t) arg2 harg2 arg3 harg3 arg4 harg4 arg5 harg5 arg6 harg6 arg7 harg7 arg8 harg8 arg9 harg9 x0 x1 x2 x3 x4 = k0_pay5 (lp c t arg2 harg2 arg3 harg3 arg4 harg4 arg5 harg5 arg6 harg6 arg7 harg7 arg8 harg8 arg9 harg9 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (harg3.unread x1) (harg4.unread x2) (harg6.unread x4) (k0_t1_loop (grid0.coords t)).trips).2.1 (lp c t arg2 harg2 arg3 harg3 arg4 harg4 arg5 harg5 arg6 harg6 arg7 harg7 arg8 harg8 arg9 harg9 (View.readAt (Elt Ideal) arg2.view (Rect.unit ![0, 0] S512x128.size inb_S512x128_S512x128_0_0).toLoadRect (harg2.unread x0)) (View.readAt (Elt Ideal) arg5.view (Rect.unit ![0, 0] S512x128.size inb_S512x128_S512x128_0_0).toLoadRect (harg5.unread x3)) (harg3.unread x1) (harg4.unread x2) (harg6.unread x4) (k0_t1_loop (grid0.coords t)).trips).2.2 := by
    unfold out0_A_7
    exact (congrArg (fun L => VO0_7.read (Elt Ideal) (VO0_7.writes (Elt Ideal) VO0_7.junk L)) e7).trans (store_all VO0_7 VO0_7.junk [] inb_S512x128_S512x128_0_0 _)
  rw [d5, d6, d7]
  have ht := Nat.mod_lt t.val (show 0 < 4 by omega)
  have ho := fun (x : Fin 512) (d : Fin 128) => (L x).out (by omega) (by have := x.isLt; omega) d
  have hl := fun (x : Fin 512) => (L x).log (by omega) (by have := x.isLt; omega)
  exact { o := pay3_rows ho, oT := pay4_cols ho, lse := pay5_rows hl }

end point

section blocks

variable (m : (ℓ : Loc nD τ sig) → Buf (Elt Ideal) ℓ) (c : Dev nD) (t : Fin cfg0.N)

/-- The joined queries, keys and values on a device. -/
abbrev argQ : S2048x6144.Idx → EReal := m ((c : Thread nD τ).loc main_arg0)

/-- The gate's logarithms on a device. -/
abbrev argL : S2048x8.Idx → EReal := m ((c : Thread nD τ).loc main_arg1)

/-- Their running sums. -/
abbrev cumL : S2048x8.Idx → EReal := Cert.Reference20Ideal.Read.val_main_v10 (F := Ideal) (argL m c)

/-- The running sums repeated along each head's lanes, as the host hands them to the call. -/
abbrev arrB : S2048x1024.Idx → EReal := V m c (Pipeline.arrRef spec0 3)

/-- The running sums as a row for each head in sixteen blocks, as the host hands them to the call. -/
abbrev arrT : S16x128x128.Idx → EReal := V m c (Pipeline.arrRef spec0 4)

theorem arrB_eq : arrB m c = shapeCast S2048x1024 (broadcastInDim S2048x8x128 ![0, 1] bcast_S2048x8_S2048x8x128_0_1 (cumL m c)) shapeCasts_S2048x8x128_S2048x1024 := by
  show V m c (Pipeline.arrRef spec0 3) = _
  entry_read
  rfl

theorem arrT_eq : arrT m c = transpose S16x128x128 [0, 2, 1] (shapeCast S16x128x128 (pad S2048x128 ![0, 0] ![0, 120] ![0, 0] (cumL m c) (sitofp (F := Ideal) .f32 (constantI S_ 32 0#32)) pads_S2048x8_S2048x128_000_01200 h_S_)
    shapeCasts_S2048x128_S16x128x128) transposes_S16x128x128_S16x128x128_0_2_1 := by
  show V m c (Pipeline.arrRef spec0 4) = _
  entry_read
  rfl

theorem idx0 : ∀ t : Fin cfg0.N, win0_0.index t = ![t.val % 4, 8 + t.val / 4] ∧ win0_1.index t = ![0, 24 + t.val / 4] ∧ win0_2.index t = ![0, 40 + t.val / 4]
    ∧ win0_3.index t = ![t.val % 4, t.val / 4] ∧ win0_4.index t = ![0, 0, 0] ∧ win0_5.index t = ![t.val % 4, t.val / 4] ∧ win0_6.index t = ![t.val / 4, t.val % 4] ∧ win0_7.index t = ![t.val % 4, t.val / 4] :=
  (by decide +kernel : ∀ t : Fin grid0.N, _)

theorem head_lt : t.val / 4 < 8 := by
  have : t.val < 32 := t.isLt
  omega

theorem blk_q (x : Fin 512) (d : Fin 128) (hr : 512 * (t.val % 4) + x.val < 2048) (hc : 128 * (8 + t.val / 4) + d.val < 6144) :
    (iblk m c 0 t : S512x128.Idx → EReal) (ix2 x d) = argQ m c (ix2 ⟨512 * (t.val % 4) + x.val, hr⟩ ⟨128 * (8 + t.val / 4) + d.val, hc⟩) := by
  blk_ext [iblk, V_main_arg0, idx0 t]

theorem blk_k (x : Fin 2048) (d : Fin 128) (hc : 128 * (24 + t.val / 4) + d.val < 6144) :
    (iblk m c 1 t : S2048x128.Idx → EReal) (ix2 x d) = argQ m c (ix2 x ⟨128 * (24 + t.val / 4) + d.val, hc⟩) := by
  blk_ext [iblk, V_main_arg0, idx0 t]

theorem blk_v (x : Fin 2048) (d : Fin 128) (hc : 128 * (40 + t.val / 4) + d.val < 6144) :
    (iblk m c 2 t : S2048x128.Idx → EReal) (ix2 x d) = argQ m c (ix2 x ⟨128 * (40 + t.val / 4) + d.val, hc⟩) := by
  blk_ext [iblk, V_main_arg0, idx0 t]

theorem blk_b (x : Fin 512) (d : Fin 128) (hr : 512 * (t.val % 4) + x.val < 2048) (hc : 128 * (t.val / 4) + d.val < 1024) :
    (iblk m c 3 t : S512x128.Idx → EReal) (ix2 x d) = arrB m c (ix2 ⟨512 * (t.val % 4) + x.val, hr⟩ ⟨128 * (t.val / 4) + d.val, hc⟩) := by
  show ((cfg0.win 3).blk t).view.read (Elt Ideal) (arrB m c) (ix2 x d) = _
  generalize arrB m c = X
  blk_ext [idx0 t]

theorem blk_t (a : Fin 16) (x : Fin 8) (y : Fin 128) (hx : x.val < 128) :
    (iblk m c 4 t : S16x8x128.Idx → EReal) (ix3 a x y) = arrT m c (ix3 a ⟨x.val, hx⟩ y) := by
  show ((cfg0.win 4).blk t).view.read (Elt Ideal) (arrT m c) (ix3 a x y) = _
  generalize arrT m c = X
  blk_ext [idx0 t]

theorem spreadB (C : S2048x8.Idx → EReal) (r : Fin 2048) (h : Fin 8) (d : Fin 128) (hx : 128 * h.val + d.val < 1024) :
    shapeCast S2048x1024 (broadcastInDim S2048x8x128 ![0, 1] bcast_S2048x8_S2048x8x128_0_1 C) shapeCasts_S2048x8x128_S2048x1024 (ix2 r ⟨128 * h.val + d.val, hx⟩) = C (ix2 r h) := by
  pointwise

theorem inside (C : S2048x8.Idx → EReal) (v : S_.Idx → EReal) (r : Fin 2048) (h : Fin 8) (hx : h.val < 128) :
    pad S2048x128 ![0, 0] ![0, 120] ![0, 0] C v pads_S2048x8_S2048x128_000_01200 h_S_ (ix2 r ⟨h.val, hx⟩) = C (ix2 r h) := by
  rw [pad_apply, dif_pos]
  · refine congrArg C (funext fun a => Fin.ext ?_)
    match a with
    | ⟨0, _⟩ => show (r.val - 0) / (0 + 1) = r.val; omega
    | ⟨1, _⟩ => show (h.val - 0) / (0 + 1) = h.val; omega
  · intro a
    have hr := r.isLt
    have hh := h.isLt
    match a with
    | ⟨0, _⟩ => show 0 ≤ r.val ∧ (r.val - 0) % (0 + 1) = 0 ∧ (r.val - 0) / (0 + 1) < 2048; omega
    | ⟨1, _⟩ => show 0 ≤ h.val ∧ (h.val - 0) % (0 + 1) = 0 ∧ (h.val - 0) / (0 + 1) < 8; omega

theorem spreadT (P : S2048x128.Idx → EReal) (a : Fin 16) (x y : Fin 128) (hr : 128 * a.val + y.val < 2048) :
    transpose S16x128x128 [0, 2, 1] (shapeCast S16x128x128 P shapeCasts_S2048x128_S16x128x128) transposes_S16x128x128_S16x128x128_0_2_1 (ix3 a x y)
      = P (ix2 ⟨128 * a.val + y.val, hr⟩ x) := by
  pointwise
  exact congrArg P (congrArg₂ ix2 (Fin.ext (by dsimp only; omega)) rfl)

/-- A head on a device. -/
abbrev dev (h : ℕ) : Fox.Head := fhd (argQ m c) (cumL m c) h

variable {m c t} (hc : cw = ((cw.toReal : ℝ) : EReal)) (hQ : AllReal (S := ShQ) (argQ m c)) (hL : AllReal (S := ShL) (argL m c))
include hc hQ hL

/-- What a point of the run leaves. -/
theorem ends : Ends (dev m c (t.val / 4)) (512 * (t.val % 4)) (outsAt0 m c t).1 (outsAt0 m c t).2.1 (outsAt0 m c t).2.2 := by
  have hh := head_lt t
  have hq : Rows (512 * (t.val % 4)) (iblk m c 0 t : S512x128.Idx → EReal) (dev m c (t.val / 4)).q := by
    intro x d
    have hx := x.isLt; have hd := d.isLt
    rw [blk_q m c t x d (by omega) (by omega)]
    exact fhd_q hQ hh _ hd _
  have hk : Full (iblk m c 1 t : S2048x128.Idx → EReal) (dev m c (t.val / 4)).k := by
    intro x d
    have hx := x.isLt; have hd := d.isLt
    rw [blk_k m c t x d (by omega)]
    exact fhd_k hQ hh _ hd _
  have hv : Full (iblk m c 2 t : S2048x128.Idx → EReal) (dev m c (t.val / 4)).v := by
    intro x d
    have hx := x.isLt; have hd := d.isLt
    rw [blk_v m c t x d (by omega)]
    exact fhd_v hQ hh _ hd _
  have h1 : ∀ x : Fin 512, (iblk m c 3 t : S512x128.Idx → EReal) (ix2 x 0) = (((dev m c (t.val / 4)).f (512 * (t.val % 4) + x.val) : ℝ) : EReal) := by
    intro x
    have hx := x.isLt
    rw [blk_b m c t x 0 (by omega) (by show _ + 0 < _; omega), arrB_eq]
    exact (spreadB _ _ ⟨t.val / 4, hh⟩ 0 _).trans (fhd_f (sums_real hL) hh _)
  have hs : Sums (t.val / 4) (iblk m c 4 t : S16x8x128.Idx → EReal) (dev m c (t.val / 4)).f := by
    intro a x y hx
    have ha := a.isLt; have hy := y.isLt; have hx' := x.isLt
    rw [blk_t m c t a x y (by omega), arrT_eq, spreadT _ a _ y (by omega), inside]
    refine Eq.trans (congrArg _ (congrArg₂ ix2 rfl (Fin.ext hx))) (fhd_f (sums_real hL) hh (by omega))
  unfold outsAt0
  dsimp only
  exact point hc hh hq hk hv h1 hs

end blocks

end

end Cert.Kernel20Ideal.Foxk
-- ==== Proof.FoxRef.lean ====
/- The reference's forgetting attention, stage by stage, and its three results. -/
module

public import proofs.«01_k».proof.Proof.FoxHead

@[expose] public section

set_option maxRecDepth 16384

namespace Cert.Reference20Ideal.Foxr

open Cert.Reference20Ideal Cert.Reference20Ideal.Gen Cert.Reference20Ideal.Read Idealize.ShloMosaic Sb Fox Finset
open Cert.ReferenceIdeal.Sbr (zero_word)

noncomputable section

/-- The type of the joined queries, keys and values. -/
abbrev TQ : Type := (⟨S2048x6144, .bf16⟩ : BufTy).Contents (Elt Ideal)
/-- The type of the gate's logarithms. -/
abbrev TL : Type := (⟨S2048x8, .f32⟩ : BufTy).Contents (Elt Ideal)

/-- The running sums. -/
abbrev cum (L : TL) : ShL.Idx → EReal := val_main_v10 (F := Ideal) L

/-- One head of the arguments. -/
abbrev hx (Q : TQ) (L : TL) (h : ℕ) : Fox.Head := fhd Q (cum L) h

theorem inf_word : FloatOps.ofBits (F := Ideal) .f32 0xFF800000#32 = (⊥ : EReal) := by
  show Ideal.ofBits FTy.f32 0xFF800000#32 = ⊥
  simp [Ideal.ofBits, Ideal.ieee]

variable {Q : TQ} {L : TL} (hQ : AllReal (S := ShQ) Q) (hL : AllReal (S := ShL) L) (hc : scale = ((scale.toReal : ℝ) : EReal)) (h : Fin 8)

include hQ in
theorem v5_at (r : Fin 2048) (d : Fin 128) : val_main_v5 (F := Ideal) Q (ix3 h r d) = (((hx Q L h.val).q r.val d.val : ℝ) : EReal) := by
  rw [val_main_v5_apply, val_main_v4_apply, val_main_v3_apply, val_main_v2_apply, val_main_v1_apply, val_main_v0_apply]
  refine Eq.trans ?_ (fhd_q hQ h.isLt r.isLt d.isLt (by omega))
  have hd' := d.isLt
  have hr := r.isLt
  have e1 : ((h.val * 2048 + r.val) * 128 + d.val) / 128 % 2048 = r.val := by omega
  have e2 : ((h.val * 2048 + r.val) * 128 + d.val) / 262144 % 8 = h.val := by omega
  have e3 : ((h.val * 2048 + r.val) * 128 + d.val) % 128 = d.val := by omega
  refine congrArg Q (funext fun a => Fin.ext ?_)
  match a with
  | ⟨0, _⟩ => dsimp; rw [e1, e2, e3]; omega
  | ⟨1, _⟩ => dsimp; rw [e1, e2, e3]; omega

include hQ in
theorem v7_at (r : Fin 2048) (d : Fin 128) : val_main_v7 (F := Ideal) Q (ix3 h r d) = (((hx Q L h.val).k r.val d.val : ℝ) : EReal) := by
  rw [val_main_v7_apply, val_main_v6_apply, val_main_v3_apply, val_main_v2_apply, val_main_v1_apply, val_main_v0_apply]
  refine Eq.trans ?_ (fhd_k hQ h.isLt r.isLt d.isLt (by omega))
  have hd' := d.isLt
  have hr := r.isLt
  have e1 : ((h.val * 2048 + r.val) * 128 + d.val) / 128 % 2048 = r.val := by omega
  have e2 : ((h.val * 2048 + r.val) * 128 + d.val) / 262144 % 8 = h.val := by omega
  have e3 : ((h.val * 2048 + r.val) * 128 + d.val) % 128 = d.val := by omega
  refine congrArg Q (funext fun a => Fin.ext ?_)
  match a with
  | ⟨0, _⟩ => dsimp; rw [e1, e2, e3]; omega
  | ⟨1, _⟩ => dsimp; rw [e1, e2, e3]; omega

include hQ in
theorem v9_at (r : Fin 2048) (d : Fin 128) : val_main_v9 (F := Ideal) Q (ix3 h r d) = (((hx Q L h.val).v r.val d.val : ℝ) : EReal) := by
  rw [val_main_v9_apply, val_main_v8_apply, val_main_v3_apply, val_main_v2_apply, val_main_v1_apply, val_main_v0_apply]
  refine Eq.trans ?_ (fhd_v hQ h.isLt r.isLt d.isLt (by omega))
  have hd' := d.isLt
  have hr := r.isLt
  have e1 : ((h.val * 2048 + r.val) * 128 + d.val) / 128 % 2048 = r.val := by omega
  have e2 : ((h.val * 2048 + r.val) * 128 + d.val) / 262144 % 8 = h.val := by omega
  have e3 : ((h.val * 2048 + r.val) * 128 + d.val) % 128 = d.val := by omega
  refine congrArg Q (funext fun a => Fin.ext ?_)
  match a with
  | ⟨0, _⟩ => dsimp; rw [e1, e2, e3]; omega
  | ⟨1, _⟩ => dsimp; rw [e1, e2, e3]; omega

include hL in
theorem v11_at (r : Fin 2048) : val_main_v11 (F := Ideal) L (ix2 h r) = (((hx Q L h.val).f r.val : ℝ) : EReal) := by
  rw [val_main_v11_apply]
  refine Eq.trans (congrArg _ (funext fun a => ?_)) (fhd_f (Q := Q) (sums_real hL) h.isLt r.isLt)
  match a with
  | ⟨0, _⟩ => rfl
  | ⟨1, _⟩ => rfl

/-- No position after its row. -/
theorem v17_at (r s : Fin 2048) : val_main_v17 (F := Ideal) (ix2 r s) = BitVec.ofBool (decide (s.val ≤ r.val)) := by
  rw [val_main_v17_apply, val_main_v16_apply, val_main_v14_apply, val_main_v15_apply, val_main_v13_apply, val_main_v12_apply, val_main_v12_apply]
  exact congrArg BitVec.ofBool (sle_small _ _ (by have := s.isLt; show s.val < _; omega) (by have := r.isLt; show r.val < _; omega))

include hQ hL hc in
/-- The logits. -/
theorem v26_at (r s : Fin 2048) : val_main_v26 (F := Ideal) Q L (ix3 h r s) = (((hx Q L h.val).z r.val s.val : ℝ) : EReal) := by
  rw [val_main_v26_apply, val_main_v25_apply, val_main_v24_apply, val_main_v23_apply, val_main_v22_apply, val_main_v21_apply, val_main_v20_apply, val_main_v18_apply, val_main_v19_apply, val_main_cst_apply]
  have e : (∑ k : Fin 128, (val_main_v5 (F := Ideal) Q) (lidx_main_v18 (ix3 h r s) k) * (val_main_v7 (F := Ideal) Q) (ridx_main_v18 (ix3 h r s) k) : EReal)
      = ((∑ k : Fin 128, (hx Q L h.val).q r.val k.val * (hx Q L h.val).k s.val k.val : ℝ) : EReal) := by
    refine sum_of_coe _ fun k => ?_
    rw [EReal.coe_mul]
    refine congrArg₂ (· * ·) ((congrArg _ (funext fun a => ?_)).trans (v5_at (L := L) hQ h r k)) ((congrArg _ (funext fun a => ?_)).trans (v7_at (L := L) hQ h s k))
    · match a with
      | ⟨0, _⟩ => rfl
      | ⟨1, _⟩ => rfl
      | ⟨2, _⟩ => rfl
    · match a with
      | ⟨0, _⟩ => rfl
      | ⟨1, _⟩ => rfl
      | ⟨2, _⟩ => rfl
  have fr : val_main_v11 (F := Ideal) L (idx_main_v21 (idx_main_v22 (ix3 h r s))) = (((hx Q L h.val).f r.val : ℝ) : EReal) := by
    refine Eq.trans (congrArg _ (funext fun a => ?_)) (v11_at (Q := Q) hL h r)
    match a with
    | ⟨0, _⟩ => rfl
    | ⟨1, _⟩ => rfl
  have fs : val_main_v11 (F := Ideal) L (idx_main_v24 (idx_main_v25 (ix3 h r s))) = (((hx Q L h.val).f s.val : ℝ) : EReal) := by
    refine Eq.trans (congrArg _ (funext fun a => ?_)) (v11_at (Q := Q) hL h s)
    match a with
    | ⟨0, _⟩ => rfl
    | ⟨1, _⟩ => rfl
  rw [fr, fs]
  refine (congrArg₂ (fun a b : EReal => a * b + (((hx Q L h.val).f r.val : ℝ) : EReal) - (((hx Q L h.val).f s.val : ℝ) : EReal)) e hc).trans ?_
  rw [← EReal.coe_mul, ← EReal.coe_add, ← EReal.coe_sub]
  rfl

include hQ hL hc in
/-- The logits, masked. -/
theorem v27_at (r s : Fin 2048) : val_main_v27 (F := Ideal) Q L (ix3 h r s) = (hx Q L h.val).zm r.val s.val := by
  have m : val_main_call1_v1 (F := Ideal) (ix3 h r s) = BitVec.ofBool (decide (s.val ≤ r.val)) := by
    rw [val_main_call1_v1_apply, ← v17_at r s]
    refine congrArg _ (funext fun a => ?_)
    match a with
    | ⟨0, _⟩ => rfl
    | ⟨1, _⟩ => rfl
  rw [val_main_v27_apply, m, v26_at hQ hL hc h r s, val_main_call1_v2_apply, val_main_call1_v0_apply, val_main_cst_0_apply, inf_word, select_decide]
  rfl

include hQ hL hc in
/-- A row's largest logit is a real. -/
theorem v30_at (r : Fin 2048) : ∃ M : ℝ, val_main_v30 (F := Ideal) Q L (ix2 h r) = (M : EReal) := by
  have e : val_main_v28 (F := Ideal) Q L (ix2 h r) = Finset.univ.fold max ⊥ fun s : Fin 2048 => (hx Q L h.val).zm r.val s.val := by
    pointwise [val_main_v28, val_main_cst_1]
    rw [show Ideal.ofBits FTy.f32 4286578688#32 = ⊥ from inf_word]
    exact congrArg (fun f => Finset.univ.fold max ⊥ f) (funext fun s => v27_at hQ hL hc h r s)
  have g := fold_real (⊥ : EReal) (fun s : Fin 2048 => (hx Q L h.val).zm r.val s.val) bot_ne_top (fun s => Head.zm_top _ _) (0 : Fin 2048) (Head.zm_zero _)
  rw [← e] at g
  refine ⟨(val_main_v28 (F := Ideal) Q L (ix2 h r)).toReal, ?_⟩
  rw [val_main_v30_apply, val_main_v29_apply, val_main_cst_2_apply, inf_word, EReal.coe_toReal g.1 g.2]
  exact max_eq_right bot_le

include hQ hL hc in
/-- The exponentials, at a row's largest logit. -/
theorem v34_at (r : Fin 2048) {M : ℝ} (hM : val_main_v30 (F := Ideal) Q L (ix2 h r) = (M : EReal)) (s : Fin 2048) :
    val_main_v34 (F := Ideal) Q L (ix3 h r s) = (((hx Q L h.val).e M r.val s.val : ℝ) : EReal) := by
  rw [val_main_v34_apply, val_main_v33_apply, v27_at hQ hL hc h r s, val_main_v32_apply, val_main_v31_apply]
  have e : val_main_v30 (F := Ideal) Q L (idx_main_v31 (idx_main_v32 (ix3 h r s))) = (M : EReal) := by
    refine Eq.trans (congrArg _ (funext fun a => ?_)) hM
    match a with
    | ⟨0, _⟩ => rfl
    | ⟨1, _⟩ => rfl
  rw [e]
  exact Head.exp_zm M _ _

include hQ hL hc in
/-- The sum of a row's exponentials. -/
theorem v35_at (r : Fin 2048) {M : ℝ} (hM : val_main_v30 (F := Ideal) Q L (ix2 h r) = (M : EReal)) :
    val_main_v35 (F := Ideal) Q L (ix2 h r) = (((hx Q L h.val).den M r.val 2048 : ℝ) : EReal) := by
  pointwise [val_main_v35, val_main_cst_3]
  rw [sum_of_coe _ fun s => v34_at hQ hL hc h r hM s, Head.den, sum_fin_range 2048 fun s => (hx Q L h.val).e M r.val s]

include hQ hL hc in
/-- The weights. -/
theorem v38_at (r : Fin 2048) {M : ℝ} (hM : val_main_v30 (F := Ideal) Q L (ix2 h r) = (M : EReal)) (s : Fin 2048) :
    val_main_v38 (F := Ideal) Q L (ix3 h r s) = (((hx Q L h.val).e M r.val s.val / (hx Q L h.val).den M r.val 2048 : ℝ) : EReal) := by
  rw [val_main_v38_apply, v34_at hQ hL hc h r hM s, val_main_v37_apply, val_main_v36_apply]
  have e : val_main_v35 (F := Ideal) Q L (idx_main_v36 (idx_main_v37 (ix3 h r s))) = (((hx Q L h.val).den M r.val 2048 : ℝ) : EReal) := by
    refine Eq.trans (congrArg _ (funext fun a => ?_)) (v35_at hQ hL hc h r hM)
    match a with
    | ⟨0, _⟩ => rfl
    | ⟨1, _⟩ => rfl
  rw [e]
  exact div_real _ _ (Head.den_pos M r.val 2048 (by omega)).ne'

include hQ hL hc in
/-- The attention's result. -/
theorem v39_at (r : Fin 2048) (d : Fin 128) : val_main_v39 (F := Ideal) Q L (ix3 h r d) = (((hx Q L h.val).o r.val d.val : ℝ) : EReal) := by
  obtain ⟨M, hM⟩ := v30_at hQ hL hc h r
  rw [val_main_v39_apply]
  refine (sum_of_coe (fun k : Fin 2048 => (hx Q L h.val).e M r.val k.val / (hx Q L h.val).den M r.val 2048 * (hx Q L h.val).v k.val d.val) fun k => ?_).trans ?_
  · rw [EReal.coe_mul]
    refine congrArg₂ (fun a b : EReal => a * b) ((congrArg _ (funext fun a => ?_)).trans (v38_at hQ hL hc h r hM k)) ((congrArg _ (funext fun a => ?_)).trans (v9_at (L := L) hQ h k d))
    · match a with
      | ⟨0, _⟩ => rfl
      | ⟨1, _⟩ => rfl
      | ⟨2, _⟩ => rfl
    · match a with
      | ⟨0, _⟩ => rfl
      | ⟨1, _⟩ => rfl
      | ⟨2, _⟩ => rfl
  · rw [← Head.quot M, Head.num, Finset.sum_div, ← sum_fin_range 2048 fun s => (hx Q L h.val).e M r.val s * (hx Q L h.val).v s d.val / (hx Q L h.val).den M r.val 2048]
    exact congrArg _ (Finset.sum_congr rfl fun k _ => by ring)

include hQ hL hc in
/-- The logarithm of a row's sum. -/
theorem v44_at (r : Fin 2048) : val_main_v44 (F := Ideal) Q L (ix2 h r) = (((hx Q L h.val).lse r.val : ℝ) : EReal) := by
  have e : val_main_v43 (F := Ideal) Q L (ix2 h r) = (((hx Q L h.val).den 0 r.val 2048 : ℝ) : EReal) := by
    pointwise [val_main_v43, val_main_cst_4]
    rw [Head.den, ← sum_fin_range 2048 fun s => (hx Q L h.val).e 0 r.val s]
    refine sum_of_coe _ fun s => ?_
    rw [val_main_v42_apply, v27_at hQ hL hc h r s, ← Head.exp_zm 0, EReal.coe_zero, sub_zero]
    rfl
  rw [val_main_v44_apply, e, Head.lse]
  refine (Ideal.log_coe _).trans (if_neg (not_le.mpr (Head.den_pos 0 r.val 2048 (by omega))))

include hQ hL hc in
theorem v41_at (r : Fin 2048) (d : Fin 128) (hx' : 128 * h.val + d.val < 1024) :
    val_main_v41 (F := Ideal) Q L (ix2 r ⟨128 * h.val + d.val, hx'⟩) = (((hx Q L h.val).o r.val d.val : ℝ) : EReal) := by
  have hd' := d.isLt
  have hr := r.isLt
  have hh := h.isLt
  rw [val_main_v41_apply, val_main_v40_apply, ← v39_at hQ hL hc h r d]
  refine congrArg (val_main_v39 (F := Ideal) Q L) (funext fun a => Fin.ext ?_)
  match a with
  | ⟨0, _⟩ => dsimp; omega
  | ⟨1, _⟩ => dsimp; omega
  | ⟨2, _⟩ => dsimp; omega

include hQ hL hc in
theorem v46_at (r : Fin 2048) (d : Fin 128) (hx' : 128 * h.val + d.val < 1024) :
    val_main_v46 (F := Ideal) Q L (ix2 r ⟨128 * h.val + d.val, hx'⟩) = (((hx Q L h.val).o r.val d.val : ℝ) : EReal) := by
  rw [val_main_v46_apply]
  exact v41_at hQ hL hc h r d hx'

include hQ hL hc in
theorem v48_at (r : Fin 2048) (d : Fin 128) (hx' : 128 * h.val + d.val < 1024) :
    val_main_v48 (F := Ideal) Q L (ix2 ⟨128 * h.val + d.val, hx'⟩ r) = (((hx Q L h.val).o r.val d.val : ℝ) : EReal) := by
  rw [val_main_v48_apply, val_main_v47_apply, ← v41_at hQ hL hc h r d hx']
  refine congrArg (val_main_v41 (F := Ideal) Q L) (funext fun a => Fin.ext ?_)
  match a with
  | ⟨0, _⟩ => rfl
  | ⟨1, _⟩ => rfl

include hQ hL hc in
theorem v50_at (r : Fin 2048) (d : Fin 128) (hx' : 128 * h.val + d.val < 1024) :
    val_main_v50 (F := Ideal) Q L (ix2 r ⟨128 * h.val + d.val, hx'⟩) = (((hx Q L h.val).lse r.val : ℝ) : EReal) := by
  have hd' := d.isLt
  have hr := r.isLt
  have hh := h.isLt
  rw [val_main_v50_apply, val_main_v49_apply, val_main_v45_apply, ← v44_at hQ hL hc h r]
  refine congrArg (val_main_v44 (F := Ideal) Q L) (funext fun a => Fin.ext ?_)
  match a with
  | ⟨0, _⟩ => dsimp; omega
  | ⟨1, _⟩ => dsimp; omega

end

end Cert.Reference20Ideal.Foxr
-- ==== Proof.FoxArrays.lean ====
/- Forgetting attention's three result arrays are the reference's. -/
module

public import proofs.«01_k».proof.Proof.FoxPoint
public import proofs.«01_k».proof.Proof.FoxRef
public import proofs.«01_k».proof.Proof.SbArrays

@[expose] public section

set_option maxRecDepth 16384

namespace Cert.Kernel20Ideal.Foxk

open Cert.Kernel20Ideal Cert.Kernel20Ideal.Gen Idealize.ShloMosaic Idealize.ShloMosaic.TcCoe Sb Fox Finset
open Cert.KernelIdeal.Sbk (scale_real)
open Cert.Reference20Ideal.Read Cert.Reference20Ideal.Foxr

noncomputable section

variable (m : (ℓ : Loc nD τ sig) → Buf (Elt Ideal) ℓ) (c : Dev nD)

/-- The reference's attention on the kernel's argument. -/
abbrev goal := val_main_v46 (F := Ideal) (argQ m c) (argL m c)

/-- The reference's transposed attention on the kernel's argument. -/
abbrev goalT := val_main_v48 (F := Ideal) (argQ m c) (argL m c)

/-- The reference's rows' logarithms on the kernel's argument. -/
abbrev goalS := val_main_v50 (F := Ideal) (argQ m c) (argL m c)

variable {m c} (hQ : AllReal (S := ShQ) (argQ m c)) (hL : AllReal (S := ShL) (argL m c))
include hQ hL

theorem at_o (r h d : ℕ) (hr : r < 2048) (hh : h < 8) (hd' : d < 128) (e : S2048x1024.Idx) (e0 : (e 0).val = r) (e1 : (e 1).val = 128 * h + d) :
    goal m c e = (((dev m c h).o r d : ℝ) : EReal) := by
  refine Eq.trans (congrArg (goal m c) (funext fun a => Fin.ext ?_)) (v46_at hQ hL scale_real ⟨h, hh⟩ ⟨r, hr⟩ ⟨d, hd'⟩ (by dsimp only; omega))
  match a with
  | ⟨0, _⟩ => exact e0
  | ⟨1, _⟩ => exact e1

theorem at_t (r h d : ℕ) (hr : r < 2048) (hh : h < 8) (hd' : d < 128) (e : S1024x2048.Idx) (e0 : (e 0).val = 128 * h + d) (e1 : (e 1).val = r) :
    goalT m c e = (((dev m c h).o r d : ℝ) : EReal) := by
  refine Eq.trans (congrArg (goalT m c) (funext fun a => Fin.ext ?_)) (v48_at hQ hL scale_real ⟨h, hh⟩ ⟨r, hr⟩ ⟨d, hd'⟩ (by dsimp only; omega))
  match a with
  | ⟨0, _⟩ => exact e0
  | ⟨1, _⟩ => exact e1

theorem at_s (r h d : ℕ) (hr : r < 2048) (hh : h < 8) (hd' : d < 128) (e : S2048x1024.Idx) (e0 : (e 0).val = r) (e1 : (e 1).val = 128 * h + d) :
    goalS m c e = (((dev m c h).lse r : ℝ) : EReal) := by
  refine Eq.trans (congrArg (goalS m c) (funext fun a => Fin.ext ?_)) (v50_at hQ hL scale_real ⟨h, hh⟩ ⟨r, hr⟩ ⟨d, hd'⟩ (by dsimp only; omega))
  match a with
  | ⟨0, _⟩ => exact e0
  | ⟨1, _⟩ => exact e1

omit hQ hL

/-- Where an entry of a block lies in its array. -/
theorem emb5 (t : Fin cfg0.N) (y : S512x128.Idx) : ((((cfg0.win 5).blk t).view.emb y) 0).val = 512 * (t.val % 4) + (y 0).val
    ∧ ((((cfg0.win 5).blk t).view.emb y) 1).val = 128 * (t.val / 4) + (y 1).val := by
  constructor <;> · blk_simp [idx0 t]; omega

theorem emb6 (t : Fin cfg0.N) (y : S128x512.Idx) : ((((cfg0.win 6).blk t).view.emb y) 0).val = 128 * (t.val / 4) + (y 0).val
    ∧ ((((cfg0.win 6).blk t).view.emb y) 1).val = 512 * (t.val % 4) + (y 1).val := by
  constructor <;> · blk_simp [idx0 t]; omega

theorem emb7 (t : Fin cfg0.N) (y : S512x128.Idx) : ((((cfg0.win 7).blk t).view.emb y) 0).val = 512 * (t.val % 4) + (y 0).val
    ∧ ((((cfg0.win 7).blk t).view.emb y) 1).val = 128 * (t.val / 4) + (y 1).val := by
  constructor <;> · blk_simp [idx0 t]; omega

include hQ hL

theorem point5 (t : Fin cfg0.N) (y : S512x128.Idx) : (outsAt0 m c t).1 y = goal m c (((cfg0.win 5).blk t).view.emb y) := by
  have h0 : (y 0).val < 512 := (y 0).isLt
  have h1 : (y 1).val < 128 := (y 1).isLt
  refine Eq.trans ?_ (at_o hQ hL (512 * (t.val % 4) + (y 0).val) (t.val / 4) (y 1).val (by omega) (head_lt t) h1 _ (emb5 t y).1 (emb5 t y).2).symm
  refine Eq.trans (congrArg _ (funext fun a => ?_)) ((ends (t := t) scale_real hQ hL).o (y 0) (y 1))
  match a with
  | ⟨0, _⟩ => rfl
  | ⟨1, _⟩ => rfl

theorem point6 (t : Fin cfg0.N) (y : S128x512.Idx) : (outsAt0 m c t).2.1 y = goalT m c (((cfg0.win 6).blk t).view.emb y) := by
  have h0 : (y 0).val < 128 := (y 0).isLt
  have h1 : (y 1).val < 512 := (y 1).isLt
  refine Eq.trans ?_ (at_t hQ hL (512 * (t.val % 4) + (y 1).val) (t.val / 4) (y 0).val (by omega) (head_lt t) h0 _ (emb6 t y).1 (emb6 t y).2).symm
  refine Eq.trans (congrArg _ (funext fun a => ?_)) ((ends (t := t) scale_real hQ hL).oT (y 0) (y 1))
  match a with
  | ⟨0, _⟩ => rfl
  | ⟨1, _⟩ => rfl

theorem point7 (t : Fin cfg0.N) (y : S512x128.Idx) : (outsAt0 m c t).2.2 y = goalS m c (((cfg0.win 7).blk t).view.emb y) := by
  have h0 : (y 0).val < 512 := (y 0).isLt
  have h1 : (y 1).val < 128 := (y 1).isLt
  refine Eq.trans ?_ (at_s hQ hL (512 * (t.val % 4) + (y 0).val) (t.val / 4) (y 1).val (by omega) (head_lt t) h1 _ (emb7 t y).1 (emb7 t y).2).symm
  refine Eq.trans (congrArg _ (funext fun a => ?_)) ((ends (t := t) scale_real hQ hL).lse (y 0) (y 1))
  match a with
  | ⟨0, _⟩ => rfl
  | ⟨1, _⟩ => rfl

/-- The attention after the run is the reference's. -/
theorem final : (dats m 0 c).arrAt 5 (cfgs 0).N = goal m c := by
  refine (dats m 0 c).arrAt_eq_of_covers 5 _ (by decide +kernel) fun t _ y => ?_
  blk_simp
  rw [after0_5]
  exact point5 hQ hL t y

/-- The transposed attention after the run is the reference's. -/
theorem finalT : (dats m 0 c).arrAt 6 (cfgs 0).N = goalT m c := by
  refine (dats m 0 c).arrAt_eq_of_covers 6 _ (by decide +kernel) fun t _ y => ?_
  blk_simp
  rw [after0_6]
  exact point6 hQ hL t y

/-- The rows' logarithms after the run are the reference's. -/
theorem finalS : (dats m 0 c).arrAt 7 (cfgs 0).N = goalS m c := by
  refine (dats m 0 c).arrAt_eq_of_covers 7 _ (by decide +kernel) fun t _ y => ?_
  blk_simp
  rw [after0_7]
  exact point7 hQ hL t y

end

end Cert.Kernel20Ideal.Foxk
-- ==== Proof.MixGate.lean ====
/- The projection to the forget gate's columns: the call's result array is the reference's. -/
module

public import proofs.«01_k».proof.Proof.Gen.Kernel21Ideal.Value
public import proofs.«01_k».proof.Proof.Gen.Reference21Ideal.Read
public import Idealize.ShloMosaic.Lib.Pipeline.ValueKit

@[expose] public section

set_option maxRecDepth 16384

noncomputable section

namespace Cert.Kernel21Ideal.Mix

open Cert.Kernel21Ideal Cert.Kernel21Ideal.Gen Idealize.ShloMosaic Idealize.ShloMosaic.TcCoe Idealize.SL.Sem
open Idealize.ShloMosaic.Pipeline (Dat)
open Cert.Reference21Ideal.Read

variable (m : (ℓ : Loc nD τ sig) → Buf (Elt Ideal) ℓ)

/-- The reference's result on the kernel's arguments. -/
abbrev goal (c : Dev nD) := val_main_v4 (F := Ideal) (m ((c : Thread nD τ).loc main_arg0)) (m ((c : Thread nD τ).loc main_arg1))

/-- Where each window's block lies, at every grid point. -/
theorem idx : ∀ t : Fin cfg0.N, win0_0.index t = ![t.val, 0] ∧ win0_1.index t = ![0, 0] ∧ win0_2.index t = ![t.val, 0] ∧ t.val < 2 :=
  (by decide +kernel : ∀ t : Fin grid0.N, _)

/-- The columns of the forget gate, which the host cuts off and fills up with zeros. -/
theorem padded (c : Dev nD) : V m c main_v1 = pad S2048x128 ![0, 0] ![0, 120] ![0, 0]
    (extractStridedSlice S2048x8 ![0, 6144] (m ((c : Thread nD τ).loc main_arg1)) slices_S2048x6152_S2048x8_0_6144)
    (sitofp (F := Ideal) .bf16 (constantI S_ 32 0#32)) pads_S2048x8_S2048x128_000_01200 h_S_ := rfl

/-- The word zero as a number. -/
theorem zero_word (φ : FTy) : FloatOps.sitofp (F := Ideal) φ 0#32 = (0 : EReal) := by
  show (((0#32).toInt : ℝ) : EReal) = 0
  simp

/-- One of the eight columns of the forget gate. -/
theorem gate_col (c : Dev nD) (i) (k : Fin 128) (h : k.val < 8) : V m c main_v1 (ix2 i k) = m ((c : Thread nD τ).loc main_arg1) (ix2 i ⟨6144 + k.val, by omega⟩) := by
  rw [padded]
  pointwise []
  simp only [h, dite_true]

/-- A column that the host filled up. -/
theorem zero_col (c : Dev nD) (i) (k : Fin 128) (h : ¬k.val < 8) : V m c main_v1 (ix2 i k) = (0 : EReal) := by
  rw [padded]
  pointwise []
  simp only [h, dite_false]
  exact zero_word _

/-- The reference's entry in one of the eight columns. -/
theorem whole (X0 X1 j) (h : (j 1).val < 8) : val_main_v4 (F := Ideal) X0 X1 j = ∑ k : Fin 2048, X0 (ix2 (j 0) k) * X1 (ix2 k ⟨6144 + (j 1).val, by omega⟩) := by
  pointwise [val_main_v4, val_main_v3, val_main_v2, val_main_v1, val_main_v0, val_main_call0_v0, val_main_c]
  simp only [h, dite_true]

/-- The reference's entry in the other columns. -/
theorem whole0 (X0 X1 j) (h : ¬(j 1).val < 8) : val_main_v4 (F := Ideal) X0 X1 j = (0 : EReal) := by
  pointwise [val_main_v4, val_main_v3, val_main_v2, val_main_v1, val_main_v0, val_main_call0_v0, val_main_c]
  simp only [h, dite_false]
  exact zero_word _

/-- What a grid point stores is the reference's block. -/
theorem point (c : Dev nD) (t : Fin cfg0.N) (y) : k0_pay1 (iblk m c 0 t) (iblk m c 1 t) y = goal m c (((cfg0.win 2).blk t).view.emb y) := by
  by_cases h : (((cfg0.win 2).blk t).view.emb y 1).val < 8
  · refine Eq.trans ?_ (whole _ _ _ h).symm
    pointwise [k0_pay1]
    refine Fin.sum_fin_congr fun k => congrArg₂ (fun a b : EReal => a * b) ?_ ((?_ : _ = V m c main_v1 (ix2 k (((cfg0.win 2).blk t).view.emb y 1))).trans (gate_col m c _ _ h))
    · blk_point [iblk, V, idx t]
    · blk_point [iblk, idx t]
  · refine Eq.trans ?_ (whole0 _ _ _ h).symm
    pointwise [k0_pay1]
    refine Finset.sum_eq_zero fun k _ => ?_
    have hz : ∀ a b : EReal, b = 0 → a * b = 0 := fun a b h => by rw [h, mul_zero]
    refine hz _ _ ((?_ : _ = V m c main_v1 (ix2 k (((cfg0.win 2).blk t).view.emb y 1))).trans (zero_col m c _ _ h))
    blk_point [iblk, idx t]

/-- The result array after the run is the reference's. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.Kernel21Ideal.Mix

end
-- ==== Proof.MixGateW.lean ====
/- The gradient of the forget gate's columns of the even layer's matrix: the call's result array is the reference's. -/
module

public import proofs.«01_k».proof.Proof.Gen.Kernel22Ideal.Value
public import proofs.«01_k».proof.Proof.Gen.Reference22Ideal.Read
public import Idealize.ShloMosaic.Lib.Pipeline.ValueKit

@[expose] public section

set_option maxRecDepth 16384

noncomputable section

namespace Cert.Kernel22Ideal.Mix

open Cert.Kernel22Ideal Cert.Kernel22Ideal.Gen Idealize.ShloMosaic Idealize.ShloMosaic.TcCoe Idealize.SL.Sem
open Idealize.ShloMosaic.Pipeline (Dat)
open Cert.Reference22Ideal.Read

variable (m : (ℓ : Loc nD τ sig) → Buf (Elt Ideal) ℓ)

/-- The reference's result on the kernel's arguments. -/
abbrev goal (c : Dev nD) := val_main_v6 (F := Ideal) (m ((c : Thread nD τ).loc main_arg0)) (m ((c : Thread nD τ).loc main_arg1))

/-- Where each window's block lies, at every grid point. -/
theorem idx : ∀ t : Fin cfg0.N, win0_0.index t = ![t.val, 0] ∧ win0_1.index t = ![0, 0] ∧ win0_2.index t = ![t.val, 0] ∧ t.val < 2 :=
  (by decide +kernel : ∀ t : Fin grid0.N, _)

/-- What a grid point stores is the reference's block. -/
theorem point (c : Dev nD) (t : Fin cfg0.N) (y) : k0_pay1 (iblk m c 0 t) (iblk m c 1 t) y = goal m c (((cfg0.win 2).blk t).view.emb y) := by
  pointwise [k0_pay1, goal, val_main_v6, val_main_v5, val_main_v4, val_main_v3, val_main_v1]
  refine Fin.sum_fin_congr fun k => (mul_comm _ _).trans ?_
  blk_point [iblk, V, idx t]

/-- The result array after the run is the reference's. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.Kernel22Ideal.Mix

end
-- ==== Proof.NormBackOne.lean ====
/- The gradient of the norm with the factor one: the call's four result arrays are the reference's. -/
module

public import proofs.«01_k».proof.Proof.Gen.Kernel23Ideal.Value
public import proofs.«01_k».proof.Proof.Gen.Reference23Ideal.Read
public import proofs.«01_k».proof.Proof.NormReal

@[expose] public section

set_option maxRecDepth 16384

noncomputable section

namespace Cert.Kernel23Ideal.Norm

open Cert.Kernel23Ideal Cert.Kernel23Ideal.Gen Idealize.ShloMosaic Idealize.ShloMosaic.TcCoe Idealize.SL.Sem
open Idealize.ShloMosaic.Pipeline (Dat)
open Cert.Reference23Ideal.Read Cert.Norm

variable (m : (ℓ : Loc nD τ sig) → Buf (Elt Ideal) ℓ)

/-- The reference's gradient of the stream on the kernel's arguments. -/
abbrev goal (c : Dev nD) := val_main_v34 (F := Ideal) (m ((c : Thread nD τ).loc main_arg0)) (m ((c : Thread nD τ).loc main_arg1)) (m ((c : Thread nD τ).loc main_arg2)) (m ((c : Thread nD τ).loc main_arg3))

/-- The reference's rounded gradient of the stream. -/
abbrev goalS (c : Dev nD) := val_main_v35 (F := Ideal) (m ((c : Thread nD τ).loc main_arg0)) (m ((c : Thread nD τ).loc main_arg1)) (m ((c : Thread nD τ).loc main_arg2)) (m ((c : Thread nD τ).loc main_arg3))

/-- The reference's rounded gradient of the stream, transposed. -/
abbrev goalT (c : Dev nD) := val_main_v37 (F := Ideal) (m ((c : Thread nD τ).loc main_arg0)) (m ((c : Thread nD τ).loc main_arg1)) (m ((c : Thread nD τ).loc main_arg2)) (m ((c : Thread nD τ).loc main_arg3))

/-- The reference's gradient of the gain. -/
abbrev goalG (c : Dev nD) := val_main_v17 (F := Ideal) (m ((c : Thread nD τ).loc main_arg0)) (m ((c : Thread nD τ).loc main_arg2))

/-- Where each window's block lies, at every grid point. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, t.val] ∧ win0_7.index t = ![0, 0] ∧ t.val < 8 :=
  (by decide +kernel : ∀ t : Fin grid0.N, _)

/-- The reciprocal root in the kernel, at a row. -/
theorem pay3 (x0 j) : k0_pay3 (F := Ideal) x0 j = Ideal.rsqrt (mean fun k => x0 (ix2 (j 0) k)) := by
  pointwise [k0_pay3, mean]

/-- The normed entry in the kernel. -/
theorem pay4 (x0 j) : k0_pay4 (F := Ideal) x0 j = x0 j * Ideal.rsqrt (mean fun k => x0 (ix2 (j 0) k)) := by
  pointwise [k0_pay4, pay3]

/-- The kernel's gradient of the stream. -/
theorem pay5 (x0 x2 x1 x3 j) : k0_pay5 (F := Ideal) x0 x2 x1 x3 j = x3 j + kernelRow (fun k => x0 (ix2 (j 0) k)) (fun k => x2 (ix2 (j 0) k) * x1 (ix2 0 k)) (x0 j) (x2 j * x1 (ix2 0 (j 1))) := by
  pointwise [k0_pay5, pay3, pay4, kernelRow]

/-- The reference's gradient of the stream. -/
theorem ref (X0 X1 X2 X3 j) : val_main_v34 (F := Ideal) X0 X1 X2 X3 j = X3 j + ruleRow (fun k => X0 (ix2 (j 0) k)) (fun k => X2 (ix2 (j 0) k) * X1 (ix2 0 k)) (X0 j) (X2 j * X1 (ix2 0 (j 1))) := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6, ruleRow, through, mean]
  simp only [Finset.sum_const, Finset.card_univ, Fintype.card_fin, one_smul]

/-- The reference's gradient of the stream, by the kernel's formula. -/
theorem ref' (X0 X1 X2 X3 j) : val_main_v34 (F := Ideal) X0 X1 X2 X3 j = X3 j + kernelRow (fun k => X0 (ix2 (j 0) k)) (fun k => X2 (ix2 (j 0) k) * X1 (ix2 0 k)) (X0 j) (X2 j * X1 (ix2 0 (j 1))) := by
  have h := row_eq (fun k => X0 (ix2 (j 0) k)) (fun k => X2 (ix2 (j 0) k) * X1 (ix2 0 k)) (j 1) (X2 j * X1 (ix2 0 (j 1)))
  rw [show X0 (ix2 (j 0) (j 1)) = X0 j from congrArg X0 (funext fun a => by fin_cases a <;> rfl)] at h
  exact (ref X0 X1 X2 X3 j).trans (congrArg (X3 j + ·) h.symm)

/-- The kernel's block of the gradient of the stream is the reference's. -/
theorem point (c : Dev nD) (t : Fin cfg0.N) (y) : k0_pay5 (iblk m c 0 t) (iblk m c 2 t) (iblk m c 1 t) (iblk m c 3 t) y = goal m c (((cfg0.win 4).blk t).view.emb y) := by
  refine (pay5 _ _ _ _ y).trans (Eq.trans ?_ (ref' _ _ _ _ _).symm)
  refine congrArg₂ (fun a b : EReal => a + b) ?_ (congr (congr (congr (congrArg kernelRow (funext fun k => ?_)) (funext fun k => congrArg₂ (fun a b : EReal => a * b) ?_ ?_)) ?_) (congrArg₂ (fun a b : EReal => a * b) ?_ ?_)) <;> blk_point [iblk, V, idx t]

/-- The kernel's rounded block. -/
theorem pointS (c : Dev nD) (t : Fin cfg0.N) (y) : k0_pay7 (iblk m c 0 t) (iblk m c 2 t) (iblk m c 1 t) (iblk m c 3 t) y = goalS m c (((cfg0.win 5).blk t).view.emb y) := by
  pointwise [k0_pay7, k0_pay6, goalS, val_main_v35]
  rw [pay5, ref']
  refine congrArg₂ (fun a b : EReal => a + b) ?_ (congr (congr (congr (congrArg kernelRow (funext fun k => ?_)) (funext fun k => congrArg₂ (fun a b : EReal => a * b) ?_ ?_)) ?_) (congrArg₂ (fun a b : EReal => a * b) ?_ ?_)) <;> blk_point [iblk, V, idx t]

/-- The kernel's rounded and transposed block. -/
theorem pointT (c : Dev nD) (t : Fin cfg0.N) (y) : k0_pay8 (iblk m c 0 t) (iblk m c 2 t) (iblk m c 1 t) (iblk m c 3 t) y = goalT m c (((cfg0.win 6).blk t).view.emb y) := by
  pointwise [k0_pay8, k0_pay6, goalT, val_main_v37, val_main_v36]
  rw [pay5, ref']
  refine congrArg₂ (fun a b : EReal => a + b) ?_ (congr (congr (congr (congrArg kernelRow (funext fun k => ?_)) (funext fun k => congrArg₂ (fun a b : EReal => a * b) ?_ ?_)) ?_) (congrArg₂ (fun a b : EReal => a * b) ?_ ?_)) <;> blk_point [iblk, V, idx t]

/-- What every grid point leaves in the block of the gradient of the stream. -/
theorem out4 (c : Dev nD) (t : Fin cfg0.N) (y) : (outsAt0 m c t.val t.isLt).1 y = k0_pay5 (iblk m c 0 t) (iblk m c 2 t) (iblk m c 1 t) (iblk m c 3 t) y := by
  by_cases h : t.val % 8 = 0
  · rw [outsAt0_A m c t h]; frame_out
  · rw [outsAt0_B m c t h]; frame_out

/-- What every grid point leaves in the rounded block. -/
theorem out5 (c : Dev nD) (t : Fin cfg0.N) (y) : (outsAt0 m c t.val t.isLt).2.1 y = k0_pay7 (iblk m c 0 t) (iblk m c 2 t) (iblk m c 1 t) (iblk m c 3 t) y := by
  by_cases h : t.val % 8 = 0
  · rw [outsAt0_A m c t h]; frame_out
  · rw [outsAt0_B m c t h]; frame_out

/-- What every grid point leaves in the rounded and transposed block. -/
theorem out6 (c : Dev nD) (t : Fin cfg0.N) (y) : (outsAt0 m c t.val t.isLt).2.2.1 y = k0_pay8 (iblk m c 0 t) (iblk m c 2 t) (iblk m c 1 t) (iblk m c 3 t) y := by
  by_cases h : t.val % 8 = 0
  · rw [outsAt0_A m c t h]; frame_out
  · rw [outsAt0_B m c t h]; frame_out

/-- The gradient of the stream after the run is the reference's. -/
theorem final (c : Dev nD) : (dats m 0 c).arrAt 4 (cfgs 0).N = goal m c := by
  refine (dats m 0 c).arrAt_eq_of_covers 4 _ (by decide +kernel) fun t _ y => ?_
  blk_simp
  rw [after0_4, out4]
  exact point m c t y

/-- The rounded gradient after the run is the reference's. -/
theorem finalS (c : Dev nD) : (dats m 0 c).arrAt 5 (cfgs 0).N = goalS m c := by
  refine (dats m 0 c).arrAt_eq_of_covers 5 _ (by decide +kernel) fun t _ y => ?_
  blk_simp
  rw [after0_5, out5]
  exact pointS m c t y

/-- The transposed gradient after the run is the reference's. -/
theorem finalT (c : Dev nD) : (dats m 0 c).arrAt 6 (cfgs 0).N = goalT m c := by
  refine (dats m 0 c).arrAt_eq_of_covers 6 _ (by decide +kernel) fun t _ y => ?_
  blk_simp
  rw [after0_6, out6]
  exact pointT m c t y

/-- An entry of the normed array times the cotangent's. -/
def term (x : Fin 2048 → EReal) (a d : EReal) : EReal := a * Ideal.rsqrt (mean x) * d

/-- The gain's gradient starts at zero. -/
theorem start (j) : k0_pay1 (F := Ideal) j = 0 := by pointwise [k0_pay1]

/-- A grid point adds its block of rows. -/
theorem step (x0 x2 acc j) : k0_pay2 (F := Ideal) (k0_pay4 x0) x2 acc j = acc j + ∑ r : Fin 256, term (fun k => x0 (ix2 r k)) (x0 (ix2 r (j 1))) (x2 (ix2 r (j 1))) := by
  pointwise [k0_pay2, pay4, term]
  refine congrArg (acc j + ·) (Finset.sum_congr rfl fun r _ => mul_comm _ _)

/-- The reference's gradient of the gain as one sum over all rows. -/
theorem whole (X0 X2 j) : val_main_v17 (F := Ideal) X0 X2 j = ∑ l : Fin 2048, term (fun k => X0 (ix2 l k)) (X0 (ix2 l (j 1))) (X2 (ix2 l (j 1))) := by
  pointwise [val_main_v17, val_main_v16, val_main_v15, val_main_v12, val_main_v11, val_main_v7, val_main_v6, val_main_v5, val_main_v4, val_main_v3, val_main_v2, val_main_v1, val_main_v0, val_main_cst, val_main_cst_0, val_main_cst_1, val_main_cst_3, term, mean]

/-- The gradient of the gain after the run is the reference's. -/
theorem finalG (c : Dev nD) : (dats m 0 c).arrAt 7 (cfgs 0).N = goalG m c := by
  refine (dats m 0 c).arrAt_eq_of_covers 7 _ (by decide +kernel) fun t hf y => ?_
  blk_simp
  rw [after0_7, Pipeline.eq_sum_fin_of_reset_step_apply_of_flush (fun n h => (outsAt0 m c n h).2.2.2) 8 (fun _ => 0) _
    (fun t h j => by rw [outsAt0_A m c t h]; frame_out; rw [step, start])
    (fun t h j => by rw [outsAt0_B m c t h]; frame_out; rw [step])
    t ((flush0_7 t).mp hf) _, zero_add]
  refine Eq.trans ?_ (whole _ _ _).symm
  refine Fin.sum_mul_add_congr fun s k hl => ?_
  refine congr (congr (congrArg term (funext fun k => ?_)) ?_) ?_ <;> blk_point [iblk, V, idx t, idx ⟨_, Pipeline.run_point_lt_of_flush t ((flush0_7 t).mp hf) s⟩]

end Cert.Kernel23Ideal.Norm

end
-- ==== Proof.LossHead.lean ====
/- The loss and its gradient through the last norm: the call's five result arrays are the reference's. -/
module

public import proofs.«01_k».proof.Proof.Gen.Kernel24Ideal.Value
public import proofs.«01_k».proof.Proof.Gen.Reference24Ideal.Read
public import proofs.«01_k».proof.Proof.NormReal

@[expose] public section

set_option maxRecDepth 16384

noncomputable section

namespace Cert.Kernel24Ideal.Loss

open Cert.Kernel24Ideal Cert.Kernel24Ideal.Gen Idealize.ShloMosaic Idealize.ShloMosaic.TcCoe Idealize.SL.Sem
open Idealize.ShloMosaic.Pipeline (Dat)
open Cert.Reference24Ideal.Read Cert.Norm

variable (m : (ℓ : Loc nD τ sig) → Buf (Elt Ideal) ℓ)

/-- The reference's gradient of the stream on the kernel's arguments. -/
abbrev goal (c : Dev nD) := val_main_v48 (F := Ideal) (m ((c : Thread nD τ).loc main_arg0)) (m ((c : Thread nD τ).loc main_arg1)) (m ((c : Thread nD τ).loc main_arg2))

/-- The reference's halved gradient of the stream. -/
abbrev goalS (c : Dev nD) := val_main_v51 (F := Ideal) (m ((c : Thread nD τ).loc main_arg0)) (m ((c : Thread nD τ).loc main_arg1)) (m ((c : Thread nD τ).loc main_arg2))

/-- The reference's halved gradient of the stream, transposed. -/
abbrev goalT (c : Dev nD) := val_main_v53 (F := Ideal) (m ((c : Thread nD τ).loc main_arg0)) (m ((c : Thread nD τ).loc main_arg1)) (m ((c : Thread nD τ).loc main_arg2))

/-- The reference's gradient of the gain. -/
abbrev goalG (c : Dev nD) := val_main_v32 (F := Ideal) (m ((c : Thread nD τ).loc main_arg0)) (m ((c : Thread nD τ).loc main_arg1)) (m ((c : Thread nD τ).loc main_arg2))

/-- The reference's loss, in the first of the lanes. -/
abbrev goalL (c : Dev nD) := val_main_v58 (F := Ideal) (m ((c : Thread nD τ).loc main_arg0)) (m ((c : Thread nD τ).loc main_arg1)) (m ((c : Thread nD τ).loc main_arg2))

/-- Where each window's block lies, at every grid point. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, t.val] ∧ win0_6.index t = ![0, 0] ∧ win0_7.index t = ![0, 0] ∧ t.val < 8 :=
  (by decide +kernel : ∀ t : Fin grid0.N, _)

/-- The word a half as a number. -/
theorem half : Ideal.ofBits .f32 0x3F000000#32 = ((1 / 2 : ℝ) : EReal) := by
  simp [Ideal.ofBits, Ideal.ieee]
  rw [← EReal.coe_mul]
  norm_num

/-- The word two as a number. -/
theorem two_word : Ideal.ofBits .f32 0x40000000#32 = ((2 : ℝ) : EReal) := by
  simp [Ideal.ofBits, Ideal.ieee]
  rw [← EReal.coe_mul]
  norm_num

/-- The reciprocal of the row's length, as the kernel writes it. -/
theorem inv_word : Ideal.ofBits .f32 0x3A000000#32 = ((1 / 2048 : ℝ) : EReal) := by
  simp [Ideal.ofBits, Ideal.ieee]
  rw [← EReal.coe_mul]
  norm_num

/-- The error at an entry: the normed entry times the gain, less the target. -/
def err (x : Fin 2048 → EReal) (a w t : EReal) : EReal := a * Ideal.rsqrt (mean x) * w - t

/-- The gradient at an entry of the normed stream. -/
def dy (x : Fin 2048 → EReal) (a w t : EReal) : EReal := err x a w t * Ideal.ofBits .f32 0x3A000000#32

/-- The chain rule's factors are the kernel's one. -/
theorem factors (e : EReal) : Ideal.div (Ideal.ofBits .f32 0x3F000000#32) (Ideal.ofBits .f32 0x45000000#32) * (Ideal.ofBits .f32 0x40000000#32 * e) = e * Ideal.ofBits .f32 0x3A000000#32 := by
  rw [half, two_word, inv_word, len_word, Ideal.div_coe (by norm_num), ← EReal.coe_mul, ← mul_assoc, ← EReal.coe_mul, mul_comm]
  congr 2
  norm_num

/-- The gradient of the stream at an entry. -/
def grad (x w t : Fin 2048 → EReal) (a b s : EReal) : EReal := kernelRow x (fun k => dy x (x k) (w k) (t k) * w k) a (dy x a b s * b)

/-- A row's part of the loss. -/
def rowLoss (x w t : Fin 2048 → EReal) : EReal := Ideal.div (∑ k, err x (x k) (w k) (t k) * err x (x k) (w k) (t k)) (Ideal.ofBits .f32 0x45000000#32)

/-- The reciprocal root in the kernel, at a row. -/
theorem pay5 (x0 j) : k0_pay5 (F := Ideal) x0 j = Ideal.rsqrt (mean fun k => x0 (ix2 (j 0) k)) := by
  pointwise [k0_pay5, mean]

/-- The normed entry in the kernel. -/
theorem pay6 (x0 j) : k0_pay6 (F := Ideal) x0 j = x0 j * Ideal.rsqrt (mean fun k => x0 (ix2 (j 0) k)) := by
  pointwise [k0_pay6, pay5]

/-- The error in the kernel. -/
theorem pay7 (x0 x1 x2 j) : k0_pay7 (F := Ideal) x0 x1 x2 j = err (fun k => x0 (ix2 (j 0) k)) (x0 j) (x1 (ix2 0 (j 1))) (x2 j) := by
  pointwise [k0_pay7, pay6, err]

/-- Its multiple in the kernel. -/
theorem pay8 (x0 x1 x2 j) : k0_pay8 (F := Ideal) x0 x1 x2 j = dy (fun k => x0 (ix2 (j 0) k)) (x0 j) (x1 (ix2 0 (j 1))) (x2 j) := by
  pointwise [k0_pay8, pay7, dy]

/-- The kernel's gradient of the stream. -/
theorem pay9 (x0 x1 x2 j) : k0_pay9 (F := Ideal) x0 x1 x2 x1 j = grad (fun k => x0 (ix2 (j 0) k)) (fun k => x1 (ix2 0 k)) (fun k => x2 (ix2 (j 0) k)) (x0 j) (x1 (ix2 0 (j 1))) (x2 j) := by
  pointwise [k0_pay9, pay5, pay6, pay8, grad, kernelRow]

/-- The error in the reference. -/
theorem ref15 (X0 X1 X2 j) : val_main_v15 (F := Ideal) X0 X1 X2 j = err (fun k => X0 (ix2 (j 0) k)) (X0 j) (X1 (ix2 0 (j 1))) (X2 j) := by
  pointwise [val_main_v15, val_main_v14, val_main_v13, val_main_v12, val_main_v11, val_main_v7, val_main_v6, val_main_v5, val_main_v4, val_main_v3, val_main_v2, val_main_v1, val_main_v0, val_main_cst, val_main_cst_0, val_main_cst_1, err, mean]

/-- Its multiple in the reference. -/
theorem ref29 (X0 X1 X2 j) : val_main_v29 (F := Ideal) X0 X1 X2 j = dy (fun k => X0 (ix2 (j 0) k)) (X0 j) (X1 (ix2 0 (j 1))) (X2 j) := by
  pointwise [val_main_v29, val_main_v28, val_main_v27, val_main_v26, val_main_v25, val_main_v24, val_main_v18, val_main_v17, val_main_cst_3, val_main_cst_8, val_main_cst_9, val_main_cst_10]
  rw [ref15]
  exact factors _

/-- The reference's gradient of the stream. -/
theorem ref (X0 X1 X2 j) : val_main_v48 (F := Ideal) X0 X1 X2 j = ruleRow (fun k => X0 (ix2 (j 0) k)) (fun k => val_main_v29 (F := Ideal) X0 X1 X2 (ix2 (j 0) k) * X1 (ix2 0 k)) (X0 j) (val_main_v29 (F := Ideal) X0 X1 X2 j * X1 (ix2 0 (j 1))) := by
  pointwise [val_main_v48, val_main_v47, val_main_v46, val_main_v45, val_main_v44, val_main_v43, val_main_v42, val_main_v41, val_main_v40, val_main_v39, val_main_v38, val_main_v37, val_main_v36, val_main_v35, val_main_v34, val_main_v33, val_main_v10, val_main_v9, val_main_v8, val_main_v7, val_main_v6, val_main_v5, val_main_v4, val_main_v3, val_main_v2, val_main_v1, val_main_v0, val_main_cst, val_main_cst_0, val_main_cst_1, val_main_cst_2, val_main_cst_12, val_main_cst_13, val_main_cst_14, ruleRow, through, mean]
  simp only [Finset.sum_const, Finset.card_univ, Fintype.card_fin, one_smul]

/-- The reference's gradient of the stream, by the kernel's formula. -/
theorem ref' (X0 X1 X2 j) : val_main_v48 (F := Ideal) X0 X1 X2 j = grad (fun k => X0 (ix2 (j 0) k)) (fun k => X1 (ix2 0 k)) (fun k => X2 (ix2 (j 0) k)) (X0 j) (X1 (ix2 0 (j 1))) (X2 j) := by
  have h := row_eq (fun k => X0 (ix2 (j 0) k)) (fun k => val_main_v29 (F := Ideal) X0 X1 X2 (ix2 (j 0) k) * X1 (ix2 0 k)) (j 1) (val_main_v29 (F := Ideal) X0 X1 X2 j * X1 (ix2 0 (j 1)))
  rw [show X0 (ix2 (j 0) (j 1)) = X0 j from congrArg X0 (funext fun a => by fin_cases a <;> rfl)] at h
  refine (ref X0 X1 X2 j).trans (h.symm.trans ?_)
  rw [ref29]
  exact congrFun (congrFun (congrArg (kernelRow _) (funext fun k => congrArg (· * X1 (ix2 0 k)) (ref29 X0 X1 X2 (ix2 (j 0) k)))) _) _

/-- The kernel's block of the gradient of the stream is the reference's. -/
theorem point (c : Dev nD) (t : Fin cfg0.N) (y) : k0_pay9 (iblk m c 0 t) (iblk m c 1 t) (iblk m c 2 t) (iblk m c 1 t) y = goal m c (((cfg0.win 3).blk t).view.emb y) := by
  refine (pay9 _ _ _ y).trans (Eq.trans ?_ (ref' _ _ _ _).symm)
  refine congr (congr (congr (congr (congr (congrArg grad (funext fun k => ?_)) (funext fun k => ?_)) (funext fun k => ?_)) ?_) ?_) ?_ <;> blk_point [iblk, V, idx t]

/-- The kernel's halved block. -/
theorem pointS (c : Dev nD) (t : Fin cfg0.N) (y) : k0_pay11 (iblk m c 0 t) (iblk m c 1 t) (iblk m c 2 t) (iblk m c 1 t) y = goalS m c (((cfg0.win 4).blk t).view.emb y) := by
  pointwise [k0_pay11, k0_pay10, goalS, val_main_v51, val_main_v50, val_main_v49, val_main_cst_15]
  rw [pay9, ref']
  refine (mul_comm _ _).trans (congrArg (FloatOps.ofBits (F := Ideal) .f32 0x3F000000#32 * ·) ?_)
  refine congr (congr (congr (congr (congr (congrArg grad (funext fun k => ?_)) (funext fun k => ?_)) (funext fun k => ?_)) ?_) ?_) ?_ <;> blk_point [iblk, V, idx t]

/-- The kernel's halved and transposed block. -/
theorem pointT (c : Dev nD) (t : Fin cfg0.N) (y) : k0_pay12 (iblk m c 0 t) (iblk m c 1 t) (iblk m c 2 t) (iblk m c 1 t) y = goalT m c (((cfg0.win 5).blk t).view.emb y) := by
  pointwise [k0_pay12, k0_pay10, goalT, val_main_v53, val_main_v52, val_main_v50, val_main_v49, val_main_cst_15]
  rw [pay9, ref']
  refine (mul_comm _ _).trans (congrArg (FloatOps.ofBits (F := Ideal) .f32 0x3F000000#32 * ·) ?_)
  refine congr (congr (congr (congr (congr (congrArg grad (funext fun k => ?_)) (funext fun k => ?_)) (funext fun k => ?_)) ?_) ?_) ?_ <;> blk_point [iblk, V, idx t]

/-- What every grid point leaves in the block of the gradient of the stream. -/
theorem out3 (c : Dev nD) (t : Fin cfg0.N) (y) : (outsAt0 m c t.val t.isLt).1 y = k0_pay9 (iblk m c 0 t) (iblk m c 1 t) (iblk m c 2 t) (iblk m c 1 t) y := by
  by_cases h : t.val % 8 = 0
  · rw [outsAt0_A m c t h]; frame_out
  · rw [outsAt0_B m c t h]; frame_out

/-- What every grid point leaves in the halved block. -/
theorem out4 (c : Dev nD) (t : Fin cfg0.N) (y) : (outsAt0 m c t.val t.isLt).2.1 y = k0_pay11 (iblk m c 0 t) (iblk m c 1 t) (iblk m c 2 t) (iblk m c 1 t) y := by
  by_cases h : t.val % 8 = 0
  · rw [outsAt0_A m c t h]; frame_out
  · rw [outsAt0_B m c t h]; frame_out

/-- What every grid point leaves in the halved and transposed block. -/
theorem out5 (c : Dev nD) (t : Fin cfg0.N) (y) : (outsAt0 m c t.val t.isLt).2.2.1 y = k0_pay12 (iblk m c 0 t) (iblk m c 1 t) (iblk m c 2 t) (iblk m c 1 t) y := by
  by_cases h : t.val % 8 = 0
  · rw [outsAt0_A m c t h]; frame_out
  · rw [outsAt0_B m c t h]; frame_out

/-- The gradient of the stream after the run is the reference's. -/
theorem final (c : Dev nD) : (dats m 0 c).arrAt 3 (cfgs 0).N = goal m c := by
  refine (dats m 0 c).arrAt_eq_of_covers 3 _ (by decide +kernel) fun t _ y => ?_
  blk_simp
  rw [after0_3, out3]
  exact point m c t y

/-- The halved gradient after the run is the reference's. -/
theorem finalS (c : Dev nD) : (dats m 0 c).arrAt 4 (cfgs 0).N = goalS m c := by
  refine (dats m 0 c).arrAt_eq_of_covers 4 _ (by decide +kernel) fun t _ y => ?_
  blk_simp
  rw [after0_4, out4]
  exact pointS m c t y

/-- The transposed gradient after the run is the reference's. -/
theorem finalT (c : Dev nD) : (dats m 0 c).arrAt 5 (cfgs 0).N = goalT m c := by
  refine (dats m 0 c).arrAt_eq_of_covers 5 _ (by decide +kernel) fun t _ y => ?_
  blk_simp
  rw [after0_5, out5]
  exact pointT m c t y

/-- An entry of the gain's gradient: the normed entry times the gradient there. -/
def term (x : Fin 2048 → EReal) (a w t : EReal) : EReal := dy x a w t * (a * Ideal.rsqrt (mean x))

/-- The gain's gradient starts at zero. -/
theorem start (j) : k0_pay1 (F := Ideal) j = 0 := by pointwise [k0_pay1]

/-- A grid point adds its block of rows. -/
theorem step (x0 x1 x2 acc j) : k0_pay3 (F := Ideal) (k0_pay6 x0) (k0_pay8 x0 x1 x2) acc j = acc j + ∑ r : Fin 256, term (fun k => x0 (ix2 r k)) (x0 (ix2 r (j 1))) (x1 (ix2 0 (j 1))) (x2 (ix2 r (j 1))) := by
  pointwise [k0_pay3, pay6, pay8, term]

/-- The reference's gradient of the gain as one sum over all rows. -/
theorem whole (X0 X1 X2 j) : val_main_v32 (F := Ideal) X0 X1 X2 j = ∑ l : Fin 2048, term (fun k => X0 (ix2 l k)) (X0 (ix2 l (j 1))) (X1 (ix2 0 (j 1))) (X2 (ix2 l (j 1))) := by
  pointwise [val_main_v32, val_main_v31, val_main_v30, ref29, val_main_v12, val_main_v11, val_main_v7, val_main_v6, val_main_v5, val_main_v4, val_main_v3, val_main_v2, val_main_v1, val_main_v0, val_main_cst, val_main_cst_0, val_main_cst_1, val_main_cst_11, term, mean]
  exact Finset.sum_congr rfl fun l _ => mul_comm _ _

/-- The gradient of the gain after the run is the reference's. -/
theorem finalG (c : Dev nD) : (dats m 0 c).arrAt 6 (cfgs 0).N = goalG m c := by
  refine (dats m 0 c).arrAt_eq_of_covers 6 _ (by decide +kernel) fun t hf y => ?_
  blk_simp
  rw [after0_6, Pipeline.eq_sum_fin_of_reset_step_apply_of_flush (fun n h => (outsAt0 m c n h).2.2.2.1) 8 (fun _ => 0) _
    (fun t h j => by rw [outsAt0_A m c t h]; frame_out; rw [step, start])
    (fun t h j => by rw [outsAt0_B m c t h]; frame_out; rw [step])
    t ((flush0_6 t).mp hf) _, zero_add]
  refine Eq.trans ?_ (whole _ _ _ _).symm
  refine Fin.sum_mul_add_congr fun s k hl => ?_
  refine congr (congr (congr (congrArg term (funext fun k => ?_)) ?_) ?_) ?_ <;> blk_point [iblk, V, idx t, idx ⟨_, Pipeline.run_point_lt_of_flush t ((flush0_6 t).mp hf) s⟩]

/-- A row's half of the loss in the first lane, and nothing in the others. -/
def lane (j : ℕ) (x w t : Fin 2048 → EReal) : EReal := if j = 0 then ((1 / 2 : ℝ) : EReal) * rowLoss x w t else 0

/-- The first lane, as the programs pick it. -/
theorem pick (n : Fin 128) : IntOp.cmpi .eq (BitVec.ofNat 32 n.val) 0#32 = if n.val = 0 then 1#1 else 0#1 := by
  revert n
  decide

/-- The half of a sum of rows' losses in the first lane. -/
theorem lanes {N : ℕ} (n : Fin 128) (f : Fin N → Fin 2048 → EReal) (w : Fin 2048 → EReal) (t : Fin N → Fin 2048 → EReal) :
    Scalar.select (IntOp.cmpi .eq (BitVec.ofNat 32 n.val) 0#32) (Ideal.ofBits .f32 0x3F000000#32 * ∑ r, rowLoss (f r) w (t r)) (0 : EReal) = ∑ r, lane n.val (f r) w (t r) := by
  rw [pick]
  by_cases h : n.val = 0
  · rw [if_pos h, half, pos_mul_sum _ (by norm_num)]
    refine Eq.trans ?_ (Finset.sum_congr rfl fun r _ => (if_pos h).symm)
    rfl
  · rw [if_neg h]
    refine Eq.trans ?_ (Finset.sum_eq_zero fun r _ => if_neg h).symm
    rfl

/-- The loss starts at zero. -/
theorem startL (j) : k0_pay2 (F := Ideal) j = 0 := by pointwise [k0_pay2]

/-- A grid point adds its block of rows to the loss. -/
theorem stepL (x0 x1 x2 acc j) : k0_pay4 (F := Ideal) (k0_pay7 x0 x1 x2) acc j = acc j + ∑ r : Fin 256, lane (j 1).val (fun k => x0 (ix2 r k)) (fun k => x1 (ix2 0 k)) (fun k => x2 (ix2 r k)) := by
  pointwise [k0_pay4, pay7]
  exact congrArg (acc j + ·) (lanes (j 1) (fun r k => x0 (ix2 r k)) (fun k => x1 (ix2 0 k)) (fun r k => x2 (ix2 r k)))

/-- The reference's loss as one sum over all rows. -/
theorem wholeL (X0 X1 X2 j) : val_main_v58 (F := Ideal) X0 X1 X2 j = ∑ l : Fin 2048, lane (j 1).val (fun k => X0 (ix2 l k)) (fun k => X1 (ix2 0 k)) (fun k => X2 (ix2 l k)) := by
  pointwise [val_main_v58, val_main_v57, val_main_v56, val_main_v55, val_main_v54, val_main_c, val_main_call0_v0, val_main_call0_v1, val_main_call0_v2, val_main_cst_16, val_main_v23, val_main_cst_7, val_main_v22, val_main_cst_6, val_main_v21, val_main_v20, val_main_cst_5, val_main_v19, val_main_cst_4, val_main_v16, ref15]
  have hz : id (constant (F := Ideal) Cert.Reference24Ideal.S_ FTy.f32 0#32) ix0 = (0 : EReal) := Ideal.ofBits_zero .f32
  refine (congrArg (Scalar.select _ _) hz).trans ?_
  exact lanes (j 1) (fun r k => X0 (ix2 r k)) (fun k => X1 (ix2 0 k)) (fun r k => X2 (ix2 r k))

/-- The loss after the run is the reference's. -/
theorem finalL (c : Dev nD) : (dats m 0 c).arrAt 7 (cfgs 0).N = goalL m c := by
  refine (dats m 0 c).arrAt_eq_of_covers 7 _ (by decide +kernel) fun t hf y => ?_
  blk_simp
  rw [after0_7, Pipeline.eq_sum_fin_of_reset_step_apply_of_flush (fun n h => (outsAt0 m c n h).2.2.2.2) 8 (fun _ => 0) _
    (fun t h j => by rw [outsAt0_A m c t h]; frame_out; rw [stepL, startL])
    (fun t h j => by rw [outsAt0_B m c t h]; frame_out; rw [stepL])
    t ((flush0_7 t).mp hf) _, zero_add]
  refine Eq.trans ?_ (wholeL _ _ _ _).symm
  refine Fin.sum_mul_add_congr fun s k hl => ?_
  refine congr (congr (congr (congrArg lane ?_) (funext fun k => ?_)) (funext fun k => ?_)) (funext fun k => ?_) <;> blk_point [iblk, V, idx t, idx ⟨_, Pipeline.run_point_lt_of_flush t ((flush0_7 t).mp hf) s⟩]

end Cert.Kernel24Ideal.Loss

end
-- ==== Proof.AdamSmall.lean ====
/- The optimiser's call for the small weights: the sum of the eight devices' gradients, the step, and the two moments are the reference's. -/
module

public import proofs.«01_k».proof.Proof.Gen.Kernel25Ideal.Value
public import proofs.«01_k».proof.Proof.Gen.Reference25Ideal.Read
public import Idealize.ShloMosaic.Lib.Pipeline.ValueKit

@[expose] public section

set_option maxRecDepth 16384

noncomputable section

namespace Cert.Kernel25Ideal.Adam

open Cert.Kernel25Ideal Cert.Kernel25Ideal.Gen Idealize.ShloMosaic Idealize.ShloMosaic.TcCoe Idealize.SL.Sem
open Idealize.ShloMosaic.Pipeline (Dat)
open Cert.Reference25Ideal.Read

variable (m : (ℓ : Loc nD τ sig) → Buf (Elt Ideal) ℓ)

/-- The reference's gradient on the kernel's arguments. -/
abbrev goal (c : Dev nD) := val_main_v0 (F := Ideal) (m ((c : Thread nD τ).loc main_arg3))

/-- The reference's change of the weights. -/
abbrev goalD (c : Dev nD) := val_main_v24 (F := Ideal) (m ((c : Thread nD τ).loc main_arg0)) (m ((c : Thread nD τ).loc main_arg1)) (m ((c : Thread nD τ).loc main_arg2)) (m ((c : Thread nD τ).loc main_arg3))

/-- The reference's first moment. -/
abbrev goalM (c : Dev nD) := val_main_v5 (F := Ideal) (m ((c : Thread nD τ).loc main_arg1)) (m ((c : Thread nD τ).loc main_arg3))

/-- The reference's second moment. -/
abbrev goalV (c : Dev nD) := val_main_v11 (F := Ideal) (m ((c : Thread nD τ).loc main_arg2)) (m ((c : Thread nD τ).loc main_arg3))

/-- Where each window's block lies: there is one grid point, and each block is the whole array. -/
theorem idx : ∀ t : Fin cfg0.N, win0_0.index t = ![0, 0] ∧ win0_1.index t = ![0, 0] ∧ win0_2.index t = ![0, 0] ∧ win0_3.index t = ![0, 0, 0] ∧ win0_4.index t = ![0, 0] ∧ win0_5.index t = ![0, 0] ∧ win0_6.index t = ![0, 0] ∧ win0_7.index t = ![0, 0] :=
  (by decide +kernel : ∀ t : Fin grid0.N, _)

/-- The first moment at an entry, from the old one and the gradient. -/
def mom (a g : EReal) : EReal := Ideal.ofBits .f32 0x3F666666#32 * a + Ideal.ofBits .f32 0x3DCCCCCD#32 * g

/-- The second moment at an entry. -/
def var (b g : EReal) : EReal := Ideal.ofBits .f32 0x3F7FBE77#32 * b + Ideal.ofBits .f32 0x3A83126F#32 * (g * g)

/-- The change of a weight. -/
def step (w a b g : EReal) : EReal :=
  Ideal.ofBits .f32 0xBA83126F#32 * (Ideal.div (Ideal.div (mom a g) (Ideal.ofBits .f32 0x3F26BD02#32)) (Ideal.sqrt (Ideal.div (var b g) (Ideal.ofBits .f32 0x3C231ACC#32)) + Ideal.ofBits .f32 0x322BCC77#32) + Ideal.ofBits .f32 0x3C23D70A#32 * w)

/-- The kernel's gradient at an entry: the sum over the eight devices. -/
theorem pay6 (x0 x1 x2 x3 y) : k0_pay6 (F := Ideal) x0 x1 x2 x3 y = ∑ k : Fin 8, x3 (ix3 k (y 0) (y 1)) := by
  rw [Fin.sum_univ_eight]
  pointwise [k0_pay6, k0_pay4]

/-- The kernel's first moment. -/
theorem pay1 (x0 x1 x2 x3 y) : k0_pay1 (F := Ideal) (k0_pay6 x0 x1 x2 x3) (k0_pay7 x0 x1 x2 x3) (Ideal.ofBits .f32 0x3DCCCCCD#32) y = mom (x1 y) (∑ k : Fin 8, x3 (ix3 k (y 0) (y 1))) := by
  pointwise [k0_pay1, k0_pay7, k0_pay5, pay6, mom]

/-- The kernel's second moment. -/
theorem pay2 (x0 x1 x2 x3 y) : k0_pay2 (F := Ideal) (k0_pay6 x0 x1 x2 x3) x2 y = var (x2 y) (∑ k : Fin 8, x3 (ix3 k (y 0) (y 1))) := by
  pointwise [k0_pay2, pay6, var]

/-- The kernel's change of the weights. -/
theorem pay3 (x0 x1 x2 x3 y) : k0_pay3 (F := Ideal) (k0_pay6 x0 x1 x2 x3) x0 x2 (k0_pay7 x0 x1 x2 x3) (Ideal.ofBits .f32 0x3DCCCCCD#32) y = step (x0 y) (x1 y) (x2 y) (∑ k : Fin 8, x3 (ix3 k (y 0) (y 1))) := by
  pointwise [k0_pay3, step]
  rw [pay1, pay2]

/-- The reference's gradient at an entry. -/
theorem ref0 (X3 j) : val_main_v0 (F := Ideal) X3 j = ∑ k : Fin 8, X3 (ix3 k (j 0) (j 1)) := by
  pointwise [val_main_v0, val_main_cst]

/-- The reference's first moment. -/
theorem ref5 (X1 X3 j) : val_main_v5 (F := Ideal) X1 X3 j = mom (X1 j) (∑ k : Fin 8, X3 (ix3 k (j 0) (j 1))) := by
  pointwise [val_main_v5, val_main_v4, val_main_v3, val_main_v2, val_main_v1, val_main_cst_0, val_main_cst_1, ref0, mom]

/-- The reference's second moment. -/
theorem ref11 (X2 X3 j) : val_main_v11 (F := Ideal) X2 X3 j = var (X2 j) (∑ k : Fin 8, X3 (ix3 k (j 0) (j 1))) := by
  pointwise [val_main_v11, val_main_v10, val_main_v9, val_main_v8, val_main_v7, val_main_v6, val_main_cst_2, val_main_cst_3, ref0, var]

/-- The reference's change of the weights. -/
theorem ref24 (X0 X1 X2 X3 j) : val_main_v24 (F := Ideal) X0 X1 X2 X3 j = step (X0 j) (X1 j) (X2 j) (∑ k : Fin 8, X3 (ix3 k (j 0) (j 1))) := by
  pointwise [val_main_v24, val_main_v23, val_main_v22, val_main_v21, val_main_v20, val_main_v19, val_main_v18, val_main_v17, val_main_v16, val_main_v15, val_main_v14, val_main_v13, val_main_v12, val_main_cst_4, val_main_cst_5, val_main_cst_6, val_main_cst_7, val_main_cst_8, ref5, ref11, step]

/-- The gradient after the run is the reference's. -/
theorem final (c : Dev nD) : (dats m 0 c).arrAt 4 (cfgs 0).N = goal m c := by
  refine (dats m 0 c).arrAt_eq_of_covers 4 _ (by decide +kernel) fun t _ y => ?_
  blk_simp
  rw [after0_4]; frame_out
  refine (pay6 _ _ _ _ y).trans (Eq.trans ?_ (ref0 _ _).symm)
  refine Finset.sum_congr rfl fun k _ => ?_
  blk_point [iblk, V, idx t]

/-- The change of the weights after the run is the reference's. -/
theorem finalD (c : Dev nD) : (dats m 0 c).arrAt 5 (cfgs 0).N = goalD m c := by
  refine (dats m 0 c).arrAt_eq_of_covers 5 _ (by decide +kernel) fun t _ y => ?_
  blk_simp
  rw [after0_5]; frame_out
  refine (pay3 _ _ _ _ y).trans (Eq.trans ?_ (ref24 _ _ _ _ _).symm)
  refine congr (congr (congr (congrArg step ?_) ?_) ?_) (Finset.sum_congr rfl fun k _ => ?_) <;> blk_point [iblk, V, idx t]

/-- The first moment after the run is the reference's. -/
theorem finalM (c : Dev nD) : (dats m 0 c).arrAt 6 (cfgs 0).N = goalM m c := by
  refine (dats m 0 c).arrAt_eq_of_covers 6 _ (by decide +kernel) fun t _ y => ?_
  blk_simp
  rw [after0_6]; frame_out
  refine (pay1 _ _ _ _ y).trans (Eq.trans ?_ (ref5 _ _ _).symm)
  refine congr (congrArg mom ?_) (Finset.sum_congr rfl fun k _ => ?_) <;> blk_point [iblk, V, idx t]

/-- The second moment after the run is the reference's. -/
theorem finalV (c : Dev nD) : (dats m 0 c).arrAt 7 (cfgs 0).N = goalV m c := by
  refine (dats m 0 c).arrAt_eq_of_covers 7 _ (by decide +kernel) fun t _ y => ?_
  blk_simp
  rw [after0_7]; frame_out
  refine (pay2 _ _ _ _ y).trans (Eq.trans ?_ (ref11 _ _ _).symm)
  refine congr (congrArg var ?_) (Finset.sum_congr rfl fun k _ => ?_) <;> blk_point [iblk, V, idx t]

end Cert.Kernel25Ideal.Adam

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Read
public import proofs.«01_k».proof.Proof.SbArrays
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel7Ideal.Frame
public import proofs.«01_k».proof.Proof.Gen.Reference2Ideal.Read
public import proofs.«01_k».proof.Proof.Gen.Reference3Ideal.Read
public import proofs.«01_k».proof.Proof.Gen.Reference4Ideal.Read
public import proofs.«01_k».proof.Proof.Gen.Reference5Ideal.Read
public import proofs.«01_k».proof.Proof.Gen.Reference6Ideal.Read
public import proofs.«01_k».proof.Proof.Gen.Reference7Ideal.Read
public import proofs.«01_k».proof.Proof.FfInput
public import proofs.«01_k».proof.Proof.FfCols
public import proofs.«01_k».proof.Proof.FfRows
public import proofs.«01_k».proof.Proof.FfDown
public import proofs.«01_k».proof.Proof.FfUp
public import proofs.«01_k».proof.Proof.FfBack
public import proofs.«01_k».proof.Proof.Gen.Kernel8Ideal.Value
public import proofs.«01_k».proof.Proof.Gen.Kernel8.Frame
public import proofs.«01_k».proof.Proof.Gen.Reference8Ideal.Read
public import proofs.«01_k».proof.Proof.MixQkv
public import proofs.«01_k».proof.Proof.Gen.Kernel9Ideal.Value
public import proofs.«01_k».proof.Proof.Gen.Kernel9.Frame
public import proofs.«01_k».proof.Proof.Gen.Reference9Ideal.Read
public import proofs.«01_k».proof.Proof.MixOut
public import proofs.«01_k».proof.Proof.Gen.Kernel10Ideal.Value
public import proofs.«01_k».proof.Proof.Gen.Kernel10.Frame
public import proofs.«01_k».proof.Proof.Gen.Reference10Ideal.Read
public import proofs.«01_k».proof.Proof.MixOutW
public import proofs.«01_k».proof.Proof.Gen.Kernel11Ideal.Value
public import proofs.«01_k».proof.Proof.Gen.Kernel11.Frame
public import proofs.«01_k».proof.Proof.Gen.Reference11Ideal.Read
public import proofs.«01_k».proof.Proof.MixOutIn
public import proofs.«01_k».proof.Proof.Gen.Kernel12Ideal.Value
public import proofs.«01_k».proof.Proof.Gen.Kernel12.Frame
public import proofs.«01_k».proof.Proof.Gen.Reference12Ideal.Read
public import proofs.«01_k».proof.Proof.MixQkvW
public import proofs.«01_k».proof.Proof.Gen.Kernel13Ideal.Value
public import proofs.«01_k».proof.Proof.Gen.Kernel13.Frame
public import proofs.«01_k».proof.Proof.Gen.Reference13Ideal.Read
public import proofs.«01_k».proof.Proof.MixIn
public import proofs.«01_k».proof.Proof.Gen.Kernel14Ideal.Value
public import proofs.«01_k».proof.Proof.Gen.Kernel14.Frame
public import proofs.«01_k».proof.Proof.Gen.Reference14Ideal.Read
public import proofs.«01_k».proof.Proof.MixColsW
public import proofs.«01_k».proof.Proof.Gen.Kernel15Ideal.Value
public import proofs.«01_k».proof.Proof.Gen.Kernel15.Frame
public import proofs.«01_k».proof.Proof.Gen.Reference15Ideal.Read
public import proofs.«01_k».proof.Proof.MixColsIn
public import proofs.«01_k».proof.Proof.Gen.Kernel16Ideal.Value
public import proofs.«01_k».proof.Proof.Gen.Kernel16.Frame
public import proofs.«01_k».proof.Proof.Gen.Reference16Ideal.Read
public import proofs.«01_k».proof.Proof.Gen.Kernel17Ideal.Value
public import proofs.«01_k».proof.Proof.Gen.Kernel17.Frame
public import proofs.«01_k».proof.Proof.Gen.Reference17Ideal.Read
public import proofs.«01_k».proof.Proof.Gen.Kernel18Ideal.Value
public import proofs.«01_k».proof.Proof.Gen.Kernel18.Frame
public import proofs.«01_k».proof.Proof.Gen.Reference18Ideal.Read
public import proofs.«01_k».proof.Proof.Rope
public import proofs.«01_k».proof.Proof.NormBack
public import proofs.«01_k».proof.Proof.Norm
public import proofs.«01_k».proof.Proof.Gen.Kernel19Ideal.Value
public import proofs.«01_k».proof.Proof.Gen.Kernel19.Frame
public import proofs.«01_k».proof.Proof.Gen.Reference19Ideal.Read
public import proofs.«01_k».proof.Proof.SbFwdArrays
public import proofs.«01_k».proof.Proof.Gen.Kernel20Ideal.Value
public import proofs.«01_k».proof.Proof.Gen.Kernel20.Frame
public import proofs.«01_k».proof.Proof.Gen.Reference20Ideal.Read
public import proofs.«01_k».proof.Proof.FoxArrays
public import proofs.«01_k».proof.Proof.Gen.Kernel21Ideal.Value
public import proofs.«01_k».proof.Proof.Gen.Kernel21.Frame
public import proofs.«01_k».proof.Proof.Gen.Reference21Ideal.Read
public import proofs.«01_k».proof.Proof.MixGate
public import proofs.«01_k».proof.Proof.Gen.Kernel22Ideal.Value
public import proofs.«01_k».proof.Proof.Gen.Kernel22.Frame
public import proofs.«01_k».proof.Proof.Gen.Reference22Ideal.Read
public import proofs.«01_k».proof.Proof.MixGateW
public import proofs.«01_k».proof.Proof.Gen.Kernel23Ideal.Value
public import proofs.«01_k».proof.Proof.Gen.Kernel23.Frame
public import proofs.«01_k».proof.Proof.Gen.Reference23Ideal.Read
public import proofs.«01_k».proof.Proof.NormBackOne
public import proofs.«01_k».proof.Proof.Gen.Kernel24Ideal.Value
public import proofs.«01_k».proof.Proof.Gen.Kernel24.Frame
public import proofs.«01_k».proof.Proof.Gen.Reference24Ideal.Read
public import proofs.«01_k».proof.Proof.LossHead
public import proofs.«01_k».proof.Proof.Gen.Kernel25Ideal.Value
public import proofs.«01_k».proof.Proof.Gen.Kernel25.Frame
public import proofs.«01_k».proof.Proof.Gen.Reference25Ideal.Read
public import proofs.«01_k».proof.Proof.AdamSmall
public import Idealize.ShloMosaic.Lib.Claim

@[expose] public section

noncomputable section

namespace Cert.Proof

open Idealize.ShloMosaic Idealize.SL.Sem

/-- The shape facts of the precondition. -/
theorem facts_finite : Cert.Pre_finite.Facts := ⟨by decide, by decide, by decide⟩

/-- The shape facts of the precondition of the gate and the up projection. -/
theorem facts_finite6 : Cert.Pre_finite6.Facts := ⟨by decide, by decide, by decide⟩

/-- The shape facts of the precondition of the gradient of the activation. -/
theorem facts_finite7 : Cert.Pre_finite7.Facts := ⟨by decide, by decide, by decide, by decide⟩

/-- The shape facts of the precondition of the attention's forward pass. -/
theorem facts_finite19 : Cert.Pre_finite19.Facts := ⟨by decide, by decide⟩

/-- The shape facts of the precondition of forgetting attention. -/
theorem facts_finite20 : Cert.Pre_finite20.Facts := ⟨by decide, by decide, by decide⟩

attribute [local instance] Cert.Kernel.Gen.facts Cert.KernelIdeal.Gen.facts Cert.ReferenceIdeal.Gen.facts facts_finite facts_finite6 facts_finite7 facts_finite19 facts_finite20
attribute [local instance] Cert.Kernel2.Gen.facts Cert.Kernel2Ideal.Gen.facts Cert.Reference2Ideal.Gen.facts
attribute [local instance] Cert.Kernel3.Gen.facts Cert.Kernel3Ideal.Gen.facts Cert.Reference3Ideal.Gen.facts
attribute [local instance] Cert.Kernel4.Gen.facts Cert.Kernel4Ideal.Gen.facts Cert.Reference4Ideal.Gen.facts
attribute [local instance] Cert.Kernel5.Gen.facts Cert.Kernel5Ideal.Gen.facts Cert.Reference5Ideal.Gen.facts
attribute [local instance] Cert.Kernel6.Gen.facts Cert.Kernel6Ideal.Gen.facts Cert.Reference6Ideal.Gen.facts
attribute [local instance] Cert.Kernel7.Gen.facts Cert.Kernel7Ideal.Gen.facts Cert.Reference7Ideal.Gen.facts
attribute [local instance] Cert.Kernel8.Gen.facts Cert.Kernel8Ideal.Gen.facts Cert.Reference8Ideal.Gen.facts
attribute [local instance] Cert.Kernel9.Gen.facts Cert.Kernel9Ideal.Gen.facts Cert.Reference9Ideal.Gen.facts
attribute [local instance] Cert.Kernel10.Gen.facts Cert.Kernel10Ideal.Gen.facts Cert.Reference10Ideal.Gen.facts
attribute [local instance] Cert.Kernel11.Gen.facts Cert.Kernel11Ideal.Gen.facts Cert.Reference11Ideal.Gen.facts
attribute [local instance] Cert.Kernel12.Gen.facts Cert.Kernel12Ideal.Gen.facts Cert.Reference12Ideal.Gen.facts
attribute [local instance] Cert.Kernel13.Gen.facts Cert.Kernel13Ideal.Gen.facts Cert.Reference13Ideal.Gen.facts
attribute [local instance] Cert.Kernel14.Gen.facts Cert.Kernel14Ideal.Gen.facts Cert.Reference14Ideal.Gen.facts
attribute [local instance] Cert.Kernel15.Gen.facts Cert.Kernel15Ideal.Gen.facts Cert.Reference15Ideal.Gen.facts
attribute [local instance] Cert.Kernel16.Gen.facts Cert.Kernel16Ideal.Gen.facts Cert.Reference16Ideal.Gen.facts
attribute [local instance] Cert.Kernel17.Gen.facts Cert.Kernel17Ideal.Gen.facts Cert.Reference17Ideal.Gen.facts
attribute [local instance] Cert.Kernel18.Gen.facts Cert.Kernel18Ideal.Gen.facts Cert.Reference18Ideal.Gen.facts
attribute [local instance] Cert.Kernel19.Gen.facts Cert.Kernel19Ideal.Gen.facts Cert.Reference19Ideal.Gen.facts
attribute [local instance] Cert.Kernel20.Gen.facts Cert.Kernel20Ideal.Gen.facts Cert.Reference20Ideal.Gen.facts
attribute [local instance] Cert.Kernel21.Gen.facts Cert.Kernel21Ideal.Gen.facts Cert.Reference21Ideal.Gen.facts
attribute [local instance] Cert.Kernel22.Gen.facts Cert.Kernel22Ideal.Gen.facts Cert.Reference22Ideal.Gen.facts
attribute [local instance] Cert.Kernel23.Gen.facts Cert.Kernel23Ideal.Gen.facts Cert.Reference23Ideal.Gen.facts
attribute [local instance] Cert.Kernel24.Gen.facts Cert.Kernel24Ideal.Gen.facts Cert.Reference24Ideal.Gen.facts
attribute [local instance] Cert.Kernel25.Gen.facts Cert.Kernel25Ideal.Gen.facts Cert.Reference25Ideal.Gen.facts

theorem frame_kernel : Cert.quiescent_Kernel := fun m g _ => Cert.Kernel.Gen.frame m g

theorem frame_ideal : Cert.quiescent_KernelIdeal := fun m g _ => Cert.KernelIdeal.Gen.frame m g

theorem frame_ideal_finite : Cert.quiescent_KernelIdeal_pre_finite := fun m g _ => Cert.KernelIdeal.Gen.frame m g

theorem frame_reference : Cert.quiescent_ReferenceIdeal := by
  intro m g _
  hlo_run
  · exact fun _ => ⟨trivial, trivial⟩
  · exact sem_eq_zero_of_no_sems (sig := Cert.ReferenceIdeal.sig) (by decide) _

theorem frame_reference_finite : Cert.quiescent_ReferenceIdeal_pre_finite := fun m g _ => frame_reference m g trivial

/-- A number below the printed infinity in absolute value is a real number. -/
theorem real_of_finite (x : EReal) (h : FloatOps.cmpf (F := Ideal) (φ := .f32) .olt (FloatOps.hostAbsf (F := Ideal) (φ := .f32) x) (FloatOps.ofBits (F := Ideal) .f32 0x7F800000#32) = 1#1) :
    ((x.toReal : ℝ) : EReal) = x := by
  rw [Cert.ReferenceIdeal.Sbr.inf_word] at h
  refine EReal.coe_toReal (fun e => ?_) fun e => ?_
  · subst e
    exact absurd h (by simp [Ideal.cmpf_def, Ideal.cmp, Ideal.absf_def])
  · subst e
    exact absurd h (by simp [Ideal.cmpf_def, Ideal.cmp, Ideal.absf_def])

theorem real_first (m : (ℓ : Loc Cert.KernelIdeal.nD Cert.KernelIdeal.τ Cert.KernelIdeal.sig) → Buf (Elt Ideal) ℓ) (h : Cert.Pre_KernelIdeal_finite m) (c : Dev Cert.KernelIdeal.nD) :
    Sb.AllReal (S := Sb.ShQ) (Cert.KernelIdeal.Sbk.argQ m c) :=
  fun y => real_of_finite _ (congrFun (h c).1 y)

theorem real_second (m : (ℓ : Loc Cert.KernelIdeal.nD Cert.KernelIdeal.τ Cert.KernelIdeal.sig) → Buf (Elt Ideal) ℓ) (h : Cert.Pre_KernelIdeal_finite m) (c : Dev Cert.KernelIdeal.nD) :
    Sb.AllReal (S := Sb.ShD) (Cert.KernelIdeal.Sbk.argD m c) :=
  fun y => real_of_finite _ (congrFun (h c).2 y)

theorem value : Cert.algebraic_KernelIdeal_ReferenceIdeal_pre_finite := by
  intro m g m' g' hpre hagree
  refine ⟨fun c => Cert.KernelIdeal.Value.G5 m c, fun c => Cert.KernelIdeal.Value.G6 m c, fun c => Cert.KernelIdeal.Value.G7 m c, ?_, ?_⟩
  · exact (θ_run _ _ _).mono (fun r h c => h c) (Cert.KernelIdeal.Value.run m g)
  · refine (θ_run _ _ _).mono (fun r h c => ?_) (Cert.ReferenceIdeal.Value.run m' g')
    obtain ⟨h1, h2, h3, h4, h5⟩ := h c
    obtain ⟨a1, a2⟩ := hagree c
    have hQ := real_first m hpre c
    have hD := real_second m hpre c
    refine ⟨h1.trans ?_, h2.trans ?_, h3.trans ?_, h4, h5⟩
    · rw [Cert.ReferenceIdeal.Read.val_main_v52_eq, a1, a2]
      exact Cert.KernelIdeal.Sbk.dq_eq hQ hD
    · rw [Cert.ReferenceIdeal.Read.val_main_v55_eq, a1, a2]
      exact Cert.KernelIdeal.Sbk.dk_eq hQ hD
    · rw [Cert.ReferenceIdeal.Read.val_main_v58_eq, a1, a2]
      exact Cert.KernelIdeal.Sbk.dv_eq hQ hD

/-! ## Program 2: the gradient of the gate's and the up projection's input -/

theorem frame_kernel2 : Cert.quiescent_Kernel2 := fun m g _ => Cert.Kernel2.Gen.frame m g

theorem frame_ideal2 : Cert.quiescent_Kernel2Ideal := fun m g _ => Cert.Kernel2Ideal.Gen.frame m g

theorem frame_reference2 : Cert.quiescent_Reference2Ideal := by
  intro m g _
  hlo_run
  · exact fun _ => ⟨trivial, trivial, trivial, trivial⟩
  · exact sem_eq_zero_of_no_sems (sig := Cert.Reference2Ideal.sig) (by decide) _

theorem value2 : Cert.algebraic_Kernel2Ideal_Reference2Ideal := by
  intro m g m' g' _ hagree
  refine ⟨fun c => Cert.Kernel2Ideal.Ff.goal m c, ?_, ?_⟩
  · refine (θ_run _ _ _).mono (fun r h c => ?_) (Cert.Kernel2Ideal.Value.run_blocks m g)
    obtain ⟨h1, hargs⟩ := h c
    exact ⟨h1.trans (Cert.Kernel2Ideal.Ff.final m c), hargs⟩
  · refine (θ_run _ _ _).mono (fun r h c => ?_) (Cert.Reference2Ideal.Value.run m' g')
    obtain ⟨h1, hargs⟩ := h c
    obtain ⟨a1, a2, a3, a4⟩ := hagree c
    refine ⟨h1.trans ?_, hargs⟩
    · rw [Cert.Reference2Ideal.Read.val_main_v9_eq]
      simp only [a1, a2, a3, a4]

/-! ## Program 3: the gradients of the gate's and the up projection's weights -/

theorem frame_kernel3 : Cert.quiescent_Kernel3 := fun m g _ => Cert.Kernel3.Gen.frame m g

theorem frame_ideal3 : Cert.quiescent_Kernel3Ideal := fun m g _ => Cert.Kernel3Ideal.Gen.frame m g

theorem frame_reference3 : Cert.quiescent_Reference3Ideal := by
  intro m g _
  hlo_run
  · exact fun _ => ⟨trivial, trivial, trivial⟩
  · exact sem_eq_zero_of_no_sems (sig := Cert.Reference3Ideal.sig) (by decide) _

theorem value3 : Cert.algebraic_Kernel3Ideal_Reference3Ideal := by
  intro m g m' g' _ hagree
  refine ⟨fun c => Cert.Kernel3Ideal.Ff.gate m c, fun c => Cert.Kernel3Ideal.Ff.up m c, ?_, ?_⟩
  · refine (θ_run _ _ _).mono (fun r h c => ?_) (Cert.Kernel3Ideal.Value.run_blocks m g)
    obtain ⟨h1, h2, hargs⟩ := h c
    exact ⟨h1.trans (Cert.Kernel3Ideal.Ff.gate_final m c), h2.trans (Cert.Kernel3Ideal.Ff.up_final m c), hargs⟩
  · refine (θ_run _ _ _).mono (fun r h c => ?_) (Cert.Reference3Ideal.Value.run m' g')
    obtain ⟨h1, h2, hargs⟩ := h c
    obtain ⟨a1, a2, a3⟩ := hagree c
    refine ⟨h1.trans ?_, h2.trans ?_, hargs⟩
    · rw [Cert.Reference3Ideal.Read.val_main_v13_eq]
      simp only [a1, a2, a3]
    · rw [Cert.Reference3Ideal.Read.val_main_v16_eq]
      simp only [a1, a2, a3]

/-! ## Program 4: the gradient of the down projection's weights -/

theorem frame_kernel4 : Cert.quiescent_Kernel4 := fun m g _ => Cert.Kernel4.Gen.frame m g

theorem frame_ideal4 : Cert.quiescent_Kernel4Ideal := fun m g _ => Cert.Kernel4Ideal.Gen.frame m g

theorem frame_reference4 : Cert.quiescent_Reference4Ideal := by
  intro m g _
  hlo_run
  · exact fun _ => ⟨trivial, trivial⟩
  · exact sem_eq_zero_of_no_sems (sig := Cert.Reference4Ideal.sig) (by decide) _

theorem value4 : Cert.algebraic_Kernel4Ideal_Reference4Ideal := by
  intro m g m' g' _ hagree
  refine ⟨fun c => Cert.Kernel4Ideal.Ff.goal m c, ?_, ?_⟩
  · refine (θ_run _ _ _).mono (fun r h c => ?_) (Cert.Kernel4Ideal.Value.run_blocks m g)
    obtain ⟨h1, hargs⟩ := h c
    exact ⟨h1.trans (Cert.Kernel4Ideal.Ff.final m c), hargs⟩
  · refine (θ_run _ _ _).mono (fun r h c => ?_) (Cert.Reference4Ideal.Value.run m' g')
    obtain ⟨h1, hargs⟩ := h c
    obtain ⟨a1, a2⟩ := hagree c
    refine ⟨h1.trans ?_, hargs⟩
    · rw [Cert.Reference4Ideal.Read.val_main_v7_eq]
      simp only [a1, a2]

/-! ## Program 5: the down projection -/

theorem frame_kernel5 : Cert.quiescent_Kernel5 := fun m g _ => Cert.Kernel5.Gen.frame m g

theorem frame_ideal5 : Cert.quiescent_Kernel5Ideal := fun m g _ => Cert.Kernel5Ideal.Gen.frame m g

theorem frame_reference5 : Cert.quiescent_Reference5Ideal := by
  intro m g _
  hlo_run
  · exact fun _ => ⟨trivial, trivial, trivial⟩
  · exact sem_eq_zero_of_no_sems (sig := Cert.Reference5Ideal.sig) (by decide) _

theorem value5 : Cert.algebraic_Kernel5Ideal_Reference5Ideal := by
  intro m g m' g' _ hagree
  refine ⟨fun c => Cert.Kernel5Ideal.Ff.goal m c, ?_, ?_⟩
  · refine (θ_run _ _ _).mono (fun r h c => ?_) (Cert.Kernel5Ideal.Value.run_blocks m g)
    obtain ⟨h1, hargs⟩ := h c
    exact ⟨h1.trans (Cert.Kernel5Ideal.Ff.final m c), hargs⟩
  · refine (θ_run _ _ _).mono (fun r h c => ?_) (Cert.Reference5Ideal.Value.run m' g')
    obtain ⟨h1, hargs⟩ := h c
    obtain ⟨a1, a2, a3⟩ := hagree c
    refine ⟨h1.trans ?_, hargs⟩
    · rw [Cert.Reference5Ideal.Read.val_main_v5_eq]
      simp only [a1, a2, a3]

/-! ## Program 6: the gate and the up projection -/

theorem frame_kernel6 : Cert.quiescent_Kernel6 := fun m g _ => Cert.Kernel6.Gen.frame m g

theorem frame_ideal6 : Cert.quiescent_Kernel6Ideal := fun m g _ => Cert.Kernel6Ideal.Gen.frame m g

theorem frame_reference6 : Cert.quiescent_Reference6Ideal := by
  intro m g _
  hlo_run
  · exact fun _ => ⟨trivial, trivial, trivial⟩
  · exact sem_eq_zero_of_no_sems (sig := Cert.Reference6Ideal.sig) (by decide) _

theorem frame_ideal6_finite6 : Cert.quiescent_Kernel6Ideal_pre_finite6 := fun m g _ => Cert.Kernel6Ideal.Gen.frame m g

theorem frame_reference6_finite6 : Cert.quiescent_Reference6Ideal_pre_finite6 := fun m g _ => frame_reference6 m g trivial

theorem value6 : Cert.algebraic_Kernel6Ideal_Reference6Ideal_pre_finite6 := by
  intro m g m' g' hpre hagree
  refine ⟨fun c => Cert.Reference6Ideal.Read.val_main_v11 (F := Ideal) (Cert.Kernel6Ideal.Ff.argH m c) (Cert.Kernel6Ideal.Ff.argG m c) (Cert.Kernel6Ideal.Ff.argU m c), fun c => Cert.Reference6Ideal.Read.val_main_v14 (F := Ideal) (Cert.Kernel6Ideal.Ff.argH m c) (Cert.Kernel6Ideal.Ff.argG m c), fun c => Cert.Reference6Ideal.Read.val_main_v17 (F := Ideal) (Cert.Kernel6Ideal.Ff.argH m c) (Cert.Kernel6Ideal.Ff.argG m c) (Cert.Kernel6Ideal.Ff.argU m c), fun c => Cert.Reference6Ideal.Read.val_main_v20 (F := Ideal) (Cert.Kernel6Ideal.Ff.argH m c) (Cert.Kernel6Ideal.Ff.argG m c) (Cert.Kernel6Ideal.Ff.argU m c), ?_, ?_⟩
  · refine (θ_run _ _ _).mono (fun r h c => ?_) (Cert.Kernel6Ideal.Value.run_blocks m g)
    obtain ⟨h1, h2, h3, h4, hargs⟩ := h c
    have hH : ∀ i, Cert.Ff.IsReal (Cert.Kernel6Ideal.Ff.argH m c i) := fun i => real_of_finite _ (congrFun (hpre c).1 i)
    have hG : ∀ i, Cert.Ff.IsReal (Cert.Kernel6Ideal.Ff.argG m c i) := fun i => real_of_finite _ (congrFun (hpre c).2.1 i)
    have hU : ∀ i, Cert.Ff.IsReal (Cert.Kernel6Ideal.Ff.argU m c i) := fun i => real_of_finite _ (congrFun (hpre c).2.2 i)
    exact ⟨h1.trans (Cert.Kernel6Ideal.Ff.back_final m c hH hG hU), h2.trans (Cert.Kernel6Ideal.Ff.silu_final m c), h3.trans (Cert.Kernel6Ideal.Ff.act_final m c), h4.trans (Cert.Kernel6Ideal.Ff.turned_final m c), hargs⟩
  · refine (θ_run _ _ _).mono (fun r h c => ?_) (Cert.Reference6Ideal.Value.run m' g')
    obtain ⟨h1, h2, h3, h4, hargs⟩ := h c
    obtain ⟨a1, a2, a3⟩ := hagree c
    refine ⟨h1.trans ?_, h2.trans ?_, h3.trans ?_, h4.trans ?_, hargs⟩
    · rw [Cert.Reference6Ideal.Read.val_main_v11_eq]
      simp only [a1, a2, a3]
    · rw [Cert.Reference6Ideal.Read.val_main_v14_eq]
      simp only [a1, a2, a3]
    · rw [Cert.Reference6Ideal.Read.val_main_v17_eq]
      simp only [a1, a2, a3]
    · rw [Cert.Reference6Ideal.Read.val_main_v20_eq]
      simp only [a1, a2, a3]

/-! ## Program 7: the gradient of the activation -/

theorem frame_kernel7 : Cert.quiescent_Kernel7 := fun m g _ => Cert.Kernel7.Gen.frame m g

theorem frame_ideal7 : Cert.quiescent_Kernel7Ideal := fun m g _ => Cert.Kernel7Ideal.Gen.frame m g

theorem frame_reference7 : Cert.quiescent_Reference7Ideal := by
  intro m g _
  hlo_run
  · exact fun _ => ⟨trivial, trivial, trivial, trivial, trivial⟩
  · exact sem_eq_zero_of_no_sems (sig := Cert.Reference7Ideal.sig) (by decide) _

theorem frame_ideal7_finite7 : Cert.quiescent_Kernel7Ideal_pre_finite7 := fun m g _ => Cert.Kernel7Ideal.Gen.frame m g

theorem frame_reference7_finite7 : Cert.quiescent_Reference7Ideal_pre_finite7 := fun m g _ => frame_reference7 m g trivial

theorem value7 : Cert.algebraic_Kernel7Ideal_Reference7Ideal_pre_finite7 := by
  intro m g m' g' hpre hagree
  refine ⟨fun c => Cert.Reference7Ideal.Read.val_main_v17 (F := Ideal) (Cert.Kernel7Ideal.Ff.argH m c) (Cert.Kernel7Ideal.Ff.argG m c) (Cert.Kernel7Ideal.Ff.argU m c) (Cert.Kernel7Ideal.Ff.argD m c) (Cert.Kernel7Ideal.Ff.argY m c), fun c => Cert.Reference7Ideal.Read.val_main_v20 (F := Ideal) (Cert.Kernel7Ideal.Ff.argH m c) (Cert.Kernel7Ideal.Ff.argG m c) (Cert.Kernel7Ideal.Ff.argD m c) (Cert.Kernel7Ideal.Ff.argY m c), ?_, ?_⟩
  · refine (θ_run _ _ _).mono (fun r h c => ?_) (Cert.Kernel7Ideal.Ff.run m g)
    obtain ⟨h1, h2, hargs⟩ := h c
    have hH : ∀ i, Cert.Ff.IsReal (Cert.Kernel7Ideal.Ff.argH m c i) := fun i => real_of_finite _ (congrFun (hpre c).1 i)
    have hG : ∀ i, Cert.Ff.IsReal (Cert.Kernel7Ideal.Ff.argG m c i) := fun i => real_of_finite _ (congrFun (hpre c).2.1 i)
    have hU : ∀ i, Cert.Ff.IsReal (Cert.Kernel7Ideal.Ff.argU m c i) := fun i => real_of_finite _ (congrFun (hpre c).2.2.1 i)
    have hD : ∀ i, Cert.Ff.IsReal (Cert.Kernel7Ideal.Ff.argD m c i) := fun i => real_of_finite _ (congrFun (hpre c).2.2.2.1 i)
    have hY : ∀ i, Cert.Ff.IsReal (Cert.Kernel7Ideal.Ff.argY m c i) := fun i => real_of_finite _ (congrFun (hpre c).2.2.2.2 i)
    exact ⟨h1.trans (Cert.Kernel7Ideal.Ff.gate_final m g c hH hG hU hD hY), h2.trans (Cert.Kernel7Ideal.Ff.up_final m g c), hargs⟩
  · refine (θ_run _ _ _).mono (fun r h c => ?_) (Cert.Reference7Ideal.Value.run m' g')
    obtain ⟨h1, h2, hargs⟩ := h c
    obtain ⟨a1, a2, a3, a4, a5⟩ := hagree c
    refine ⟨h1.trans ?_, h2.trans ?_, hargs⟩
    · rw [Cert.Reference7Ideal.Read.val_main_v17_eq]
      simp only [a1, a2, a3, a4, a5]
    · rw [Cert.Reference7Ideal.Read.val_main_v20_eq]
      simp only [a1, a2, a3, a4, a5]

/-! ## Program 8: the projection to queries, keys and values -/

theorem frame_kernel8 : Cert.quiescent_Kernel8 := fun m g _ => Cert.Kernel8.Gen.frame m g

theorem frame_ideal8 : Cert.quiescent_Kernel8Ideal := fun m g _ => Cert.Kernel8Ideal.Gen.frame m g

theorem frame_reference8 : Cert.quiescent_Reference8Ideal := by
  intro m g _
  hlo_run
  · exact fun _ => ⟨trivial, trivial⟩
  · exact sem_eq_zero_of_no_sems (sig := Cert.Reference8Ideal.sig) (by decide) _

theorem value8 : Cert.algebraic_Kernel8Ideal_Reference8Ideal := by
  intro m g m' g' _ hagree
  refine ⟨fun c => Cert.Kernel8Ideal.Mix.goal m c, ?_, ?_⟩
  · refine (θ_run _ _ _).mono (fun r h c => ?_) (Cert.Kernel8Ideal.Value.run_blocks m g)
    obtain ⟨h1, hargs⟩ := h c
    exact ⟨h1.trans (Cert.Kernel8Ideal.Mix.final m c), hargs⟩
  · refine (θ_run _ _ _).mono (fun r h c => ?_) (Cert.Reference8Ideal.Value.run m' g')
    obtain ⟨h1, hargs⟩ := h c
    obtain ⟨a1, a2⟩ := hagree c
    refine ⟨h1.trans ?_, hargs⟩
    · rw [Cert.Reference8Ideal.Read.val_main_v3_eq]
      simp only [a1, a2]

/-! ## Program 9: the projection of the mixer's output -/

theorem frame_kernel9 : Cert.quiescent_Kernel9 := fun m g _ => Cert.Kernel9.Gen.frame m g

theorem frame_ideal9 : Cert.quiescent_Kernel9Ideal := fun m g _ => Cert.Kernel9Ideal.Gen.frame m g

theorem frame_reference9 : Cert.quiescent_Reference9Ideal := by
  intro m g _
  hlo_run
  · exact fun _ => ⟨trivial, trivial, trivial⟩
  · exact sem_eq_zero_of_no_sems (sig := Cert.Reference9Ideal.sig) (by decide) _

theorem value9 : Cert.algebraic_Kernel9Ideal_Reference9Ideal := by
  intro m g m' g' _ hagree
  refine ⟨fun c => Cert.Kernel9Ideal.Mix.goal m c, ?_, ?_⟩
  · refine (θ_run _ _ _).mono (fun r h c => ?_) (Cert.Kernel9Ideal.Value.run_blocks m g)
    obtain ⟨h1, hargs⟩ := h c
    exact ⟨h1.trans (Cert.Kernel9Ideal.Mix.final m c), hargs⟩
  · refine (θ_run _ _ _).mono (fun r h c => ?_) (Cert.Reference9Ideal.Value.run m' g')
    obtain ⟨h1, hargs⟩ := h c
    obtain ⟨a1, a2, a3⟩ := hagree c
    refine ⟨h1.trans ?_, hargs⟩
    · rw [Cert.Reference9Ideal.Read.val_main_v3_eq]
      simp only [a1, a2, a3]

/-! ## Program 10: the gradient of the output projection's weights -/

theorem frame_kernel10 : Cert.quiescent_Kernel10 := fun m g _ => Cert.Kernel10.Gen.frame m g

theorem frame_ideal10 : Cert.quiescent_Kernel10Ideal := fun m g _ => Cert.Kernel10Ideal.Gen.frame m g

theorem frame_reference10 : Cert.quiescent_Reference10Ideal := by
  intro m g _
  hlo_run
  · exact fun _ => ⟨trivial, trivial⟩
  · exact sem_eq_zero_of_no_sems (sig := Cert.Reference10Ideal.sig) (by decide) _

theorem value10 : Cert.algebraic_Kernel10Ideal_Reference10Ideal := by
  intro m g m' g' _ hagree
  refine ⟨fun c => Cert.Kernel10Ideal.Mix.goal m c, ?_, ?_⟩
  · refine (θ_run _ _ _).mono (fun r h c => ?_) (Cert.Kernel10Ideal.Value.run_blocks m g)
    obtain ⟨h1, hargs⟩ := h c
    exact ⟨h1.trans (Cert.Kernel10Ideal.Mix.final m c), hargs⟩
  · refine (θ_run _ _ _).mono (fun r h c => ?_) (Cert.Reference10Ideal.Value.run m' g')
    obtain ⟨h1, hargs⟩ := h c
    obtain ⟨a1, a2⟩ := hagree c
    refine ⟨h1.trans ?_, hargs⟩
    · rw [Cert.Reference10Ideal.Read.val_main_v6_eq]
      simp only [a1, a2]

/-! ## Program 11: the gradient of the mixer's output -/

theorem frame_kernel11 : Cert.quiescent_Kernel11 := fun m g _ => Cert.Kernel11.Gen.frame m g

theorem frame_ideal11 : Cert.quiescent_Kernel11Ideal := fun m g _ => Cert.Kernel11Ideal.Gen.frame m g

theorem frame_reference11 : Cert.quiescent_Reference11Ideal := by
  intro m g _
  hlo_run
  · exact fun _ => ⟨trivial, trivial⟩
  · exact sem_eq_zero_of_no_sems (sig := Cert.Reference11Ideal.sig) (by decide) _

theorem value11 : Cert.algebraic_Kernel11Ideal_Reference11Ideal := by
  intro m g m' g' _ hagree
  refine ⟨fun c => Cert.Kernel11Ideal.Mix.goal m c, ?_, ?_⟩
  · refine (θ_run _ _ _).mono (fun r h c => ?_) (Cert.Kernel11Ideal.Value.run_blocks m g)
    obtain ⟨h1, hargs⟩ := h c
    exact ⟨h1.trans (Cert.Kernel11Ideal.Mix.final m c), hargs⟩
  · refine (θ_run _ _ _).mono (fun r h c => ?_) (Cert.Reference11Ideal.Value.run m' g')
    obtain ⟨h1, hargs⟩ := h c
    obtain ⟨a1, a2⟩ := hagree c
    refine ⟨h1.trans ?_, hargs⟩
    · rw [Cert.Reference11Ideal.Read.val_main_v5_eq]
      simp only [a1, a2]

/-! ## Program 12: the gradient of the even layer's input projection's weights -/

theorem frame_kernel12 : Cert.quiescent_Kernel12 := fun m g _ => Cert.Kernel12.Gen.frame m g

theorem frame_ideal12 : Cert.quiescent_Kernel12Ideal := fun m g _ => Cert.Kernel12Ideal.Gen.frame m g

theorem frame_reference12 : Cert.quiescent_Reference12Ideal := by
  intro m g _
  hlo_run
  · exact fun _ => ⟨trivial, trivial⟩
  · exact sem_eq_zero_of_no_sems (sig := Cert.Reference12Ideal.sig) (by decide) _

theorem value12 : Cert.algebraic_Kernel12Ideal_Reference12Ideal := by
  intro m g m' g' _ hagree
  refine ⟨fun c => Cert.Kernel12Ideal.Mix.goal m c, ?_, ?_⟩
  · refine (θ_run _ _ _).mono (fun r h c => ?_) (Cert.Kernel12Ideal.Value.run_blocks m g)
    obtain ⟨h1, hargs⟩ := h c
    exact ⟨h1.trans (Cert.Kernel12Ideal.Mix.final m c), hargs⟩
  · refine (θ_run _ _ _).mono (fun r h c => ?_) (Cert.Reference12Ideal.Value.run m' g')
    obtain ⟨h1, hargs⟩ := h c
    obtain ⟨a1, a2⟩ := hagree c
    refine ⟨h1.trans ?_, hargs⟩
    · rw [Cert.Reference12Ideal.Read.val_main_v6_eq]
      simp only [a1, a2]

/-! ## Program 13: the gradient of the even layer's projection's input -/

theorem frame_kernel13 : Cert.quiescent_Kernel13 := fun m g _ => Cert.Kernel13.Gen.frame m g

theorem frame_ideal13 : Cert.quiescent_Kernel13Ideal := fun m g _ => Cert.Kernel13Ideal.Gen.frame m g

theorem frame_reference13 : Cert.quiescent_Reference13Ideal := by
  intro m g _
  hlo_run
  · exact fun _ => ⟨trivial, trivial, trivial⟩
  · exact sem_eq_zero_of_no_sems (sig := Cert.Reference13Ideal.sig) (by decide) _

theorem value13 : Cert.algebraic_Kernel13Ideal_Reference13Ideal := by
  intro m g m' g' _ hagree
  refine ⟨fun c => Cert.Kernel13Ideal.Mix.goal m c, ?_, ?_⟩
  · refine (θ_run _ _ _).mono (fun r h c => ?_) (Cert.Kernel13Ideal.Value.run_blocks m g)
    obtain ⟨h1, hargs⟩ := h c
    exact ⟨h1.trans (Cert.Kernel13Ideal.Mix.final m c), hargs⟩
  · refine (θ_run _ _ _).mono (fun r h c => ?_) (Cert.Reference13Ideal.Value.run m' g')
    obtain ⟨h1, hargs⟩ := h c
    obtain ⟨a1, a2, a3⟩ := hagree c
    refine ⟨h1.trans ?_, hargs⟩
    · rw [Cert.Reference13Ideal.Read.val_main_v11_eq]
      simp only [a1, a2, a3]

/-! ## Program 14: the gradient of the odd layer's input projection's weights -/

theorem frame_kernel14 : Cert.quiescent_Kernel14 := fun m g _ => Cert.Kernel14.Gen.frame m g

theorem frame_ideal14 : Cert.quiescent_Kernel14Ideal := fun m g _ => Cert.Kernel14Ideal.Gen.frame m g

theorem frame_reference14 : Cert.quiescent_Reference14Ideal := by
  intro m g _
  hlo_run
  · exact fun _ => ⟨trivial, trivial⟩
  · exact sem_eq_zero_of_no_sems (sig := Cert.Reference14Ideal.sig) (by decide) _

theorem value14 : Cert.algebraic_Kernel14Ideal_Reference14Ideal := by
  intro m g m' g' _ hagree
  refine ⟨fun c => Cert.Kernel14Ideal.Mix.goal m c, ?_, ?_⟩
  · refine (θ_run _ _ _).mono (fun r h c => ?_) (Cert.Kernel14Ideal.Value.run_blocks m g)
    obtain ⟨h1, hargs⟩ := h c
    exact ⟨h1.trans (Cert.Kernel14Ideal.Mix.final m c), hargs⟩
  · refine (θ_run _ _ _).mono (fun r h c => ?_) (Cert.Reference14Ideal.Value.run m' g')
    obtain ⟨h1, hargs⟩ := h c
    obtain ⟨a1, a2⟩ := hagree c
    refine ⟨h1.trans ?_, hargs⟩
    · rw [Cert.Reference14Ideal.Read.val_main_v8_eq]
      simp only [a1, a2]

/-! ## Program 15: the gradient of the odd layer's projection's input -/

theorem frame_kernel15 : Cert.quiescent_Kernel15 := fun m g _ => Cert.Kernel15.Gen.frame m g

theorem frame_ideal15 : Cert.quiescent_Kernel15Ideal := fun m g _ => Cert.Kernel15Ideal.Gen.frame m g

theorem frame_reference15 : Cert.quiescent_Reference15Ideal := by
  intro m g _
  hlo_run
  · exact fun _ => ⟨trivial, trivial⟩
  · exact sem_eq_zero_of_no_sems (sig := Cert.Reference15Ideal.sig) (by decide) _

theorem value15 : Cert.algebraic_Kernel15Ideal_Reference15Ideal := by
  intro m g m' g' _ hagree
  refine ⟨fun c => Cert.Kernel15Ideal.Mix.goal m c, ?_, ?_⟩
  · refine (θ_run _ _ _).mono (fun r h c => ?_) (Cert.Kernel15Ideal.Value.run_blocks m g)
    obtain ⟨h1, hargs⟩ := h c
    exact ⟨h1.trans (Cert.Kernel15Ideal.Mix.final m c), hargs⟩
  · refine (θ_run _ _ _).mono (fun r h c => ?_) (Cert.Reference15Ideal.Value.run m' g')
    obtain ⟨h1, hargs⟩ := h c
    obtain ⟨a1, a2⟩ := hagree c
    refine ⟨h1.trans ?_, hargs⟩
    · rw [Cert.Reference15Ideal.Read.val_main_v4_eq]
      simp only [a1, a2]

/-! ## Program 16: the odd layer's projection with the rotary embedding -/

theorem frame_kernel16 : Cert.quiescent_Kernel16 := fun m g _ => Cert.Kernel16.Gen.frame m g

theorem frame_ideal16 : Cert.quiescent_Kernel16Ideal := fun m g _ => Cert.Kernel16Ideal.Gen.frame m g

theorem frame_reference16 : Cert.quiescent_Reference16Ideal := by
  intro m g _
  hlo_run
  · exact fun _ => ⟨trivial, trivial⟩
  · exact sem_eq_zero_of_no_sems (sig := Cert.Reference16Ideal.sig) (by decide) _

theorem value16 : Cert.algebraic_Kernel16Ideal_Reference16Ideal := by
  intro m g m' g' _ hagree
  refine ⟨fun c => Cert.Kernel16Ideal.Rope.goal m c, ?_, ?_⟩
  · refine (θ_run _ _ _).mono (fun r h c => ?_) (Cert.Kernel16Ideal.Value.run_blocks m g)
    obtain ⟨h1, hargs⟩ := h c
    exact ⟨h1.trans (Cert.Kernel16Ideal.Rope.final m c), hargs⟩
  · refine (θ_run _ _ _).mono (fun r h c => ?_) (Cert.Reference16Ideal.Value.run m' g')
    obtain ⟨h1, hargs⟩ := h c
    obtain ⟨a1, a2⟩ := hagree c
    refine ⟨h1.trans ?_, hargs⟩
    · rw [Cert.Reference16Ideal.Read.val_main_v77_eq]
      simp only [a1, a2]

/-! ## Program 17: the gradient of the norm -/

theorem frame_kernel17 : Cert.quiescent_Kernel17 := fun m g _ => Cert.Kernel17.Gen.frame m g

theorem frame_ideal17 : Cert.quiescent_Kernel17Ideal := fun m g _ => Cert.Kernel17Ideal.Gen.frame m g

theorem frame_reference17 : Cert.quiescent_Reference17Ideal := by
  intro m g _
  hlo_run
  · exact fun _ => ⟨trivial, trivial, trivial, trivial⟩
  · exact sem_eq_zero_of_no_sems (sig := Cert.Reference17Ideal.sig) (by decide) _

theorem value17 : Cert.algebraic_Kernel17Ideal_Reference17Ideal := by
  intro m g m' g' _ hagree
  refine ⟨fun c => Cert.Kernel17Ideal.Norm.goal m c, fun c => Cert.Kernel17Ideal.Norm.goalS m c, fun c => Cert.Kernel17Ideal.Norm.goalT m c, fun c => Cert.Kernel17Ideal.Norm.goalG m c, ?_, ?_⟩
  · refine (θ_run _ _ _).mono (fun r h c => ?_) (Cert.Kernel17Ideal.Value.run_blocks m g)
    obtain ⟨h1, h2, h3, h4, hargs⟩ := h c
    exact ⟨h1.trans (Cert.Kernel17Ideal.Norm.final m c), h2.trans (Cert.Kernel17Ideal.Norm.finalS m c), h3.trans (Cert.Kernel17Ideal.Norm.finalT m c), h4.trans (Cert.Kernel17Ideal.Norm.finalG m c), hargs⟩
  · refine (θ_run _ _ _).mono (fun r h c => ?_) (Cert.Reference17Ideal.Value.run m' g')
    obtain ⟨h1, h2, h3, h4, hargs⟩ := h c
    obtain ⟨a1, a2, a3, a4⟩ := hagree c
    refine ⟨h1.trans ?_, h2.trans ?_, h3.trans ?_, h4.trans ?_, hargs⟩
    · rw [Cert.Reference17Ideal.Read.val_main_v34_eq]
      simp only [a1, a2, a3, a4]
    · rw [Cert.Reference17Ideal.Read.val_main_v37_eq]
      simp only [a1, a2, a3, a4]
    · rw [Cert.Reference17Ideal.Read.val_main_v39_eq]
      simp only [a1, a2, a3, a4]
    · rw [Cert.Reference17Ideal.Read.val_main_v17_eq]
      simp only [a1, a3]

/-! ## Program 18: the norm -/

theorem frame_kernel18 : Cert.quiescent_Kernel18 := fun m g _ => Cert.Kernel18.Gen.frame m g

theorem frame_ideal18 : Cert.quiescent_Kernel18Ideal := fun m g _ => Cert.Kernel18Ideal.Gen.frame m g

theorem frame_reference18 : Cert.quiescent_Reference18Ideal := by
  intro m g _
  hlo_run
  · exact fun _ => ⟨trivial, trivial⟩
  · exact sem_eq_zero_of_no_sems (sig := Cert.Reference18Ideal.sig) (by decide) _

theorem value18 : Cert.algebraic_Kernel18Ideal_Reference18Ideal := by
  intro m g m' g' _ hagree
  refine ⟨fun c => Cert.Kernel18Ideal.Norm.goal m c, fun c => Cert.Kernel18Ideal.Norm.goalT m c, ?_, ?_⟩
  · refine (θ_run _ _ _).mono (fun r h c => ?_) (Cert.Kernel18Ideal.Value.run_blocks m g)
    obtain ⟨h1, h2, hargs⟩ := h c
    exact ⟨h1.trans (Cert.Kernel18Ideal.Norm.final m c), h2.trans (Cert.Kernel18Ideal.Norm.finalT m c), hargs⟩
  · refine (θ_run _ _ _).mono (fun r h c => ?_) (Cert.Reference18Ideal.Value.run m' g')
    obtain ⟨h1, h2, hargs⟩ := h c
    obtain ⟨a1, a2⟩ := hagree c
    refine ⟨h1.trans ?_, h2.trans ?_, hargs⟩
    · rw [Cert.Reference18Ideal.Read.val_main_v12_eq]
      simp only [a1, a2]
    · rw [Cert.Reference18Ideal.Read.val_main_v14_eq]
      simp only [a1, a2]

/-! ## Program 19: the stick-breaking attention's forward pass -/

theorem frame_kernel19 : Cert.quiescent_Kernel19 := fun m g _ => Cert.Kernel19.Gen.frame m g

theorem frame_ideal19 : Cert.quiescent_Kernel19Ideal := fun m g _ => Cert.Kernel19Ideal.Gen.frame m g

theorem frame_reference19 : Cert.quiescent_Reference19Ideal := by
  intro m g _
  hlo_run
  · exact fun _ => trivial
  · exact sem_eq_zero_of_no_sems (sig := Cert.Reference19Ideal.sig) (by decide) _

theorem frame_ideal19_finite19 : Cert.quiescent_Kernel19Ideal_pre_finite19 := fun m g _ => Cert.Kernel19Ideal.Gen.frame m g

theorem frame_reference19_finite19 : Cert.quiescent_Reference19Ideal_pre_finite19 := fun m g _ => frame_reference19 m g trivial

theorem value19 : Cert.algebraic_Kernel19Ideal_Reference19Ideal_pre_finite19 := by
  intro m g m' g' hpre hagree
  refine ⟨fun c => Cert.Kernel19Ideal.Sbf.goal m c, fun c => Cert.Kernel19Ideal.Sbf.goalT m c, fun c => Cert.Kernel19Ideal.Sbf.goalS m c, ?_, ?_⟩
  · refine (θ_run _ _ _).mono (fun r h c => ?_) (Cert.Kernel19Ideal.Value.run_blocks m g)
    obtain ⟨h1, h2, h3, hargs⟩ := h c
    have hQ : Sb.AllReal (S := Sb.ShQ) (Cert.Kernel19Ideal.Sbf.argQ m c) := fun i => real_of_finite _ (congrFun (hpre c) i)
    exact ⟨h1.trans (Cert.Kernel19Ideal.Sbf.final hQ), h2.trans (Cert.Kernel19Ideal.Sbf.finalT hQ), h3.trans (Cert.Kernel19Ideal.Sbf.finalS hQ), hargs⟩
  · refine (θ_run _ _ _).mono (fun r h c => ?_) (Cert.Reference19Ideal.Value.run m' g')
    obtain ⟨h1, h2, h3, hargs⟩ := h c
    have a1 := hagree c
    refine ⟨h1.trans ?_, h2.trans ?_, h3.trans ?_, hargs⟩
    · rw [Cert.Reference19Ideal.Read.val_main_v46_eq]
      simp only [a1]
    · rw [Cert.Reference19Ideal.Read.val_main_v48_eq]
      simp only [a1]
    · rw [Cert.Reference19Ideal.Read.val_main_v50_eq]
      simp only [a1]

/-! ## Program 20: forgetting attention's forward pass -/

theorem frame_kernel20 : Cert.quiescent_Kernel20 := fun m g _ => Cert.Kernel20.Gen.frame m g

theorem frame_ideal20 : Cert.quiescent_Kernel20Ideal := fun m g _ => Cert.Kernel20Ideal.Gen.frame m g

theorem frame_reference20 : Cert.quiescent_Reference20Ideal := by
  intro m g _
  hlo_run
  · exact fun _ => ⟨trivial, trivial⟩
  · exact sem_eq_zero_of_no_sems (sig := Cert.Reference20Ideal.sig) (by decide) _

theorem frame_ideal20_finite20 : Cert.quiescent_Kernel20Ideal_pre_finite20 := fun m g _ => Cert.Kernel20Ideal.Gen.frame m g

theorem frame_reference20_finite20 : Cert.quiescent_Reference20Ideal_pre_finite20 := fun m g _ => frame_reference20 m g trivial

theorem preserves20 : Cert.preserves_Kernel20_Kernel20Ideal :=
  IdealRules.named_const.statement Cert.Kernel20Ideal.κ "mask" .f32 0xF149F2CA#32 ⊥ rfl

theorem value20 : Cert.algebraic_Kernel20Ideal_Reference20Ideal_pre_finite20 := by
  intro m g m' g' hpre hagree
  refine ⟨fun c => Cert.Kernel20Ideal.Foxk.goal m c, fun c => Cert.Kernel20Ideal.Foxk.goalT m c, fun c => Cert.Kernel20Ideal.Foxk.goalS m c, ?_, ?_⟩
  · refine (θ_run _ _ _).mono (fun r h c => ?_) (Cert.Kernel20Ideal.Value.run_blocks m g)
    obtain ⟨h1, h2, h3, hargs⟩ := h c
    have hQ : Sb.AllReal (S := Sb.ShQ) (Cert.Kernel20Ideal.Foxk.argQ m c) := fun i => real_of_finite _ (congrFun (hpre c).1 i)
    have hL : Sb.AllReal (S := Fox.ShL) (Cert.Kernel20Ideal.Foxk.argL m c) := fun i => real_of_finite _ (congrFun (hpre c).2 i)
    exact ⟨h1.trans (Cert.Kernel20Ideal.Foxk.final hQ hL), h2.trans (Cert.Kernel20Ideal.Foxk.finalT hQ hL), h3.trans (Cert.Kernel20Ideal.Foxk.finalS hQ hL), hargs⟩
  · refine (θ_run _ _ _).mono (fun r h c => ?_) (Cert.Reference20Ideal.Value.run m' g')
    obtain ⟨h1, h2, h3, hargs⟩ := h c
    obtain ⟨a1, a2⟩ := hagree c
    refine ⟨h1.trans ?_, h2.trans ?_, h3.trans ?_, hargs⟩
    · rw [Cert.Reference20Ideal.Read.val_main_v46_eq]
      simp only [a1, a2]
    · rw [Cert.Reference20Ideal.Read.val_main_v48_eq]
      simp only [a1, a2]
    · rw [Cert.Reference20Ideal.Read.val_main_v50_eq]
      simp only [a1, a2]

/-! ## Program 21: the projection to the forget gate's columns -/

theorem frame_kernel21 : Cert.quiescent_Kernel21 := fun m g _ => Cert.Kernel21.Gen.frame m g

theorem frame_ideal21 : Cert.quiescent_Kernel21Ideal := fun m g _ => Cert.Kernel21Ideal.Gen.frame m g

theorem frame_reference21 : Cert.quiescent_Reference21Ideal := by
  intro m g _
  hlo_run
  · exact fun _ => ⟨trivial, trivial⟩
  · exact sem_eq_zero_of_no_sems (sig := Cert.Reference21Ideal.sig) (by decide) _

theorem value21 : Cert.algebraic_Kernel21Ideal_Reference21Ideal := by
  intro m g m' g' _ hagree
  refine ⟨fun c => Cert.Kernel21Ideal.Mix.goal m c, ?_, ?_⟩
  · refine (θ_run _ _ _).mono (fun r h c => ?_) (Cert.Kernel21Ideal.Value.run_blocks m g)
    obtain ⟨h1, hargs⟩ := h c
    exact ⟨h1.trans (Cert.Kernel21Ideal.Mix.final m c), hargs⟩
  · refine (θ_run _ _ _).mono (fun r h c => ?_) (Cert.Reference21Ideal.Value.run m' g')
    obtain ⟨h1, hargs⟩ := h c
    obtain ⟨a1, a2⟩ := hagree c
    refine ⟨h1.trans ?_, hargs⟩
    · rw [Cert.Reference21Ideal.Read.val_main_v4_eq]
      simp only [a1, a2]

/-! ## Program 22: the gradient of the forget gate's columns of the even layer's matrix -/

theorem frame_kernel22 : Cert.quiescent_Kernel22 := fun m g _ => Cert.Kernel22.Gen.frame m g

theorem frame_ideal22 : Cert.quiescent_Kernel22Ideal := fun m g _ => Cert.Kernel22Ideal.Gen.frame m g

theorem frame_reference22 : Cert.quiescent_Reference22Ideal := by
  intro m g _
  hlo_run
  · exact fun _ => ⟨trivial, trivial⟩
  · exact sem_eq_zero_of_no_sems (sig := Cert.Reference22Ideal.sig) (by decide) _

theorem value22 : Cert.algebraic_Kernel22Ideal_Reference22Ideal := by
  intro m g m' g' _ hagree
  refine ⟨fun c => Cert.Kernel22Ideal.Mix.goal m c, ?_, ?_⟩
  · refine (θ_run _ _ _).mono (fun r h c => ?_) (Cert.Kernel22Ideal.Value.run_blocks m g)
    obtain ⟨h1, hargs⟩ := h c
    exact ⟨h1.trans (Cert.Kernel22Ideal.Mix.final m c), hargs⟩
  · refine (θ_run _ _ _).mono (fun r h c => ?_) (Cert.Reference22Ideal.Value.run m' g')
    obtain ⟨h1, hargs⟩ := h c
    obtain ⟨a1, a2⟩ := hagree c
    refine ⟨h1.trans ?_, hargs⟩
    · rw [Cert.Reference22Ideal.Read.val_main_v6_eq]
      simp only [a1, a2]

/-! ## Program 23: the gradient of the norm with the factor one -/

theorem frame_kernel23 : Cert.quiescent_Kernel23 := fun m g _ => Cert.Kernel23.Gen.frame m g

theorem frame_ideal23 : Cert.quiescent_Kernel23Ideal := fun m g _ => Cert.Kernel23Ideal.Gen.frame m g

theorem frame_reference23 : Cert.quiescent_Reference23Ideal := by
  intro m g _
  hlo_run
  · exact fun _ => ⟨trivial, trivial, trivial, trivial⟩
  · exact sem_eq_zero_of_no_sems (sig := Cert.Reference23Ideal.sig) (by decide) _

theorem value23 : Cert.algebraic_Kernel23Ideal_Reference23Ideal := by
  intro m g m' g' _ hagree
  refine ⟨fun c => Cert.Kernel23Ideal.Norm.goal m c, fun c => Cert.Kernel23Ideal.Norm.goalS m c, fun c => Cert.Kernel23Ideal.Norm.goalT m c, fun c => Cert.Kernel23Ideal.Norm.goalG m c, ?_, ?_⟩
  · refine (θ_run _ _ _).mono (fun r h c => ?_) (Cert.Kernel23Ideal.Value.run_blocks m g)
    obtain ⟨h1, h2, h3, h4, hargs⟩ := h c
    exact ⟨h1.trans (Cert.Kernel23Ideal.Norm.final m c), h2.trans (Cert.Kernel23Ideal.Norm.finalS m c), h3.trans (Cert.Kernel23Ideal.Norm.finalT m c), h4.trans (Cert.Kernel23Ideal.Norm.finalG m c), hargs⟩
  · refine (θ_run _ _ _).mono (fun r h c => ?_) (Cert.Reference23Ideal.Value.run m' g')
    obtain ⟨h1, h2, h3, h4, hargs⟩ := h c
    obtain ⟨a1, a2, a3, a4⟩ := hagree c
    refine ⟨h1.trans ?_, h2.trans ?_, h3.trans ?_, h4.trans ?_, hargs⟩
    · rw [Cert.Reference23Ideal.Read.val_main_v34_eq]
      simp only [a1, a2, a3, a4]
    · rw [Cert.Reference23Ideal.Read.val_main_v35_eq]
      simp only [a1, a2, a3, a4]
    · rw [Cert.Reference23Ideal.Read.val_main_v37_eq]
      simp only [a1, a2, a3, a4]
    · rw [Cert.Reference23Ideal.Read.val_main_v17_eq]
      simp only [a1, a2, a3, a4]

/-! ## Program 24: the loss and its gradient through the last norm -/

theorem frame_kernel24 : Cert.quiescent_Kernel24 := fun m g _ => Cert.Kernel24.Gen.frame m g

theorem frame_ideal24 : Cert.quiescent_Kernel24Ideal := fun m g _ => Cert.Kernel24Ideal.Gen.frame m g

theorem frame_reference24 : Cert.quiescent_Reference24Ideal := by
  intro m g _
  hlo_run
  · exact fun _ => ⟨trivial, trivial, trivial⟩
  · exact sem_eq_zero_of_no_sems (sig := Cert.Reference24Ideal.sig) (by decide) _

theorem value24 : Cert.algebraic_Kernel24Ideal_Reference24Ideal := by
  intro m g m' g' _ hagree
  refine ⟨fun c => Cert.Kernel24Ideal.Loss.goal m c, fun c => Cert.Kernel24Ideal.Loss.goalS m c, fun c => Cert.Kernel24Ideal.Loss.goalT m c, fun c => Cert.Kernel24Ideal.Loss.goalG m c, fun c => Cert.Kernel24Ideal.Loss.goalL m c, ?_, ?_⟩
  · refine (θ_run _ _ _).mono (fun r h c => ?_) (Cert.Kernel24Ideal.Value.run_blocks m g)
    obtain ⟨h1, h2, h3, h4, h5, hargs⟩ := h c
    exact ⟨h1.trans (Cert.Kernel24Ideal.Loss.final m c), h2.trans (Cert.Kernel24Ideal.Loss.finalS m c), h3.trans (Cert.Kernel24Ideal.Loss.finalT m c), h4.trans (Cert.Kernel24Ideal.Loss.finalG m c), h5.trans (Cert.Kernel24Ideal.Loss.finalL m c), hargs⟩
  · refine (θ_run _ _ _).mono (fun r h c => ?_) (Cert.Reference24Ideal.Value.run m' g')
    obtain ⟨h1, h2, h3, h4, h5, hargs⟩ := h c
    obtain ⟨a1, a2, a3⟩ := hagree c
    refine ⟨h1.trans ?_, h2.trans ?_, h3.trans ?_, h4.trans ?_, h5.trans ?_, hargs⟩
    · rw [Cert.Reference24Ideal.Read.val_main_v48_eq]
      simp only [a1, a2, a3]
    · rw [Cert.Reference24Ideal.Read.val_main_v51_eq]
      simp only [a1, a2, a3]
    · rw [Cert.Reference24Ideal.Read.val_main_v53_eq]
      simp only [a1, a2, a3]
    · rw [Cert.Reference24Ideal.Read.val_main_v32_eq]
      simp only [a1, a2, a3]
    · rw [Cert.Reference24Ideal.Read.val_main_v58_eq]
      simp only [a1, a2, a3]

/-! ## Program 25: the optimiser of the small weights -/

theorem frame_kernel25 : Cert.quiescent_Kernel25 := fun m g _ => Cert.Kernel25.Gen.frame m g

theorem frame_ideal25 : Cert.quiescent_Kernel25Ideal := fun m g _ => Cert.Kernel25Ideal.Gen.frame m g

theorem frame_reference25 : Cert.quiescent_Reference25Ideal := by
  intro m g _
  hlo_run
  · exact fun _ => ⟨trivial, trivial, trivial, trivial⟩
  · exact sem_eq_zero_of_no_sems (sig := Cert.Reference25Ideal.sig) (by decide) _

theorem value25 : Cert.algebraic_Kernel25Ideal_Reference25Ideal := by
  intro m g m' g' _ hagree
  refine ⟨fun c => Cert.Kernel25Ideal.Adam.goal m c, fun c => Cert.Kernel25Ideal.Adam.goalD m c, fun c => Cert.Kernel25Ideal.Adam.goalM m c, fun c => Cert.Kernel25Ideal.Adam.goalV m c, ?_, ?_⟩
  · refine (θ_run _ _ _).mono (fun r h c => ?_) (Cert.Kernel25Ideal.Value.run_blocks m g)
    obtain ⟨h1, h2, h3, h4, hargs⟩ := h c
    exact ⟨h1.trans (Cert.Kernel25Ideal.Adam.final m c), h2.trans (Cert.Kernel25Ideal.Adam.finalD m c), h3.trans (Cert.Kernel25Ideal.Adam.finalM m c), h4.trans (Cert.Kernel25Ideal.Adam.finalV m c), hargs⟩
  · refine (θ_run _ _ _).mono (fun r h c => ?_) (Cert.Reference25Ideal.Value.run m' g')
    obtain ⟨h1, h2, h3, h4, hargs⟩ := h c
    obtain ⟨a1, a2, a3, a4⟩ := hagree c
    refine ⟨h1.trans ?_, h2.trans ?_, h3.trans ?_, h4.trans ?_, hargs⟩
    · rw [Cert.Reference25Ideal.Read.val_main_v0_eq]
      simp only [a1, a2, a3, a4]
    · rw [Cert.Reference25Ideal.Read.val_main_v24_eq]
      simp only [a1, a2, a3, a4]
    · rw [Cert.Reference25Ideal.Read.val_main_v5_eq]
      simp only [a1, a2, a3, a4]
    · rw [Cert.Reference25Ideal.Read.val_main_v11_eq]
      simp only [a1, a2, a3, a4]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, facts_finite, facts_finite6, facts_finite7, facts_finite19, facts_finite20,
  frame_kernel, frame_ideal, frame_ideal_finite, frame_reference, frame_reference_finite,
  frame_kernel2, frame_ideal2, frame_reference2,
  frame_kernel3, frame_ideal3, frame_reference3,
  frame_kernel4, frame_ideal4, frame_reference4,
  frame_kernel5, frame_ideal5, frame_reference5,
  frame_kernel6, frame_ideal6, frame_ideal6_finite6, frame_reference6, frame_reference6_finite6,
  frame_kernel7, frame_ideal7, frame_ideal7_finite7, frame_reference7, frame_reference7_finite7,
  frame_kernel8, frame_ideal8, frame_reference8,
  frame_kernel9, frame_ideal9, frame_reference9,
  frame_kernel10, frame_ideal10, frame_reference10,
  frame_kernel11, frame_ideal11, frame_reference11,
  frame_kernel12, frame_ideal12, frame_reference12,
  frame_kernel13, frame_ideal13, frame_reference13,
  frame_kernel14, frame_ideal14, frame_reference14,
  frame_kernel15, frame_ideal15, frame_reference15,
  frame_kernel16, frame_ideal16, frame_reference16,
  frame_kernel17, frame_ideal17, frame_reference17,
  frame_kernel18, frame_ideal18, frame_reference18,
  frame_kernel19, frame_ideal19, frame_ideal19_finite19, frame_reference19, frame_reference19_finite19,
  frame_kernel20, frame_ideal20, frame_ideal20_finite20, frame_reference20, frame_reference20_finite20,
  frame_kernel21, frame_ideal21, frame_reference21,
  frame_kernel22, frame_ideal22, frame_reference22,
  frame_kernel23, frame_ideal23, frame_reference23,
  frame_kernel24, frame_ideal24, frame_reference24,
  frame_kernel25, frame_ideal25, frame_reference25,
  trivial, value,
  trivial, value2,
  trivial, value3,
  trivial, value4,
  trivial, value5,
  trivial, value6,
  trivial, value7,
  trivial, value8,
  trivial, value9,
  trivial, value10,
  trivial, value11,
  trivial, value12,
  trivial, value13,
  trivial, value14,
  trivial, value15,
  trivial, value16,
  trivial, value17,
  trivial, value18,
  trivial, value19,
  preserves20, value20,
  trivial, value21,
  trivial, value22,
  trivial, value23,
  trivial, value24,
  trivial, value25⟩

end Cert.Proof

end
